-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_DFfnIn (m : (ℓ : Loc Cert.DFfnIn.nD Cert.DFfnIn.τ Cert.DFfnIn.sig) → Buf (Elt Bits) ℓ) : Prop :=
  True

def Pre_DFfnInIdeal (m : (ℓ : Loc Cert.DFfnInIdeal.nD Cert.DFfnInIdeal.τ Cert.DFfnInIdeal.sig) → Buf (Elt Ideal) ℓ) : Prop :=
  True

def Pre_DFfnInIdeal_finite_d_ffn_in [hPre_finite_d_ffn_in : Cert.Pre_finite_d_ffn_in.Facts] (m : (ℓ : Loc Cert.DFfnInIdeal.nD Cert.DFfnInIdeal.τ Cert.DFfnInIdeal.sig) → Buf (Elt Ideal) ℓ) : Prop :=
  ∀ c : Dev Cert.DFfnInIdeal.nD,
    (Cert.Pre_finite_d_ffn_in.fn (F := Ideal) (m ((c.tc : Thread Cert.DFfnInIdeal.nD Cert.DFfnInIdeal.τ).loc Cert.DFfnInIdeal.main_arg0)) (m ((c.tc : Thread Cert.DFfnInIdeal.nD Cert.DFfnInIdeal.τ).loc Cert.DFfnInIdeal.main_arg1)) (m ((c.tc : Thread Cert.DFfnInIdeal.nD Cert.DFfnInIdeal.τ).loc Cert.DFfnInIdeal.main_arg2)) (m ((c.tc : Thread Cert.DFfnInIdeal.nD Cert.DFfnInIdeal.τ).loc Cert.DFfnInIdeal.main_arg3))).1 = (fun _ => 1#1)
    ∧ (Cert.Pre_finite_d_ffn_in.fn (F := Ideal) (m ((c.tc : Thread Cert.DFfnInIdeal.nD Cert.DFfnInIdeal.τ).loc Cert.DFfnInIdeal.main_arg0)) (m ((c.tc : Thread Cert.DFfnInIdeal.nD Cert.DFfnInIdeal.τ).loc Cert.DFfnInIdeal.main_arg1)) (m ((c.tc : Thread Cert.DFfnInIdeal.nD Cert.DFfnInIdeal.τ).loc Cert.DFfnInIdeal.main_arg2)) (m ((c.tc : Thread Cert.DFfnInIdeal.nD Cert.DFfnInIdeal.τ).loc Cert.DFfnInIdeal.main_arg3))).2.1 = (fun _ => 1#1)
    ∧ (Cert.Pre_finite_d_ffn_in.fn (F := Ideal) (m ((c.tc : Thread Cert.DFfnInIdeal.nD Cert.DFfnInIdeal.τ).loc Cert.DFfnInIdeal.main_arg0)) (m ((c.tc : Thread Cert.DFfnInIdeal.nD Cert.DFfnInIdeal.τ).loc Cert.DFfnInIdeal.main_arg1)) (m ((c.tc : Thread Cert.DFfnInIdeal.nD Cert.DFfnInIdeal.τ).loc Cert.DFfnInIdeal.main_arg2)) (m ((c.tc : Thread Cert.DFfnInIdeal.nD Cert.DFfnInIdeal.τ).loc Cert.DFfnInIdeal.main_arg3))).2.2.1 = (fun _ => 1#1)
    ∧ (Cert.Pre_finite_d_ffn_in.fn (F := Ideal) (m ((c.tc : Thread Cert.DFfnInIdeal.nD Cert.DFfnInIdeal.τ).loc Cert.DFfnInIdeal.main_arg0)) (m ((c.tc : Thread Cert.DFfnInIdeal.nD Cert.DFfnInIdeal.τ).loc Cert.DFfnInIdeal.main_arg1)) (m ((c.tc : Thread Cert.DFfnInIdeal.nD Cert.DFfnInIdeal.τ).loc Cert.DFfnInIdeal.main_arg2)) (m ((c.tc : Thread Cert.DFfnInIdeal.nD Cert.DFfnInIdeal.τ).loc Cert.DFfnInIdeal.main_arg3))).2.2.2 = (fun _ => 1#1)

def Pre_DFfnInRefIdeal (m : (ℓ : Loc Cert.DFfnInRefIdeal.nD Cert.DFfnInRefIdeal.τ Cert.DFfnInRefIdeal.sig) → Buf (Elt Ideal) ℓ) : Prop :=
  True

def Pre_DFfnInRefIdeal_finite_d_ffn_in [hPre_finite_d_ffn_in : Cert.Pre_finite_d_ffn_in.Facts] (m : (ℓ : Loc Cert.DFfnInRefIdeal.nD Cert.DFfnInRefIdeal.τ Cert.DFfnInRefIdeal.sig) → Buf (Elt Ideal) ℓ) : Prop :=
  ∀ c : Dev Cert.DFfnInRefIdeal.nD,
    (Cert.Pre_finite_d_ffn_in.fn (F := Ideal) (m ((c.tc : Thread Cert.DFfnInRefIdeal.nD Cert.DFfnInRefIdeal.τ).loc Cert.DFfnInRefIdeal.main_arg0)) (m ((c.tc : Thread Cert.DFfnInRefIdeal.nD Cert.DFfnInRefIdeal.τ).loc Cert.DFfnInRefIdeal.main_arg1)) (m ((c.tc : Thread Cert.DFfnInRefIdeal.nD Cert.DFfnInRefIdeal.τ).loc Cert.DFfnInRefIdeal.main_arg2)) (m ((c.tc : Thread Cert.DFfnInRefIdeal.nD Cert.DFfnInRefIdeal.τ).loc Cert.DFfnInRefIdeal.main_arg3))).1 = (fun _ => 1#1)
    ∧ (Cert.Pre_finite_d_ffn_in.fn (F := Ideal) (m ((c.tc : Thread Cert.DFfnInRefIdeal.nD Cert.DFfnInRefIdeal.τ).loc Cert.DFfnInRefIdeal.main_arg0)) (m ((c.tc : Thread Cert.DFfnInRefIdeal.nD Cert.DFfnInRefIdeal.τ).loc Cert.DFfnInRefIdeal.main_arg1)) (m ((c.tc : Thread Cert.DFfnInRefIdeal.nD Cert.DFfnInRefIdeal.τ).loc Cert.DFfnInRefIdeal.main_arg2)) (m ((c.tc : Thread Cert.DFfnInRefIdeal.nD Cert.DFfnInRefIdeal.τ).loc Cert.DFfnInRefIdeal.main_arg3))).2.1 = (fun _ => 1#1)
    ∧ (Cert.Pre_finite_d_ffn_in.fn (F := Ideal) (m ((c.tc : Thread Cert.DFfnInRefIdeal.nD Cert.DFfnInRefIdeal.τ).loc Cert.DFfnInRefIdeal.main_arg0)) (m ((c.tc : Thread Cert.DFfnInRefIdeal.nD Cert.DFfnInRefIdeal.τ).loc Cert.DFfnInRefIdeal.main_arg1)) (m ((c.tc : Thread Cert.DFfnInRefIdeal.nD Cert.DFfnInRefIdeal.τ).loc Cert.DFfnInRefIdeal.main_arg2)) (m ((c.tc : Thread Cert.DFfnInRefIdeal.nD Cert.DFfnInRefIdeal.τ).loc Cert.DFfnInRefIdeal.main_arg3))).2.2.1 = (fun _ => 1#1)
    ∧ (Cert.Pre_finite_d_ffn_in.fn (F := Ideal) (m ((c.tc : Thread Cert.DFfnInRefIdeal.nD Cert.DFfnInRefIdeal.τ).loc Cert.DFfnInRefIdeal.main_arg0)) (m ((c.tc : Thread Cert.DFfnInRefIdeal.nD Cert.DFfnInRefIdeal.τ).loc Cert.DFfnInRefIdeal.main_arg1)) (m ((c.tc : Thread Cert.DFfnInRefIdeal.nD Cert.DFfnInRefIdeal.τ).loc Cert.DFfnInRefIdeal.main_arg2)) (m ((c.tc : Thread Cert.DFfnInRefIdeal.nD Cert.DFfnInRefIdeal.τ).loc Cert.DFfnInRefIdeal.main_arg3))).2.2.2 = (fun _ => 1#1)

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DO (m : (ℓ : Loc Cert.DO.nD Cert.DO.τ Cert.DO.sig) → Buf (Elt Bits) ℓ) : Prop :=
  True

def Pre_DOIdeal (m : (ℓ : Loc Cert.DOIdeal.nD Cert.DOIdeal.τ Cert.DOIdeal.sig) → Buf (Elt Ideal) ℓ) : Prop :=
  True

def Pre_DORefIdeal (m : (ℓ : Loc Cert.DORefIdeal.nD Cert.DORefIdeal.τ Cert.DORefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_DWGateTheirs [hPre_core_d_w_gate_theirs : Cert.Pre_core_d_w_gate_theirs.Facts] (m : (ℓ : Loc Cert.DWGateTheirs.nD Cert.DWGateTheirs.τ Cert.DWGateTheirs.sig) → Buf (Elt Bits) ℓ) : Prop :=
  ∀ c : Dev Cert.DWGateTheirs.nD,
    (Cert.Pre_core_d_w_gate_theirs.fn (F := Bits) (m ((c.tc : Thread Cert.DWGateTheirs.nD Cert.DWGateTheirs.τ).loc Cert.DWGateTheirs.main_arg0)) (m ((c.tc : Thread Cert.DWGateTheirs.nD Cert.DWGateTheirs.τ).loc Cert.DWGateTheirs.main_arg1)) (m ((c.tc : Thread Cert.DWGateTheirs.nD Cert.DWGateTheirs.τ).loc Cert.DWGateTheirs.main_arg2))) = (fun _ => 1#1)

def Pre_DWGateTheirsIdeal [hPre_core_d_w_gate_theirs : Cert.Pre_core_d_w_gate_theirs.Facts] (m : (ℓ : Loc Cert.DWGateTheirsIdeal.nD Cert.DWGateTheirsIdeal.τ Cert.DWGateTheirsIdeal.sig) → Buf (Elt Ideal) ℓ) : Prop :=
  ∀ c : Dev Cert.DWGateTheirsIdeal.nD,
    (Cert.Pre_core_d_w_gate_theirs.fn (F := Ideal) (m ((c.tc : Thread Cert.DWGateTheirsIdeal.nD Cert.DWGateTheirsIdeal.τ).loc Cert.DWGateTheirsIdeal.main_arg0)) (m ((c.tc : Thread Cert.DWGateTheirsIdeal.nD Cert.DWGateTheirsIdeal.τ).loc Cert.DWGateTheirsIdeal.main_arg1)) (m ((c.tc : Thread Cert.DWGateTheirsIdeal.nD Cert.DWGateTheirsIdeal.τ).loc Cert.DWGateTheirsIdeal.main_arg2))) = (fun _ => 1#1)

def Pre_DWGateTheirsRefIdeal (m : (ℓ : Loc Cert.DWGateTheirsRefIdeal.nD Cert.DWGateTheirsRefIdeal.τ Cert.DWGateTheirsRefIdeal.sig) → Buf (Elt Ideal) ℓ) : Prop :=
  True

def Pre_DWGateTheirsRefIdeal_core_d_w_gate_theirs [hPre_core_d_w_gate_theirs : Cert.Pre_core_d_w_gate_theirs.Facts] (m : (ℓ : Loc Cert.DWGateTheirsRefIdeal.nD Cert.DWGateTheirsRefIdeal.τ Cert.DWGateTheirsRefIdeal.sig) → Buf (Elt Ideal) ℓ) : Prop :=
  ∀ c : Dev Cert.DWGateTheirsRefIdeal.nD,
    (Cert.Pre_core_d_w_gate_theirs.fn (F := Ideal) (m ((c.tc : Thread Cert.DWGateTheirsRefIdeal.nD Cert.DWGateTheirsRefIdeal.τ).loc Cert.DWGateTheirsRefIdeal.main_arg0)) (m ((c.tc : Thread Cert.DWGateTheirsRefIdeal.nD Cert.DWGateTheirsRefIdeal.τ).loc Cert.DWGateTheirsRefIdeal.main_arg1)) (m ((c.tc : Thread Cert.DWGateTheirsRefIdeal.nD Cert.DWGateTheirsRefIdeal.τ).loc Cert.DWGateTheirsRefIdeal.main_arg2))) = (fun _ => 1#1)

def Pre_DWGateMine [hPre_core_d_w_gate_mine : Cert.Pre_core_d_w_gate_mine.Facts] (m : (ℓ : Loc Cert.DWGateMine.nD Cert.DWGateMine.τ Cert.DWGateMine.sig) → Buf (Elt Bits) ℓ) : Prop :=
  ∀ c : Dev Cert.DWGateMine.nD,
    (Cert.Pre_core_d_w_gate_mine.fn (F := Bits) (m ((c.tc : Thread Cert.DWGateMine.nD Cert.DWGateMine.τ).loc Cert.DWGateMine.main_arg0)) (m ((c.tc : Thread Cert.DWGateMine.nD Cert.DWGateMine.τ).loc Cert.DWGateMine.main_arg1)) (m ((c.tc : Thread Cert.DWGateMine.nD Cert.DWGateMine.τ).loc Cert.DWGateMine.main_arg2)) (m ((c.tc : Thread Cert.DWGateMine.nD Cert.DWGateMine.τ).loc Cert.DWGateMine.main_arg3))) = (fun _ => 1#1)

def Pre_DWGateMineIdeal [hPre_core_d_w_gate_mine : Cert.Pre_core_d_w_gate_mine.Facts] (m : (ℓ : Loc Cert.DWGateMineIdeal.nD Cert.DWGateMineIdeal.τ Cert.DWGateMineIdeal.sig) → Buf (Elt Ideal) ℓ) : Prop :=
  ∀ c : Dev Cert.DWGateMineIdeal.nD,
    (Cert.Pre_core_d_w_gate_mine.fn (F := Ideal) (m ((c.tc : Thread Cert.DWGateMineIdeal.nD Cert.DWGateMineIdeal.τ).loc Cert.DWGateMineIdeal.main_arg0)) (m ((c.tc : Thread Cert.DWGateMineIdeal.nD Cert.DWGateMineIdeal.τ).loc Cert.DWGateMineIdeal.main_arg1)) (m ((c.tc : Thread Cert.DWGateMineIdeal.nD Cert.DWGateMineIdeal.τ).loc Cert.DWGateMineIdeal.main_arg2)) (m ((c.tc : Thread Cert.DWGateMineIdeal.nD Cert.DWGateMineIdeal.τ).loc Cert.DWGateMineIdeal.main_arg3))) = (fun _ => 1#1)

def Pre_DWGateMineRefIdeal (m : (ℓ : Loc Cert.DWGateMineRefIdeal.nD Cert.DWGateMineRefIdeal.τ Cert.DWGateMineRefIdeal.sig) → Buf (Elt Ideal) ℓ) : Prop :=
  True

def Pre_DWGateMineRefIdeal_core_d_w_gate_mine [hPre_core_d_w_gate_mine : Cert.Pre_core_d_w_gate_mine.Facts] (m : (ℓ : Loc Cert.DWGateMineRefIdeal.nD Cert.DWGateMineRefIdeal.τ Cert.DWGateMineRefIdeal.sig) → Buf (Elt Ideal) ℓ) : Prop :=
  ∀ c : Dev Cert.DWGateMineRefIdeal.nD,
    (Cert.Pre_core_d_w_gate_mine.fn (F := Ideal) (m ((c.tc : Thread Cert.DWGateMineRefIdeal.nD Cert.DWGateMineRefIdeal.τ).loc Cert.DWGateMineRefIdeal.main_arg0)) (m ((c.tc : Thread Cert.DWGateMineRefIdeal.nD Cert.DWGateMineRefIdeal.τ).loc Cert.DWGateMineRefIdeal.main_arg1)) (m ((c.tc : Thread Cert.DWGateMineRefIdeal.nD Cert.DWGateMineRefIdeal.τ).loc Cert.DWGateMineRefIdeal.main_arg2)) (m ((c.tc : Thread Cert.DWGateMineRefIdeal.nD Cert.DWGateMineRefIdeal.τ).loc Cert.DWGateMineRefIdeal.main_arg3))) = (fun _ => 1#1)

def Pre_DWInTheirs [hPre_core_d_w_in_theirs : Cert.Pre_core_d_w_in_theirs.Facts] (m : (ℓ : Loc Cert.DWInTheirs.nD Cert.DWInTheirs.τ Cert.DWInTheirs.sig) → Buf (Elt Bits) ℓ) : Prop :=
  ∀ c : Dev Cert.DWInTheirs.nD,
    (Cert.Pre_core_d_w_in_theirs.fn (F := Bits) (m ((c.tc : Thread Cert.DWInTheirs.nD Cert.DWInTheirs.τ).loc Cert.DWInTheirs.main_arg0)) (m ((c.tc : Thread Cert.DWInTheirs.nD Cert.DWInTheirs.τ).loc Cert.DWInTheirs.main_arg1)) (m ((c.tc : Thread Cert.DWInTheirs.nD Cert.DWInTheirs.τ).loc Cert.DWInTheirs.main_arg2))) = (fun _ => 1#1)

def Pre_DWInTheirsIdeal [hPre_core_d_w_in_theirs : Cert.Pre_core_d_w_in_theirs.Facts] (m : (ℓ : Loc Cert.DWInTheirsIdeal.nD Cert.DWInTheirsIdeal.τ Cert.DWInTheirsIdeal.sig) → Buf (Elt Ideal) ℓ) : Prop :=
  ∀ c : Dev Cert.DWInTheirsIdeal.nD,
    (Cert.Pre_core_d_w_in_theirs.fn (F := Ideal) (m ((c.tc : Thread Cert.DWInTheirsIdeal.nD Cert.DWInTheirsIdeal.τ).loc Cert.DWInTheirsIdeal.main_arg0)) (m ((c.tc : Thread Cert.DWInTheirsIdeal.nD Cert.DWInTheirsIdeal.τ).loc Cert.DWInTheirsIdeal.main_arg1)) (m ((c.tc : Thread Cert.DWInTheirsIdeal.nD Cert.DWInTheirsIdeal.τ).loc Cert.DWInTheirsIdeal.main_arg2))) = (fun _ => 1#1)

def Pre_DWInTheirsRefIdeal (m : (ℓ : Loc Cert.DWInTheirsRefIdeal.nD Cert.DWInTheirsRefIdeal.τ Cert.DWInTheirsRefIdeal.sig) → Buf (Elt Ideal) ℓ) : Prop :=
  True

def Pre_DWInTheirsRefIdeal_core_d_w_in_theirs [hPre_core_d_w_in_theirs : Cert.Pre_core_d_w_in_theirs.Facts] (m : (ℓ : Loc Cert.DWInTheirsRefIdeal.nD Cert.DWInTheirsRefIdeal.τ Cert.DWInTheirsRefIdeal.sig) → Buf (Elt Ideal) ℓ) : Prop :=
  ∀ c : Dev Cert.DWInTheirsRefIdeal.nD,
    (Cert.Pre_core_d_w_in_theirs.fn (F := Ideal) (m ((c.tc : Thread Cert.DWInTheirsRefIdeal.nD Cert.DWInTheirsRefIdeal.τ).loc Cert.DWInTheirsRefIdeal.main_arg0)) (m ((c.tc : Thread Cert.DWInTheirsRefIdeal.nD Cert.DWInTheirsRefIdeal.τ).loc Cert.DWInTheirsRefIdeal.main_arg1)) (m ((c.tc : Thread Cert.DWInTheirsRefIdeal.nD Cert.DWInTheirsRefIdeal.τ).loc Cert.DWInTheirsRefIdeal.main_arg2))) = (fun _ => 1#1)

def Pre_DWInMine [hPre_core_d_w_in_mine : Cert.Pre_core_d_w_in_mine.Facts] (m : (ℓ : Loc Cert.DWInMine.nD Cert.DWInMine.τ Cert.DWInMine.sig) → Buf (Elt Bits) ℓ) : Prop :=
  ∀ c : Dev Cert.DWInMine.nD,
    (Cert.Pre_core_d_w_in_mine.fn (F := Bits) (m ((c.tc : Thread Cert.DWInMine.nD Cert.DWInMine.τ).loc Cert.DWInMine.main_arg0)) (m ((c.tc : Thread Cert.DWInMine.nD Cert.DWInMine.τ).loc Cert.DWInMine.main_arg1)) (m ((c.tc : Thread Cert.DWInMine.nD Cert.DWInMine.τ).loc Cert.DWInMine.main_arg2)) (m ((c.tc : Thread Cert.DWInMine.nD Cert.DWInMine.τ).loc Cert.DWInMine.main_arg3))) = (fun _ => 1#1)

def Pre_DWInMineIdeal [hPre_core_d_w_in_mine : Cert.Pre_core_d_w_in_mine.Facts] (m : (ℓ : Loc Cert.DWInMineIdeal.nD Cert.DWInMineIdeal.τ Cert.DWInMineIdeal.sig) → Buf (Elt Ideal) ℓ) : Prop :=
  ∀ c : Dev Cert.DWInMineIdeal.nD,
    (Cert.Pre_core_d_w_in_mine.fn (F := Ideal) (m ((c.tc : Thread Cert.DWInMineIdeal.nD Cert.DWInMineIdeal.τ).loc Cert.DWInMineIdeal.main_arg0)) (m ((c.tc : Thread Cert.DWInMineIdeal.nD Cert.DWInMineIdeal.τ).loc Cert.DWInMineIdeal.main_arg1)) (m ((c.tc : Thread Cert.DWInMineIdeal.nD Cert.DWInMineIdeal.τ).loc Cert.DWInMineIdeal.main_arg2)) (m ((c.tc : Thread Cert.DWInMineIdeal.nD Cert.DWInMineIdeal.τ).loc Cert.DWInMineIdeal.main_arg3))) = (fun _ => 1#1)

def Pre_DWInMineRefIdeal (m : (ℓ : Loc Cert.DWInMineRefIdeal.nD Cert.DWInMineRefIdeal.τ Cert.DWInMineRefIdeal.sig) → Buf (Elt Ideal) ℓ) : Prop :=
  True

def Pre_DWInMineRefIdeal_core_d_w_in_mine [hPre_core_d_w_in_mine : Cert.Pre_core_d_w_in_mine.Facts] (m : (ℓ : Loc Cert.DWInMineRefIdeal.nD Cert.DWInMineRefIdeal.τ Cert.DWInMineRefIdeal.sig) → Buf (Elt Ideal) ℓ) : Prop :=
  ∀ c : Dev Cert.DWInMineRefIdeal.nD,
    (Cert.Pre_core_d_w_in_mine.fn (F := Ideal) (m ((c.tc : Thread Cert.DWInMineRefIdeal.nD Cert.DWInMineRefIdeal.τ).loc Cert.DWInMineRefIdeal.main_arg0)) (m ((c.tc : Thread Cert.DWInMineRefIdeal.nD Cert.DWInMineRefIdeal.τ).loc Cert.DWInMineRefIdeal.main_arg1)) (m ((c.tc : Thread Cert.DWInMineRefIdeal.nD Cert.DWInMineRefIdeal.τ).loc Cert.DWInMineRefIdeal.main_arg2)) (m ((c.tc : Thread Cert.DWInMineRefIdeal.nD Cert.DWInMineRefIdeal.τ).loc Cert.DWInMineRefIdeal.main_arg3))) = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DFfnIn [hDFfnIn : Cert.DFfnIn.Facts] : Prop :=
  ∀ (m : (ℓ : Loc Cert.DFfnIn.nD Cert.DFfnIn.τ Cert.DFfnIn.sig) → Buf (Elt Bits) ℓ) (g : Dev Cert.DFfnIn.nD → PrngReg), Pre_DFfnIn m →
    θ_run (Cert.DFfnIn.defs (F := Bits)) (onTc (τ := Cert.DFfnIn.τ) (Cert.DFfnIn.main (F := Bits))) ⟨m, fun _ => 0, g⟩ (fun r => (∀ c : Dev Cert.DFfnIn.nD,
      r.2.mem ((c.tc : Thread Cert.DFfnIn.nD Cert.DFfnIn.τ).loc Cert.DFfnIn.main_arg0) = m ((c.tc : Thread Cert.DFfnIn.nD Cert.DFfnIn.τ).loc Cert.DFfnIn.main_arg0)
      ∧ r.2.mem ((c.tc : Thread Cert.DFfnIn.nD Cert.DFfnIn.τ).loc Cert.DFfnIn.main_arg1) = m ((c.tc : Thread Cert.DFfnIn.nD Cert.DFfnIn.τ).loc Cert.DFfnIn.main_arg1)
      ∧ r.2.mem ((c.tc : Thread Cert.DFfnIn.nD Cert.DFfnIn.τ).loc Cert.DFfnIn.main_arg2) = m ((c.tc : Thread Cert.DFfnIn.nD Cert.DFfnIn.τ).loc Cert.DFfnIn.main_arg2)
      ∧ r.2.mem ((c.tc : Thread Cert.DFfnIn.nD Cert.DFfnIn.τ).loc Cert.DFfnIn.main_arg3) = m ((c.tc : Thread Cert.DFfnIn.nD Cert.DFfnIn.τ).loc Cert.DFfnIn.main_arg3))
      ∧ r.2.sem = fun _ => 0)

def quiescent_DFfnInIdeal [hDFfnInIdeal : Cert.DFfnInIdeal.Facts] : Prop :=
  ∀ (m : (ℓ : Loc Cert.DFfnInIdeal.nD Cert.DFfnInIdeal.τ Cert.DFfnInIdeal.sig) → Buf (Elt Ideal) ℓ) (g : Dev Cert.DFfnInIdeal.nD → PrngReg), Pre_DFfnInIdeal m →
    θ_run (Cert.DFfnInIdeal.defs (F := Ideal)) (onTc (τ := Cert.DFfnInIdeal.τ) (Cert.DFfnInIdeal.main (F := Ideal))) ⟨m, fun _ => 0, g⟩ (fun r => (∀ c : Dev Cert.DFfnInIdeal.nD,
      r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
      ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1)
      ∧ r.2.mem ((c.tc : Thread Cert.DFfnInIdeal.nD Cert.DFfnInIdeal.τ).loc Cert.DFfnInIdeal.main_arg2) = m ((c.tc : Thread Cert.DFfnInIdeal.nD Cert.DFfnInIdeal.τ).loc Cert.DFfnInIdeal.main_arg2)
      ∧ r.2.mem ((c.tc : Thread Cert.DFfnInIdeal.nD Cert.DFfnInIdeal.τ).loc Cert.DFfnInIdeal.main_arg3) = m ((c.tc : Thread Cert.DFfnInIdeal.nD Cert.DFfnInIdeal.τ).loc Cert.DFfnInIdeal.main_arg3))
      ∧ r.2.sem = fun _ => 0)

def quiescent_DFfnInIdeal_pre_finite_d_ffn_in [hDFfnInIdeal : Cert.DFfnInIdeal.Facts] [hPre_finite_d_ffn_in : Cert.Pre_finite_d_ffn_in.Facts] : Prop :=
  ∀ (m : (ℓ : Loc Cert.DFfnInIdeal.nD Cert.DFfnInIdeal.τ Cert.DFfnInIdeal.sig) → Buf (Elt Ideal) ℓ) (g : Dev Cert.DFfnInIdeal.nD → PrngReg), Pre_DFfnInIdeal_finite_d_ffn_in m →
    θ_run (Cert.DFfnInIdeal.defs (F := Ideal)) (onTc (τ := Cert.DFfnInIdeal.τ) (Cert.DFfnInIdeal.main (F := Ideal))) ⟨m, fun _ => 0, g⟩ (fun r => (∀ c : Dev Cert.DFfnInIdeal.nD,
      r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
      ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1)
      ∧ r.2.mem ((c.tc : Thread Cert.DFfnInIdeal.nD Cert.DFfnInIdeal.τ).loc Cert.DFfnInIdeal.main_arg2) = m ((c.tc : Thread Cert.DFfnInIdeal.nD Cert.DFfnInIdeal.τ).loc Cert.DFfnInIdeal.main_arg2)
      ∧ r.2.mem ((c.tc : Thread Cert.DFfnInIdeal.nD Cert.DFfnInIdeal.τ).loc Cert.DFfnInIdeal.main_arg3) = m ((c.tc : Thread Cert.DFfnInIdeal.nD Cert.DFfnInIdeal.τ).loc Cert.DFfnInIdeal.main_arg3))
      ∧ r.2.sem = fun _ => 0)

def quiescent_DFfnInRefIdeal [hDFfnInRefIdeal : Cert.DFfnInRefIdeal.Facts] : Prop :=
  ∀ (m : (ℓ : Loc Cert.DFfnInRefIdeal.nD Cert.DFfnInRefIdeal.τ Cert.DFfnInRefIdeal.sig) → Buf (Elt Ideal) ℓ) (g : Dev Cert.DFfnInRefIdeal.nD → PrngReg), Pre_DFfnInRefIdeal m →
    θ_run (Cert.DFfnInRefIdeal.defs (F := Ideal)) (onTc (τ := Cert.DFfnInRefIdeal.τ) (Cert.DFfnInRefIdeal.main (F := Ideal))) ⟨m, fun _ => 0, g⟩ (fun r => (∀ c : Dev Cert.DFfnInRefIdeal.nD,
      r.2.mem ((c.tc : Thread Cert.DFfnInRefIdeal.nD Cert.DFfnInRefIdeal.τ).loc Cert.DFfnInRefIdeal.main_arg0) = m ((c.tc : Thread Cert.DFfnInRefIdeal.nD Cert.DFfnInRefIdeal.τ).loc Cert.DFfnInRefIdeal.main_arg0)
      ∧ r.2.mem ((c.tc : Thread Cert.DFfnInRefIdeal.nD Cert.DFfnInRefIdeal.τ).loc Cert.DFfnInRefIdeal.main_arg1) = m ((c.tc : Thread Cert.DFfnInRefIdeal.nD Cert.DFfnInRefIdeal.τ).loc Cert.DFfnInRefIdeal.main_arg1)
      ∧ r.2.mem ((c.tc : Thread Cert.DFfnInRefIdeal.nD Cert.DFfnInRefIdeal.τ).loc Cert.DFfnInRefIdeal.main_arg2) = m ((c.tc : Thread Cert.DFfnInRefIdeal.nD Cert.DFfnInRefIdeal.τ).loc Cert.DFfnInRefIdeal.main_arg2)
      ∧ r.2.mem ((c.tc : Thread Cert.DFfnInRefIdeal.nD Cert.DFfnInRefIdeal.τ).loc Cert.DFfnInRefIdeal.main_arg3) = m ((c.tc : Thread Cert.DFfnInRefIdeal.nD Cert.DFfnInRefIdeal.τ).loc Cert.DFfnInRefIdeal.main_arg3))
      ∧ r.2.sem = fun _ => 0)

def quiescent_DFfnInRefIdeal_pre_finite_d_ffn_in [hDFfnInRefIdeal : Cert.DFfnInRefIdeal.Facts] [hPre_finite_d_ffn_in : Cert.Pre_finite_d_ffn_in.Facts] : Prop :=
  ∀ (m : (ℓ : Loc Cert.DFfnInRefIdeal.nD Cert.DFfnInRefIdeal.τ Cert.DFfnInRefIdeal.sig) → Buf (Elt Ideal) ℓ) (g : Dev Cert.DFfnInRefIdeal.nD → PrngReg), Pre_DFfnInRefIdeal_finite_d_ffn_in m →
    θ_run (Cert.DFfnInRefIdeal.defs (F := Ideal)) (onTc (τ := Cert.DFfnInRefIdeal.τ) (Cert.DFfnInRefIdeal.main (F := Ideal))) ⟨m, fun _ => 0, g⟩ (fun r => (∀ c : Dev Cert.DFfnInRefIdeal.nD,
      r.2.mem ((c.tc : Thread Cert.DFfnInRefIdeal.nD Cert.DFfnInRefIdeal.τ).loc Cert.DFfnInRefIdeal.main_arg0) = m ((c.tc : Thread Cert.DFfnInRefIdeal.nD Cert.DFfnInRefIdeal.τ).loc Cert.DFfnInRefIdeal.main_arg0)
      ∧ r.2.mem ((c.tc : Thread Cert.DFfnInRefIdeal.nD Cert.DFfnInRefIdeal.τ).loc Cert.DFfnInRefIdeal.main_arg1) = m ((c.tc : Thread Cert.DFfnInRefIdeal.nD Cert.DFfnInRefIdeal.τ).loc Cert.DFfnInRefIdeal.main_arg1)
      ∧ r.2.mem ((c.tc : Thread Cert.DFfnInRefIdeal.nD Cert.DFfnInRefIdeal.τ).loc Cert.DFfnInRefIdeal.main_arg2) = m ((c.tc : Thread Cert.DFfnInRefIdeal.nD Cert.DFfnInRefIdeal.τ).loc Cert.DFfnInRefIdeal.main_arg2)
      ∧ r.2.mem ((c.tc : Thread Cert.DFfnInRefIdeal.nD Cert.DFfnInRefIdeal.τ).loc Cert.DFfnInRefIdeal.main_arg3) = m ((c.tc : Thread Cert.DFfnInRefIdeal.nD Cert.DFfnInRefIdeal.τ).loc Cert.DFfnInRefIdeal.main_arg3))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2)
      ∧ r.2.mem ((c.tc : Thread Cert.DH2.nD Cert.DH2.τ).loc Cert.DH2.main_arg3) = m ((c.tc : Thread Cert.DH2.nD Cert.DH2.τ).loc Cert.DH2.main_arg3))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
      ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2)
      ∧ r.2.mem ((c.tc : Thread Cert.DH2RefIdeal.nD Cert.DH2RefIdeal.τ).loc Cert.DH2RefIdeal.main_arg3) = m ((c.tc : Thread Cert.DH2RefIdeal.nD Cert.DH2RefIdeal.τ).loc Cert.DH2RefIdeal.main_arg3))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_DO [hDO : Cert.DO.Facts] : Prop :=
  ∀ (m : (ℓ : Loc Cert.DO.nD Cert.DO.τ Cert.DO.sig) → Buf (Elt Bits) ℓ) (g : Dev Cert.DO.nD → PrngReg), Pre_DO m →
    θ_run (Cert.DO.defs (F := Bits)) (onTc (τ := Cert.DO.τ) (Cert.DO.main (F := Bits))) ⟨m, fun _ => 0, g⟩ (fun r => (∀ c : Dev Cert.DO.nD,
      r.2.mem ((c.tc : Thread Cert.DO.nD Cert.DO.τ).loc Cert.DO.main_arg0) = m ((c.tc : Thread Cert.DO.nD Cert.DO.τ).loc Cert.DO.main_arg0)
      ∧ r.2.mem ((c.tc : Thread Cert.DO.nD Cert.DO.τ).loc Cert.DO.main_arg1) = m ((c.tc : Thread Cert.DO.nD Cert.DO.τ).loc Cert.DO.main_arg1))
      ∧ r.2.sem = fun _ => 0)

def quiescent_DOIdeal [hDOIdeal : Cert.DOIdeal.Facts] : Prop :=
  ∀ (m : (ℓ : Loc Cert.DOIdeal.nD Cert.DOIdeal.τ Cert.DOIdeal.sig) → Buf (Elt Ideal) ℓ) (g : Dev Cert.DOIdeal.nD → PrngReg), Pre_DOIdeal m →
    θ_run (Cert.DOIdeal.defs (F := Ideal)) (onTc (τ := Cert.DOIdeal.τ) (Cert.DOIdeal.main (F := Ideal))) ⟨m, fun _ => 0, g⟩ (fun r => (∀ c : Dev Cert.DOIdeal.nD,
      r.2.mem ((c.tc : Thread Cert.DOIdeal.nD Cert.DOIdeal.τ).loc Cert.DOIdeal.main_arg0) = m ((c.tc : Thread Cert.DOIdeal.nD Cert.DOIdeal.τ).loc Cert.DOIdeal.main_arg0)
      ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ r.2.sem = fun _ => 0)

def quiescent_DORefIdeal [hDORefIdeal : Cert.DORefIdeal.Facts] : Prop :=
  ∀ (m : (ℓ : Loc Cert.DORefIdeal.nD Cert.DORefIdeal.τ Cert.DORefIdeal.sig) → Buf (Elt Ideal) ℓ) (g : Dev Cert.DORefIdeal.nD → PrngReg), Pre_DORefIdeal m →
    θ_run (Cert.DORefIdeal.defs (F := Ideal)) (onTc (τ := Cert.DORefIdeal.τ) (Cert.DORefIdeal.main (F := Ideal))) ⟨m, fun _ => 0, g⟩ (fun r => (∀ c : Dev Cert.DORefIdeal.nD,
      r.2.mem ((c.tc : Thread Cert.DORefIdeal.nD Cert.DORefIdeal.τ).loc Cert.DORefIdeal.main_arg0) = m ((c.tc : Thread Cert.DORefIdeal.nD Cert.DORefIdeal.τ).loc Cert.DORefIdeal.main_arg0)
      ∧ r.2.mem ((c.tc : Thread Cert.DORefIdeal.nD Cert.DORefIdeal.τ).loc Cert.DORefIdeal.main_arg1) = m ((c.tc : Thread Cert.DORefIdeal.nD Cert.DORefIdeal.τ).loc Cert.DORefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_DWGateTheirs [hDWGateTheirs : Cert.DWGateTheirs.Facts] [hPre_core_d_w_gate_theirs : Cert.Pre_core_d_w_gate_theirs.Facts] : Prop :=
  ∀ (m : (ℓ : Loc Cert.DWGateTheirs.nD Cert.DWGateTheirs.τ Cert.DWGateTheirs.sig) → Buf (Elt Bits) ℓ) (g : Dev Cert.DWGateTheirs.nD → PrngReg), Pre_DWGateTheirs m →
    θ_run (Cert.DWGateTheirs.defs (F := Bits)) (onTc (τ := Cert.DWGateTheirs.τ) (Cert.DWGateTheirs.main (F := Bits))) ⟨m, fun _ => 0, g⟩ (fun r => (∀ c : Dev Cert.DWGateTheirs.nD,
      r.2.mem ((c.tc : Thread Cert.DWGateTheirs.nD Cert.DWGateTheirs.τ).loc Cert.DWGateTheirs.main_arg0) = m ((c.tc : Thread Cert.DWGateTheirs.nD Cert.DWGateTheirs.τ).loc Cert.DWGateTheirs.main_arg0)
      ∧ r.2.mem ((c.tc : Thread Cert.DWGateTheirs.nD Cert.DWGateTheirs.τ).loc Cert.DWGateTheirs.main_arg1) = m ((c.tc : Thread Cert.DWGateTheirs.nD Cert.DWGateTheirs.τ).loc Cert.DWGateTheirs.main_arg1)
      ∧ r.2.mem ((c.tc : Thread Cert.DWGateTheirs.nD Cert.DWGateTheirs.τ).loc Cert.DWGateTheirs.main_arg2) = m ((c.tc : Thread Cert.DWGateTheirs.nD Cert.DWGateTheirs.τ).loc Cert.DWGateTheirs.main_arg2))
      ∧ r.2.sem = fun _ => 0)

def quiescent_DWGateTheirsIdeal [hDWGateTheirsIdeal : Cert.DWGateTheirsIdeal.Facts] [hPre_core_d_w_gate_theirs : Cert.Pre_core_d_w_gate_theirs.Facts] : Prop :=
  ∀ (m : (ℓ : Loc Cert.DWGateTheirsIdeal.nD Cert.DWGateTheirsIdeal.τ Cert.DWGateTheirsIdeal.sig) → Buf (Elt Ideal) ℓ) (g : Dev Cert.DWGateTheirsIdeal.nD → PrngReg), Pre_DWGateTheirsIdeal m →
    θ_run (Cert.DWGateTheirsIdeal.defs (F := Ideal)) (onTc (τ := Cert.DWGateTheirsIdeal.τ) (Cert.DWGateTheirsIdeal.main (F := Ideal))) ⟨m, fun _ => 0, g⟩ (fun r => (∀ c : Dev Cert.DWGateTheirsIdeal.nD,
      r.2.mem ((c.tc : Thread Cert.DWGateTheirsIdeal.nD Cert.DWGateTheirsIdeal.τ).loc Cert.DWGateTheirsIdeal.main_arg0) = m ((c.tc : Thread Cert.DWGateTheirsIdeal.nD Cert.DWGateTheirsIdeal.τ).loc Cert.DWGateTheirsIdeal.main_arg0)
      ∧ r.2.mem ((c.tc : Thread Cert.DWGateTheirsIdeal.nD Cert.DWGateTheirsIdeal.τ).loc Cert.DWGateTheirsIdeal.main_arg1) = m ((c.tc : Thread Cert.DWGateTheirsIdeal.nD Cert.DWGateTheirsIdeal.τ).loc Cert.DWGateTheirsIdeal.main_arg1)
      ∧ r.2.mem ((c.tc : Thread Cert.DWGateTheirsIdeal.nD Cert.DWGateTheirsIdeal.τ).loc Cert.DWGateTheirsIdeal.main_arg2) = m ((c.tc : Thread Cert.DWGateTheirsIdeal.nD Cert.DWGateTheirsIdeal.τ).loc Cert.DWGateTheirsIdeal.main_arg2))
      ∧ r.2.sem = fun _ => 0)

def quiescent_DWGateTheirsRefIdeal [hDWGateTheirsRefIdeal : Cert.DWGateTheirsRefIdeal.Facts] : Prop :=
  ∀ (m : (ℓ : Loc Cert.DWGateTheirsRefIdeal.nD Cert.DWGateTheirsRefIdeal.τ Cert.DWGateTheirsRefIdeal.sig) → Buf (Elt Ideal) ℓ) (g : Dev Cert.DWGateTheirsRefIdeal.nD → PrngReg), Pre_DWGateTheirsRefIdeal m →
    θ_run (Cert.DWGateTheirsRefIdeal.defs (F := Ideal)) (onTc (τ := Cert.DWGateTheirsRefIdeal.τ) (Cert.DWGateTheirsRefIdeal.main (F := Ideal))) ⟨m, fun _ => 0, g⟩ (fun r => (∀ c : Dev Cert.DWGateTheirsRefIdeal.nD,
      r.2.mem ((c.tc : Thread Cert.DWGateTheirsRefIdeal.nD Cert.DWGateTheirsRefIdeal.τ).loc Cert.DWGateTheirsRefIdeal.main_arg0) = m ((c.tc : Thread Cert.DWGateTheirsRefIdeal.nD Cert.DWGateTheirsRefIdeal.τ).loc Cert.DWGateTheirsRefIdeal.main_arg0)
      ∧ r.2.mem ((c.tc : Thread Cert.DWGateTheirsRefIdeal.nD Cert.DWGateTheirsRefIdeal.τ).loc Cert.DWGateTheirsRefIdeal.main_arg1) = m ((c.tc : Thread Cert.DWGateTheirsRefIdeal.nD Cert.DWGateTheirsRefIdeal.τ).loc Cert.DWGateTheirsRefIdeal.main_arg1)
      ∧ r.2.mem ((c.tc : Thread Cert.DWGateTheirsRefIdeal.nD Cert.DWGateTheirsRefIdeal.τ).loc Cert.DWGateTheirsRefIdeal.main_arg2) = m ((c.tc : Thread Cert.DWGateTheirsRefIdeal.nD Cert.DWGateTheirsRefIdeal.τ).loc Cert.DWGateTheirsRefIdeal.main_arg2))
      ∧ r.2.sem = fun _ => 0)

def quiescent_DWGateTheirsRefIdeal_pre_core_d_w_gate_theirs [hDWGateTheirsRefIdeal : Cert.DWGateTheirsRefIdeal.Facts] [hPre_core_d_w_gate_theirs : Cert.Pre_core_d_w_gate_theirs.Facts] : Prop :=
  ∀ (m : (ℓ : Loc Cert.DWGateTheirsRefIdeal.nD Cert.DWGateTheirsRefIdeal.τ Cert.DWGateTheirsRefIdeal.sig) → Buf (Elt Ideal) ℓ) (g : Dev Cert.DWGateTheirsRefIdeal.nD → PrngReg), Pre_DWGateTheirsRefIdeal_core_d_w_gate_theirs m →
    θ_run (Cert.DWGateTheirsRefIdeal.defs (F := Ideal)) (onTc (τ := Cert.DWGateTheirsRefIdeal.τ) (Cert.DWGateTheirsRefIdeal.main (F := Ideal))) ⟨m, fun _ => 0, g⟩ (fun r => (∀ c : Dev Cert.DWGateTheirsRefIdeal.nD,
      r.2.mem ((c.tc : Thread Cert.DWGateTheirsRefIdeal.nD Cert.DWGateTheirsRefIdeal.τ).loc Cert.DWGateTheirsRefIdeal.main_arg0) = m ((c.tc : Thread Cert.DWGateTheirsRefIdeal.nD Cert.DWGateTheirsRefIdeal.τ).loc Cert.DWGateTheirsRefIdeal.main_arg0)
      ∧ r.2.mem ((c.tc : Thread Cert.DWGateTheirsRefIdeal.nD Cert.DWGateTheirsRefIdeal.τ).loc Cert.DWGateTheirsRefIdeal.main_arg1) = m ((c.tc : Thread Cert.DWGateTheirsRefIdeal.nD Cert.DWGateTheirsRefIdeal.τ).loc Cert.DWGateTheirsRefIdeal.main_arg1)
      ∧ r.2.mem ((c.tc : Thread Cert.DWGateTheirsRefIdeal.nD Cert.DWGateTheirsRefIdeal.τ).loc Cert.DWGateTheirsRefIdeal.main_arg2) = m ((c.tc : Thread Cert.DWGateTheirsRefIdeal.nD Cert.DWGateTheirsRefIdeal.τ).loc Cert.DWGateTheirsRefIdeal.main_arg2))
      ∧ r.2.sem = fun _ => 0)

def quiescent_DWGateMine [hDWGateMine : Cert.DWGateMine.Facts] [hPre_core_d_w_gate_mine : Cert.Pre_core_d_w_gate_mine.Facts] : Prop :=
  ∀ (m : (ℓ : Loc Cert.DWGateMine.nD Cert.DWGateMine.τ Cert.DWGateMine.sig) → Buf (Elt Bits) ℓ) (g : Dev Cert.DWGateMine.nD → PrngReg), Pre_DWGateMine m →
    θ_run (Cert.DWGateMine.defs (F := Bits)) (onTc (τ := Cert.DWGateMine.τ) (Cert.DWGateMine.main (F := Bits))) ⟨m, fun _ => 0, g⟩ (fun r => (∀ c : Dev Cert.DWGateMine.nD,
      r.2.mem ((c.tc : Thread Cert.DWGateMine.nD Cert.DWGateMine.τ).loc Cert.DWGateMine.main_arg0) = m ((c.tc : Thread Cert.DWGateMine.nD Cert.DWGateMine.τ).loc Cert.DWGateMine.main_arg0)
      ∧ r.2.mem ((c.tc : Thread Cert.DWGateMine.nD Cert.DWGateMine.τ).loc Cert.DWGateMine.main_arg1) = m ((c.tc : Thread Cert.DWGateMine.nD Cert.DWGateMine.τ).loc Cert.DWGateMine.main_arg1)
      ∧ r.2.mem ((c.tc : Thread Cert.DWGateMine.nD Cert.DWGateMine.τ).loc Cert.DWGateMine.main_arg2) = m ((c.tc : Thread Cert.DWGateMine.nD Cert.DWGateMine.τ).loc Cert.DWGateMine.main_arg2)
      ∧ r.2.mem ((c.tc : Thread Cert.DWGateMine.nD Cert.DWGateMine.τ).loc Cert.DWGateMine.main_arg3) = m ((c.tc : Thread Cert.DWGateMine.nD Cert.DWGateMine.τ).loc Cert.DWGateMine.main_arg3))
      ∧ r.2.sem = fun _ => 0)

def quiescent_DWGateMineIdeal [hDWGateMineIdeal : Cert.DWGateMineIdeal.Facts] [hPre_core_d_w_gate_mine : Cert.Pre_core_d_w_gate_mine.Facts] : Prop :=
  ∀ (m : (ℓ : Loc Cert.DWGateMineIdeal.nD Cert.DWGateMineIdeal.τ Cert.DWGateMineIdeal.sig) → Buf (Elt Ideal) ℓ) (g : Dev Cert.DWGateMineIdeal.nD → PrngReg), Pre_DWGateMineIdeal m →
    θ_run (Cert.DWGateMineIdeal.defs (F := Ideal)) (onTc (τ := Cert.DWGateMineIdeal.τ) (Cert.DWGateMineIdeal.main (F := Ideal))) ⟨m, fun _ => 0, g⟩ (fun r => (∀ c : Dev Cert.DWGateMineIdeal.nD,
      r.2.mem ((c.tc : Thread Cert.DWGateMineIdeal.nD Cert.DWGateMineIdeal.τ).loc Cert.DWGateMineIdeal.main_arg0) = m ((c.tc : Thread Cert.DWGateMineIdeal.nD Cert.DWGateMineIdeal.τ).loc Cert.DWGateMineIdeal.main_arg0)
      ∧ r.2.mem ((c.tc : Thread Cert.DWGateMineIdeal.nD Cert.DWGateMineIdeal.τ).loc Cert.DWGateMineIdeal.main_arg1) = m ((c.tc : Thread Cert.DWGateMineIdeal.nD Cert.DWGateMineIdeal.τ).loc Cert.DWGateMineIdeal.main_arg1)
      ∧ r.2.mem ((c.tc : Thread Cert.DWGateMineIdeal.nD Cert.DWGateMineIdeal.τ).loc Cert.DWGateMineIdeal.main_arg2) = m ((c.tc : Thread Cert.DWGateMineIdeal.nD Cert.DWGateMineIdeal.τ).loc Cert.DWGateMineIdeal.main_arg2)
      ∧ r.2.mem ((c.tc : Thread Cert.DWGateMineIdeal.nD Cert.DWGateMineIdeal.τ).loc Cert.DWGateMineIdeal.main_arg3) = m ((c.tc : Thread Cert.DWGateMineIdeal.nD Cert.DWGateMineIdeal.τ).loc Cert.DWGateMineIdeal.main_arg3))
      ∧ r.2.sem = fun _ => 0)

def quiescent_DWGateMineRefIdeal [hDWGateMineRefIdeal : Cert.DWGateMineRefIdeal.Facts] : Prop :=
  ∀ (m : (ℓ : Loc Cert.DWGateMineRefIdeal.nD Cert.DWGateMineRefIdeal.τ Cert.DWGateMineRefIdeal.sig) → Buf (Elt Ideal) ℓ) (g : Dev Cert.DWGateMineRefIdeal.nD → PrngReg), Pre_DWGateMineRefIdeal m →
    θ_run (Cert.DWGateMineRefIdeal.defs (F := Ideal)) (onTc (τ := Cert.DWGateMineRefIdeal.τ) (Cert.DWGateMineRefIdeal.main (F := Ideal))) ⟨m, fun _ => 0, g⟩ (fun r => (∀ c : Dev Cert.DWGateMineRefIdeal.nD,
      r.2.mem ((c.tc : Thread Cert.DWGateMineRefIdeal.nD Cert.DWGateMineRefIdeal.τ).loc Cert.DWGateMineRefIdeal.main_arg0) = m ((c.tc : Thread Cert.DWGateMineRefIdeal.nD Cert.DWGateMineRefIdeal.τ).loc Cert.DWGateMineRefIdeal.main_arg0)
      ∧ r.2.mem ((c.tc : Thread Cert.DWGateMineRefIdeal.nD Cert.DWGateMineRefIdeal.τ).loc Cert.DWGateMineRefIdeal.main_arg1) = m ((c.tc : Thread Cert.DWGateMineRefIdeal.nD Cert.DWGateMineRefIdeal.τ).loc Cert.DWGateMineRefIdeal.main_arg1)
      ∧ r.2.mem ((c.tc : Thread Cert.DWGateMineRefIdeal.nD Cert.DWGateMineRefIdeal.τ).loc Cert.DWGateMineRefIdeal.main_arg2) = m ((c.tc : Thread Cert.DWGateMineRefIdeal.nD Cert.DWGateMineRefIdeal.τ).loc Cert.DWGateMineRefIdeal.main_arg2)
      ∧ r.2.mem ((c.tc : Thread Cert.DWGateMineRefIdeal.nD Cert.DWGateMineRefIdeal.τ).loc Cert.DWGateMineRefIdeal.main_arg3) = m ((c.tc : Thread Cert.DWGateMineRefIdeal.nD Cert.DWGateMineRefIdeal.τ).loc Cert.DWGateMineRefIdeal.main_arg3))
      ∧ r.2.sem = fun _ => 0)

def quiescent_DWGateMineRefIdeal_pre_core_d_w_gate_mine [hDWGateMineRefIdeal : Cert.DWGateMineRefIdeal.Facts] [hPre_core_d_w_gate_mine : Cert.Pre_core_d_w_gate_mine.Facts] : Prop :=
  ∀ (m : (ℓ : Loc Cert.DWGateMineRefIdeal.nD Cert.DWGateMineRefIdeal.τ Cert.DWGateMineRefIdeal.sig) → Buf (Elt Ideal) ℓ) (g : Dev Cert.DWGateMineRefIdeal.nD → PrngReg), Pre_DWGateMineRefIdeal_core_d_w_gate_mine m →
    θ_run (Cert.DWGateMineRefIdeal.defs (F := Ideal)) (onTc (τ := Cert.DWGateMineRefIdeal.τ) (Cert.DWGateMineRefIdeal.main (F := Ideal))) ⟨m, fun _ => 0, g⟩ (fun r => (∀ c : Dev Cert.DWGateMineRefIdeal.nD,
      r.2.mem ((c.tc : Thread Cert.DWGateMineRefIdeal.nD Cert.DWGateMineRefIdeal.τ).loc Cert.DWGateMineRefIdeal.main_arg0) = m ((c.tc : Thread Cert.DWGateMineRefIdeal.nD Cert.DWGateMineRefIdeal.τ).loc Cert.DWGateMineRefIdeal.main_arg0)
      ∧ r.2.mem ((c.tc : Thread Cert.DWGateMineRefIdeal.nD Cert.DWGateMineRefIdeal.τ).loc Cert.DWGateMineRefIdeal.main_arg1) = m ((c.tc : Thread Cert.DWGateMineRefIdeal.nD Cert.DWGateMineRefIdeal.τ).loc Cert.DWGateMineRefIdeal.main_arg1)
      ∧ r.2.mem ((c.tc : Thread Cert.DWGateMineRefIdeal.nD Cert.DWGateMineRefIdeal.τ).loc Cert.DWGateMineRefIdeal.main_arg2) = m ((c.tc : Thread Cert.DWGateMineRefIdeal.nD Cert.DWGateMineRefIdeal.τ).loc Cert.DWGateMineRefIdeal.main_arg2)
      ∧ r.2.mem ((c.tc : Thread Cert.DWGateMineRefIdeal.nD Cert.DWGateMineRefIdeal.τ).loc Cert.DWGateMineRefIdeal.main_arg3) = m ((c.tc : Thread Cert.DWGateMineRefIdeal.nD Cert.DWGateMineRefIdeal.τ).loc Cert.DWGateMineRefIdeal.main_arg3))
      ∧ r.2.sem = fun _ => 0)

def quiescent_DWInTheirs [hDWInTheirs : Cert.DWInTheirs.Facts] [hPre_core_d_w_in_theirs : Cert.Pre_core_d_w_in_theirs.Facts] : Prop :=
  ∀ (m : (ℓ : Loc Cert.DWInTheirs.nD Cert.DWInTheirs.τ Cert.DWInTheirs.sig) → Buf (Elt Bits) ℓ) (g : Dev Cert.DWInTheirs.nD → PrngReg), Pre_DWInTheirs m →
    θ_run (Cert.DWInTheirs.defs (F := Bits)) (onTc (τ := Cert.DWInTheirs.τ) (Cert.DWInTheirs.main (F := Bits))) ⟨m, fun _ => 0, g⟩ (fun r => (∀ c : Dev Cert.DWInTheirs.nD,
      r.2.mem ((c.tc : Thread Cert.DWInTheirs.nD Cert.DWInTheirs.τ).loc Cert.DWInTheirs.main_arg0) = m ((c.tc : Thread Cert.DWInTheirs.nD Cert.DWInTheirs.τ).loc Cert.DWInTheirs.main_arg0)
      ∧ r.2.mem ((c.tc : Thread Cert.DWInTheirs.nD Cert.DWInTheirs.τ).loc Cert.DWInTheirs.main_arg1) = m ((c.tc : Thread Cert.DWInTheirs.nD Cert.DWInTheirs.τ).loc Cert.DWInTheirs.main_arg1)
      ∧ r.2.mem ((c.tc : Thread Cert.DWInTheirs.nD Cert.DWInTheirs.τ).loc Cert.DWInTheirs.main_arg2) = m ((c.tc : Thread Cert.DWInTheirs.nD Cert.DWInTheirs.τ).loc Cert.DWInTheirs.main_arg2))
      ∧ r.2.sem = fun _ => 0)

def quiescent_DWInTheirsIdeal [hDWInTheirsIdeal : Cert.DWInTheirsIdeal.Facts] [hPre_core_d_w_in_theirs : Cert.Pre_core_d_w_in_theirs.Facts] : Prop :=
  ∀ (m : (ℓ : Loc Cert.DWInTheirsIdeal.nD Cert.DWInTheirsIdeal.τ Cert.DWInTheirsIdeal.sig) → Buf (Elt Ideal) ℓ) (g : Dev Cert.DWInTheirsIdeal.nD → PrngReg), Pre_DWInTheirsIdeal m →
    θ_run (Cert.DWInTheirsIdeal.defs (F := Ideal)) (onTc (τ := Cert.DWInTheirsIdeal.τ) (Cert.DWInTheirsIdeal.main (F := Ideal))) ⟨m, fun _ => 0, g⟩ (fun r => (∀ c : Dev Cert.DWInTheirsIdeal.nD,
      r.2.mem ((c.tc : Thread Cert.DWInTheirsIdeal.nD Cert.DWInTheirsIdeal.τ).loc Cert.DWInTheirsIdeal.main_arg0) = m ((c.tc : Thread Cert.DWInTheirsIdeal.nD Cert.DWInTheirsIdeal.τ).loc Cert.DWInTheirsIdeal.main_arg0)
      ∧ r.2.mem ((c.tc : Thread Cert.DWInTheirsIdeal.nD Cert.DWInTheirsIdeal.τ).loc Cert.DWInTheirsIdeal.main_arg1) = m ((c.tc : Thread Cert.DWInTheirsIdeal.nD Cert.DWInTheirsIdeal.τ).loc Cert.DWInTheirsIdeal.main_arg1)
      ∧ r.2.mem ((c.tc : Thread Cert.DWInTheirsIdeal.nD Cert.DWInTheirsIdeal.τ).loc Cert.DWInTheirsIdeal.main_arg2) = m ((c.tc : Thread Cert.DWInTheirsIdeal.nD Cert.DWInTheirsIdeal.τ).loc Cert.DWInTheirsIdeal.main_arg2))
      ∧ r.2.sem = fun _ => 0)

def quiescent_DWInTheirsRefIdeal [hDWInTheirsRefIdeal : Cert.DWInTheirsRefIdeal.Facts] : Prop :=
  ∀ (m : (ℓ : Loc Cert.DWInTheirsRefIdeal.nD Cert.DWInTheirsRefIdeal.τ Cert.DWInTheirsRefIdeal.sig) → Buf (Elt Ideal) ℓ) (g : Dev Cert.DWInTheirsRefIdeal.nD → PrngReg), Pre_DWInTheirsRefIdeal m →
    θ_run (Cert.DWInTheirsRefIdeal.defs (F := Ideal)) (onTc (τ := Cert.DWInTheirsRefIdeal.τ) (Cert.DWInTheirsRefIdeal.main (F := Ideal))) ⟨m, fun _ => 0, g⟩ (fun r => (∀ c : Dev Cert.DWInTheirsRefIdeal.nD,
      r.2.mem ((c.tc : Thread Cert.DWInTheirsRefIdeal.nD Cert.DWInTheirsRefIdeal.τ).loc Cert.DWInTheirsRefIdeal.main_arg0) = m ((c.tc : Thread Cert.DWInTheirsRefIdeal.nD Cert.DWInTheirsRefIdeal.τ).loc Cert.DWInTheirsRefIdeal.main_arg0)
      ∧ r.2.mem ((c.tc : Thread Cert.DWInTheirsRefIdeal.nD Cert.DWInTheirsRefIdeal.τ).loc Cert.DWInTheirsRefIdeal.main_arg1) = m ((c.tc : Thread Cert.DWInTheirsRefIdeal.nD Cert.DWInTheirsRefIdeal.τ).loc Cert.DWInTheirsRefIdeal.main_arg1)
      ∧ r.2.mem ((c.tc : Thread Cert.DWInTheirsRefIdeal.nD Cert.DWInTheirsRefIdeal.τ).loc Cert.DWInTheirsRefIdeal.main_arg2) = m ((c.tc : Thread Cert.DWInTheirsRefIdeal.nD Cert.DWInTheirsRefIdeal.τ).loc Cert.DWInTheirsRefIdeal.main_arg2))
      ∧ r.2.sem = fun _ => 0)

def quiescent_DWInTheirsRefIdeal_pre_core_d_w_in_theirs [hDWInTheirsRefIdeal : Cert.DWInTheirsRefIdeal.Facts] [hPre_core_d_w_in_theirs : Cert.Pre_core_d_w_in_theirs.Facts] : Prop :=
  ∀ (m : (ℓ : Loc Cert.DWInTheirsRefIdeal.nD Cert.DWInTheirsRefIdeal.τ Cert.DWInTheirsRefIdeal.sig) → Buf (Elt Ideal) ℓ) (g : Dev Cert.DWInTheirsRefIdeal.nD → PrngReg), Pre_DWInTheirsRefIdeal_core_d_w_in_theirs m →
    θ_run (Cert.DWInTheirsRefIdeal.defs (F := Ideal)) (onTc (τ := Cert.DWInTheirsRefIdeal.τ) (Cert.DWInTheirsRefIdeal.main (F := Ideal))) ⟨m, fun _ => 0, g⟩ (fun r => (∀ c : Dev Cert.DWInTheirsRefIdeal.nD,
      r.2.mem ((c.tc : Thread Cert.DWInTheirsRefIdeal.nD Cert.DWInTheirsRefIdeal.τ).loc Cert.DWInTheirsRefIdeal.main_arg0) = m ((c.tc : Thread Cert.DWInTheirsRefIdeal.nD Cert.DWInTheirsRefIdeal.τ).loc Cert.DWInTheirsRefIdeal.main_arg0)
      ∧ r.2.mem ((c.tc : Thread Cert.DWInTheirsRefIdeal.nD Cert.DWInTheirsRefIdeal.τ).loc Cert.DWInTheirsRefIdeal.main_arg1) = m ((c.tc : Thread Cert.DWInTheirsRefIdeal.nD Cert.DWInTheirsRefIdeal.τ).loc Cert.DWInTheirsRefIdeal.main_arg1)
      ∧ r.2.mem ((c.tc : Thread Cert.DWInTheirsRefIdeal.nD Cert.DWInTheirsRefIdeal.τ).loc Cert.DWInTheirsRefIdeal.main_arg2) = m ((c.tc : Thread Cert.DWInTheirsRefIdeal.nD Cert.DWInTheirsRefIdeal.τ).loc Cert.DWInTheirsRefIdeal.main_arg2))
      ∧ r.2.sem = fun _ => 0)

def quiescent_DWInMine [hDWInMine : Cert.DWInMine.Facts] [hPre_core_d_w_in_mine : Cert.Pre_core_d_w_in_mine.Facts] : Prop :=
  ∀ (m : (ℓ : Loc Cert.DWInMine.nD Cert.DWInMine.τ Cert.DWInMine.sig) → Buf (Elt Bits) ℓ) (g : Dev Cert.DWInMine.nD → PrngReg), Pre_DWInMine m →
    θ_run (Cert.DWInMine.defs (F := Bits)) (onTc (τ := Cert.DWInMine.τ) (Cert.DWInMine.main (F := Bits))) ⟨m, fun _ => 0, g⟩ (fun r => (∀ c : Dev Cert.DWInMine.nD,
      r.2.mem ((c.tc : Thread Cert.DWInMine.nD Cert.DWInMine.τ).loc Cert.DWInMine.main_arg0) = m ((c.tc : Thread Cert.DWInMine.nD Cert.DWInMine.τ).loc Cert.DWInMine.main_arg0)
      ∧ r.2.mem ((c.tc : Thread Cert.DWInMine.nD Cert.DWInMine.τ).loc Cert.DWInMine.main_arg1) = m ((c.tc : Thread Cert.DWInMine.nD Cert.DWInMine.τ).loc Cert.DWInMine.main_arg1)
      ∧ r.2.mem ((c.tc : Thread Cert.DWInMine.nD Cert.DWInMine.τ).loc Cert.DWInMine.main_arg2) = m ((c.tc : Thread Cert.DWInMine.nD Cert.DWInMine.τ).loc Cert.DWInMine.main_arg2)
      ∧ r.2.mem ((c.tc : Thread Cert.DWInMine.nD Cert.DWInMine.τ).loc Cert.DWInMine.main_arg3) = m ((c.tc : Thread Cert.DWInMine.nD Cert.DWInMine.τ).loc Cert.DWInMine.main_arg3))
      ∧ r.2.sem = fun _ => 0)

def quiescent_DWInMineIdeal [hDWInMineIdeal : Cert.DWInMineIdeal.Facts] [hPre_core_d_w_in_mine : Cert.Pre_core_d_w_in_mine.Facts] : Prop :=
  ∀ (m : (ℓ : Loc Cert.DWInMineIdeal.nD Cert.DWInMineIdeal.τ Cert.DWInMineIdeal.sig) → Buf (Elt Ideal) ℓ) (g : Dev Cert.DWInMineIdeal.nD → PrngReg), Pre_DWInMineIdeal m →
    θ_run (Cert.DWInMineIdeal.defs (F := Ideal)) (onTc (τ := Cert.DWInMineIdeal.τ) (Cert.DWInMineIdeal.main (F := Ideal))) ⟨m, fun _ => 0, g⟩ (fun r => (∀ c : Dev Cert.DWInMineIdeal.nD,
      r.2.mem ((c.tc : Thread Cert.DWInMineIdeal.nD Cert.DWInMineIdeal.τ).loc Cert.DWInMineIdeal.main_arg0) = m ((c.tc : Thread Cert.DWInMineIdeal.nD Cert.DWInMineIdeal.τ).loc Cert.DWInMineIdeal.main_arg0)
      ∧ r.2.mem ((c.tc : Thread Cert.DWInMineIdeal.nD Cert.DWInMineIdeal.τ).loc Cert.DWInMineIdeal.main_arg1) = m ((c.tc : Thread Cert.DWInMineIdeal.nD Cert.DWInMineIdeal.τ).loc Cert.DWInMineIdeal.main_arg1)
      ∧ r.2.mem ((c.tc : Thread Cert.DWInMineIdeal.nD Cert.DWInMineIdeal.τ).loc Cert.DWInMineIdeal.main_arg2) = m ((c.tc : Thread Cert.DWInMineIdeal.nD Cert.DWInMineIdeal.τ).loc Cert.DWInMineIdeal.main_arg2)
      ∧ r.2.mem ((c.tc : Thread Cert.DWInMineIdeal.nD Cert.DWInMineIdeal.τ).loc Cert.DWInMineIdeal.main_arg3) = m ((c.tc : Thread Cert.DWInMineIdeal.nD Cert.DWInMineIdeal.τ).loc Cert.DWInMineIdeal.main_arg3))
      ∧ r.2.sem = fun _ => 0)

def quiescent_DWInMineRefIdeal [hDWInMineRefIdeal : Cert.DWInMineRefIdeal.Facts] : Prop :=
  ∀ (m : (ℓ : Loc Cert.DWInMineRefIdeal.nD Cert.DWInMineRefIdeal.τ Cert.DWInMineRefIdeal.sig) → Buf (Elt Ideal) ℓ) (g : Dev Cert.DWInMineRefIdeal.nD → PrngReg), Pre_DWInMineRefIdeal m →
    θ_run (Cert.DWInMineRefIdeal.defs (F := Ideal)) (onTc (τ := Cert.DWInMineRefIdeal.τ) (Cert.DWInMineRefIdeal.main (F := Ideal))) ⟨m, fun _ => 0, g⟩ (fun r => (∀ c : Dev Cert.DWInMineRefIdeal.nD,
      r.2.mem ((c.tc : Thread Cert.DWInMineRefIdeal.nD Cert.DWInMineRefIdeal.τ).loc Cert.DWInMineRefIdeal.main_arg0) = m ((c.tc : Thread Cert.DWInMineRefIdeal.nD Cert.DWInMineRefIdeal.τ).loc Cert.DWInMineRefIdeal.main_arg0)
      ∧ r.2.mem ((c.tc : Thread Cert.DWInMineRefIdeal.nD Cert.DWInMineRefIdeal.τ).loc Cert.DWInMineRefIdeal.main_arg1) = m ((c.tc : Thread Cert.DWInMineRefIdeal.nD Cert.DWInMineRefIdeal.τ).loc Cert.DWInMineRefIdeal.main_arg1)
      ∧ r.2.mem ((c.tc : Thread Cert.DWInMineRefIdeal.nD Cert.DWInMineRefIdeal.τ).loc Cert.DWInMineRefIdeal.main_arg2) = m ((c.tc : Thread Cert.DWInMineRefIdeal.nD Cert.DWInMineRefIdeal.τ).loc Cert.DWInMineRefIdeal.main_arg2)
      ∧ r.2.mem ((c.tc : Thread Cert.DWInMineRefIdeal.nD Cert.DWInMineRefIdeal.τ).loc Cert.DWInMineRefIdeal.main_arg3) = m ((c.tc : Thread Cert.DWInMineRefIdeal.nD Cert.DWInMineRefIdeal.τ).loc Cert.DWInMineRefIdeal.main_arg3))
      ∧ r.2.sem = fun _ => 0)

def quiescent_DWInMineRefIdeal_pre_core_d_w_in_mine [hDWInMineRefIdeal : Cert.DWInMineRefIdeal.Facts] [hPre_core_d_w_in_mine : Cert.Pre_core_d_w_in_mine.Facts] : Prop :=
  ∀ (m : (ℓ : Loc Cert.DWInMineRefIdeal.nD Cert.DWInMineRefIdeal.τ Cert.DWInMineRefIdeal.sig) → Buf (Elt Ideal) ℓ) (g : Dev Cert.DWInMineRefIdeal.nD → PrngReg), Pre_DWInMineRefIdeal_core_d_w_in_mine m →
    θ_run (Cert.DWInMineRefIdeal.defs (F := Ideal)) (onTc (τ := Cert.DWInMineRefIdeal.τ) (Cert.DWInMineRefIdeal.main (F := Ideal))) ⟨m, fun _ => 0, g⟩ (fun r => (∀ c : Dev Cert.DWInMineRefIdeal.nD,
      r.2.mem ((c.tc : Thread Cert.DWInMineRefIdeal.nD Cert.DWInMineRefIdeal.τ).loc Cert.DWInMineRefIdeal.main_arg0) = m ((c.tc : Thread Cert.DWInMineRefIdeal.nD Cert.DWInMineRefIdeal.τ).loc Cert.DWInMineRefIdeal.main_arg0)
      ∧ r.2.mem ((c.tc : Thread Cert.DWInMineRefIdeal.nD Cert.DWInMineRefIdeal.τ).loc Cert.DWInMineRefIdeal.main_arg1) = m ((c.tc : Thread Cert.DWInMineRefIdeal.nD Cert.DWInMineRefIdeal.τ).loc Cert.DWInMineRefIdeal.main_arg1)
      ∧ r.2.mem ((c.tc : Thread Cert.DWInMineRefIdeal.nD Cert.DWInMineRefIdeal.τ).loc Cert.DWInMineRefIdeal.main_arg2) = m ((c.tc : Thread Cert.DWInMineRefIdeal.nD Cert.DWInMineRefIdeal.τ).loc Cert.DWInMineRefIdeal.main_arg2)
      ∧ r.2.mem ((c.tc : Thread Cert.DWInMineRefIdeal.nD Cert.DWInMineRefIdeal.τ).loc Cert.DWInMineRefIdeal.main_arg3) = m ((c.tc : Thread Cert.DWInMineRefIdeal.nD Cert.DWInMineRefIdeal.τ).loc Cert.DWInMineRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DFfnIn_DFfnInIdeal : Prop :=
  True

def algebraic_DFfnInIdeal_DFfnInRefIdeal_pre_finite_d_ffn_in [hDFfnInIdeal : Cert.DFfnInIdeal.Facts] [hDFfnInRefIdeal : Cert.DFfnInRefIdeal.Facts] [hPre_finite_d_ffn_in : Cert.Pre_finite_d_ffn_in.Facts] : Prop :=
  ∀ (m : (ℓ : Loc Cert.DFfnInIdeal.nD Cert.DFfnInIdeal.τ Cert.DFfnInIdeal.sig) → Buf (Elt Ideal) ℓ) (g : Dev Cert.DFfnInIdeal.nD → PrngReg)
    (m' : (ℓ : Loc Cert.DFfnInRefIdeal.nD Cert.DFfnInRefIdeal.τ Cert.DFfnInRefIdeal.sig) → Buf (Elt Ideal) ℓ) (g' : Dev Cert.DFfnInRefIdeal.nD → PrngReg), Pre_DFfnInIdeal_finite_d_ffn_in m →
    (∀ c : Dev Cert.DFfnInIdeal.nD,
      m' ((c.tc : Thread Cert.DFfnInRefIdeal.nD Cert.DFfnInRefIdeal.τ).loc Cert.DFfnInRefIdeal.main_arg0) = m ((c.tc : Thread Cert.DFfnInIdeal.nD Cert.DFfnInIdeal.τ).loc Cert.DFfnInIdeal.main_arg0)
      ∧ m' ((c.tc : Thread Cert.DFfnInRefIdeal.nD Cert.DFfnInRefIdeal.τ).loc Cert.DFfnInRefIdeal.main_arg1) = m ((c.tc : Thread Cert.DFfnInIdeal.nD Cert.DFfnInIdeal.τ).loc Cert.DFfnInIdeal.main_arg1)
      ∧ m' ((c.tc : Thread Cert.DFfnInRefIdeal.nD Cert.DFfnInRefIdeal.τ).loc Cert.DFfnInRefIdeal.main_arg2) = m ((c.tc : Thread Cert.DFfnInIdeal.nD Cert.DFfnInIdeal.τ).loc Cert.DFfnInIdeal.main_arg2)
      ∧ m' ((c.tc : Thread Cert.DFfnInRefIdeal.nD Cert.DFfnInRefIdeal.τ).loc Cert.DFfnInRefIdeal.main_arg3) = m ((c.tc : Thread Cert.DFfnInIdeal.nD Cert.DFfnInIdeal.τ).loc Cert.DFfnInIdeal.main_arg3)) →
    ∃ (v0 : (c : Dev Cert.DFfnInIdeal.nD) → Buf (Elt Ideal) ((c.tc : Thread Cert.DFfnInIdeal.nD Cert.DFfnInIdeal.τ).loc Cert.DFfnInIdeal.main_v4_0)) (v1 : (c : Dev Cert.DFfnInIdeal.nD) → Buf (Elt Ideal) ((c.tc : Thread Cert.DFfnInIdeal.nD Cert.DFfnInIdeal.τ).loc Cert.DFfnInIdeal.main_v4_1)),
      θ_run (Cert.DFfnInIdeal.defs (F := Ideal)) (onTc (τ := Cert.DFfnInIdeal.τ) (Cert.DFfnInIdeal.main (F := Ideal))) ⟨m, fun _ => 0, g⟩ (fun r => ∀ c : Dev Cert.DFfnInIdeal.nD,
          r.2.mem ((c.tc : Thread Cert.DFfnInIdeal.nD Cert.DFfnInIdeal.τ).loc Cert.DFfnInIdeal.main_v4_0) = v0 c
          ∧ r.2.mem ((c.tc : Thread Cert.DFfnInIdeal.nD Cert.DFfnInIdeal.τ).loc Cert.DFfnInIdeal.main_v4_1) = v1 c
          ∧ r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
          ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1)
          ∧ r.2.mem ((c.tc : Thread Cert.DFfnInIdeal.nD Cert.DFfnInIdeal.τ).loc Cert.DFfnInIdeal.main_arg2) = m ((c.tc : Thread Cert.DFfnInIdeal.nD Cert.DFfnInIdeal.τ).loc Cert.DFfnInIdeal.main_arg2)
          ∧ r.2.mem ((c.tc : Thread Cert.DFfnInIdeal.nD Cert.DFfnInIdeal.τ).loc Cert.DFfnInIdeal.main_arg3) = m ((c.tc : Thread Cert.DFfnInIdeal.nD Cert.DFfnInIdeal.τ).loc Cert.DFfnInIdeal.main_arg3))
      ∧ θ_run (Cert.DFfnInRefIdeal.defs (F := Ideal)) (onTc (τ := Cert.DFfnInRefIdeal.τ) (Cert.DFfnInRefIdeal.main (F := Ideal))) ⟨m', fun _ => 0, g'⟩ (fun r => ∀ c : Dev Cert.DFfnInRefIdeal.nD,
          r.2.mem ((c.tc : Thread Cert.DFfnInRefIdeal.nD Cert.DFfnInRefIdeal.τ).loc Cert.DFfnInRefIdeal.main_v7) = v0 c
          ∧ r.2.mem ((c.tc : Thread Cert.DFfnInRefIdeal.nD Cert.DFfnInRefIdeal.τ).loc Cert.DFfnInRefIdeal.main_v8) = v1 c
          ∧ r.2.mem ((c.tc : Thread Cert.DFfnInRefIdeal.nD Cert.DFfnInRefIdeal.τ).loc Cert.DFfnInRefIdeal.main_arg0) = m' ((c.tc : Thread Cert.DFfnInRefIdeal.nD Cert.DFfnInRefIdeal.τ).loc Cert.DFfnInRefIdeal.main_arg0)
          ∧ r.2.mem ((c.tc : Thread Cert.DFfnInRefIdeal.nD Cert.DFfnInRefIdeal.τ).loc Cert.DFfnInRefIdeal.main_arg1) = m' ((c.tc : Thread Cert.DFfnInRefIdeal.nD Cert.DFfnInRefIdeal.τ).loc Cert.DFfnInRefIdeal.main_arg1)
          ∧ r.2.mem ((c.tc : Thread Cert.DFfnInRefIdeal.nD Cert.DFfnInRefIdeal.τ).loc Cert.DFfnInRefIdeal.main_arg2) = m' ((c.tc : Thread Cert.DFfnInRefIdeal.nD Cert.DFfnInRefIdeal.τ).loc Cert.DFfnInRefIdeal.main_arg2)
          ∧ r.2.mem ((c.tc : Thread Cert.DFfnInRefIdeal.nD Cert.DFfnInRefIdeal.τ).loc Cert.DFfnInRefIdeal.main_arg3) = m' ((c.tc : Thread Cert.DFfnInRefIdeal.nD Cert.DFfnInRefIdeal.τ).loc Cert.DFfnInRefIdeal.main_arg3))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)
      ∧ m' ((c.tc : Thread Cert.DH2RefIdeal.nD Cert.DH2RefIdeal.τ).loc Cert.DH2RefIdeal.main_arg3) = m ((c.tc : Thread Cert.DH2Ideal.nD Cert.DH2Ideal.τ).loc Cert.DH2Ideal.main_arg3)) →
    ∃ (v0 : (c : Dev Cert.DH2Ideal.nD) → Buf (Elt Ideal) ((c.tc : Thread Cert.DH2Ideal.nD Cert.DH2Ideal.τ).loc Cert.DH2Ideal.main_v4)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v4) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
          ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v5) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2)
          ∧ r.2.mem ((c.tc : Thread Cert.DH2RefIdeal.nD Cert.DH2RefIdeal.τ).loc Cert.DH2RefIdeal.main_arg3) = m' ((c.tc : Thread Cert.DH2RefIdeal.nD Cert.DH2RefIdeal.τ).loc Cert.DH2RefIdeal.main_arg3))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v2)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v2) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v3) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v2)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v2) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v3) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_DO_DOIdeal : Prop :=
  True

def algebraic_DOIdeal_DORefIdeal [hDOIdeal : Cert.DOIdeal.Facts] [hDORefIdeal : Cert.DORefIdeal.Facts] : Prop :=
  ∀ (m : (ℓ : Loc Cert.DOIdeal.nD Cert.DOIdeal.τ Cert.DOIdeal.sig) → Buf (Elt Ideal) ℓ) (g : Dev Cert.DOIdeal.nD → PrngReg)
    (m' : (ℓ : Loc Cert.DORefIdeal.nD Cert.DORefIdeal.τ Cert.DORefIdeal.sig) → Buf (Elt Ideal) ℓ) (g' : Dev Cert.DORefIdeal.nD → PrngReg), Pre_DOIdeal m →
    (∀ c : Dev Cert.DOIdeal.nD,
      m' ((c.tc : Thread Cert.DORefIdeal.nD Cert.DORefIdeal.τ).loc Cert.DORefIdeal.main_arg0) = m ((c.tc : Thread Cert.DOIdeal.nD Cert.DOIdeal.τ).loc Cert.DOIdeal.main_arg0)
      ∧ m' ((c.tc : Thread Cert.DORefIdeal.nD Cert.DORefIdeal.τ).loc Cert.DORefIdeal.main_arg1) = m ((c.tc : Thread Cert.DOIdeal.nD Cert.DOIdeal.τ).loc Cert.DOIdeal.main_arg1)) →
    ∃ (v0 : (c : Dev Cert.DOIdeal.nD) → Buf (Elt Ideal) ((c.tc : Thread Cert.DOIdeal.nD Cert.DOIdeal.τ).loc Cert.DOIdeal.main_v2)),
      θ_run (Cert.DOIdeal.defs (F := Ideal)) (onTc (τ := Cert.DOIdeal.τ) (Cert.DOIdeal.main (F := Ideal))) ⟨m, fun _ => 0, g⟩ (fun r => ∀ c : Dev Cert.DOIdeal.nD,
          r.2.mem ((c.tc : Thread Cert.DOIdeal.nD Cert.DOIdeal.τ).loc Cert.DOIdeal.main_v2) = v0 c
          ∧ r.2.mem ((c.tc : Thread Cert.DOIdeal.nD Cert.DOIdeal.τ).loc Cert.DOIdeal.main_arg0) = m ((c.tc : Thread Cert.DOIdeal.nD Cert.DOIdeal.τ).loc Cert.DOIdeal.main_arg0)
          ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ θ_run (Cert.DORefIdeal.defs (F := Ideal)) (onTc (τ := Cert.DORefIdeal.τ) (Cert.DORefIdeal.main (F := Ideal))) ⟨m', fun _ => 0, g'⟩ (fun r => ∀ c : Dev Cert.DORefIdeal.nD,
          r.2.mem ((c.tc : Thread Cert.DORefIdeal.nD Cert.DORefIdeal.τ).loc Cert.DORefIdeal.main_v2) = v0 c
          ∧ r.2.mem ((c.tc : Thread Cert.DORefIdeal.nD Cert.DORefIdeal.τ).loc Cert.DORefIdeal.main_arg0) = m' ((c.tc : Thread Cert.DORefIdeal.nD Cert.DORefIdeal.τ).loc Cert.DORefIdeal.main_arg0)
          ∧ r.2.mem ((c.tc : Thread Cert.DORefIdeal.nD Cert.DORefIdeal.τ).loc Cert.DORefIdeal.main_arg1) = m' ((c.tc : Thread Cert.DORefIdeal.nD Cert.DORefIdeal.τ).loc Cert.DORefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v2)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v2) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v2) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v3_0)) (v1 : (c : Dev Cert.GateUpIdeal.nD) → Buf (Elt Ideal) ((c.tc : Thread Cert.GateUpIdeal.nD Cert.GateUpIdeal.τ).loc Cert.GateUpIdeal.main_v3_1)) (v2 : (c : Dev Cert.GateUpIdeal.nD) → Buf (Elt Ideal) ((c.tc : Thread Cert.GateUpIdeal.nD Cert.GateUpIdeal.τ).loc Cert.GateUpIdeal.main_v3_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3_0) = v0 c
          ∧ r.2.mem ((c.tc : Thread Cert.GateUpIdeal.nD Cert.GateUpIdeal.τ).loc Cert.GateUpIdeal.main_v3_1) = v1 c
          ∧ r.2.mem ((c.tc : Thread Cert.GateUpIdeal.nD Cert.GateUpIdeal.τ).loc Cert.GateUpIdeal.main_v3_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_v3) = v1 c
          ∧ r.2.mem ((c.tc : Thread Cert.GateUpRefIdeal.nD Cert.GateUpRefIdeal.τ).loc Cert.GateUpRefIdeal.main_v6) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v0) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_DWGateTheirs_DWGateTheirsIdeal : Prop :=
  True

def algebraic_DWGateTheirsIdeal_DWGateTheirsRefIdeal [hDWGateTheirsIdeal : Cert.DWGateTheirsIdeal.Facts] [hDWGateTheirsRefIdeal : Cert.DWGateTheirsRefIdeal.Facts] [hPre_core_d_w_gate_theirs : Cert.Pre_core_d_w_gate_theirs.Facts] : Prop :=
  ∀ (m : (ℓ : Loc Cert.DWGateTheirsIdeal.nD Cert.DWGateTheirsIdeal.τ Cert.DWGateTheirsIdeal.sig) → Buf (Elt Ideal) ℓ) (g : Dev Cert.DWGateTheirsIdeal.nD → PrngReg)
    (m' : (ℓ : Loc Cert.DWGateTheirsRefIdeal.nD Cert.DWGateTheirsRefIdeal.τ Cert.DWGateTheirsRefIdeal.sig) → Buf (Elt Ideal) ℓ) (g' : Dev Cert.DWGateTheirsRefIdeal.nD → PrngReg), Pre_DWGateTheirsIdeal m →
    (∀ c : Dev Cert.DWGateTheirsIdeal.nD,
      m' ((c.tc : Thread Cert.DWGateTheirsRefIdeal.nD Cert.DWGateTheirsRefIdeal.τ).loc Cert.DWGateTheirsRefIdeal.main_arg0) = m ((c.tc : Thread Cert.DWGateTheirsIdeal.nD Cert.DWGateTheirsIdeal.τ).loc Cert.DWGateTheirsIdeal.main_arg0)
      ∧ m' ((c.tc : Thread Cert.DWGateTheirsRefIdeal.nD Cert.DWGateTheirsRefIdeal.τ).loc Cert.DWGateTheirsRefIdeal.main_arg1) = m ((c.tc : Thread Cert.DWGateTheirsIdeal.nD Cert.DWGateTheirsIdeal.τ).loc Cert.DWGateTheirsIdeal.main_arg1)
      ∧ m' ((c.tc : Thread Cert.DWGateTheirsRefIdeal.nD Cert.DWGateTheirsRefIdeal.τ).loc Cert.DWGateTheirsRefIdeal.main_arg2) = m ((c.tc : Thread Cert.DWGateTheirsIdeal.nD Cert.DWGateTheirsIdeal.τ).loc Cert.DWGateTheirsIdeal.main_arg2)) →
    ∃ (v0 : (c : Dev Cert.DWGateTheirsIdeal.nD) → Buf (Elt Ideal) ((c.tc : Thread Cert.DWGateTheirsIdeal.nD Cert.DWGateTheirsIdeal.τ).loc Cert.DWGateTheirsIdeal.main_v2)),
      θ_run (Cert.DWGateTheirsIdeal.defs (F := Ideal)) (onTc (τ := Cert.DWGateTheirsIdeal.τ) (Cert.DWGateTheirsIdeal.main (F := Ideal))) ⟨m, fun _ => 0, g⟩ (fun r => ∀ c : Dev Cert.DWGateTheirsIdeal.nD,
          r.2.mem ((c.tc : Thread Cert.DWGateTheirsIdeal.nD Cert.DWGateTheirsIdeal.τ).loc Cert.DWGateTheirsIdeal.main_v2) = v0 c
          ∧ r.2.mem ((c.tc : Thread Cert.DWGateTheirsIdeal.nD Cert.DWGateTheirsIdeal.τ).loc Cert.DWGateTheirsIdeal.main_arg0) = m ((c.tc : Thread Cert.DWGateTheirsIdeal.nD Cert.DWGateTheirsIdeal.τ).loc Cert.DWGateTheirsIdeal.main_arg0)
          ∧ r.2.mem ((c.tc : Thread Cert.DWGateTheirsIdeal.nD Cert.DWGateTheirsIdeal.τ).loc Cert.DWGateTheirsIdeal.main_arg1) = m ((c.tc : Thread Cert.DWGateTheirsIdeal.nD Cert.DWGateTheirsIdeal.τ).loc Cert.DWGateTheirsIdeal.main_arg1)
          ∧ r.2.mem ((c.tc : Thread Cert.DWGateTheirsIdeal.nD Cert.DWGateTheirsIdeal.τ).loc Cert.DWGateTheirsIdeal.main_arg2) = m ((c.tc : Thread Cert.DWGateTheirsIdeal.nD Cert.DWGateTheirsIdeal.τ).loc Cert.DWGateTheirsIdeal.main_arg2))
      ∧ θ_run (Cert.DWGateTheirsRefIdeal.defs (F := Ideal)) (onTc (τ := Cert.DWGateTheirsRefIdeal.τ) (Cert.DWGateTheirsRefIdeal.main (F := Ideal))) ⟨m', fun _ => 0, g'⟩ (fun r => ∀ c : Dev Cert.DWGateTheirsRefIdeal.nD,
          r.2.mem ((c.tc : Thread Cert.DWGateTheirsRefIdeal.nD Cert.DWGateTheirsRefIdeal.τ).loc Cert.DWGateTheirsRefIdeal.main_v9) = v0 c
          ∧ r.2.mem ((c.tc : Thread Cert.DWGateTheirsRefIdeal.nD Cert.DWGateTheirsRefIdeal.τ).loc Cert.DWGateTheirsRefIdeal.main_arg0) = m' ((c.tc : Thread Cert.DWGateTheirsRefIdeal.nD Cert.DWGateTheirsRefIdeal.τ).loc Cert.DWGateTheirsRefIdeal.main_arg0)
          ∧ r.2.mem ((c.tc : Thread Cert.DWGateTheirsRefIdeal.nD Cert.DWGateTheirsRefIdeal.τ).loc Cert.DWGateTheirsRefIdeal.main_arg1) = m' ((c.tc : Thread Cert.DWGateTheirsRefIdeal.nD Cert.DWGateTheirsRefIdeal.τ).loc Cert.DWGateTheirsRefIdeal.main_arg1)
          ∧ r.2.mem ((c.tc : Thread Cert.DWGateTheirsRefIdeal.nD Cert.DWGateTheirsRefIdeal.τ).loc Cert.DWGateTheirsRefIdeal.main_arg2) = m' ((c.tc : Thread Cert.DWGateTheirsRefIdeal.nD Cert.DWGateTheirsRefIdeal.τ).loc Cert.DWGateTheirsRefIdeal.main_arg2))

def preserves_DWGateMine_DWGateMineIdeal : Prop :=
  True

def algebraic_DWGateMineIdeal_DWGateMineRefIdeal [hDWGateMineIdeal : Cert.DWGateMineIdeal.Facts] [hDWGateMineRefIdeal : Cert.DWGateMineRefIdeal.Facts] [hPre_core_d_w_gate_mine : Cert.Pre_core_d_w_gate_mine.Facts] : Prop :=
  ∀ (m : (ℓ : Loc Cert.DWGateMineIdeal.nD Cert.DWGateMineIdeal.τ Cert.DWGateMineIdeal.sig) → Buf (Elt Ideal) ℓ) (g : Dev Cert.DWGateMineIdeal.nD → PrngReg)
    (m' : (ℓ : Loc Cert.DWGateMineRefIdeal.nD Cert.DWGateMineRefIdeal.τ Cert.DWGateMineRefIdeal.sig) → Buf (Elt Ideal) ℓ) (g' : Dev Cert.DWGateMineRefIdeal.nD → PrngReg), Pre_DWGateMineIdeal m →
    (∀ c : Dev Cert.DWGateMineIdeal.nD,
      m' ((c.tc : Thread Cert.DWGateMineRefIdeal.nD Cert.DWGateMineRefIdeal.τ).loc Cert.DWGateMineRefIdeal.main_arg0) = m ((c.tc : Thread Cert.DWGateMineIdeal.nD Cert.DWGateMineIdeal.τ).loc Cert.DWGateMineIdeal.main_arg0)
      ∧ m' ((c.tc : Thread Cert.DWGateMineRefIdeal.nD Cert.DWGateMineRefIdeal.τ).loc Cert.DWGateMineRefIdeal.main_arg1) = m ((c.tc : Thread Cert.DWGateMineIdeal.nD Cert.DWGateMineIdeal.τ).loc Cert.DWGateMineIdeal.main_arg1)
      ∧ m' ((c.tc : Thread Cert.DWGateMineRefIdeal.nD Cert.DWGateMineRefIdeal.τ).loc Cert.DWGateMineRefIdeal.main_arg2) = m ((c.tc : Thread Cert.DWGateMineIdeal.nD Cert.DWGateMineIdeal.τ).loc Cert.DWGateMineIdeal.main_arg2)
      ∧ m' ((c.tc : Thread Cert.DWGateMineRefIdeal.nD Cert.DWGateMineRefIdeal.τ).loc Cert.DWGateMineRefIdeal.main_arg3) = m ((c.tc : Thread Cert.DWGateMineIdeal.nD Cert.DWGateMineIdeal.τ).loc Cert.DWGateMineIdeal.main_arg3)) →
    ∃ (v0 : (c : Dev Cert.DWGateMineIdeal.nD) → Buf (Elt Ideal) ((c.tc : Thread Cert.DWGateMineIdeal.nD Cert.DWGateMineIdeal.τ).loc Cert.DWGateMineIdeal.main_v2_0)) (v1 : (c : Dev Cert.DWGateMineIdeal.nD) → Buf (Elt Ideal) ((c.tc : Thread Cert.DWGateMineIdeal.nD Cert.DWGateMineIdeal.τ).loc Cert.DWGateMineIdeal.main_v2_1)),
      θ_run (Cert.DWGateMineIdeal.defs (F := Ideal)) (onTc (τ := Cert.DWGateMineIdeal.τ) (Cert.DWGateMineIdeal.main (F := Ideal))) ⟨m, fun _ => 0, g⟩ (fun r => ∀ c : Dev Cert.DWGateMineIdeal.nD,
          r.2.mem ((c.tc : Thread Cert.DWGateMineIdeal.nD Cert.DWGateMineIdeal.τ).loc Cert.DWGateMineIdeal.main_v2_0) = v0 c
          ∧ r.2.mem ((c.tc : Thread Cert.DWGateMineIdeal.nD Cert.DWGateMineIdeal.τ).loc Cert.DWGateMineIdeal.main_v2_1) = v1 c
          ∧ r.2.mem ((c.tc : Thread Cert.DWGateMineIdeal.nD Cert.DWGateMineIdeal.τ).loc Cert.DWGateMineIdeal.main_arg0) = m ((c.tc : Thread Cert.DWGateMineIdeal.nD Cert.DWGateMineIdeal.τ).loc Cert.DWGateMineIdeal.main_arg0)
          ∧ r.2.mem ((c.tc : Thread Cert.DWGateMineIdeal.nD Cert.DWGateMineIdeal.τ).loc Cert.DWGateMineIdeal.main_arg1) = m ((c.tc : Thread Cert.DWGateMineIdeal.nD Cert.DWGateMineIdeal.τ).loc Cert.DWGateMineIdeal.main_arg1)
          ∧ r.2.mem ((c.tc : Thread Cert.DWGateMineIdeal.nD Cert.DWGateMineIdeal.τ).loc Cert.DWGateMineIdeal.main_arg2) = m ((c.tc : Thread Cert.DWGateMineIdeal.nD Cert.DWGateMineIdeal.τ).loc Cert.DWGateMineIdeal.main_arg2)
          ∧ r.2.mem ((c.tc : Thread Cert.DWGateMineIdeal.nD Cert.DWGateMineIdeal.τ).loc Cert.DWGateMineIdeal.main_arg3) = m ((c.tc : Thread Cert.DWGateMineIdeal.nD Cert.DWGateMineIdeal.τ).loc Cert.DWGateMineIdeal.main_arg3))
      ∧ θ_run (Cert.DWGateMineRefIdeal.defs (F := Ideal)) (onTc (τ := Cert.DWGateMineRefIdeal.τ) (Cert.DWGateMineRefIdeal.main (F := Ideal))) ⟨m', fun _ => 0, g'⟩ (fun r => ∀ c : Dev Cert.DWGateMineRefIdeal.nD,
          r.2.mem ((c.tc : Thread Cert.DWGateMineRefIdeal.nD Cert.DWGateMineRefIdeal.τ).loc Cert.DWGateMineRefIdeal.main_v10) = v0 c
          ∧ r.2.mem ((c.tc : Thread Cert.DWGateMineRefIdeal.nD Cert.DWGateMineRefIdeal.τ).loc Cert.DWGateMineRefIdeal.main_v11) = v1 c
          ∧ r.2.mem ((c.tc : Thread Cert.DWGateMineRefIdeal.nD Cert.DWGateMineRefIdeal.τ).loc Cert.DWGateMineRefIdeal.main_arg0) = m' ((c.tc : Thread Cert.DWGateMineRefIdeal.nD Cert.DWGateMineRefIdeal.τ).loc Cert.DWGateMineRefIdeal.main_arg0)
          ∧ r.2.mem ((c.tc : Thread Cert.DWGateMineRefIdeal.nD Cert.DWGateMineRefIdeal.τ).loc Cert.DWGateMineRefIdeal.main_arg1) = m' ((c.tc : Thread Cert.DWGateMineRefIdeal.nD Cert.DWGateMineRefIdeal.τ).loc Cert.DWGateMineRefIdeal.main_arg1)
          ∧ r.2.mem ((c.tc : Thread Cert.DWGateMineRefIdeal.nD Cert.DWGateMineRefIdeal.τ).loc Cert.DWGateMineRefIdeal.main_arg2) = m' ((c.tc : Thread Cert.DWGateMineRefIdeal.nD Cert.DWGateMineRefIdeal.τ).loc Cert.DWGateMineRefIdeal.main_arg2)
          ∧ r.2.mem ((c.tc : Thread Cert.DWGateMineRefIdeal.nD Cert.DWGateMineRefIdeal.τ).loc Cert.DWGateMineRefIdeal.main_arg3) = m' ((c.tc : Thread Cert.DWGateMineRefIdeal.nD Cert.DWGateMineRefIdeal.τ).loc Cert.DWGateMineRefIdeal.main_arg3))

def preserves_DWInTheirs_DWInTheirsIdeal : Prop :=
  True

def algebraic_DWInTheirsIdeal_DWInTheirsRefIdeal [hDWInTheirsIdeal : Cert.DWInTheirsIdeal.Facts] [hDWInTheirsRefIdeal : Cert.DWInTheirsRefIdeal.Facts] [hPre_core_d_w_in_theirs : Cert.Pre_core_d_w_in_theirs.Facts] : Prop :=
  ∀ (m : (ℓ : Loc Cert.DWInTheirsIdeal.nD Cert.DWInTheirsIdeal.τ Cert.DWInTheirsIdeal.sig) → Buf (Elt Ideal) ℓ) (g : Dev Cert.DWInTheirsIdeal.nD → PrngReg)
    (m' : (ℓ : Loc Cert.DWInTheirsRefIdeal.nD Cert.DWInTheirsRefIdeal.τ Cert.DWInTheirsRefIdeal.sig) → Buf (Elt Ideal) ℓ) (g' : Dev Cert.DWInTheirsRefIdeal.nD → PrngReg), Pre_DWInTheirsIdeal m →
    (∀ c : Dev Cert.DWInTheirsIdeal.nD,
      m' ((c.tc : Thread Cert.DWInTheirsRefIdeal.nD Cert.DWInTheirsRefIdeal.τ).loc Cert.DWInTheirsRefIdeal.main_arg0) = m ((c.tc : Thread Cert.DWInTheirsIdeal.nD Cert.DWInTheirsIdeal.τ).loc Cert.DWInTheirsIdeal.main_arg0)
      ∧ m' ((c.tc : Thread Cert.DWInTheirsRefIdeal.nD Cert.DWInTheirsRefIdeal.τ).loc Cert.DWInTheirsRefIdeal.main_arg1) = m ((c.tc : Thread Cert.DWInTheirsIdeal.nD Cert.DWInTheirsIdeal.τ).loc Cert.DWInTheirsIdeal.main_arg1)
      ∧ m' ((c.tc : Thread Cert.DWInTheirsRefIdeal.nD Cert.DWInTheirsRefIdeal.τ).loc Cert.DWInTheirsRefIdeal.main_arg2) = m ((c.tc : Thread Cert.DWInTheirsIdeal.nD Cert.DWInTheirsIdeal.τ).loc Cert.DWInTheirsIdeal.main_arg2)) →
    ∃ (v0 : (c : Dev Cert.DWInTheirsIdeal.nD) → Buf (Elt Ideal) ((c.tc : Thread Cert.DWInTheirsIdeal.nD Cert.DWInTheirsIdeal.τ).loc Cert.DWInTheirsIdeal.main_v2)),
      θ_run (Cert.DWInTheirsIdeal.defs (F := Ideal)) (onTc (τ := Cert.DWInTheirsIdeal.τ) (Cert.DWInTheirsIdeal.main (F := Ideal))) ⟨m, fun _ => 0, g⟩ (fun r => ∀ c : Dev Cert.DWInTheirsIdeal.nD,
          r.2.mem ((c.tc : Thread Cert.DWInTheirsIdeal.nD Cert.DWInTheirsIdeal.τ).loc Cert.DWInTheirsIdeal.main_v2) = v0 c
          ∧ r.2.mem ((c.tc : Thread Cert.DWInTheirsIdeal.nD Cert.DWInTheirsIdeal.τ).loc Cert.DWInTheirsIdeal.main_arg0) = m ((c.tc : Thread Cert.DWInTheirsIdeal.nD Cert.DWInTheirsIdeal.τ).loc Cert.DWInTheirsIdeal.main_arg0)
          ∧ r.2.mem ((c.tc : Thread Cert.DWInTheirsIdeal.nD Cert.DWInTheirsIdeal.τ).loc Cert.DWInTheirsIdeal.main_arg1) = m ((c.tc : Thread Cert.DWInTheirsIdeal.nD Cert.DWInTheirsIdeal.τ).loc Cert.DWInTheirsIdeal.main_arg1)
          ∧ r.2.mem ((c.tc : Thread Cert.DWInTheirsIdeal.nD Cert.DWInTheirsIdeal.τ).loc Cert.DWInTheirsIdeal.main_arg2) = m ((c.tc : Thread Cert.DWInTheirsIdeal.nD Cert.DWInTheirsIdeal.τ).loc Cert.DWInTheirsIdeal.main_arg2))
      ∧ θ_run (Cert.DWInTheirsRefIdeal.defs (F := Ideal)) (onTc (τ := Cert.DWInTheirsRefIdeal.τ) (Cert.DWInTheirsRefIdeal.main (F := Ideal))) ⟨m', fun _ => 0, g'⟩ (fun r => ∀ c : Dev Cert.DWInTheirsRefIdeal.nD,
          r.2.mem ((c.tc : Thread Cert.DWInTheirsRefIdeal.nD Cert.DWInTheirsRefIdeal.τ).loc Cert.DWInTheirsRefIdeal.main_v9) = v0 c
          ∧ r.2.mem ((c.tc : Thread Cert.DWInTheirsRefIdeal.nD Cert.DWInTheirsRefIdeal.τ).loc Cert.DWInTheirsRefIdeal.main_arg0) = m' ((c.tc : Thread Cert.DWInTheirsRefIdeal.nD Cert.DWInTheirsRefIdeal.τ).loc Cert.DWInTheirsRefIdeal.main_arg0)
          ∧ r.2.mem ((c.tc : Thread Cert.DWInTheirsRefIdeal.nD Cert.DWInTheirsRefIdeal.τ).loc Cert.DWInTheirsRefIdeal.main_arg1) = m' ((c.tc : Thread Cert.DWInTheirsRefIdeal.nD Cert.DWInTheirsRefIdeal.τ).loc Cert.DWInTheirsRefIdeal.main_arg1)
          ∧ r.2.mem ((c.tc : Thread Cert.DWInTheirsRefIdeal.nD Cert.DWInTheirsRefIdeal.τ).loc Cert.DWInTheirsRefIdeal.main_arg2) = m' ((c.tc : Thread Cert.DWInTheirsRefIdeal.nD Cert.DWInTheirsRefIdeal.τ).loc Cert.DWInTheirsRefIdeal.main_arg2))

def preserves_DWInMine_DWInMineIdeal : Prop :=
  True

def algebraic_DWInMineIdeal_DWInMineRefIdeal [hDWInMineIdeal : Cert.DWInMineIdeal.Facts] [hDWInMineRefIdeal : Cert.DWInMineRefIdeal.Facts] [hPre_core_d_w_in_mine : Cert.Pre_core_d_w_in_mine.Facts] : Prop :=
  ∀ (m : (ℓ : Loc Cert.DWInMineIdeal.nD Cert.DWInMineIdeal.τ Cert.DWInMineIdeal.sig) → Buf (Elt Ideal) ℓ) (g : Dev Cert.DWInMineIdeal.nD → PrngReg)
    (m' : (ℓ : Loc Cert.DWInMineRefIdeal.nD Cert.DWInMineRefIdeal.τ Cert.DWInMineRefIdeal.sig) → Buf (Elt Ideal) ℓ) (g' : Dev Cert.DWInMineRefIdeal.nD → PrngReg), Pre_DWInMineIdeal m →
    (∀ c : Dev Cert.DWInMineIdeal.nD,
      m' ((c.tc : Thread Cert.DWInMineRefIdeal.nD Cert.DWInMineRefIdeal.τ).loc Cert.DWInMineRefIdeal.main_arg0) = m ((c.tc : Thread Cert.DWInMineIdeal.nD Cert.DWInMineIdeal.τ).loc Cert.DWInMineIdeal.main_arg0)
      ∧ m' ((c.tc : Thread Cert.DWInMineRefIdeal.nD Cert.DWInMineRefIdeal.τ).loc Cert.DWInMineRefIdeal.main_arg1) = m ((c.tc : Thread Cert.DWInMineIdeal.nD Cert.DWInMineIdeal.τ).loc Cert.DWInMineIdeal.main_arg1)
      ∧ m' ((c.tc : Thread Cert.DWInMineRefIdeal.nD Cert.DWInMineRefIdeal.τ).loc Cert.DWInMineRefIdeal.main_arg2) = m ((c.tc : Thread Cert.DWInMineIdeal.nD Cert.DWInMineIdeal.τ).loc Cert.DWInMineIdeal.main_arg2)
      ∧ m' ((c.tc : Thread Cert.DWInMineRefIdeal.nD Cert.DWInMineRefIdeal.τ).loc Cert.DWInMineRefIdeal.main_arg3) = m ((c.tc : Thread Cert.DWInMineIdeal.nD Cert.DWInMineIdeal.τ).loc Cert.DWInMineIdeal.main_arg3)) →
    ∃ (v0 : (c : Dev Cert.DWInMineIdeal.nD) → Buf (Elt Ideal) ((c.tc : Thread Cert.DWInMineIdeal.nD Cert.DWInMineIdeal.τ).loc Cert.DWInMineIdeal.main_v2_0)) (v1 : (c : Dev Cert.DWInMineIdeal.nD) → Buf (Elt Ideal) ((c.tc : Thread Cert.DWInMineIdeal.nD Cert.DWInMineIdeal.τ).loc Cert.DWInMineIdeal.main_v2_1)),
      θ_run (Cert.DWInMineIdeal.defs (F := Ideal)) (onTc (τ := Cert.DWInMineIdeal.τ) (Cert.DWInMineIdeal.main (F := Ideal))) ⟨m, fun _ => 0, g⟩ (fun r => ∀ c : Dev Cert.DWInMineIdeal.nD,
          r.2.mem ((c.tc : Thread Cert.DWInMineIdeal.nD Cert.DWInMineIdeal.τ).loc Cert.DWInMineIdeal.main_v2_0) = v0 c
          ∧ r.2.mem ((c.tc : Thread Cert.DWInMineIdeal.nD Cert.DWInMineIdeal.τ).loc Cert.DWInMineIdeal.main_v2_1) = v1 c
          ∧ r.2.mem ((c.tc : Thread Cert.DWInMineIdeal.nD Cert.DWInMineIdeal.τ).loc Cert.DWInMineIdeal.main_arg0) = m ((c.tc : Thread Cert.DWInMineIdeal.nD Cert.DWInMineIdeal.τ).loc Cert.DWInMineIdeal.main_arg0)
          ∧ r.2.mem ((c.tc : Thread Cert.DWInMineIdeal.nD Cert.DWInMineIdeal.τ).loc Cert.DWInMineIdeal.main_arg1) = m ((c.tc : Thread Cert.DWInMineIdeal.nD Cert.DWInMineIdeal.τ).loc Cert.DWInMineIdeal.main_arg1)
          ∧ r.2.mem ((c.tc : Thread Cert.DWInMineIdeal.nD Cert.DWInMineIdeal.τ).loc Cert.DWInMineIdeal.main_arg2) = m ((c.tc : Thread Cert.DWInMineIdeal.nD Cert.DWInMineIdeal.τ).loc Cert.DWInMineIdeal.main_arg2)
          ∧ r.2.mem ((c.tc : Thread Cert.DWInMineIdeal.nD Cert.DWInMineIdeal.τ).loc Cert.DWInMineIdeal.main_arg3) = m ((c.tc : Thread Cert.DWInMineIdeal.nD Cert.DWInMineIdeal.τ).loc Cert.DWInMineIdeal.main_arg3))
      ∧ θ_run (Cert.DWInMineRefIdeal.defs (F := Ideal)) (onTc (τ := Cert.DWInMineRefIdeal.τ) (Cert.DWInMineRefIdeal.main (F := Ideal))) ⟨m', fun _ => 0, g'⟩ (fun r => ∀ c : Dev Cert.DWInMineRefIdeal.nD,
          r.2.mem ((c.tc : Thread Cert.DWInMineRefIdeal.nD Cert.DWInMineRefIdeal.τ).loc Cert.DWInMineRefIdeal.main_v10) = v0 c
          ∧ r.2.mem ((c.tc : Thread Cert.DWInMineRefIdeal.nD Cert.DWInMineRefIdeal.τ).loc Cert.DWInMineRefIdeal.main_v11) = v1 c
          ∧ r.2.mem ((c.tc : Thread Cert.DWInMineRefIdeal.nD Cert.DWInMineRefIdeal.τ).loc Cert.DWInMineRefIdeal.main_arg0) = m' ((c.tc : Thread Cert.DWInMineRefIdeal.nD Cert.DWInMineRefIdeal.τ).loc Cert.DWInMineRefIdeal.main_arg0)
          ∧ r.2.mem ((c.tc : Thread Cert.DWInMineRefIdeal.nD Cert.DWInMineRefIdeal.τ).loc Cert.DWInMineRefIdeal.main_arg1) = m' ((c.tc : Thread Cert.DWInMineRefIdeal.nD Cert.DWInMineRefIdeal.τ).loc Cert.DWInMineRefIdeal.main_arg1)
          ∧ r.2.mem ((c.tc : Thread Cert.DWInMineRefIdeal.nD Cert.DWInMineRefIdeal.τ).loc Cert.DWInMineRefIdeal.main_arg2) = m' ((c.tc : Thread Cert.DWInMineRefIdeal.nD Cert.DWInMineRefIdeal.τ).loc Cert.DWInMineRefIdeal.main_arg2)
          ∧ r.2.mem ((c.tc : Thread Cert.DWInMineRefIdeal.nD Cert.DWInMineRefIdeal.τ).loc Cert.DWInMineRefIdeal.main_arg3) = m' ((c.tc : Thread Cert.DWInMineRefIdeal.nD Cert.DWInMineRefIdeal.τ).loc Cert.DWInMineRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v18) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v2) = v0 c
          ∧ r.2.mem ((c.tc : Thread Cert.Norm2RefIdeal.nD Cert.Norm2RefIdeal.τ).loc Cert.Norm2RefIdeal.main_v21) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def Claim : Prop :=
  ∃ (hKernel : Cert.Kernel.Facts) (hKernelIdeal : Cert.KernelIdeal.Facts) (hReferenceIdeal : Cert.ReferenceIdeal.Facts) (hDFfnIn : Cert.DFfnIn.Facts) (hDFfnInIdeal : Cert.DFfnInIdeal.Facts) (hDFfnInRefIdeal : Cert.DFfnInRefIdeal.Facts) (hDH2 : Cert.DH2.Facts) (hDH2Ideal : Cert.DH2Ideal.Facts) (hDH2RefIdeal : Cert.DH2RefIdeal.Facts) (hDWDown : Cert.DWDown.Facts) (hDWDownIdeal : Cert.DWDownIdeal.Facts) (hDWDownRefIdeal : Cert.DWDownRefIdeal.Facts) (hDWOut : Cert.DWOut.Facts) (hDWOutIdeal : Cert.DWOutIdeal.Facts) (hDWOutRefIdeal : Cert.DWOutRefIdeal.Facts) (hDO : Cert.DO.Facts) (hDOIdeal : Cert.DOIdeal.Facts) (hDORefIdeal : Cert.DORefIdeal.Facts) (hDH1 : Cert.DH1.Facts) (hDH1Ideal : Cert.DH1Ideal.Facts) (hDH1RefIdeal : Cert.DH1RefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hAttnOut : Cert.AttnOut.Facts) (hAttnOutIdeal : Cert.AttnOutIdeal.Facts) (hAttnOutRefIdeal : Cert.AttnOutRefIdeal.Facts) (hDWGateTheirs : Cert.DWGateTheirs.Facts) (hDWGateTheirsIdeal : Cert.DWGateTheirsIdeal.Facts) (hDWGateTheirsRefIdeal : Cert.DWGateTheirsRefIdeal.Facts) (hDWGateMine : Cert.DWGateMine.Facts) (hDWGateMineIdeal : Cert.DWGateMineIdeal.Facts) (hDWGateMineRefIdeal : Cert.DWGateMineRefIdeal.Facts) (hDWInTheirs : Cert.DWInTheirs.Facts) (hDWInTheirsIdeal : Cert.DWInTheirsIdeal.Facts) (hDWInTheirsRefIdeal : Cert.DWInTheirsRefIdeal.Facts) (hDWInMine : Cert.DWInMine.Facts) (hDWInMineIdeal : Cert.DWInMineIdeal.Facts) (hDWInMineRefIdeal : Cert.DWInMineRefIdeal.Facts) (hNorm1 : Cert.Norm1.Facts) (hNorm1Ideal : Cert.Norm1Ideal.Facts) (hNorm1RefIdeal : Cert.Norm1RefIdeal.Facts) (hNorm2 : Cert.Norm2.Facts) (hNorm2Ideal : Cert.Norm2Ideal.Facts) (hNorm2RefIdeal : Cert.Norm2RefIdeal.Facts) (hPre_finite : Cert.Pre_finite.Facts) (hPre_finite_d_ffn_in : Cert.Pre_finite_d_ffn_in.Facts) (hPre_core_d_w_gate_theirs : Cert.Pre_core_d_w_gate_theirs.Facts) (hPre_core_d_w_gate_mine : Cert.Pre_core_d_w_gate_mine.Facts) (hPre_core_d_w_in_theirs : Cert.Pre_core_d_w_in_theirs.Facts) (hPre_core_d_w_in_mine : Cert.Pre_core_d_w_in_mine.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DFfnIn (hDFfnIn := hDFfnIn)
    ∧ quiescent_DFfnInIdeal (hDFfnInIdeal := hDFfnInIdeal)
    ∧ quiescent_DFfnInIdeal_pre_finite_d_ffn_in (hDFfnInIdeal := hDFfnInIdeal) (hPre_finite_d_ffn_in := hPre_finite_d_ffn_in)
    ∧ quiescent_DFfnInRefIdeal (hDFfnInRefIdeal := hDFfnInRefIdeal)
    ∧ quiescent_DFfnInRefIdeal_pre_finite_d_ffn_in (hDFfnInRefIdeal := hDFfnInRefIdeal) (hPre_finite_d_ffn_in := hPre_finite_d_ffn_in)
    ∧ quiescent_DH2 (hDH2 := hDH2)
    ∧ quiescent_DH2Ideal (hDH2Ideal := hDH2Ideal)
    ∧ quiescent_DH2RefIdeal (hDH2RefIdeal := hDH2RefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DO (hDO := hDO)
    ∧ quiescent_DOIdeal (hDOIdeal := hDOIdeal)
    ∧ quiescent_DORefIdeal (hDORefIdeal := hDORefIdeal)
    ∧ quiescent_DH1 (hDH1 := hDH1)
    ∧ quiescent_DH1Ideal (hDH1Ideal := hDH1Ideal)
    ∧ quiescent_DH1RefIdeal (hDH1RefIdeal := hDH1RefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_DWGateTheirs (hDWGateTheirs := hDWGateTheirs) (hPre_core_d_w_gate_theirs := hPre_core_d_w_gate_theirs)
    ∧ quiescent_DWGateTheirsIdeal (hDWGateTheirsIdeal := hDWGateTheirsIdeal) (hPre_core_d_w_gate_theirs := hPre_core_d_w_gate_theirs)
    ∧ quiescent_DWGateTheirsRefIdeal (hDWGateTheirsRefIdeal := hDWGateTheirsRefIdeal)
    ∧ quiescent_DWGateTheirsRefIdeal_pre_core_d_w_gate_theirs (hDWGateTheirsRefIdeal := hDWGateTheirsRefIdeal) (hPre_core_d_w_gate_theirs := hPre_core_d_w_gate_theirs)
    ∧ quiescent_DWGateMine (hDWGateMine := hDWGateMine) (hPre_core_d_w_gate_mine := hPre_core_d_w_gate_mine)
    ∧ quiescent_DWGateMineIdeal (hDWGateMineIdeal := hDWGateMineIdeal) (hPre_core_d_w_gate_mine := hPre_core_d_w_gate_mine)
    ∧ quiescent_DWGateMineRefIdeal (hDWGateMineRefIdeal := hDWGateMineRefIdeal)
    ∧ quiescent_DWGateMineRefIdeal_pre_core_d_w_gate_mine (hDWGateMineRefIdeal := hDWGateMineRefIdeal) (hPre_core_d_w_gate_mine := hPre_core_d_w_gate_mine)
    ∧ quiescent_DWInTheirs (hDWInTheirs := hDWInTheirs) (hPre_core_d_w_in_theirs := hPre_core_d_w_in_theirs)
    ∧ quiescent_DWInTheirsIdeal (hDWInTheirsIdeal := hDWInTheirsIdeal) (hPre_core_d_w_in_theirs := hPre_core_d_w_in_theirs)
    ∧ quiescent_DWInTheirsRefIdeal (hDWInTheirsRefIdeal := hDWInTheirsRefIdeal)
    ∧ quiescent_DWInTheirsRefIdeal_pre_core_d_w_in_theirs (hDWInTheirsRefIdeal := hDWInTheirsRefIdeal) (hPre_core_d_w_in_theirs := hPre_core_d_w_in_theirs)
    ∧ quiescent_DWInMine (hDWInMine := hDWInMine) (hPre_core_d_w_in_mine := hPre_core_d_w_in_mine)
    ∧ quiescent_DWInMineIdeal (hDWInMineIdeal := hDWInMineIdeal) (hPre_core_d_w_in_mine := hPre_core_d_w_in_mine)
    ∧ quiescent_DWInMineRefIdeal (hDWInMineRefIdeal := hDWInMineRefIdeal)
    ∧ quiescent_DWInMineRefIdeal_pre_core_d_w_in_mine (hDWInMineRefIdeal := hDWInMineRefIdeal) (hPre_core_d_w_in_mine := hPre_core_d_w_in_mine)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DFfnIn_DFfnInIdeal
    ∧ algebraic_DFfnInIdeal_DFfnInRefIdeal_pre_finite_d_ffn_in (hDFfnInIdeal := hDFfnInIdeal) (hDFfnInRefIdeal := hDFfnInRefIdeal) (hPre_finite_d_ffn_in := hPre_finite_d_ffn_in)
    ∧ preserves_DH2_DH2Ideal
    ∧ algebraic_DH2Ideal_DH2RefIdeal (hDH2Ideal := hDH2Ideal) (hDH2RefIdeal := hDH2RefIdeal)
    ∧ preserves_DWDown_DWDownIdeal
    ∧ algebraic_DWDownIdeal_DWDownRefIdeal (hDWDownIdeal := hDWDownIdeal) (hDWDownRefIdeal := hDWDownRefIdeal)
    ∧ preserves_DWOut_DWOutIdeal
    ∧ algebraic_DWOutIdeal_DWOutRefIdeal (hDWOutIdeal := hDWOutIdeal) (hDWOutRefIdeal := hDWOutRefIdeal)
    ∧ preserves_DO_DOIdeal
    ∧ algebraic_DOIdeal_DORefIdeal (hDOIdeal := hDOIdeal) (hDORefIdeal := hDORefIdeal)
    ∧ preserves_DH1_DH1Ideal
    ∧ algebraic_DH1Ideal_DH1RefIdeal (hDH1Ideal := hDH1Ideal) (hDH1RefIdeal := hDH1RefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_AttnOut_AttnOutIdeal
    ∧ algebraic_AttnOutIdeal_AttnOutRefIdeal (hAttnOutIdeal := hAttnOutIdeal) (hAttnOutRefIdeal := hAttnOutRefIdeal)
    ∧ preserves_DWGateTheirs_DWGateTheirsIdeal
    ∧ algebraic_DWGateTheirsIdeal_DWGateTheirsRefIdeal (hDWGateTheirsIdeal := hDWGateTheirsIdeal) (hDWGateTheirsRefIdeal := hDWGateTheirsRefIdeal) (hPre_core_d_w_gate_theirs := hPre_core_d_w_gate_theirs)
    ∧ preserves_DWGateMine_DWGateMineIdeal
    ∧ algebraic_DWGateMineIdeal_DWGateMineRefIdeal (hDWGateMineIdeal := hDWGateMineIdeal) (hDWGateMineRefIdeal := hDWGateMineRefIdeal) (hPre_core_d_w_gate_mine := hPre_core_d_w_gate_mine)
    ∧ preserves_DWInTheirs_DWInTheirsIdeal
    ∧ algebraic_DWInTheirsIdeal_DWInTheirsRefIdeal (hDWInTheirsIdeal := hDWInTheirsIdeal) (hDWInTheirsRefIdeal := hDWInTheirsRefIdeal) (hPre_core_d_w_in_theirs := hPre_core_d_w_in_theirs)
    ∧ preserves_DWInMine_DWInMineIdeal
    ∧ algebraic_DWInMineIdeal_DWInMineRefIdeal (hDWInMineIdeal := hDWInMineIdeal) (hDWInMineRefIdeal := hDWInMineRefIdeal) (hPre_core_d_w_in_mine := hPre_core_d_w_in_mine)
    ∧ preserves_Norm1_Norm1Ideal
    ∧ algebraic_Norm1Ideal_Norm1RefIdeal (hNorm1Ideal := hNorm1Ideal) (hNorm1RefIdeal := hNorm1RefIdeal)
    ∧ preserves_Norm2_Norm2Ideal
    ∧ algebraic_Norm2Ideal_Norm2RefIdeal (hNorm2Ideal := hNorm2Ideal) (hNorm2RefIdeal := hNorm2RefIdeal)
-- ==== Pre_core_d_w_gate_mine.lean ====
abbrev S2 : Shape := ⟨1, ![2]⟩
abbrev S2048x2048 : Shape := ⟨2, ![2048, 2048]⟩
abbrev S2048x5632 : Shape := ⟨2, ![2048, 5632]⟩
abbrev S1024x5632 : Shape := ⟨2, ![1024, 5632]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S2048x2048 .f32) (main_arg2 : FVec F S2048x5632 .f32) (main_arg3 : FVec F S1024x5632 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_d_w_gate_theirs.lean ====
abbrev S2 : Shape := ⟨1, ![2]⟩
abbrev S2048x2048 : Shape := ⟨2, ![2048, 2048]⟩
abbrev S2048x5632 : Shape := ⟨2, ![2048, 5632]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S2048x2048 .f32) (main_arg2 : FVec F S2048x5632 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_d_w_in_mine.lean ====
abbrev S2 : Shape := ⟨1, ![2]⟩
abbrev S2048x2048 : Shape := ⟨2, ![2048, 2048]⟩
abbrev S2048x5120 : Shape := ⟨2, ![2048, 5120]⟩
abbrev S1024x5120 : Shape := ⟨2, ![1024, 5120]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S2048x2048 .f32) (main_arg2 : FVec F S2048x5120 .f32) (main_arg3 : FVec F S1024x5120 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_core_d_w_in_theirs.lean ====
abbrev S2 : Shape := ⟨1, ![2]⟩
abbrev S2048x2048 : Shape := ⟨2, ![2048, 2048]⟩
abbrev S2048x5120 : Shape := ⟨2, ![2048, 5120]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S2048x2048 .f32) (main_arg2 : FVec F S2048x5120 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_finite.lean ====
abbrev S2048x5120 : Shape := ⟨2, ![2048, 5120]⟩
abbrev S1x2048 : Shape := ⟨2, ![1, 2048]⟩
abbrev S2048x2048 : Shape := ⟨2, ![2048, 2048]⟩
abbrev S_ : Shape := ⟨0, ![]⟩

class Facts : Prop where
  bcast_S_S2048x5120 : S_.BroadcastsInDim S2048x5120 (![] : Fin 0 → Fin S2048x5120.rank)
  bcast_S_S1x2048 : S_.BroadcastsInDim S1x2048 (![] : Fin 0 → Fin S1x2048.rank)
  bcast_S_S2048x2048 : S_.BroadcastsInDim S2048x2048 (![] : Fin 0 → Fin S2048x2048.rank)

variable [Facts]

def fn {F : FTy → Type} [FloatOps F] (main_arg0 : FVec F S2048x5120 .f32) (main_arg1 : FVec F S1x2048 .f32) (main_arg2 : FVec F S2048x2048 .f32) : IVec S2048x5120 1 × IVec S1x2048 1 × IVec S2048x2048 1 :=
  let main_v0 : FVec F S2048x5120 .f32 := Host.absf main_arg0
  let main_cst : FVec F S_ .f32 := constant S_ .f32 0x7F800000#32
  let main_v1 : FVec F S2048x5120 .f32 := broadcastInDim S2048x5120 ![] bcast_S_S2048x5120 main_cst
  let main_v2 : IVec S2048x5120 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_finite_d_ffn_in.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S2048x2048 .f32) (main_arg1 : FVec F S5632x2048 .f32) (main_arg2 : FVec F S2048x5632 .f32) (main_arg3 : FVec F S2048x5632 .f32) : IVec S2048x2048 1 × IVec S5632x2048 1 × IVec S2048x5632 1 × IVec S2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  (main_v2, main_v5, main_v8, main_v11)
-- ==== Kernel.lean ====
abbrev S2048x5120 : Shape := ⟨2, ![2048, 5120]⟩
abbrev S1x2048 : Shape := ⟨2, ![1, 2048]⟩
abbrev S2048x2048 : Shape := ⟨2, ![2048, 2048]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S8x128x2048 : Shape := ⟨3, ![8, 128, 2048]⟩
abbrev S8x2048 : Shape := ⟨2, ![8, 2048]⟩
abbrev S2048x8 : Shape := ⟨2, ![2048, 8]⟩
abbrev S2048x8x1 : Shape := ⟨3, ![2048, 8, 1]⟩
abbrev S1x1024 : Shape := ⟨2, ![1, 1024]⟩
abbrev S2048x128 : Shape := ⟨2, ![2048, 128]⟩
abbrev S1x128 : Shape := ⟨2, ![1, 128]⟩
abbrev S128 : Shape := ⟨1, ![128]⟩
abbrev S256x256 : Shape := ⟨2, ![256, 256]⟩
abbrev S256x128 : Shape := ⟨2, ![256, 128]⟩
abbrev S2048x256 : Shape := ⟨2, ![2048, 256]⟩
abbrev S1792x128 : Shape := ⟨2, ![1792, 128]⟩
abbrev S1792x256 : Shape := ⟨2, ![1792, 256]⟩
abbrev S1792x1 : Shape := ⟨2, ![1792, 1]⟩
abbrev S1792 : Shape := ⟨1, ![1792]⟩
abbrev S256x1 : Shape := ⟨2, ![256, 1]⟩
abbrev S1536x128 : Shape := ⟨2, ![1536, 128]⟩
abbrev S1536x256 : Shape := ⟨2, ![1536, 256]⟩
abbrev S1536x1 : Shape := ⟨2, ![1536, 1]⟩
abbrev S1536 : Shape := ⟨1, ![1536]⟩
abbrev S512x1 : Shape := ⟨2, ![512, 1]⟩
abbrev S512x128 : Shape := ⟨2, ![512, 128]⟩
abbrev S1280x128 : Shape := ⟨2, ![1280, 128]⟩
abbrev S1280x256 : Shape := ⟨2, ![1280, 256]⟩
abbrev S1280x1 : Shape := ⟨2, ![1280, 1]⟩
abbrev S1280 : Shape := ⟨1, ![1280]⟩
abbrev S768x1 : Shape := ⟨2, ![768, 1]⟩
abbrev S768x128 : Shape := ⟨2, ![768, 128]⟩
abbrev S1024x128 : Shape := ⟨2, ![1024, 128]⟩
abbrev S1024x256 : Shape := ⟨2, ![1024, 256]⟩
abbrev S1024x1 : Shape := ⟨2, ![1024, 1]⟩
abbrev S1024 : Shape := ⟨1, ![1024]⟩
abbrev S768x256 : Shape := ⟨2, ![768, 256]⟩
abbrev S768 : Shape := ⟨1, ![768]⟩
abbrev S512x256 : Shape := ⟨2, ![512, 256]⟩
abbrev S512 : Shape := ⟨1, ![512]⟩

abbrev nBuf : Space → Nat
  | .hbm => 82
  | .vmem => 28
  | .smem => 0
  | _ => 0

abbrev bufTy : (tb : Table) → Fin (tcTables nBuf tb) → BufTy
  | .hbm, ⟨0, _⟩ => ⟨S2048x5120, .f32⟩
  | .hbm, ⟨1, _⟩ => ⟨S1x2048, .f32⟩
  | .hbm, ⟨2, _⟩ => ⟨S2048x2048, .f32⟩
  | .hbm, ⟨3, _⟩ => ⟨S2048x1024, .f32⟩
  | .hbm, ⟨4, _⟩ => ⟨S2048x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .i1⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S_, .f32⟩
  | .hbm, ⟨55, _⟩ => ⟨S8x2048x2048, .i1⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S_, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | .hbm, ⟨64, _⟩ => ⟨S_, .f32⟩
  | .hbm, ⟨65, _⟩ => ⟨S_, .f32⟩
  | .hbm, ⟨66, _⟩ => ⟨S8x2048x2048, .i1⟩
  | .hbm, ⟨67, _⟩ => ⟨S8x2048x2048, .f32⟩
  | .hbm, ⟨68, _⟩ => ⟨S8x2048x2048, .f32⟩
  | .hbm, ⟨69, _⟩ => ⟨S8x128x2048, .f32⟩
  | .hbm, ⟨70, _⟩ => ⟨S2048x8x128, .f32⟩
  | .hbm, ⟨71, _⟩ => ⟨S_, .f32⟩
  | .hbm, ⟨72, _⟩ => ⟨S8x2048, .f32⟩
  | .hbm, ⟨73, _⟩ => ⟨S2048x1024, .f32⟩
  | .hbm, ⟨74, _⟩ => ⟨S2048x8, .f32⟩
  | .hbm, ⟨75, _⟩ => ⟨S2048x8x1, .f32⟩
  | .hbm, ⟨76, _⟩ => ⟨S2048x8x128, .f32⟩
  | .hbm, ⟨77, _⟩ => ⟨S2048x1024, .f32⟩
  | .hbm, ⟨78, _⟩ => ⟨S2048x1024, .bf16⟩
  | .hbm, ⟨79, _⟩ => ⟨S2048x1024, .bf16⟩
  | .hbm, ⟨80, _⟩ => ⟨S2048x1024, .bf16⟩
  | .hbm, ⟨81, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x128, .f32⟩
  | .local _ .vmem, ⟨13, _⟩ => ⟨S1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x128, .f32⟩
  | .local _ .vmem, ⟨21, _⟩ => ⟨S1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v18 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_call3_cst : Ref sig .tc := ⟨.hbm, 58, rfl⟩
abbrev main_call3_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_2 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33_0 : Ref sig .tc := ⟨.hbm, 78, rfl⟩
abbrev main_v33_1 : Ref sig .tc := ⟨.hbm, 79, rfl⟩
abbrev main_v33_2 : Ref sig .tc := ⟨.hbm, 80, rfl⟩
abbrev main_v33_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2048_i32 : BitVec 32 := 2048#32
  let v71 : BitVec 32 := Scalar.muli c0_i32 c2048_i32
  v71
def k0_off1 : Fin 2 → Nat :=
  let c0_i32 : BitVec 32 := 0#32
  let c2048_i32 : BitVec 32 := 2048#32
  let v71 : BitVec 32 := Scalar.muli c0_i32 c2048_i32
  let v72 : BitVec 32 := v71
  let v73 : Index := Scalar.indexCast v72
  let c0_36 : Index := 0#32
  ![v73.toNat, 0]
def k0_mult2 : BitVec 32 :=
  let c0_i32 : BitVec 32 := 0#32
  let c2048_i32_37 : BitVec 32 := 2048#32
  let v75 : BitVec 32 := Scalar.muli c0_i32 c2048_i32_37
  v75
def k0_mult3 : BitVec 32 :=
  let c0_i32 : BitVec 32 := 0#32
  let c2048_i32_39 : BitVec 32 := 2048#32
  let v79 : BitVec 32 := Scalar.muli c0_i32 c2048_i32_39
  v79
@[reducible] def k0_t1_loop : Scf.Loop 32 :=
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_44 : BitVec 32 := 1#32
  ⟨c0_i32_43, v92, c1_i32_44⟩
def k0_mult4 (k0_t1 : Fin k0_t1_loop.trips) : BitVec 32 :=
  let c2_i32_320 : BitVec 32 := 2#32
  let c0_i32_43 : BitVec 32 := 0#32
  let c1_i32_44 : BitVec 32 := 1#32
  let arg18 : BitVec 32 := Scf.iv c0_i32_43 c1_i32_44 k0_t1
  let v960 : BitVec 32 := Scalar.muli c2_i32_320 arg18
  let c256_i32_321 : BitVec 32 := 256#32
  let v961 : BitVec 32 := Scalar.muli v960 c256_i32_321
  v961
def k0_off2 (k0_t1 : Fin k0_t1_loop.trips) : Fin 2 → Nat :=
  let c2_i32_320 : BitVec 32 := 2#32
  let c0_i32_43 : BitVec 32 := 0#32
  let c1_i32_44 : BitVec 32 := 1#32
  let arg18 : BitVec 32 := Scf.iv c0_i32_43 c1_i32_44 k0_t1
  let v960 : BitVec 32 := Scalar.muli c2_i32_320 arg18
  let c256_i32_321 : BitVec 32 := 256#32
  let v961 : BitVec 32 := Scalar.muli v960 c256_i32_321
  let v962 : BitVec 32 := v961
  let v963 : Index := Scalar.indexCast v962
  let c0_322 : Index := 0#32
  ![v963.toNat, 0]
def k0_mult5 (k0_t1 : Fin k0_t1_loop.trips) : BitVec 32 :=
  let c2_i32_320 : BitVec 32 := 2#32
  let c0_i32_43 : BitVec 32 := 0#32
  let c1_i32_44 : BitVec 32 := 1#32
  let arg18 : BitVec 32 := Scf.iv c0_i32_43 c1_i32_44 k0_t1
  let v960 : BitVec 32 := Scalar.muli c2_i32_320 arg18
  let c256_i32_323 : BitVec 32 := 256#32
  let v965 : BitVec 32 := Scalar.muli v960 c256_i32_323
  v965
def k0_mult6 (k0_t1 : Fin k0_t1_loop.trips) : BitVec 32 :=
  let c2_i32_320 : BitVec 32 := 2#32
  let c0_i32_43 : BitVec 32 := 0#32
  let c1_i32_44 : BitVec 32 := 1#32
  let arg18 : BitVec 32 := Scf.iv c0_i32_43 c1_i32_44 k0_t1
  let v960 : BitVec 32 := Scalar.muli c2_i32_320 arg18
  let c256_i32_338 : BitVec 32 := 256#32
  let v1015 : BitVec 32 := Scalar.muli v960 c256_i32_338
  v1015
def k0_mult7 (k0_t1 : Fin k0_t1_loop.trips) : BitVec 32 :=
  let c2_i32_320 : BitVec 32 := 2#32
  let c0_i32_43 : BitVec 32 := 0#32
  let c1_i32_44 : BitVec 32 := 1#32
  let arg18 : BitVec 32 := Scf.iv c0_i32_43 c1_i32_44 k0_t1
  let v960 : BitVec 32 := Scalar.muli c2_i32_320 arg18
  let c256_i32_342 : BitVec 32 := 256#32
  let v1025 : BitVec 32 := Scalar.muli v960 c256_i32_342
  v1025
def k0_mult8 (k0_t1 : Fin k0_t1_loop.trips) : BitVec 32 :=
  let c2_i32_349 : BitVec 32 := 2#32
  let c0_i32_43 : BitVec 32 := 0#32
  let c1_i32_44 : BitVec 32 := 1#32
  let arg18 : BitVec 32 := Scf.iv c0_i32_43 c1_i32_44 k0_t1
  let v1044 : BitVec 32 := Scalar.muli c2_i32_349 arg18
  let c1_i32_350 : BitVec 32 := 1#32
  let v1045 : BitVec 32 := Scalar.addi v1044 c1_i32_350
  let c256_i32_351 : BitVec 32 := 256#32
  let v1046 : BitVec 32 := Scalar.muli v1045 c256_i32_351
  v1046
def k0_off3 (k0_t1 : Fin k0_t1_loop.trips) : Fin 2 → Nat :=
  let c2_i32_349 : BitVec 32 := 2#32
  let c0_i32_43 : BitVec 32 := 0#32
  let c1_i32_44 : BitVec 32 := 1#32
  let arg18 : BitVec 32 := Scf.iv c0_i32_43 c1_i32_44 k0_t1
  let v1044 : BitVec 32 := Scalar.muli c2_i32_349 arg18
  let c1_i32_350 : BitVec 32 := 1#32
  let v1045 : BitVec 32 := Scalar.addi v1044 c1_i32_350
  let c256_i32_351 : BitVec 32 := 256#32
  let v1046 : BitVec 32 := Scalar.muli v1045 c256_i32_351
  let v1047 : BitVec 32 := v1046
  let v1048 : Index := Scalar.indexCast v1047
  let c0_352 : Index := 0#32
  ![v1048.toNat, 0]
def k0_mult9 (k0_t1 : Fin k0_t1_loop.trips) : BitVec 32 :=
  let c2_i32_349 : BitVec 32 := 2#32
  let c0_i32_43 : BitVec 32 := 0#32
  let c1_i32_44 : BitVec 32 := 1#32
  let arg18 : BitVec 32 := Scf.iv c0_i32_43 c1_i32_44 k0_t1
  let v1044 : BitVec 32 := Scalar.muli c2_i32_349 arg18
  let c1_i32_350 : BitVec 32 := 1#32
  let v1045 : BitVec 32 := Scalar.addi v1044 c1_i32_350
  let c256_i32_353 : BitVec 32 := 256#32
  let v1050 : BitVec 32 := Scalar.muli v1045 c256_i32_353
  v1050
def k0_mult10 (k0_t1 : Fin k0_t1_loop.trips) : BitVec 32 :=
  let c2_i32_349 : BitVec 32 := 2#32
  let c0_i32_43 : BitVec 32 := 0#32
  let c1_i32_44 : BitVec 32 := 1#32
  let arg18 : BitVec 32 := Scf.iv c0_i32_43 c1_i32_44 k0_t1
  let v1044 : BitVec 32 := Scalar.muli c2_i32_349 arg18
  let c1_i32_350 : BitVec 32 := 1#32
  let v1045 : BitVec 32 := Scalar.addi v1044 c1_i32_350
  let c256_i32_368 : BitVec 32 := 256#32
  let v1100 : BitVec 32 := Scalar.muli v1045 c256_i32_368
  v1100
def k0_mult11 (k0_t1 : Fin k0_t1_loop.trips) : BitVec 32 :=
  let c2_i32_349 : BitVec 32 := 2#32
  let c0_i32_43 : BitVec 32 := 0#32
  let c1_i32_44 : BitVec 32 := 1#32
  let arg18 : BitVec 32 := Scf.iv c0_i32_43 c1_i32_44 k0_t1
  let v1044 : BitVec 32 := Scalar.muli c2_i32_349 arg18
  let c1_i32_350 : BitVec 32 := 1#32
  let v1045 : BitVec 32 := Scalar.addi v1044 c1_i32_350
  let c256_i32_372 : BitVec 32 := 256#32
  let v1110 : BitVec 32 := Scalar.muli v1045 c256_i32_372
  v1110
@[reducible] def k0_t2_loop : Scf.Loop 32 :=
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let v89 : BitVec 32 := Scalar.addi c0_i32_43 v88
  let c1_i32_45 : BitVec 32 := 1#32
  ⟨v92, v89, c1_i32_45⟩
def k0_mult12 (k0_t2 : Fin k0_t2_loop.trips) : BitVec 32 :=
  let c2_i32_320 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v960 : BitVec 32 := Scalar.muli c2_i32_320 arg18
  let c256_i32_321 : BitVec 32 := 256#32
  let v961 : BitVec 32 := Scalar.muli v960 c256_i32_321
  v961
def k0_off4 (k0_t2 : Fin k0_t2_loop.trips) : Fin 2 → Nat :=
  let c2_i32_320 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v960 : BitVec 32 := Scalar.muli c2_i32_320 arg18
  let c256_i32_321 : BitVec 32 := 256#32
  let v961 : BitVec 32 := Scalar.muli v960 c256_i32_321
  let v962 : BitVec 32 := v961
  let v963 : Index := Scalar.indexCast v962
  let c0_322 : Index := 0#32
  ![v963.toNat, 0]
def k0_mult13 (k0_t2 : Fin k0_t2_loop.trips) : BitVec 32 :=
  let c2_i32_320 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v960 : BitVec 32 := Scalar.muli c2_i32_320 arg18
  let c256_i32_323 : BitVec 32 := 256#32
  let v965 : BitVec 32 := Scalar.muli v960 c256_i32_323
  v965
def k0_mult14 (k0_t2 : Fin k0_t2_loop.trips) : BitVec 32 :=
  let c2_i32_320 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v960 : BitVec 32 := Scalar.muli c2_i32_320 arg18
  let c256_i32_338 : BitVec 32 := 256#32
  let v1015 : BitVec 32 := Scalar.muli v960 c256_i32_338
  v1015
def k0_mult15 (k0_t2 : Fin k0_t2_loop.trips) : BitVec 32 :=
  let c2_i32_320 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v960 : BitVec 32 := Scalar.muli c2_i32_320 arg18
  let c256_i32_342 : BitVec 32 := 256#32
  let v1025 : BitVec 32 := Scalar.muli v960 c256_i32_342
  v1025
def k0_mult16 (k0_t2 : Fin k0_t2_loop.trips) : BitVec 32 :=
  let c2_i32_349 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v1044 : BitVec 32 := Scalar.muli c2_i32_349 arg18
  let c1_i32_350 : BitVec 32 := 1#32
  let v1045 : BitVec 32 := Scalar.addi v1044 c1_i32_350
  let c256_i32_351 : BitVec 32 := 256#32
  let v1046 : BitVec 32 := Scalar.muli v1045 c256_i32_351
  v1046
def k0_off5 (k0_t2 : Fin k0_t2_loop.trips) : Fin 2 → Nat :=
  let c2_i32_349 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v1044 : BitVec 32 := Scalar.muli c2_i32_349 arg18
  let c1_i32_350 : BitVec 32 := 1#32
  let v1045 : BitVec 32 := Scalar.addi v1044 c1_i32_350
  let c256_i32_351 : BitVec 32 := 256#32
  let v1046 : BitVec 32 := Scalar.muli v1045 c256_i32_351
  let v1047 : BitVec 32 := v1046
  let v1048 : Index := Scalar.indexCast v1047
  let c0_352 : Index := 0#32
  ![v1048.toNat, 0]
def k0_mult17 (k0_t2 : Fin k0_t2_loop.trips) : BitVec 32 :=
  let c2_i32_349 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v1044 : BitVec 32 := Scalar.muli c2_i32_349 arg18
  let c1_i32_350 : BitVec 32 := 1#32
  let v1045 : BitVec 32 := Scalar.addi v1044 c1_i32_350
  let c256_i32_353 : BitVec 32 := 256#32
  let v1050 : BitVec 32 := Scalar.muli v1045 c256_i32_353
  v1050
def k0_mult18 (k0_t2 : Fin k0_t2_loop.trips) : BitVec 32 :=
  let c2_i32_349 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v1044 : BitVec 32 := Scalar.muli c2_i32_349 arg18
  let c1_i32_350 : BitVec 32 := 1#32
  let v1045 : BitVec 32 := Scalar.addi v1044 c1_i32_350
  let c256_i32_368 : BitVec 32 := 256#32
  let v1100 : BitVec 32 := Scalar.muli v1045 c256_i32_368
  v1100
def k0_mult19 (k0_t2 : Fin k0_t2_loop.trips) : BitVec 32 :=
  let c2_i32_349 : BitVec 32 := 2#32
  let c0_i32_43 : BitVec 32 := 0#32
  let c0_i32 : BitVec 32 := 0#32
  let c4_i32 : BitVec 32 := 4#32
  let v86 : BitVec 32 := Scalar.muli c0_i32 c4_i32
  let v88 : BitVec 32 := Scalar.subi v86 c0_i32_43
  let c1_i32 : BitVec 32 := 1#32
  let v90 : BitVec 32 := Scalar.divsi v88 c1_i32
  let v91 : BitVec 32 := Scalar.muli v90 c1_i32
  let v92 : BitVec 32 := Scalar.addi c0_i32_43 v91
  let c1_i32_45 : BitVec 32 := 1#32
  let arg18 : BitVec 32 := Scf.iv v92 c1_i32_45 k0_t2
  let v1044 : BitVec 32 := Scalar.muli c2_i32_349 arg18
  let c1_i32_350 : BitVec 32 := 1#32
  let v1045 : BitVec 32 := Scalar.addi v1044 c1_i32_350
  let c256_i32_372 : BitVec 32 := 256#32
  let v1110 : BitVec 32 := Scalar.muli v1045 c256_i32_372
  v1110
def k0_mult20 : BitVec 32 :=
  let c0_i32 : BitVec 32 := 0#32
  let c8_i32 : BitVec 32 := 8#32
  let v95 : BitVec 32 := Scalar.muli c0_i32 c8_i32
  let c0_i32_46 : BitVec 32 := 0#32
  let v96 : BitVec 32 := Scalar.addi v95 c0_i32_46
  let c256_i32 : BitVec 32 := 256#32
  let v97 : BitVec 32 := Scalar.muli v96 c256_i32
  v97
def k0_off6 (c0_i32_46 : BitVec 32) : Fin 2 → Nat :=
  let c0_i32 : BitVec 32 := 0#32
  let c8_i32 : BitVec 32 := 8#32
  let v95 : BitVec 32 := Scalar.muli c0_i32 c8_i32
  let v96 : BitVec 32 := Scalar.addi v95 c0_i32_46
  let c256_i32 : BitVec 32 := 256#32
  let v97 : BitVec 32 := Scalar.muli v96 c256_i32
  let v98 : BitVec 32 := v97
  let v99 : Index := Scalar.indexCast v98
  let c0_47 : Index := 0#32
  ![v99.toNat, 0]
def k0_mult21 : BitVec 32 :=
  let c0_i32 : BitVec 32 := 0#32
  let c8_i32 : BitVec 32 := 8#32
  let v95 : BitVec 32 := Scalar.muli c0_i32 c8_i32
  let c0_i32_46 : BitVec 32 := 0#32
  let v96 : BitVec 32 := Scalar.addi v95 c0_i32_46
  let c256_i32_48 : BitVec 32 := 256#32
  let v101 : BitVec 32 := Scalar.muli v96 c256_i32_48
  v101
def k0_mult22 : BitVec 32 :=
  let c0_i32 : BitVec 32 := 0#32
  let c8_i32 : BitVec 32 := 8#32
  let v95 : BitVec 32 := Scalar.muli c0_i32 c8_i32
  let c0_i32_46 : BitVec 32 := 0#32
  let v96 : BitVec 32 := Scalar.addi v95 c0_i32_46
  let c256_i32_67 : BitVec 32 := 256#32
  let v162 : BitVec 32 := Scalar.muli v96 c256_i32_67
  v162
def k0_mult23 : BitVec 32 :=
  let c0_i32 : BitVec 32 := 0#32
  let c8_i32 : BitVec 32 := 8#32
  let v95 : BitVec 32 := Scalar.muli c0_i32 c8_i32
  let c0_i32_46 : BitVec 32 := 0#32
  let v96 : BitVec 32 := Scalar.addi v95 c0_i32_46
  let c256_i32_71 : BitVec 32 := 256#32
  let v172 : BitVec 32 := Scalar.muli v96 c256_i32_71
  v172
def k0_mult24 : BitVec 32 :=
  let c0_i32 : BitVec 32 := 0#32
  let c8_i32_78 : BitVec 32 := 8#32
  let v191 : BitVec 32 := Scalar.muli c0_i32 c8_i32_78
  let c1_i32_79 : BitVec 32 := 1#32
  let v192 : BitVec 32 := Scalar.addi v191 c1_i32_79
  let c256_i32_80 : BitVec 32 := 256#32
  let v195 : BitVec 32 := Scalar.muli v192 c256_i32_80
  v195
def k0_mult25 : BitVec 32 :=
  let c0_i32 : BitVec 32 := 0#32
  let c8_i32_78 : BitVec 32 := 8#32
  let v191 : BitVec 32 := Scalar.muli c0_i32 c8_i32_78
  let c1_i32_79 : BitVec 32 := 1#32
  let v192 : BitVec 32 := Scalar.addi v191 c1_i32_79
  let c256_i32_82 : BitVec 32 := 256#32
  let v199 : BitVec 32 := Scalar.muli v192 c256_i32_82
  v199
def k0_mult26 : BitVec 32 :=
  let c0_i32 : BitVec 32 := 0#32
  let c8_i32_78 : BitVec 32 := 8#32
  let v191 : BitVec 32 := Scalar.muli c0_i32 c8_i32_78
  let c1_i32_79 : BitVec 32 := 1#32
  let v192 : BitVec 32 := Scalar.addi v191 c1_i32_79
  let c256_i32_101 : BitVec 32 := 256#32
  let v263 : BitVec 32 := Scalar.muli v192 c256_i32_101
  v263
def k0_mult27 : BitVec 32 :=
  let c0_i32 : BitVec 32 := 0#32
  let c8_i32_78 : BitVec 32 := 8#32
  let v191 : BitVec 32 := Scalar.muli c0_i32 c8_i32_78
  let c1_i32_79 : BitVec 32 := 1#32
  let v192 : BitVec 32 := Scalar.addi v191 c1_i32_79
  let c256_i32_105 : BitVec 32 := 256#32
  let v273 : BitVec 32 := Scalar.muli v192 c256_i32_105
  v273
def k0_mult28 : BitVec 32 :=
  let c0_i32 : BitVec 32 := 0#32
  let c8_i32_112 : BitVec 32 := 8#32
  let v301 : BitVec 32 := Scalar.muli c0_i32 c8_i32_112
  let c2_i32 : BitVec 32 := 2#32
  let v302 : BitVec 32 := Scalar.addi v301 c2_i32
  let c256_i32_113 : BitVec 32 := 256#32
  let v305 : BitVec 32 := Scalar.muli v302 c256_i32_113
  v305
def k0_mult29 : BitVec 32 :=
  let c0_i32 : BitVec 32 := 0#32
  let c8_i32_112 : BitVec 32 := 8#32
  let v301 : BitVec 32 := Scalar.muli c0_i32 c8_i32_112
  let c2_i32 : BitVec 32 := 2#32
  let v302 : BitVec 32 := Scalar.addi v301 c2_i32
  let c256_i32_115 : BitVec 32 := 256#32
  let v309 : BitVec 32 := Scalar.muli v302 c256_i32_115
  v309
def k0_mult30 : BitVec 32 :=
  let c0_i32 : BitVec 32 := 0#32
  let c8_i32_112 : BitVec 32 := 8#32
  let v301 : BitVec 32 := Scalar.muli c0_i32 c8_i32_112
  let c2_i32 : BitVec 32 := 2#32
  let v302 : BitVec 32 := Scalar.addi v301 c2_i32
  let c256_i32_134 : BitVec 32 := 256#32
  let v373 : BitVec 32 := Scalar.muli v302 c256_i32_134
  v373
def k0_mult31 : BitVec 32 :=
  let c0_i32 : BitVec 32 := 0#32
  let c8_i32_112 : BitVec 32 := 8#32
  let v301 : BitVec 32 := Scalar.muli c0_i32 c8_i32_112
  let c2_i32 : BitVec 32 := 2#32
  let v302 : BitVec 32 := Scalar.addi v301 c2_i32
  let c256_i32_138 : BitVec 32 := 256#32
  let v383 : BitVec 32 := Scalar.muli v302 c256_i32_138
  v383
def k0_mult32 : BitVec 32 :=
  let c0_i32 : BitVec 32 := 0#32
  let c8_i32_145 : BitVec 32 := 8#32
  let v411 : BitVec 32 := Scalar.muli c0_i32 c8_i32_145
  let c3_i32 : BitVec 32 := 3#32
  let v412 : BitVec 32 := Scalar.addi v411 c3_i32
  let c256_i32_146 : BitVec 32 := 256#32
  let v415 : BitVec 32 := Scalar.muli v412 c256_i32_146
  v415
def k0_mult33 : BitVec 32 :=
  let c0_i32 : BitVec 32 := 0#32
  let c8_i32_145 : BitVec 32 := 8#32
  let v411 : BitVec 32 := Scalar.muli c0_i32 c8_i32_145
  let c3_i32 : BitVec 32 := 3#32
  let v412 : BitVec 32 := Scalar.addi v411 c3_i32
  let c256_i32_148 : BitVec 32 := 256#32
  let v419 : BitVec 32 := Scalar.muli v412 c256_i32_148
  v419
def k0_mult34 : BitVec 32 :=
  let c0_i32 : BitVec 32 := 0#32
  let c8_i32_145 : BitVec 32 := 8#32
  let v411 : BitVec 32 := Scalar.muli c0_i32 c8_i32_145
  let c3_i32 : BitVec 32 := 3#32
  let v412 : BitVec 32 := Scalar.addi v411 c3_i32
  let c256_i32_167 : BitVec 32 := 256#32
  let v483 : BitVec 32 := Scalar.muli v412 c256_i32_167
  v483
def k0_mult35 : BitVec 32 :=
  let c0_i32 : BitVec 32 := 0#32
  let c8_i32_145 : BitVec 32 := 8#32
  let v411 : BitVec 32 := Scalar.muli c0_i32 c8_i32_145
  let c3_i32 : BitVec 32 := 3#32
  let v412 : BitVec 32 := Scalar.addi v411 c3_i32
  let c256_i32_171 : BitVec 32 := 256#32
  let v493 : BitVec 32 := Scalar.muli v412 c256_i32_171
  v493
def k0_mult36 : BitVec 32 :=
  let c0_i32 : BitVec 32 := 0#32
  let c8_i32_178 : BitVec 32 := 8#32
  let v521 : BitVec 32 := Scalar.muli c0_i32 c8_i32_178
  let c4_i32_179 : BitVec 32 := 4#32
  let v522 : BitVec 32 := Scalar.addi v521 c4_i32_179
  let c256_i32_180 : BitVec 32 := 256#32
  let v525 : BitVec 32 := Scalar.muli v522 c256_i32_180
  v525
def k0_mult37 : BitVec 32 :=
  let c0_i32 : BitVec 32 := 0#32
  let c8_i32_178 : BitVec 32 := 8#32
  let v521 : BitVec 32 := Scalar.muli c0_i32 c8_i32_178
  let c4_i32_179 : BitVec 32 := 4#32
  let v522 : BitVec 32 := Scalar.addi v521 c4_i32_179
  let c256_i32_182 : BitVec 32 := 256#32
  let v529 : BitVec 32 := Scalar.muli v522 c256_i32_182
  v529
def k0_mult38 : BitVec 32 :=
  let c0_i32 : BitVec 32 := 0#32
  let c8_i32_178 : BitVec 32 := 8#32
  let v521 : BitVec 32 := Scalar.muli c0_i32 c8_i32_178
  let c4_i32_179 : BitVec 32 := 4#32
  let v522 : BitVec 32 := Scalar.addi v521 c4_i32_179
  let c256_i32_201 : BitVec 32 := 256#32
  let v593 : BitVec 32 := Scalar.muli v522 c256_i32_201
  v593
def k0_mult39 : BitVec 32 :=
  let c0_i32 : BitVec 32 := 0#32
  let c8_i32_178 : BitVec 32 := 8#32
  let v521 : BitVec 32 := Scalar.muli c0_i32 c8_i32_178
  let c4_i32_179 : BitVec 32 := 4#32
  let v522 : BitVec 32 := Scalar.addi v521 c4_i32_179
  let c256_i32_205 : BitVec 32 := 256#32
  let v603 : BitVec 32 := Scalar.muli v522 c256_i32_205
  v603
def k0_mult40 : BitVec 32 :=
  let c0_i32 : BitVec 32 := 0#32
  let c8_i32_212 : BitVec 32 := 8#32
  let v631 : BitVec 32 := Scalar.muli c0_i32 c8_i32_212
  let c5_i32 : BitVec 32 := 5#32
  let v632 : BitVec 32 := Scalar.addi v631 c5_i32
  let c256_i32_213 : BitVec 32 := 256#32
  let v635 : BitVec 32 := Scalar.muli v632 c256_i32_213
  v635
def k0_mult41 : BitVec 32 :=
  let c0_i32 : BitVec 32 := 0#32
  let c8_i32_212 : BitVec 32 := 8#32
  let v631 : BitVec 32 := Scalar.muli c0_i32 c8_i32_212
  let c5_i32 : BitVec 32 := 5#32
  let v632 : BitVec 32 := Scalar.addi v631 c5_i32
  let c256_i32_215 : BitVec 32 := 256#32
  let v639 : BitVec 32 := Scalar.muli v632 c256_i32_215
  v639
def k0_mult42 : BitVec 32 :=
  let c0_i32 : BitVec 32 := 0#32
  let c8_i32_212 : BitVec 32 := 8#32
  let v631 : BitVec 32 := Scalar.muli c0_i32 c8_i32_212
  let c5_i32 : BitVec 32 := 5#32
  let v632 : BitVec 32 := Scalar.addi v631 c5_i32
  let c256_i32_234 : BitVec 32 := 256#32
  let v703 : BitVec 32 := Scalar.muli v632 c256_i32_234
  v703
def k0_mult43 : BitVec 32 :=
  let c0_i32 : BitVec 32 := 0#32
  let c8_i32_212 : BitVec 32 := 8#32
  let v631 : BitVec 32 := Scalar.muli c0_i32 c8_i32_212
  let c5_i32 : BitVec 32 := 5#32
  let v632 : BitVec 32 := Scalar.addi v631 c5_i32
  let c256_i32_238 : BitVec 32 := 256#32
  let v713 : BitVec 32 := Scalar.muli v632 c256_i32_238
  v713
def k0_mult44 : BitVec 32 :=
  let c0_i32 : BitVec 32 := 0#32
  let c8_i32_245 : BitVec 32 := 8#32
  let v741 : BitVec 32 := Scalar.muli c0_i32 c8_i32_245
  let c6_i32 : BitVec 32 := 6#32
  let v742 : BitVec 32 := Scalar.addi v741 c6_i32
  let c256_i32_246 : BitVec 32 := 256#32
  let v745 : BitVec 32 := Scalar.muli v742 c256_i32_246
  v745
def k0_mult45 : BitVec 32 :=
  let c0_i32 : BitVec 32 := 0#32
  let c8_i32_245 : BitVec 32 := 8#32
  let v741 : BitVec 32 := Scalar.muli c0_i32 c8_i32_245
  let c6_i32 : BitVec 32 := 6#32
  let v742 : BitVec 32 := Scalar.addi v741 c6_i32
  let c256_i32_248 : BitVec 32 := 256#32
  let v749 : BitVec 32 := Scalar.muli v742 c256_i32_248
  v749
def k0_mult46 : BitVec 32 :=
  let c0_i32 : BitVec 32 := 0#32
  let c8_i32_245 : BitVec 32 := 8#32
  let v741 : BitVec 32 := Scalar.muli c0_i32 c8_i32_245
  let c6_i32 : BitVec 32 := 6#32
  let v742 : BitVec 32 := Scalar.addi v741 c6_i32
  let c256_i32_267 : BitVec 32 := 256#32
  let v813 : BitVec 32 := Scalar.muli v742 c256_i32_267
  v813
def k0_mult47 : BitVec 32 :=
  let c0_i32 : BitVec 32 := 0#32
  let c8_i32_245 : BitVec 32 := 8#32
  let v741 : BitVec 32 := Scalar.muli c0_i32 c8_i32_245
  let c6_i32 : BitVec 32 := 6#32
  let v742 : BitVec 32 := Scalar.addi v741 c6_i32
  let c256_i32_271 : BitVec 32 := 256#32
  let v823 : BitVec 32 := Scalar.muli v742 c256_i32_271
  v823
def k0_mult48 : BitVec 32 :=
  let c0_i32 : BitVec 32 := 0#32
  let c8_i32_278 : BitVec 32 := 8#32
  let v851 : BitVec 32 := Scalar.muli c0_i32 c8_i32_278
  let c7_i32 : BitVec 32 := 7#32
  let v852 : BitVec 32 := Scalar.addi v851 c7_i32
  let c256_i32_279 : BitVec 32 := 256#32
  let v855 : BitVec 32 := Scalar.muli v852 c256_i32_279
  v855
def k0_mult49 : BitVec 32 :=
  let c0_i32 : BitVec 32 := 0#32
  let c8_i32_278 : BitVec 32 := 8#32
  let v851 : BitVec 32 := Scalar.muli c0_i32 c8_i32_278
  let c7_i32 : BitVec 32 := 7#32
  let v852 : BitVec 32 := Scalar.addi v851 c7_i32
  let c256_i32_281 : BitVec 32 := 256#32
  let v859 : BitVec 32 := Scalar.muli v852 c256_i32_281
  v859
def k0_mult50 : BitVec 32 :=
  let c0_i32 : BitVec 32 := 0#32
  let c8_i32_278 : BitVec 32 := 8#32
  let v851 : BitVec 32 := Scalar.muli c0_i32 c8_i32_278
  let c7_i32 : BitVec 32 := 7#32
  let v852 : BitVec 32 := Scalar.addi v851 c7_i32
  let c256_i32_300 : BitVec 32 := 256#32
  let v923 : BitVec 32 := Scalar.muli v852 c256_i32_300
  v923
def k0_mult51 : BitVec 32 :=
  let c0_i32 : BitVec 32 := 0#32
  let c8_i32_278 : BitVec 32 := 8#32
  let v851 : BitVec 32 := Scalar.muli c0_i32 c8_i32_278
  let c7_i32 : BitVec 32 := 7#32
  let v852 : BitVec 32 := Scalar.addi v851 c7_i32
  let c256_i32_304 : BitVec 32 := 256#32
  let v933 : BitVec 32 := Scalar.muli v852 c256_i32_304
  v933
def k0_mult52 : BitVec 32 :=
  let c0_i32 : BitVec 32 := 0#32
  let c2048_i32_309 : BitVec 32 := 2048#32
  let v950 : BitVec 32 := Scalar.muli c0_i32 c2048_i32_309
  v950
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2048x5120 : Shape := ⟨2, ![2048, 5120]⟩
abbrev S1x2048 : Shape := ⟨2, ![1, 2048]⟩
abbrev S2048x2048 : Shape := ⟨2, ![2048, 2048]⟩
abbrev S2048x1024 : Shape := ⟨2, ![2048, 1024]⟩
abbrev S1x1024 : Shape := ⟨2, ![1, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S8x128x2048 : Shape := ⟨3, ![8, 128, 2048]⟩
abbrev S8x2048 : Shape := ⟨2, ![8, 2048]⟩
abbrev S2048x8 : Shape := ⟨2, ![2048, 8]⟩
abbrev S2048x8x1 : Shape := ⟨3, ![2048, 8, 1]⟩
abbrev S1024 : Shape := ⟨1, ![1024]⟩
abbrev S8x2048x128 : Shape := ⟨3, ![8, 2048, 128]⟩

abbrev nBuf : Space → Nat
  | .hbm => 224
  | .vmem => 0
  | .smem => 0
  | _ => 0

abbrev hbmTy0_0 (i : Nat) : BufTy := match i % 128 with
  | 0 => ⟨S2048x5120, .f32⟩
  | 1 => ⟨S1x2048, .f32⟩
  | 2 => ⟨S2048x2048, .f32⟩
  | 3 => ⟨S2048x1024, .f32⟩
  | 4 => ⟨S2048x1024, .f32⟩
  | 5 => ⟨S2048x1024, .f32⟩
  | 6 => ⟨S1x1024, .f32⟩
  | 7 => ⟨S2048x8x128, .f32⟩
  | 8 => ⟨S2048x8x128, .f32⟩
  | 9 => ⟨S2048x8x128, .f32⟩
  | 10 => ⟨S8x2048x2048, .f32⟩
  | 11 => ⟨S_, .f32⟩
  | 12 => ⟨S8x2048x2048, .f32⟩
  | 13 => ⟨S8x2048x2048, .f32⟩
  | 14 => ⟨S2048, .i32⟩
  | 15 => ⟨S2048x1, .i32⟩
  | 16 => ⟨S2048, .i32⟩
  | 17 => ⟨S1x2048, .i32⟩
  | 18 => ⟨S2048x2048, .i32⟩
  | 19 => ⟨S2048x2048, .i32⟩
  | 20 => ⟨S2048x2048, .i1⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .i1⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .i1⟩
  | 39 => ⟨S_, .f32⟩
  | 40 => ⟨S8x2048x2048, .f32⟩
  | 41 => ⟨S8x2048x2048, .f32⟩
  | 42 => ⟨S_, .f32⟩
  | 43 => ⟨S8x2048x2048, .f32⟩
  | 44 => ⟨S8x2048x2048, .i1⟩
  | 45 => ⟨S_, .f32⟩
  | 46 => ⟨S8x2048x2048, .f32⟩
  | 47 => ⟨S8x2048x2048, .f32⟩
  | 48 => ⟨S8x2048x2048, .f32⟩
  | 49 => ⟨S8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x2048x2048, .f32⟩
  | 58 => ⟨S8x2048x2048, .i1⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S8x2048x2048, .f32⟩
  | 70 => ⟨S8x2048x2048, .f32⟩
  | 71 => ⟨S_, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .i1⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S_, .f32⟩
  | 86 => ⟨S8x2048x2048, .f32⟩
  | 87 => ⟨S8x2048x2048, .i1⟩
  | 88 => ⟨S_, .f32⟩
  | 89 => ⟨S8x2048x2048, .f32⟩
  | 90 => ⟨S8x2048x2048, .f32⟩
  | 91 => ⟨S_, .f32⟩
  | 92 => ⟨S8x2048x2048, .f32⟩
  | 93 => ⟨S8x2048x2048, .i1⟩
  | 94 => ⟨S_, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S8x2048x2048, .f32⟩
  | 107 => ⟨S8x2048x2048, .i1⟩
  | 108 => ⟨S_, .f32⟩
  | 109 => ⟨S8x2048x2048, .f32⟩
  | 110 => ⟨S8x2048x2048, .f32⟩
  | 111 => ⟨S8x2048x2048, .f32⟩
  | 112 => ⟨S8x2048x2048, .f32⟩
  | 113 => ⟨S8x2048x2048, .f32⟩
  | 114 => ⟨S_, .f32⟩
  | 115 => ⟨S8x2048x2048, .f32⟩
  | 116 => ⟨S8x2048x2048, .f32⟩
  | 117 => ⟨S8x2048x2048, .f32⟩
  | 118 => ⟨S_, .f32⟩
  | 119 => ⟨S_, .f32⟩
  | 120 => ⟨S8x2048x2048, .i1⟩
  | 121 => ⟨S8x2048x2048, .f32⟩
  | 122 => ⟨S8x2048x2048, .f32⟩
  | 123 => ⟨S_, .f32⟩
  | 124 => ⟨S8x2048x2048, .f32⟩
  | 125 => ⟨S_, .f32⟩
  | 126 => ⟨S_, .f32⟩
  | 127 => ⟨S8x2048x2048, .f32⟩
  | _ => ⟨S2048x5120, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S_, .f32⟩
  | 4 => ⟨S_, .f32⟩
  | 5 => ⟨S8x2048x2048, .i1⟩
  | 6 => ⟨S8x2048x2048, .f32⟩
  | 7 => ⟨S8x2048x2048, .f32⟩
  | 8 => ⟨S_, .f32⟩
  | 9 => ⟨S8x2048x2048, .f32⟩
  | 10 => ⟨S8x128x2048, .f32⟩
  | 11 => ⟨S2048x8x128, .f32⟩
  | 12 => ⟨S_, .f32⟩
  | 13 => ⟨S8x2048, .f32⟩
  | 14 => ⟨S2048x8x128, .f32⟩
  | 15 => ⟨S_, .f32⟩
  | 16 => ⟨S2048x8, .f32⟩
  | 17 => ⟨S2048x8x1, .f32⟩
  | 18 => ⟨S_, .f32⟩
  | 19 => ⟨S2048x8x1, .f32⟩
  | 20 => ⟨S2048x8x1, .f32⟩
  | 21 => ⟨S_, .f32⟩
  | 22 => ⟨S2048x8x1, .f32⟩
  | 23 => ⟨S2048x8x1, .f32⟩
  | 24 => ⟨S2048x8x1, .f32⟩
  | 25 => ⟨S2048x8x1, .f32⟩
  | 26 => ⟨S_, .f32⟩
  | 27 => ⟨S2048x8x1, .f32⟩
  | 28 => ⟨S2048x8x1, .f32⟩
  | 29 => ⟨S2048x8x128, .f32⟩
  | 30 => ⟨S2048x8x128, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S1024, .f32⟩
  | 38 => ⟨S1x1024, .f32⟩
  | 39 => ⟨S2048x1024, .f32⟩
  | 40 => ⟨S2048x1024, .f32⟩
  | 41 => ⟨S2048x8x128, .f32⟩
  | 42 => ⟨S2048x8x128, .f32⟩
  | 43 => ⟨S_, .f32⟩
  | 44 => ⟨S2048x8, .f32⟩
  | 45 => ⟨S2048x8x1, .f32⟩
  | 46 => ⟨S2048x8x128, .f32⟩
  | 47 => ⟨S2048x8x128, .f32⟩
  | 48 => ⟨S2048x8x1, .f32⟩
  | 49 => ⟨S_, .f32⟩
  | 50 => ⟨S2048x8x1, .f32⟩
  | 51 => ⟨S2048x8x1, .f32⟩
  | 52 => ⟨S_, .f32⟩
  | 53 => ⟨S2048x8, .f32⟩
  | 54 => ⟨S2048x8x128, .f32⟩
  | 55 => ⟨S2048x8x128, .f32⟩
  | 56 => ⟨S2048x8x128, .f32⟩
  | 57 => ⟨S2048x8x128, .f32⟩
  | 58 => ⟨S2048x8x128, .f32⟩
  | 59 => ⟨S8x128x2048, .f32⟩
  | 60 => ⟨S8x2048x2048, .f32⟩
  | 61 => ⟨S8x128x2048, .f32⟩
  | 62 => ⟨S2048x8x128, .f32⟩
  | 63 => ⟨S_, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .f32⟩
  | 71 => ⟨S8x2048x2048, .f32⟩
  | 72 => ⟨S_, .f32⟩
  | 73 => ⟨S8x2048x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S_, .f32⟩
  | 84 => ⟨S8x2048x2048, .f32⟩
  | 85 => ⟨S8x2048x2048, .f32⟩
  | 86 => ⟨S8x2048x128, .f32⟩
  | 87 => ⟨S2048x8x128, .f32⟩
  | 88 => ⟨S8x2048x128, .f32⟩
  | 89 => ⟨S2048x8x128, .f32⟩
  | 90 => ⟨S2048x1024, .f32⟩
  | 91 => ⟨S2048x1024, .f32⟩
  | 92 => ⟨S2048x1024, .f32⟩
  | 93 => ⟨S2048x1024, .bf16⟩
  | 94 => ⟨S2048x1024, .bf16⟩
  | 95 => ⟨S2048x1024, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v17_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v17_2 : Ref sig .tc := ⟨.hbm, 67, rfl⟩
abbrev main_v17_0 : Ref sig .tc := ⟨.hbm, 68, rfl⟩
abbrev main_v18 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v19_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v19_2 : Ref sig .tc := ⟨.hbm, 116, rfl⟩
abbrev main_v19_0 : Ref sig .tc := ⟨.hbm, 117, rfl⟩
abbrev main_cst_0 : Ref sig .tc := ⟨.hbm, 118, rfl⟩
abbrev main_call2_v0 : Ref sig .tc := ⟨.hbm, 119, rfl⟩
abbrev main_v20_1 : Ref sig .tc := ⟨.hbm, 120, rfl⟩
abbrev main_call2_v2 : Ref sig .tc := ⟨.hbm, 121, rfl⟩
abbrev main_v20_0 : Ref sig .tc := ⟨.hbm, 122, rfl⟩
abbrev main_call2_cst : Ref sig .tc := ⟨.hbm, 123, rfl⟩
abbrev main_v20_2 : Ref sig .tc := ⟨.hbm, 124, rfl⟩
abbrev main_call3_cst : Ref sig .tc := ⟨.hbm, 125, rfl⟩
abbrev main_call3_v0 : Ref sig .tc := ⟨.hbm, 126, rfl⟩
abbrev main_v21 : Ref sig .tc := ⟨.hbm, 127, rfl⟩
abbrev main_v22 : Ref sig .tc := ⟨.hbm, 128, rfl⟩
abbrev main_v23 : Ref sig .tc := ⟨.hbm, 129, rfl⟩
abbrev main_v24 : Ref sig .tc := ⟨.hbm, 130, rfl⟩
abbrev main_cst_1 : Ref sig .tc := ⟨.hbm, 131, rfl⟩
abbrev main_call4_v0 : Ref sig .tc := ⟨.hbm, 132, rfl⟩
abbrev main_v25_1 : Ref sig .tc := ⟨.hbm, 133, rfl⟩
abbrev main_call4_v2 : Ref sig .tc := ⟨.hbm, 134, rfl⟩
abbrev main_v25_0 : Ref sig .tc := ⟨.hbm, 135, rfl⟩
abbrev main_call4_cst : Ref sig .tc := ⟨.hbm, 136, rfl⟩
abbrev main_v25_2 : Ref sig .tc := ⟨.hbm, 137, rfl⟩
abbrev main_v26 : Ref sig .tc := ⟨.hbm, 138, rfl⟩
abbrev main_v27 : Ref sig .tc := ⟨.hbm, 139, rfl⟩
abbrev main_cst_2 : Ref sig .tc := ⟨.hbm, 140, rfl⟩
abbrev main_v28 : Ref sig .tc := ⟨.hbm, 141, rfl⟩
abbrev main_v29 : Ref sig .tc := ⟨.hbm, 142, rfl⟩
abbrev main_cst_3 : Ref sig .tc := ⟨.hbm, 143, rfl⟩
abbrev main_v30 : Ref sig .tc := ⟨.hbm, 144, rfl⟩
abbrev main_v31 : Ref sig .tc := ⟨.hbm, 145, rfl⟩
abbrev main_cst_4 : Ref sig .tc := ⟨.hbm, 146, rfl⟩
abbrev main_v32 : Ref sig .tc := ⟨.hbm, 147, rfl⟩
abbrev main_v33 : Ref sig .tc := ⟨.hbm, 148, rfl⟩
abbrev main_cst_5 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_cst_6 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_cst_7 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_cst_8 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_cst_9 : Ref sig .tc := ⟨.hbm, 177, rfl⟩
abbrev main_v58 : Ref sig .tc := ⟨.hbm, 178, rfl⟩
abbrev main_v59 : Ref sig .tc := ⟨.hbm, 179, rfl⟩
abbrev main_cst_10 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_call5_cst : Ref sig .tc := ⟨.hbm, 191, rfl⟩
abbrev main_call5_v0 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_call6_cst : Ref sig .tc := ⟨.hbm, 196, rfl⟩
abbrev main_call6_v0 : Ref sig .tc := ⟨.hbm, 197, rfl⟩
abbrev main_v73 : Ref sig .tc := ⟨.hbm, 198, rfl⟩
abbrev main_v74 : Ref sig .tc := ⟨.hbm, 199, rfl⟩
abbrev main_call7_cst : Ref sig .tc := ⟨.hbm, 200, rfl⟩
abbrev main_call7_v0 : Ref sig .tc := ⟨.hbm, 201, rfl⟩
abbrev main_v75 : Ref sig .tc := ⟨.hbm, 202, rfl⟩
abbrev main_call8_v0 : Ref sig .tc := ⟨.hbm, 203, rfl⟩
abbrev main_call8_v1 : Ref sig .tc := ⟨.hbm, 204, rfl⟩
abbrev main_v76 : Ref sig .tc := ⟨.hbm, 205, rfl⟩
abbrev main_v77 : Ref sig .tc := ⟨.hbm, 206, rfl⟩
abbrev main_call9_v0 : Ref sig .tc := ⟨.hbm, 207, rfl⟩
abbrev main_call9_v1 : Ref sig .tc := ⟨.hbm, 208, rfl⟩
abbrev main_v78 : Ref sig .tc := ⟨.hbm, 209, rfl⟩
abbrev main_v79 : Ref sig .tc := ⟨.hbm, 210, rfl⟩
abbrev main_cst_11 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩

abbrev nD : Nat := 1
abbrev τ : Topo := Topo.v7x

variable {F : FTy → Type} [FloatOps F]
-- ==== DFfnIn.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x2048, .bf16⟩
  | .hbm, ⟨5, _⟩ => ⟨S5632x2048, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DFfnInRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x2048, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .bf16⟩
  | .hbm, ⟨27, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== DH2.lean ====
abbrev S2048x5632 : Shape := ⟨2, ![2048, 5632]⟩
abbrev S2048x2048 : Shape := ⟨2, ![2048, 2048]⟩
abbrev S2048x1408 : Shape := ⟨2, ![2048, 1408]⟩
abbrev S512x1408 : Shape := ⟨2, ![512, 1408]⟩
abbrev S2048x512 : Shape := ⟨2, ![2048, 512]⟩

abbrev nBuf : Space → Nat
  | .hbm => 9
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S512x1408, .bf16⟩
  | .local _ .vmem, ⟨3, _⟩ => ⟨S512x1408, .bf16⟩
  | .local _ .vmem, ⟨4, _⟩ => ⟨S2048x1408, .bf16⟩
  | .local _ .vmem, ⟨5, _⟩ => ⟨S2048x1408, .bf16⟩
  | .local _ .vmem, ⟨6, _⟩ => ⟨S512x1408, .bf16⟩
  | .local _ .vmem, ⟨7, _⟩ => ⟨S512x1408, .bf16⟩
  | .local _ .vmem, ⟨8, _⟩ => ⟨S2048x512, .f32⟩
  | .local _ .vmem, ⟨9, _⟩ => ⟨S2048x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_8 : BitVec 32 := 0#32
  let v13 : BitVec 1 := Scalar.cmpi .ne v12 c0_i32_8
  v13

def k0_cond2 (i : grid0.Coords) : BitVec 1 :=
  let arg2 : BitVec 32 := BitVec.ofNat 32 (i 2).val
  let c0_i32_9 : BitVec 32 := 0#32
  let v14 : BitVec 1 := Scalar.cmpi .ne arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DH2RefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DWDown.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWOut.lean ====
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWOutRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DO.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DORefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DH1.lean ====
abbrev S2048x5120 : Shape := ⟨2, ![2048, 5120]⟩
abbrev S2048x2048 : Shape := ⟨2, ![2048, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S2048x5120, .bf16⟩
  | .hbm, ⟨3, _⟩ => ⟨S2048x5120, .bf16⟩
  | .hbm, ⟨4, _⟩ => ⟨S2048x2048, .f32⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .f32⟩
  | .local _ .vmem, ⟨5, _⟩ => ⟨S1024x512, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DH1RefIdeal.lean ====
abbrev S2048x5120 : Shape := ⟨2, ![2048, 5120]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S2048x5120, .f32⟩
  | .hbm, ⟨2, _⟩ => ⟨S_, .f32⟩
  | .hbm, ⟨3, _⟩ => ⟨S2048x2048, .f32⟩
  | .hbm, ⟨4, _⟩ => ⟨S2048x5120, .f32⟩
  | .hbm, ⟨5, _⟩ => ⟨S2048x2048, .f32⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateUp.lean ====
abbrev S2048x2048 : Shape := ⟨2, ![2048, 2048]⟩
abbrev S2048x5632 : Shape := ⟨2, ![2048, 5632]⟩
abbrev S2048x512 : Shape := ⟨2, ![2048, 512]⟩
abbrev S256x2048 : Shape := ⟨2, ![256, 2048]⟩
abbrev S256x512 : Shape := ⟨2, ![256, 512]⟩

abbrev nBuf : Space → Nat
  | .hbm => 9
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x2048, .bf16⟩
  | .hbm, ⟨4, _⟩ => ⟨S2048x5632, .bf16⟩
  | .hbm, ⟨5, _⟩ => ⟨S2048x5632, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x5632, .bf16⟩
  | .hbm, ⟨6, _⟩ => ⟨S2048x5632, .bf16⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x5632, .bf16⟩
  | .hbm, ⟨3, _⟩ => ⟨S5632x2048, .bf16⟩
  | .hbm, ⟨4, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proj.lean ====
abbrev S2048x2048 : Shape := ⟨2, ![2048, 2048]⟩
abbrev S2048x5120 : Shape := ⟨2, ![2048, 5120]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S2048x5120, .bf16⟩
  | .hbm, ⟨4, _⟩ => ⟨S2048x5120, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S2048x5120 : Shape := ⟨2, ![2048, 5120]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x5120, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttnOut.lean ====
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DWGateTheirs.lean ====
abbrev S2 : Shape := ⟨1, ![2]⟩
abbrev S2048x2048 : Shape := ⟨2, ![2048, 2048]⟩
abbrev S2048x5632 : Shape := ⟨2, ![2048, 5632]⟩
abbrev S1024x5632 : Shape := ⟨2, ![1024, 5632]⟩
abbrev S2048x1024 : Shape := ⟨2, ![2048, 1024]⟩
abbrev S1 : Shape := ⟨1, ![1]⟩
abbrev S2048x512 : Shape := ⟨2, ![2048, 512]⟩
abbrev S1024x512 : Shape := ⟨2, ![1024, 512]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S1024x5632, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg0
  let c0_i32 : BitVec 32 := 0#32
  let c0_i32_1 : BitVec 32 := 0#32
  ![c0_i32.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWGateTheirsRefIdeal.lean ====
abbrev S2 : Shape := ⟨1, ![2]⟩
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S1 : Shape := ⟨1, ![1]⟩
abbrev S1024x5632 : Shape := ⟨2, ![1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x5632, .f32⟩
  | .hbm, ⟨3, _⟩ => ⟨S_, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S2048x5632, .f32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1024x5632, .f32⟩
  | .hbm, ⟨13, _⟩ => ⟨S1024x5632, .f32⟩
  | .hbm, ⟨14, _⟩ => ⟨S1024x5632, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DWGateMine.lean ====
abbrev S2 : Shape := ⟨1, ![2]⟩
abbrev S2048x2048 : Shape := ⟨2, ![2048, 2048]⟩
abbrev S2048x5632 : Shape := ⟨2, ![2048, 5632]⟩
abbrev S1024x5632 : Shape := ⟨2, ![1024, 5632]⟩
abbrev S2048x1024 : Shape := ⟨2, ![2048, 1024]⟩
abbrev S1 : Shape := ⟨1, ![1]⟩
abbrev S2048x512 : Shape := ⟨2, ![2048, 512]⟩
abbrev S1024x512 : Shape := ⟨2, ![1024, 512]⟩

abbrev nBuf : Space → Nat
  | .hbm => 7
  | .vmem => 9
  | .smem => 1
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S1024x5632, .f32⟩
  | .hbm, ⟨3, _⟩ => ⟨S2048x2048, .bf16⟩
  | .hbm, ⟨4, _⟩ => ⟨S2048x5632, .bf16⟩
  | .hbm, ⟨5, _⟩ => ⟨S1024x5632, .f32⟩
  | .hbm, ⟨6, _⟩ => ⟨S1024x5632, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DWGateMineRefIdeal.lean ====
abbrev S2 : Shape := ⟨1, ![2]⟩
abbrev S2048x2048 : Shape := ⟨2, ![2048, 2048]⟩
abbrev S2048x5632 : Shape := ⟨2, ![2048, 5632]⟩
abbrev S1024x5632 : Shape := ⟨2, ![1024, 5632]⟩
abbrev S_ : Shape := ⟨0, ![]⟩
abbrev S5632x2048 : Shape := ⟨2, ![5632, 2048]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x5632, .f32⟩
  | .hbm, ⟨3, _⟩ => ⟨S1024x5632, .f32⟩
  | .hbm, ⟨4, _⟩ => ⟨S_, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x5632, .f32⟩
  | .hbm, ⟨14, _⟩ => ⟨S1024x5632, .f32⟩
  | .hbm, ⟨15, _⟩ => ⟨S1024x5632, .f32⟩
  | .hbm, ⟨16, _⟩ => ⟨S1024x5632, .f32⟩
  | .hbm, ⟨17, _⟩ => ⟨S1024x5632, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== DWInTheirs.lean ====
abbrev S2 : Shape := ⟨1, ![2]⟩
abbrev S2048x2048 : Shape := ⟨2, ![2048, 2048]⟩
abbrev S2048x5120 : Shape := ⟨2, ![2048, 5120]⟩
abbrev S1024x5120 : Shape := ⟨2, ![1024, 5120]⟩
abbrev S2048x1024 : Shape := ⟨2, ![2048, 1024]⟩
abbrev S1 : Shape := ⟨1, ![1]⟩
abbrev S2048x512 : Shape := ⟨2, ![2048, 512]⟩
abbrev S1024x512 : Shape := ⟨2, ![1024, 512]⟩

abbrev nBuf : Space → Nat
  | .hbm => 5
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S2048x2048, .bf16⟩
  | .hbm, ⟨3, _⟩ => ⟨S2048x5120, .bf16⟩
  | .hbm, ⟨4, _⟩ => ⟨S1024x5120, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 10], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.subi c1_i32 v0
  let c1_i32_0 : BitVec 32 := 1#32
  let v2 : BitVec 32 := Scalar.muli v1 c1_i32_0
  let v3 : BitVec 32 := Scalar.addi v2 arg0
  let c0_i32 : BitVec 32 := 0#32
  let c0_i32_1 : BitVec 32 := 0#32
  ![c0_i32.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DWInTheirsRefIdeal.lean ====
abbrev S2 : Shape := ⟨1, ![2]⟩
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩
abbrev S1 : Shape := ⟨1, ![1]⟩
abbrev S1024x5120 : Shape := ⟨2, ![1024, 5120]⟩

abbrev nBuf : Space → Nat
  | .hbm => 15
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x5120, .f32⟩
  | .hbm, ⟨3, _⟩ => ⟨S_, .f32⟩
  | .hbm, ⟨4, _⟩ => ⟨S2048x5120, .f32⟩
  | .hbm, ⟨5, _⟩ => ⟨S2048x5120, .f32⟩
  | .hbm, ⟨6, _⟩ => ⟨S5120x2048, .f32⟩
  | .hbm, ⟨7, _⟩ => ⟨S2048x5120, .f32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1024x5120, .f32⟩
  | .hbm, ⟨13, _⟩ => ⟨S1024x5120, .f32⟩
  | .hbm, ⟨14, _⟩ => ⟨S1024x5120, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== DWInMine.lean ====
abbrev S2 : Shape := ⟨1, ![2]⟩
abbrev S2048x2048 : Shape := ⟨2, ![2048, 2048]⟩
abbrev S2048x5120 : Shape := ⟨2, ![2048, 5120]⟩
abbrev S1024x5120 : Shape := ⟨2, ![1024, 5120]⟩
abbrev S2048x1024 : Shape := ⟨2, ![2048, 1024]⟩
abbrev S1 : Shape := ⟨1, ![1]⟩
abbrev S2048x512 : Shape := ⟨2, ![2048, 512]⟩
abbrev S1024x512 : Shape := ⟨2, ![1024, 512]⟩

abbrev nBuf : Space → Nat
  | .hbm => 7
  | .vmem => 9
  | .smem => 1
  | _ => 0

abbrev bufTy : (tb : Table) → Fin (tcTables nBuf tb) → BufTy
  | .hbm, ⟨0, _⟩ => ⟨S2048x2048, .f32⟩
  | .hbm, ⟨1, _⟩ => ⟨S2048x5120, .f32⟩
  | .hbm, ⟨2, _⟩ => ⟨S1024x5120, .f32⟩
  | .hbm, ⟨3, _⟩ => ⟨S2048x2048, .bf16⟩
  | .hbm, ⟨4, _⟩ => ⟨S2048x5120, .bf16⟩
  | .hbm, ⟨5, _⟩ => ⟨S1024x5120, .f32⟩
  | .hbm, ⟨6, _⟩ => ⟨S1024x5120, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 10], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DWInMineRefIdeal.lean ====
abbrev S2 : Shape := ⟨1, ![2]⟩
abbrev S2048x2048 : Shape := ⟨2, ![2048, 2048]⟩
abbrev S2048x5120 : Shape := ⟨2, ![2048, 5120]⟩
abbrev S1024x5120 : Shape := ⟨2, ![1024, 5120]⟩
abbrev S_ : Shape := ⟨0, ![]⟩
abbrev S5120x2048 : Shape := ⟨2, ![5120, 2048]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .f32⟩
  | .hbm, ⟨2, _⟩ => ⟨S2048x5120, .f32⟩
  | .hbm, ⟨3, _⟩ => ⟨S1024x5120, .f32⟩
  | .hbm, ⟨4, _⟩ => ⟨S_, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x5120, .f32⟩
  | .hbm, ⟨14, _⟩ => ⟨S1024x5120, .f32⟩
  | .hbm, ⟨15, _⟩ => ⟨S1024x5120, .f32⟩
  | .hbm, ⟨16, _⟩ => ⟨S1024x5120, .f32⟩
  | .hbm, ⟨17, _⟩ => ⟨S1024x5120, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Norm1.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Norm1RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Norm2.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Norm2RefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Setup.lean ====
/- The memrefs the kernel body is passed at a grid point: the staging buffers of its windows and its scratch
   buffers, with the frame invariant restated over them. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 7, through which its contents are stated (`View.read_writes_of_cover`: the
    choice does not matter). -/
abbrev VO0_7 : View sig .tc .vmem S2048x128 .bf16 := (Memref.whole cc0_stg7_0 : Memref sig .tc .vmem S2048x128 .bf16).view
/-- One staging buffer of output window 8, through which its contents are stated (`View.read_writes_of_cover`: the
    choice does not matter). -/
abbrev VO0_8 : View sig .tc .vmem S2048x128 .bf16 := (Memref.whole cc0_stg8_0 : Memref sig .tc .vmem S2048x128 .bf16).view
/-- One staging buffer of output window 9, through which its contents are stated (`View.read_writes_of_cover`: the
    choice does not matter). -/
abbrev VO0_9 : View sig .tc .vmem S2048x128 .bf16 := (Memref.whole cc0_stg9_0 : Memref sig .tc .vmem S2048x128 .bf16).view
/-- One staging buffer of output window 10, through which its contents are stated (`View.read_writes_of_cover`: the
    choice does not matter). -/
abbrev VO0_10 : View sig .tc .vmem S1x128 .f32 := (Memref.whole cc0_stg10_0 : Memref sig .tc .vmem S1x128 .f32).view
/-- Each window's current staging memref at point `t`, spelled as the pipeline passes it (`bodyAt0`), and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2048x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S2048x128 .bf16 := Memref.whole cc0_scratch3
abbrev scM0_4 : Memref sig .tc .vmem S2048x128 .f32 := Memref.whole cc0_scratch4
abbrev scM0_5 : Memref sig .tc .vmem S2048x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Bwd

end
-- ==== Proof.Run.lean ====
/- The kernel body run once at a grid point: on whole staging buffers it leaves in each output the pieces named here.
   Its two counted loops make no trip, the block they would go over being the first one. -/
module

public import proofs.«01_k».proof.Proof.Setup

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1292000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) :
    Σ' (L7 : List (View.Piece (Elt F) S2048x128 .bf16)), Σ' (L8 : List (View.Piece (Elt F) S2048x128 .bf16)), Σ' (L9 : List (View.Piece (Elt F) S2048x128 .bf16)), Σ' (L10 : List (View.Piece (Elt F) S1x128 .f32)), Σ' (LT0 : List (View.Piece (Elt F) S2048x128 .bf16)), Σ' (LT1 : List (View.Piece (Elt F) S2048x128 .bf16)), Σ' (LT2 : List (View.Piece (Elt F) S2048x128 .bf16)), Σ' (LT3 : List (View.Piece (Elt F) S2048x128 .bf16)), Σ' (LT4 : List (View.Piece (Elt F) S2048x128 .f32)), { LT5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LT1) ∗ (∃ f, arg14.view.loc (c : Thread nD τ) ↦[arg14.view.set]{fullShare} arg14.view.writes (Elt F) f LT2) ∗ (∃ f, arg15.view.loc (c : Thread nD τ) ↦[arg15.view.set]{fullShare} arg15.view.writes (Elt F) f LT3) ∗ (∃ f, arg16.view.loc (c : Thread nD τ) ↦[arg16.view.set]{fullShare} arg16.view.writes (Elt F) f LT4) ∗ (∃ f, arg17.view.loc (c : Thread nD τ) ↦[arg17.view.set]{fullShare} arg17.view.writes (Elt F) f LT5)) -∗ K ⟨⟩))
          ⊢ wp frame (wpE (defs₀ (F := F)) Variants.none c none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, fun E K => ?run⟩
  case run =>
    simp only [cc0_sb_bwd_eq_skeleton]; unfold cc0_sb_bwd_skel
    simp only [k0_part28_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    have htr1 : k0_t1_loop.trips = 0 := Nat.le_zero.1 k0_t1_abs.2.1
    have htr2 : k0_t2_loop.trips = 0 := Nat.le_zero.1 k0_t2_abs.2.1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Bwd

end
-- ==== Proof.Dats.lean ====
/- The pipeline's proof data for the backward call: what each output window holds after a grid point, and the run of
   @main over it, from which the frame follows. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 7 tile its block (1 store of `S2048x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1 S2048x128.size (by sl_kernel_rfl) y

/-- What the run leaves in output 7's staging buffer: its pieces read back over junk. -/
def out0_A_7 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) : Vec F S2048x128 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).1)

/-- The run's pieces for output 8 tile its block (1 store of `S2048x128`, checked by the kernel's evaluation: Lib/Ring.lean `Piece.tiledL`, linear in the pieces, through a loop's `@[irreducible]` trip theorem too), so they cover it. -/
theorem cover0_A_8 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1 S2048x128.size (by sl_kernel_rfl) y

/-- What the run leaves in output 8's staging buffer: its pieces read back over junk. -/
def out0_A_8 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) : Vec F S2048x128 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.1)

/-- The run's pieces for output 9 tile its block (1 store of `S2048x128`, checked by the kernel's evaluation: Lib/Ring.lean `Piece.tiledL`, linear in the pieces, through a loop's `@[irreducible]` trip theorem too), so they cover it. -/
theorem cover0_A_9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.1 S2048x128.size (by sl_kernel_rfl) y

/-- What the run leaves in output 9's staging buffer: its pieces read back over junk. -/
def out0_A_9 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) : Vec F S2048x128 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.1)

/-- The run's pieces for output 10 tile its block (1 store of `S1x128`, checked by the kernel's evaluation: Lib/Ring.lean `Piece.tiledL`, linear in the pieces, through a loop's `@[irreducible]` trip theorem too), so they cover it. -/
theorem cover0_A_10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.1 S1x128.size (by sl_kernel_rfl) y

/-- What the run leaves in output 10's staging buffer: its pieces read back over junk. -/
def out0_A_10 (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole)
    (x0 : Vec F S2048x128 .f32) (x1 : Vec F S2048x128 .f32) (x2 : Vec F S2048x128 .f32) (x3 : Vec F S2048x128 .f32) (x4 : Vec F S2048x128 .f32) (x5 : Vec F S2048x128 .f32) (x6 : Vec F S1x128 .f32) : Vec F S1x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6).2.2.2.1)

/-! ## What the outputs hold after each point -/

/-- What the outputs' staging buffers hold after the body at point `t` (as a tuple, in window order): the run's contents at
    the point's memrefs and input blocks. -/
def outsAt0 (c : Dev nD) (t : Fin cfg0.N) : Vec F S2048x128 .bf16 × Vec F S2048x128 .bf16 × Vec F S2048x128 .bf16 × Vec F S1x128 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2.1
    | ⟨10, _⟩ => (outsAt0 m c t).2.2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2.1 := by dsimp only [dats]
theorem after0_10 (c : Dev nD) (t : Fin cfg0.N) : (dats m 0 c).after 10 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  unfold out0_A_7 out0_A_8 out0_A_9 out0_A_10; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, ⟨%e7, H7⟩, ⟨%e8, H8⟩, ⟨%e9, H9⟩, ⟨%e10, H10⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_A_10 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame at any float instance: the program runs, its arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Bwd

end
-- ==== Proof.Blocks.lean ====
/- Each result array block by block: every block is written back at one grid point, and no two points write into the
   same block, so a result read at an entry is what its point left there. -/
module

public import proofs.«01_k».proof.Proof.Dats
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)) := by
  simp only [flushed7, outsAt0]

/-- The index map sends distinct grid points to distinct block indices (decided over the 8 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2048x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)) := by
  simp only [flushed8, outsAt0]

/-- The index map sends distinct grid points to distinct block indices (decided over the 8 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2048x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t).2.2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)) := by
  simp only [flushed9, outsAt0]

/-- The index map sends distinct grid points to distinct block indices (decided over the 8 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2048x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 3), read through the window's block. -/
theorem flushed10 (c : Dev nD) (t : Fin cfg0.N) :
    (dats m 0 c).flushed 10 t = (cfg0.win 10).cut (grid0.coords t) ((outsAt0 m c t).2.2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — the kernel's one case, `Gen.outsAt0` by definition. -/
theorem flushed10_A (c : Dev nD) (t : Fin cfg0.N) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)) := by
  simp only [flushed10, outsAt0]

/-- The index map sends distinct grid points to distinct block indices (decided over the 8 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S1x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v33_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v33_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v33_2) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v33_3) = (dats m 0 c).arrAt 10 cfg0.N :=
  (h c).1 10

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v33_0) = (dats m 0 c).arrAt 7 cfg0.N
      ∧ r.2.mem ((c : Thread nD τ).loc main_v33_1) = (dats m 0 c).arrAt 8 cfg0.N
      ∧ r.2.mem ((c : Thread nD τ).loc main_v33_2) = (dats m 0 c).arrAt 9 cfg0.N
      ∧ r.2.mem ((c : Thread nD τ).loc main_v33_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post7 m r h c,
      post8 m r h c,
      post9 m r h c,
      post10 m r h c,
      kept_main_arg0 m r h c,
      kept_main_arg1 m r h c,
      kept_main_arg2 m r h c⟩)
    (run_main m ρ)

end Cert.KernelIdeal.Bwd

end
-- ==== Proof.Finite.lean ====
/- Where the precondition holds, every argument's entries are real numbers. -/
module

public import proofs.«01_k».proof.Pre_finite
public import Idealize.ShloMosaic.PureOps.Ideal.Laws
public import Idealize.ShloMosaic.Lib.WordCmp

@[expose] public section

noncomputable section

namespace Cert.Proof.Fin

open Idealize.ShloMosaic

theorem facts : Cert.Pre_finite.Facts where
  bcast_S_S2048x5120 := by decide
  bcast_S_S1x2048 := by decide
  bcast_S_S2048x2048 := by decide

/-- A value whose size is below infinity is a real number. -/
theorem real_of_lt {x : EReal} (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  have hlt : max x (-x) < ⊤ := by
    by_contra hn
    rw [decide_eq_false hn] at h
    exact absurd h (by decide)
  rw [max_lt_iff] at hlt
  refine (EReal.coe_toReal (ne_of_lt hlt.1) ?_).symm
  intro hb
  rw [hb] at hlt
  exact absurd hlt.2 (by simp)

end Cert.Proof.Fin

end
-- ==== Proof.Ops.lean ====
/- Arrays of extended reals that hold real numbers: `Rd2 v X` says that the rank-2 array `v` holds the real `X i j` at
   row `i`, column `j`. One lemma per operation of the programs says which reals the operation leaves. -/
module

public import Idealize.ShloMosaic.Lib.ValueIdx
public import Idealize.ShloMosaic.Lib.MatmulPlain
public import Idealize.ShloMosaic.Lib.Pipeline.Value
public import Idealize.ShloMosaic.PureOps.Ideal.Laws
public import Idealize.ShloMosaic.Lib.IdealHost
public import Idealize.ShloMosaic.Lib.WordCmp

@[expose] public section

noncomputable section

namespace Cert.Proof.Rd

open Idealize.ShloMosaic Idealize.ShloMosaic.ValueIdx Idealize.ShloMosaic.WordCmp
open scoped BigOperators

/-- A sum of reals is the sum of the extended reals they are. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_sum_fin {n : ℕ} (f : ℕ → ℝ) : (∑ i : Fin n, ((f i.val : ℝ) : EReal)) = ((∑ i ∈ Finset.range n, f i : ℝ) : EReal) := by
  rw [coe_sum, Finset.sum_range]

/-- The array holds the real `X i j` at row `i`, column `j`. -/
def Rd2 {a b : ℕ} (v : (⟨2, ![a, b]⟩ : Shape).Idx → EReal) (X : ℕ → ℕ → ℝ) : Prop :=
  ∀ (i : Fin a) (j : Fin b), v (ix2 i j) = ((X i.val j.val : ℝ) : EReal)

/-- A product that contracts the rows of both operands. -/
abbrev tn (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {a b : ℕ} {φ : FTy} {v w : (⟨2, ![a, b]⟩ : Shape).Idx → EReal} {X Y : ℕ → ℕ → ℝ}

theorem Rd2.congr (h : Rd2 v X) (e : ∀ i < a, ∀ j < b, X i j = Y i j) : Rd2 v Y := fun i j => by
  rw [h i j, e i.val i.isLt j.val j.isLt]

theorem Rd2.add {v w : FVec Ideal ⟨2, ![a, b]⟩ φ} (h : Rd2 v X) (h' : Rd2 w Y) : Rd2 (addf v w) (fun i j => X i j + Y i j) :=
  fun i j => by rw [addf_apply, h i j, h' i j, ← EReal.coe_add]

theorem Rd2.sub {v w : FVec Ideal ⟨2, ![a, b]⟩ φ} (h : Rd2 v X) (h' : Rd2 w Y) : Rd2 (subf v w) (fun i j => X i j - Y i j) :=
  fun i j => by rw [subf_apply, h i j, h' i j, ← EReal.coe_sub]

theorem Rd2.mul {v w : FVec Ideal ⟨2, ![a, b]⟩ φ} (h : Rd2 v X) (h' : Rd2 w Y) : Rd2 (mulf v w) (fun i j => X i j * Y i j) :=
  fun i j => by rw [mulf_apply, h i j, h' i j, ← EReal.coe_mul]

theorem Rd2.min {v w : FVec Ideal ⟨2, ![a, b]⟩ φ} (h : Rd2 v X) (h' : Rd2 w Y) : Rd2 (minimumf v w) (fun i j => Min.min (X i j) (Y i j)) :=
  fun i j => by
    rw [minimumf_apply, h i j, h' i j]
    exact (Monotone.map_min (fun _ _ h => EReal.coe_le_coe_iff.2 h)).symm

theorem Rd2.div {v w : FVec Ideal ⟨2, ![a, b]⟩ φ} (h : Rd2 v X) (h' : Rd2 w Y) (hY : ∀ i < a, ∀ j < b, Y i j ≠ 0) :
    Rd2 (divf v w) (fun i j => X i j / Y i j) := fun i j => by
  rw [divf_apply, h i j, h' i j, Ideal.div_coe (hY i.val i.isLt j.val j.isLt), ← EReal.coe_mul, mul_one_div]

theorem Rd2.abs {v : FVec Ideal ⟨2, ![a, b]⟩ φ} (h : Rd2 v X) : Rd2 (absf v) (fun i j => |X i j|) := fun i j => by
  show Max.max (v (ix2 i j)) (-(v (ix2 i j))) = _
  rw [h i j, ← EReal.coe_neg]
  show _ = ((|X i.val j.val| : ℝ) : EReal)
  rw [abs_eq_max_neg]
  exact (Monotone.map_max (fun _ _ h => EReal.coe_le_coe_iff.2 h)).symm

theorem Rd2.exp {v : FVec Ideal ⟨2, ![a, b]⟩ φ} (h : Rd2 v X) : Rd2 (Idealize.ShloMosaic.exp v) (fun i j => Real.exp (X i j)) := fun i j => by
  show Ideal.exp (v (ix2 i j)) = _
  rw [h i j]; rfl

theorem Rd2.log {v : FVec Ideal ⟨2, ![a, b]⟩ φ} (h : Rd2 v X) (hX : ∀ i < a, ∀ j < b, 0 < X i j) :
    Rd2 (Idealize.ShloMosaic.log v) (fun i j => Real.log (X i j)) := fun i j => by
  show Ideal.log (v (ix2 i j)) = _
  rw [h i j]
  exact if_neg (not_le.2 (hX i.val i.isLt j.val j.isLt))

theorem Rd2.rsqrt {v : FVec Ideal ⟨2, ![a, b]⟩ φ} (h : Rd2 v X) (hX : ∀ i < a, ∀ j < b, 0 < X i j) :
    Rd2 (Idealize.ShloMosaic.rsqrt v) (fun i j => (Real.sqrt (X i j))⁻¹) := fun i j => by
  show Ideal.rsqrt (v (ix2 i j)) = _
  rw [h i j]
  have := hX i.val i.isLt j.val j.isLt
  show (if X i j < 0 then (⊥ : EReal) else if X i j = 0 then ⊤ else ((Real.sqrt (X i j))⁻¹ : ℝ)) = _
  rw [if_neg (not_lt.2 this.le), if_neg this.ne']

theorem Rd2.trunc {ψ : FTy} {v : FVec Ideal ⟨2, ![a, b]⟩ φ} (h : Rd2 v X) (hb : ψ.bits < φ.bits) : Rd2 (truncf ψ v hb : FVec Ideal _ ψ) X := h

theorem Rd2.ext {ψ : FTy} {v : FVec Ideal ⟨2, ![a, b]⟩ φ} (h : Rd2 v X) (hb : φ.bits < ψ.bits) : Rd2 (extf ψ v hb : FVec Ideal _ ψ) X := h

theorem Rd2.cast {v : (⟨2, ![a, b]⟩ : Shape).Idx → EReal} (h : Rd2 v X) (hc : (⟨2, ![a, b]⟩ : Shape).ShapeCasts ⟨2, ![a, b]⟩) :
    Rd2 (shapeCast ⟨2, ![a, b]⟩ v hc) X := by rw [shapeCast_self]; exact h

/-- A constant everywhere. -/
theorem rd2_broadcast {x : EReal} {c : ℝ} (h : x = (c : EReal)) : Rd2 (broadcast (⟨2, ![a, b]⟩ : Shape) x) (fun _ _ => c) := fun _ _ => h

theorem rd2_constant {φ : FTy} {bits : BitVec φ.bits} {c : ℝ} (h : Ideal.ofBits φ bits = (c : EReal)) :
    Rd2 (constant (F := Ideal) (⟨2, ![a, b]⟩ : Shape) φ bits) (fun _ _ => c) := fun _ _ => h

/-! ## Products -/

theorem Rd2.nt {M K N : ℕ} {φ₁ φ₂ : FTy} {l : FVec Ideal ⟨2, ![M, K]⟩ φ₁} {r : FVec Ideal ⟨2, ![N, K]⟩ φ₂} {c : FVec Ideal ⟨2, ![M, N]⟩ .f32}
    {X Y Z : ℕ → ℕ → ℝ} (hl : Rd2 l X) (hr : Rd2 r Y) (hc : Rd2 c Z) (prec : Option ContractPrecision) :
    Rd2 (matmul (DotDims.transposedRhs M K N) prec l r c) (fun i j => Z i j + ∑ k ∈ Finset.range K, X i k * Y j k) := fun i j => by
  refine (Ideal.matmul_transposedRhs_apply _ _ _ _ _ _).trans ?_
  rw [hc i j, EReal.coe_add, ← coe_sum_fin (fun k => X i k * Y j k)]
  exact congrArg _ (Finset.sum_congr rfl fun k _ => by rw [hl i k, hr j k, ← EReal.coe_mul])

theorem Rd2.nn {M K N : ℕ} {φ₁ φ₂ : FTy} {l : FVec Ideal ⟨2, ![M, K]⟩ φ₁} {r : FVec Ideal ⟨2, ![K, N]⟩ φ₂} {c : FVec Ideal ⟨2, ![M, N]⟩ .f32}
    {X Y Z : ℕ → ℕ → ℝ} (hl : Rd2 l X) (hr : Rd2 r Y) (hc : Rd2 c Z) (prec : Option ContractPrecision) :
    Rd2 (matmul (DotDims.plain M K N) prec l r c) (fun i j => Z i j + ∑ k ∈ Finset.range K, X i k * Y k j) := fun i j => by
  refine (Ideal.matmul_plain_apply _ _ _ _ _ _).trans ?_
  rw [hc i j, EReal.coe_add, ← coe_sum_fin (fun k => X i k * Y k j)]
  exact congrArg _ (Finset.sum_congr rfl fun k _ => by rw [hl i k, hr k j, ← EReal.coe_mul])

theorem tn_apply {K M N : ℕ} (wf : DotDims.WF ⟨2, ![K, M]⟩ ⟨2, ![K, N]⟩ ⟨2, ![M, N]⟩ [0] [0] [1] [1] [] []) {φ₁ φ₂ : FTy}
    (prec : Option ContractPrecision) (l : FVec Ideal ⟨2, ![K, M]⟩ φ₁) (r : FVec Ideal ⟨2, ![K, N]⟩ φ₂) (c : FVec Ideal ⟨2, ![M, N]⟩ .f32)
    (i : Fin M) (j : Fin N) :
    FloatOps.matmul (tn K M N wf) prec l r c (ix2 i j) = c (ix2 i j) + ∑ k : Fin K, l (ix2 k i) * r (ix2 k j) := by
  have hr : (tn K M N wf).contr.rank = 1 := rfl
  have hs : (tn K M N wf).contr.size ⟨0, by rw [hr]; exact Nat.one_pos⟩ = K := rfl
  rw [Ideal.matmul_apply, ← Equiv.sum_comp (contrEquiv1 _ K hr hs).symm]
  refine congrArg (c (ix2 i j) + ·) (Finset.sum_congr rfl fun k _ => ?_)
  have hk := contrEquiv1_symm_val _ K hr hs k
  have el : (tn K M N wf).lhsIdx (ix2 i j) ((contrEquiv1 _ K hr hs).symm k) = ix2 k i := by
    funext x; apply Fin.ext
    match x with
    | ⟨0, _⟩ => exact hk
    | ⟨1, _⟩ => rfl
  have er : (tn K M N wf).rhsIdx (ix2 i j) ((contrEquiv1 _ K hr hs).symm k) = ix2 k j := by
    funext x; apply Fin.ext
    match x with
    | ⟨0, _⟩ => exact hk
    | ⟨1, _⟩ => rfl
  rw [el, er]

theorem Rd2.tn {K M N : ℕ} (wf : DotDims.WF ⟨2, ![K, M]⟩ ⟨2, ![K, N]⟩ ⟨2, ![M, N]⟩ [0] [0] [1] [1] [] []) {φ₁ φ₂ : FTy}
    {l : FVec Ideal ⟨2, ![K, M]⟩ φ₁} {r : FVec Ideal ⟨2, ![K, N]⟩ φ₂} {c : FVec Ideal ⟨2, ![M, N]⟩ .f32}
    {X Y Z : ℕ → ℕ → ℝ} (hl : Rd2 l X) (hr : Rd2 r Y) (hc : Rd2 c Z) (prec : Option ContractPrecision) :
    Rd2 (matmul (Rd.tn K M N wf) prec l r c) (fun i j => Z i j + ∑ k ∈ Finset.range K, X k i * Y k j) := fun i j => by
  refine (tn_apply wf _ _ _ _ _ _).trans ?_
  rw [hc i j, EReal.coe_add, ← coe_sum_fin (fun k => X k i * Y k j)]
  exact congrArg _ (Finset.sum_congr rfl fun k _ => by rw [hl k i, hr k j, ← EReal.coe_mul])

/-! ## Layout -/

/-- A column broadcast over the columns. -/
theorem Rd2.col {n m : ℕ} {v : (⟨2, ![n, 1]⟩ : Shape).Idx → EReal} {X : ℕ → ℕ → ℝ} (h : Rd2 v X) (hn : n ≠ 1)
    (hb : (⟨2, ![n, 1]⟩ : Shape).Broadcasts ⟨2, ![n, m]⟩) : Rd2 (broadcastTo ⟨2, ![n, m]⟩ v hb) (fun i _ => X i 0) := fun i j => by
  rw [broadcastTo_apply v hb (ix2 i j) (ix2 i 0), h i 0]
  · rfl
  · intro x
    match x with
    | ⟨0, _⟩ => exact (if_neg hn).symm
    | ⟨1, _⟩ => rfl

/-- A row broadcast over the rows. -/
theorem Rd2.row {n m : ℕ} {v : (⟨2, ![1, m]⟩ : Shape).Idx → EReal} {X : ℕ → ℕ → ℝ} (h : Rd2 v X) (hm : m ≠ 1)
    (hb : (⟨2, ![1, m]⟩ : Shape).Broadcasts ⟨2, ![n, m]⟩) : Rd2 (broadcastTo ⟨2, ![n, m]⟩ v hb) (fun _ j => X 0 j) := fun i j => by
  rw [broadcastTo_apply v hb (ix2 i j) (ix2 0 j), h 0 j]
  · rfl
  · intro x
    match x with
    | ⟨0, _⟩ => rfl
    | ⟨1, _⟩ => exact (if_neg hm).symm

/-- A slice of rows and columns. -/
theorem Rd2.slice {n m n' m' : ℕ} {v : (⟨2, ![n, m]⟩ : Shape).Idx → EReal} {X : ℕ → ℕ → ℝ} (h : Rd2 v X) (k l : ℕ)
    (hs : (⟨2, ![n, m]⟩ : Shape).Slices ![k, l] ⟨2, ![n', m']⟩) (hk : k + n' ≤ n) (hl : l + m' ≤ m) :
    Rd2 (extractStridedSlice ⟨2, ![n', m']⟩ ![k, l] v hs) (fun i j => X (k + i) (l + j)) := fun i j => by
  rw [extractStridedSlice_apply ![k, l] v hs (ix2 i j) (ix2 ⟨k + i.val, by omega⟩ ⟨l + j.val, by omega⟩)]
  · exact h _ _
  · intro x
    match x with
    | ⟨0, _⟩ => rfl
    | ⟨1, _⟩ => rfl

/-- Two arrays one above the other. -/
theorem Rd2.rows {n n₁ n₂ m : ℕ} {v₁ : (⟨2, ![n₁, m]⟩ : Shape).Idx → EReal} {v₂ : (⟨2, ![n₂, m]⟩ : Shape).Idx → EReal} {X : ℕ → ℕ → ℝ}
    (h₁ : Rd2 v₁ X) (h₂ : Rd2 v₂ (fun i j => X (n₁ + i) j)) (hn : n = n₁ + n₂)
    (hc : Shape.Concatenates [⟨2, ![n₁, m]⟩, ⟨2, ![n₂, m]⟩] ⟨2, ![n, m]⟩ 0) :
    Rd2 (concatenate ⟨2, ![n, m]⟩ 0 [⟨⟨2, ![n₁, m]⟩, v₁⟩, ⟨⟨2, ![n₂, m]⟩, v₂⟩] hc) X := fun i j => by
  by_cases hi : i.val < n₁
  · rw [concatenate_pair_apply_left (t := ⟨2, ![n, m]⟩) (s₁ := ⟨2, ![n₁, m]⟩) (s₂ := ⟨2, ![n₂, m]⟩) 0 v₁ v₂ hc (ix2 i j) rfl (ix2 ⟨i.val, hi⟩ j)]
    · exact h₁ _ _
    · intro x
      match x with
      | ⟨0, _⟩ => rfl
      | ⟨1, _⟩ => rfl
  · rw [concatenate_pair_apply_right (t := ⟨2, ![n, m]⟩) (s₁ := ⟨2, ![n₁, m]⟩) (s₂ := ⟨2, ![n₂, m]⟩) 0 v₁ v₂ hc (ix2 i j) rfl rfl (ix2 ⟨i.val - n₁, by omega⟩ j)]
    · rw [h₂]; show ((X (n₁ + (i.val - n₁)) j.val : ℝ) : EReal) = _; rw [Nat.add_sub_cancel' (by omega)]
    · intro x hx
      match x with
      | ⟨0, _⟩ => exact absurd rfl hx
      | ⟨1, _⟩ => rfl
    · show i.val - n₁ + n₁ = i.val; omega

/-- The sum along each row, as a column. -/
theorem Rd2.rowSum {n m : ℕ} {v : FVec Ideal ⟨2, ![n, m]⟩ .f32} {X : ℕ → ℕ → ℝ} (h : Rd2 v X) (acc : BitVec 32)
    (hr : (⟨2, ![n, m]⟩ : Shape).Reduces [1] ⟨1, ![n]⟩) (hφ : FKind.Formats .f32) (hacc : acc = FKind.add.neutral .f32 hφ)
    (hc : (⟨1, ![n]⟩ : Shape).ShapeCasts ⟨2, ![n, 1]⟩) :
    Rd2 (shapeCast ⟨2, ![n, 1]⟩ (multiReduction .add [1] ⟨1, ![n]⟩ v acc hr hφ hacc) hc) (fun i _ => ∑ k ∈ Finset.range m, X i k) := fun i j => by
  rw [shapeCast_apply _ hc (ix2 i j) (ix1 i), Ideal.multiReduction_add_single, ← coe_sum_fin (fun k => X i k)]
  · refine Finset.sum_congr rfl fun k _ => ?_
    rw [← h i k]
    refine congrArg v ?_
    funext x; apply Fin.ext
    match x with
    | ⟨0, _⟩ => rfl
    | ⟨1, _⟩ => rfl
  · rw [Shape.rowMajor_val_one, Shape.rowMajor_val_two]
    have hj : (j : ℕ) = 0 := by have := j.isLt; omega
    show i.val = i.val * 1 + j.val
    omega

/-- The sum along each column, as a row. -/
theorem Rd2.colSum {n m : ℕ} {v : FVec Ideal ⟨2, ![n, m]⟩ .f32} {X : ℕ → ℕ → ℝ} (h : Rd2 v X) (acc : BitVec 32)
    (hr : (⟨2, ![n, m]⟩ : Shape).Reduces [0] ⟨1, ![m]⟩) (hφ : FKind.Formats .f32) (hacc : acc = FKind.add.neutral .f32 hφ)
    (hc : (⟨1, ![m]⟩ : Shape).ShapeCasts ⟨2, ![1, m]⟩) :
    Rd2 (shapeCast ⟨2, ![1, m]⟩ (multiReduction .add [0] ⟨1, ![m]⟩ v acc hr hφ hacc) hc) (fun _ j => ∑ k ∈ Finset.range n, X k j) := fun i j => by
  rw [shapeCast_apply _ hc (ix2 i j) (ix1 j), Ideal.multiReduction_add_single, ← coe_sum_fin (fun k => X k j)]
  · refine Finset.sum_congr rfl fun k _ => ?_
    rw [← h k j]
    refine congrArg v ?_
    funext x; apply Fin.ext
    match x with
    | ⟨0, _⟩ => rfl
    | ⟨1, _⟩ => rfl
  · rw [Shape.rowMajor_val_one, Shape.rowMajor_val_two]
    have hi : (i : ℕ) = 0 := by have := i.isLt; omega
    show j.val = i.val * m + j.val
    rw [hi]; omega

/-! ## Constants and masks -/

/-- The real a binary32 word with a finite exponent denotes. -/
def val32 (w : BitVec 32) : ℝ := (Ideal.ofBits .f32 w).toReal

theorem ofBits_val32 (w : BitVec 32) (h : (w.extractLsb' 23 8).toNat ≠ 255) : Ideal.ofBits .f32 w = ((val32 w : ℝ) : EReal) := by
  have key : ∃ r : ℝ, Ideal.ofBits .f32 w = (r : EReal) := by
    show ∃ r : ℝ, Ideal.ieee 8 23 w = (r : EReal)
    unfold Ideal.ieee
    dsimp only
    rw [if_neg (by simpa using h)]
    split
    · exact ⟨_, rfl⟩
    · exact ⟨_, rfl⟩
  obtain ⟨r, hr⟩ := key
  rw [val32, hr, EReal.toReal_coe]

theorem rd2_word {a b : ℕ} (w : BitVec 32) (h : (w.extractLsb' 23 8).toNat ≠ 255) :
    Rd2 (broadcast (⟨2, ![a, b]⟩ : Shape) (Scalar.ofBits (F := Ideal) .f32 w)) (fun _ _ => val32 w) := rd2_broadcast (ofBits_val32 w h)

theorem rd2_zero {a b : ℕ} : Rd2 (broadcast (⟨2, ![a, b]⟩ : Shape) (Scalar.ofBits (F := Ideal) .f32 0x00000000#32)) (fun _ _ => 0) :=
  rd2_broadcast (Ideal.ofBits_zero_f32.trans EReal.coe_zero.symm)

theorem rd2_zero' {a b : ℕ} : Rd2 (constant (F := Ideal) (⟨2, ![a, b]⟩ : Shape) .f32 0x00000000#32) (fun _ _ => 0) :=
  rd2_constant (Ideal.ofBits_zero_f32.trans EReal.coe_zero.symm)

theorem rd2_one {a b : ℕ} : Rd2 (broadcast (⟨2, ![a, b]⟩ : Shape) (Scalar.ofBits (F := Ideal) .f32 0x3F800000#32)) (fun _ _ => 1) :=
  rd2_broadcast (Ideal.ofBits_one_f32.trans EReal.coe_one.symm)

/-- The array of words holds 1 exactly where `p` holds. -/
def Bd2 {a b : ℕ} (v : IVec ⟨2, ![a, b]⟩ 1) (p : ℕ → ℕ → Prop) [∀ i j, Decidable (p i j)] : Prop :=
  ∀ (i : Fin a) (j : Fin b), v (ix2 i j) = BitVec.ofBool (decide (p i.val j.val))

theorem Rd2.sel {a b : ℕ} {p : ℕ → ℕ → Prop} [∀ i j, Decidable (p i j)] {c : IVec ⟨2, ![a, b]⟩ 1} {v w : (⟨2, ![a, b]⟩ : Shape).Idx → EReal}
    {X Y : ℕ → ℕ → ℝ} (h : Rd2 v X) (hc : Bd2 c p) (h' : Rd2 w Y) : Rd2 (select c v w) (fun i j => if p i j then X i j else Y i j) := fun i j => by
  rw [select_apply, hc i j, select_ofBool, h i j, h' i j]
  by_cases hp : p i.val j.val <;> simp [hp]

/-- The mask of the strictly earlier columns. -/
theorem bd2_strict {a b : ℕ} (ha : a < 2 ^ 31) (hb : b < 2 ^ 31) (h0 : (⟨2, ![a, b]⟩ : Shape).Iotas .tc 32 [0])
    (h1 : (⟨2, ![a, b]⟩ : Shape).Iotas .tc 32 [1]) :
    Bd2 (cmpi .slt (addi (iota .tc ⟨2, ![a, b]⟩ 32 [1] h1) (broadcast ⟨2, ![a, b]⟩ 0#32)) (iota .tc ⟨2, ![a, b]⟩ 32 [0] h0)) (fun i j => j < i) := fun i j => by
  show IntOp.cmpi .slt (iota .tc ⟨2, ![a, b]⟩ 32 [1] h1 (ix2 i j) + 0#32) (iota .tc ⟨2, ![a, b]⟩ 32 [0] h0 (ix2 i j)) = _
  rw [iota_single_apply, iota_single_apply, BitVec.add_zero]
  exact cmpi_slt_ofNat (by have := j.isLt; show j.val < 2 ^ 31; omega) (by have := i.isLt; show i.val < 2 ^ 31; omega)

theorem bd2_upto {a b : ℕ} (ha : a < 2 ^ 31) (hb : b < 2 ^ 31) (h0 : (⟨2, ![a, b]⟩ : Shape).Iotas .tc 32 [0])
    (h1 : (⟨2, ![a, b]⟩ : Shape).Iotas .tc 32 [1]) :
    Bd2 (cmpi .sle (iota .tc ⟨2, ![a, b]⟩ 32 [0] h0) (iota .tc ⟨2, ![a, b]⟩ 32 [1] h1)) (fun i j => i ≤ j) := fun i j => by
  show IntOp.cmpi .sle (iota .tc ⟨2, ![a, b]⟩ 32 [0] h0 (ix2 i j)) (iota .tc ⟨2, ![a, b]⟩ 32 [1] h1 (ix2 i j)) = _
  rw [iota_single_apply, iota_single_apply]
  exact cmpi_sle_ofNat (by have := i.isLt; show i.val < 2 ^ 31; omega) (by have := j.isLt; show j.val < 2 ^ 31; omega)

theorem bd2_before {a b : ℕ} (ha : a < 2 ^ 31) (hb : b < 2 ^ 31) (h0 : (⟨2, ![a, b]⟩ : Shape).Iotas .tc 32 [0])
    (h1 : (⟨2, ![a, b]⟩ : Shape).Iotas .tc 32 [1]) :
    Bd2 (cmpi .slt (iota .tc ⟨2, ![a, b]⟩ 32 [0] h0) (iota .tc ⟨2, ![a, b]⟩ 32 [1] h1)) (fun i j => i < j) := fun i j => by
  show IntOp.cmpi .slt (iota .tc ⟨2, ![a, b]⟩ 32 [0] h0 (ix2 i j)) (iota .tc ⟨2, ![a, b]⟩ 32 [1] h1 (ix2 i j)) = _
  rw [iota_single_apply, iota_single_apply]
  exact cmpi_slt_ofNat (by have := i.isLt; show i.val < 2 ^ 31; omega) (by have := j.isLt; show j.val < 2 ^ 31; omega)

end Cert.Proof.Rd

end
-- ==== Proof.Model.lean ====
/- The gradient of one head's stick-breaking attention over the reals, row by row: the weight of key `s` for query `t` is
   `exp (logβ t s + Σ_{s < j < t} log (1 - β t j))`, and zero unless `s < t`. -/
module

public import Idealize.ShloMosaic.Lib.ValueIdx
public import Mathlib.Analysis.SpecialFunctions.Log.Basic

@[expose] public section

noncomputable section

namespace Cert.Proof.Model

open scoped BigOperators

/-- `log (1 + exp (-|x|))`. -/
def sp (x : ℝ) : ℝ := Real.log (1 + Real.exp (-|x|))

/-- The logarithm of the logistic function. -/
def ls (x : ℝ) : ℝ := min x 0 - sp x

/-- The logarithm of one minus the logistic function. -/
def l1 (x : ℝ) : ℝ := min (-x) 0 - sp x

variable (q k v g : ℕ → ℕ → ℝ) (sc : ℝ) (L : ℕ → ℝ)

/-- The logit. -/
def z (t s : ℕ) : ℝ := (∑ e ∈ Finset.range 128, q t e * k s e) * sc

/-- The masked `log (1 - β)`. -/
def m (t s : ℕ) : ℝ := if s < t then l1 (z q k sc t s) else 0

/-- The weight, from the row's whole sum `L` of `m` and the sum of `m` up to the key. -/
def a (t s : ℕ) : ℝ :=
  if s < t then Real.exp (ls (z q k sc t s) + (L t - ∑ j ∈ Finset.range (s + 1), m q k sc t j)) else 0

/-- The gradient of the weight's logarithm. -/
def dl (t s : ℕ) : ℝ := (∑ e ∈ Finset.range 128, g t e * v s e) * a q k sc L t s

/-- The gradient of the logit, times the scale. -/
def dz (t s : ℕ) : ℝ :=
  (if s < t then dl q k v g sc L t s * (1 - Real.exp (ls (z q k sc t s)))
      - Real.exp (ls (z q k sc t s)) * ∑ j ∈ Finset.range s, dl q k v g sc L t j else 0) * sc

def dq (n : ℕ) (t e : ℕ) : ℝ := ∑ s ∈ Finset.range n, dz q k v g sc L t s * k s e
def dk (n : ℕ) (s e : ℕ) : ℝ := ∑ t ∈ Finset.range n, dz q k v g sc L t s * q t e
def dv (n : ℕ) (s e : ℕ) : ℝ := ∑ t ∈ Finset.range n, a q k sc L t s * g t e

variable {q k v g sc L}

theorem m_of_le {t s : ℕ} (h : t ≤ s) : m q k sc t s = 0 := if_neg (not_lt.2 h)
theorem a_of_le {t s : ℕ} (h : t ≤ s) : a q k sc L t s = 0 := if_neg (not_lt.2 h)
theorem dl_of_le {t s : ℕ} (h : t ≤ s) : dl q k v g sc L t s = 0 := by rw [dl, a_of_le h, mul_zero]
theorem dz_of_le {t s : ℕ} (h : t ≤ s) : dz q k v g sc L t s = 0 := by rw [dz, if_neg (not_lt.2 h), zero_mul]

/-- A row's sum stops growing at the diagonal. -/
theorem sum_stop {f : ℕ → ℝ} {t : ℕ} (hf : ∀ s, t ≤ s → f s = 0) (n k : ℕ) (h : t ≤ n) :
    ∑ s ∈ Finset.range (n + k), f s = ∑ s ∈ Finset.range n, f s := by
  rw [Finset.sum_range_add, Finset.sum_eq_zero (s := Finset.range k) (fun x _ => hf _ (by omega)), add_zero]

/-- A column's sum starts past the diagonal. -/
theorem sum_start {f : ℕ → ℝ} {s : ℕ} (hf : ∀ t, t ≤ s → f t = 0) (n k : ℕ) (h : n ≤ s + 1) :
    ∑ t ∈ Finset.range (n + k), f t = ∑ i ∈ Finset.range k, f (n + i) := by
  rw [Finset.sum_range_add, Finset.sum_eq_zero (fun x hx => hf _ (by have := Finset.mem_range.1 hx; omega)), zero_add]

/-- A product with the columns up to `j`. -/
theorem sum_upto {f : ℕ → ℝ} {n j : ℕ} (h : j < n) :
    ∑ k ∈ Finset.range n, f k * (if k ≤ j then 1 else 0) = ∑ k ∈ Finset.range (j + 1), f k := by
  have e : n = (j + 1) + (n - (j + 1)) := by omega
  rw [e, Finset.sum_range_add]
  have h0 : ∑ x ∈ Finset.range (n - (j + 1)), f (j + 1 + x) * (if j + 1 + x ≤ j then (1 : ℝ) else 0) = 0 :=
    Finset.sum_eq_zero fun x _ => by rw [if_neg (by omega), mul_zero]
  rw [h0, add_zero]
  exact Finset.sum_congr rfl fun x hx => by rw [if_pos (by have := Finset.mem_range.1 hx; omega), mul_one]

theorem sum_before {f : ℕ → ℝ} {n j : ℕ} (h : j < n) :
    ∑ k ∈ Finset.range n, f k * (if k < j then 1 else 0) = ∑ k ∈ Finset.range j, f k := by
  have e : n = j + (n - j) := by omega
  rw [e, Finset.sum_range_add]
  have h0 : ∑ x ∈ Finset.range (n - j), f (j + x) * (if j + x < j then (1 : ℝ) else 0) = 0 :=
    Finset.sum_eq_zero fun x _ => by rw [if_neg (by omega), mul_zero]
  rw [h0, add_zero]
  exact Finset.sum_congr rfl fun x hx => by rw [if_pos (by have := Finset.mem_range.1 hx; omega), mul_one]

end Cert.Proof.Model

end
-- ==== Proof.Block.lean ====
/- What the body does with one block of 256 keys, at any number of query rows: the operations as functions of the block's
   operands, and the reals they leave. -/
module

public import proofs.«01_k».proof.Proof.Ops
public import proofs.«01_k».proof.Proof.Model

@[expose] public section

noncomputable section

namespace Cert.Proof.Block

open Idealize.ShloMosaic Idealize.ShloMosaic.ValueIdx Cert.Proof.Rd
open scoped BigOperators

/-- The side conditions of a block's operations at `n` rows. -/
structure Dims (n : ℕ) : Prop where
  bc : (⟨2, ![n, 1]⟩ : Shape).Broadcasts ⟨2, ![n, 256]⟩
  rd : (⟨2, ![n, 256]⟩ : Shape).Reduces [1] ⟨1, ![n]⟩
  cs : (⟨1, ![n]⟩ : Shape).ShapeCasts ⟨2, ![n, 1]⟩
  i0 : (⟨2, ![n, 256]⟩ : Shape).Iotas .tc 32 [0]
  i1 : (⟨2, ![n, 256]⟩ : Shape).Iotas .tc 32 [1]
  wf : DotDims.WF ⟨2, ![n, 256]⟩ ⟨2, ![n, 128]⟩ ⟨2, ![256, 128]⟩ [0] [0] [1] [1] [] []
  c2 : (⟨2, ![256, 128]⟩ : Shape).ShapeCasts ⟨2, ![256, 128]⟩
  bb : FTy.bits .bf16 < FTy.bits .f32
  ne : n ≠ 1
  lt : n < 2 ^ 31

/-- The side conditions of the row slices at `k` skipped rows of 2048. -/
structure Skip (k n : ℕ) : Prop where
  eq : 2048 = k + n
  sQ : (⟨2, ![2048, 128]⟩ : Shape).Slices ![k, 0] ⟨2, ![n, 128]⟩
  s1 : (⟨2, ![2048, 1]⟩ : Shape).Slices ![k, 0] ⟨2, ![n, 1]⟩
  tQ : (⟨2, ![2048, 128]⟩ : Shape).Slices ![0, 0] ⟨2, ![k, 128]⟩
  t1 : (⟨2, ![2048, 1]⟩ : Shape).Slices ![0, 0] ⟨2, ![k, 1]⟩
  cQ : Shape.Concatenates [⟨2, ![k, 128]⟩, ⟨2, ![n, 128]⟩] ⟨2, ![2048, 128]⟩ 0
  c1 : Shape.Concatenates [⟨2, ![k, 1]⟩, ⟨2, ![n, 1]⟩] ⟨2, ![2048, 1]⟩ 0

section Fun
variable {F : FTy → Type} [FloatOps F] {n : ℕ}

abbrev M (F : FTy → Type) (a b : ℕ) (φ : FTy) : Type := FVec F ⟨2, ![a, b]⟩ φ

def zf (q : M F n 128 .bf16) (k : M F 256 128 .bf16) : M F n 256 .f32 :=
  mulf (matmul (DotDims.transposedRhs n 128 256) none q k (constant _ .f32 0x00000000#32)) (broadcast _ (Scalar.ofBits .f32 0x3DB504F3#32))

def spf (z : M F n 256 .f32) : M F n 256 .f32 :=
  log (addf (broadcast _ (Scalar.ofBits .f32 0x3F800000#32)) (exp (subf (broadcast _ (Scalar.ofBits .f32 0x00000000#32)) (absf z))))

def lbf (z : M F n 256 .f32) : M F n 256 .f32 := subf (minimumf z (broadcast _ (Scalar.ofBits .f32 0x00000000#32))) (spf z)

def maskf (D : Dims n) : IVec ⟨2, ![n, 256]⟩ 1 :=
  cmpi .slt (addi (iota .tc ⟨2, ![n, 256]⟩ 32 [1] D.i1) (broadcast ⟨2, ![n, 256]⟩ 0#32)) (iota .tc ⟨2, ![n, 256]⟩ 32 [0] D.i0)

def mf (D : Dims n) (z : M F n 256 .f32) : M F n 256 .f32 :=
  select (maskf D) (subf (minimumf (subf (broadcast _ (Scalar.ofBits .f32 0x00000000#32)) z) (broadcast _ (Scalar.ofBits .f32 0x00000000#32))) (spf z))
    (broadcast _ (Scalar.ofBits .f32 0x00000000#32))

def trif (D : Dims n) (x : M F n 256 .f32) (u : M F 256 256 .bf16) : M F n 256 .f32 :=
  addf (matmul (DotDims.plain n 256 256) none (truncf .bf16 x D.bb) u (constant _ .f32 0x00000000#32))
    (matmul (DotDims.plain n 256 256) none (truncf .bf16 (subf x (extf .f32 (truncf .bf16 x D.bb) D.bb)) D.bb) u (constant _ .f32 0x00000000#32))

def af (D : Dims n) (u : M F 256 256 .bf16) (q : M F n 128 .bf16) (k : M F 256 128 .bf16) (l c : M F n 1 .f32) : M F n 256 .f32 :=
  select (maskf D) (exp (addf (lbf (zf q k)) (subf (broadcastTo _ l D.bc) (addf (broadcastTo _ c D.bc) (trif D (mf D (zf q k)) u)))))
    (broadcast _ (Scalar.ofBits .f32 0x00000000#32))

def dlf (D : Dims n) (u : M F 256 256 .bf16) (q g : M F n 128 .bf16) (k v : M F 256 128 .bf16) (l c : M F n 1 .f32) : M F n 256 .f32 :=
  mulf (matmul (DotDims.transposedRhs n 128 256) none g v (constant _ .f32 0x00000000#32)) (af D u q k l c)

def dzf (D : Dims n) (u w : M F 256 256 .bf16) (q g : M F n 128 .bf16) (k v : M F 256 128 .bf16) (l c d : M F n 1 .f32) : M F n 256 .bf16 :=
  truncf .bf16 (mulf (select (maskf D)
    (subf (mulf (dlf D u q g k v l c) (subf (broadcast _ (Scalar.ofBits .f32 0x3F800000#32)) (exp (lbf (zf q k)))))
      (mulf (exp (lbf (zf q k))) (addf (broadcastTo _ d D.bc)
        (matmul (DotDims.plain n 256 256) none (truncf .bf16 (dlf D u q g k v l c) D.bb) w (constant _ .f32 0x00000000#32)))))
    (broadcast _ (Scalar.ofBits .f32 0x00000000#32))) (broadcast _ (Scalar.ofBits .f32 0x3DB504F3#32))) D.bb

/-- A running column sum's next value. -/
def colf (D : Dims n) (c : M F n 1 .f32) (x : M F n 256 .f32) : M F n 1 .f32 :=
  addf c (shapeCast ⟨2, ![n, 1]⟩ (multiReduction .add [1] ⟨1, ![n]⟩ x 0x00000000#32 D.rd (.inl rfl) rfl) D.cs)

def dqf (r : M F n 128 .f32) (x : M F n 256 .bf16) (k : M F 256 128 .bf16) : M F n 128 .f32 :=
  addf r (matmul (DotDims.plain n 256 128) none x k (constant _ .f32 0x00000000#32))

def tnf (D : Dims n) (r : M F 256 128 .f32) (x : M F n 256 .bf16) (q : M F n 128 .bf16) : M F 256 128 .f32 :=
  shapeCast ⟨2, ![256, 128]⟩ (addf r (matmul (tn n 256 128 D.wf) none x q (constant _ .f32 0x00000000#32))) D.c2

variable {k : ℕ}

def cut (S : Skip k n) {φ : FTy} (q : M F 2048 128 φ) : M F n 128 φ := extractStridedSlice ⟨2, ![n, 128]⟩ ![k, 0] q S.sQ
def cut1 (S : Skip k n) (c : M F 2048 1 .f32) : M F n 1 .f32 := extractStridedSlice ⟨2, ![n, 1]⟩ ![k, 0] c S.s1
def join (S : Skip k n) (q : M F 2048 128 .f32) (r : M F n 128 .f32) : M F 2048 128 .f32 :=
  concatenate ⟨2, ![2048, 128]⟩ 0 [⟨⟨2, ![k, 128]⟩, extractStridedSlice ⟨2, ![k, 128]⟩ ![0, 0] q S.tQ⟩, ⟨⟨2, ![n, 128]⟩, r⟩] S.cQ
def join1 (S : Skip k n) (c : M F 2048 1 .f32) (r : M F n 1 .f32) : M F 2048 1 .f32 :=
  concatenate ⟨2, ![2048, 1]⟩ 0 [⟨⟨2, ![k, 1]⟩, extractStridedSlice ⟨2, ![k, 1]⟩ ![0, 0] c S.t1⟩, ⟨⟨2, ![n, 1]⟩, r⟩] S.c1

/-- The block's next row sums of `m`, over all 2048 rows. -/
def clS (D : Dims n) (S : Skip k n) (q : M F 2048 128 .bf16) (kk : M F 256 128 .bf16) (c : M F 2048 1 .f32) : M F 2048 1 .f32 :=
  join1 S c (colf D (cut1 S c) (mf D (zf (cut S q) kk)))
def cdS (D : Dims n) (S : Skip k n) (u : M F 256 256 .bf16) (q g : M F 2048 128 .bf16) (kk v : M F 256 128 .bf16) (l c d : M F 2048 1 .f32) : M F 2048 1 .f32 :=
  join1 S d (colf D (cut1 S d) (dlf D u (cut S q) (cut S g) kk v (cut1 S l) (cut1 S c)))
def aS (D : Dims n) (S : Skip k n) (u : M F 256 256 .bf16) (q : M F 2048 128 .bf16) (kk : M F 256 128 .bf16) (l c : M F 2048 1 .f32) : M F n 256 .f32 :=
  af D u (cut S q) kk (cut1 S l) (cut1 S c)
def dzS (D : Dims n) (S : Skip k n) (u w : M F 256 256 .bf16) (q g : M F 2048 128 .bf16) (kk v : M F 256 128 .bf16) (l c d : M F 2048 1 .f32) : M F n 256 .bf16 :=
  dzf D u w (cut S q) (cut S g) kk v (cut1 S l) (cut1 S c) (cut1 S d)
def dqS (D : Dims n) (S : Skip k n) (u w : M F 256 256 .bf16) (q g : M F 2048 128 .bf16) (kk v : M F 256 128 .bf16) (l c d : M F 2048 1 .f32)
    (r : M F 2048 128 .f32) : M F 2048 128 .f32 :=
  join S r (dqf (cut S r) (dzS D S u w q g kk v l c d) kk)
def dkS (D : Dims n) (S : Skip k n) (u w : M F 256 256 .bf16) (q g : M F 2048 128 .bf16) (kk v : M F 256 128 .bf16) (l c d : M F 2048 1 .f32)
    (r : M F 256 128 .f32) : M F 256 128 .f32 :=
  tnf D r (dzS D S u w q g kk v l c d) (cut S q)
def dvS (D : Dims n) (S : Skip k n) (u : M F 256 256 .bf16) (q g : M F 2048 128 .bf16) (kk : M F 256 128 .bf16) (l c : M F 2048 1 .f32)
    (r : M F 256 128 .f32) : M F 256 128 .f32 :=
  tnf D r (truncf .bf16 (aS D S u q kk l c) D.bb) (cut S g)
end Fun

/-! ## The reals a block leaves -/

/-- The scale as the programs spell it. -/
def sc : ℝ := val32 0x3DB504F3#32

theorem rd2_sc {a b : ℕ} : Rd2 (broadcast (⟨2, ![a, b]⟩ : Shape) (Scalar.ofBits (F := Ideal) .f32 0x3DB504F3#32)) (fun _ _ => sc) :=
  rd2_word _ (by decide)

section Val
variable {n : ℕ} (D : Dims n) {q k v g : ℕ → ℕ → ℝ} {L : ℕ → ℝ} (o : ℕ)
variable {Q G : M Ideal n 128 .bf16} {K V : M Ideal 256 128 .bf16} {U W : M Ideal 256 256 .bf16} {l c d : M Ideal n 1 .f32}

theorem rd_z (hQ : Rd2 Q fun i e => q (o + i) e) (hK : Rd2 K fun j e => k (o + j) e) :
    Rd2 (zf Q K) (fun i j => Model.z q k sc (o + i) (o + j)) :=
  ((hQ.nt hK rd2_zero' none).mul rd2_sc).congr fun i _ j _ => by rw [zero_add]; rfl

theorem rd_sp {z : M Ideal n 256 .f32} {Z : ℕ → ℕ → ℝ} (h : Rd2 z Z) : Rd2 (spf z) (fun i j => Model.sp (Z i j)) :=
  ((rd2_one.add ((rd2_zero.sub h.abs).exp)).log fun _ _ _ _ => by positivity).congr fun i _ j _ => by
    show Real.log (1 + Real.exp (0 - |Z i j|)) = _; rw [zero_sub]; rfl

theorem rd_lb {z : M Ideal n 256 .f32} {Z : ℕ → ℕ → ℝ} (h : Rd2 z Z) : Rd2 (lbf z) (fun i j => Model.ls (Z i j)) :=
  (h.min rd2_zero).sub (rd_sp h)

include D in
theorem bd_mask : Bd2 (maskf D) (fun i j => j < i) := bd2_strict D.lt (by norm_num) _ _

theorem rd_m {z : M Ideal n 256 .f32} (h : Rd2 z fun i j => Model.z q k sc (o + i) (o + j)) :
    Rd2 (mf D z) (fun i j => Model.m q k sc (o + i) (o + j)) :=
  ((((rd2_zero.sub h).min rd2_zero).sub (rd_sp h)).sel (bd_mask D) rd2_zero).congr fun i _ j _ => by
    show (if j < i then min (0 - _) 0 - _ else 0) = if o + j < o + i then _ else 0
    simp only [add_lt_add_iff_left, zero_sub]; rfl

theorem rd_tri {x : M Ideal n 256 .f32} {X : ℕ → ℕ → ℝ} (h : Rd2 x X) (hU : Rd2 U fun i j => if i ≤ j then 1 else 0) :
    Rd2 (trif D x U) (fun i j => ∑ s ∈ Finset.range (j + 1), X i s) :=
  (((h.trunc D.bb).nn hU rd2_zero' none).add (((h.sub ((h.trunc (ψ := .bf16) D.bb).ext D.bb)).trunc D.bb).nn hU rd2_zero' none)).congr fun i _ j hj => by
    simp only [sub_self, zero_mul, Finset.sum_const_zero, add_zero, zero_add]
    exact Model.sum_upto hj

theorem rd_a (hQ : Rd2 Q fun i e => q (o + i) e) (hK : Rd2 K fun j e => k (o + j) e) (hU : Rd2 U fun i j => if i ≤ j then 1 else 0)
    (hl : Rd2 l fun i _ => L (o + i)) (hc : Rd2 c fun i _ => ∑ s ∈ Finset.range o, Model.m q k sc (o + i) s) :
    Rd2 (af D U Q K l c) (fun i j => Model.a q k sc L (o + i) (o + j)) :=
  (((((rd_lb (rd_z o hQ hK)).add ((hl.col D.ne D.bc).sub ((hc.col D.ne D.bc).add (rd_tri D (rd_m D o (rd_z o hQ hK)) hU))))).exp).sel (bd_mask D) rd2_zero).congr
    fun i _ j _ => by
      show (if j < i then Real.exp (_ + (_ - (_ + _))) else 0) = if o + j < o + i then _ else 0
      simp only [add_lt_add_iff_left, add_assoc o j 1, Finset.sum_range_add]

theorem rd_dl (hQ : Rd2 Q fun i e => q (o + i) e) (hG : Rd2 G fun i e => g (o + i) e) (hK : Rd2 K fun j e => k (o + j) e)
    (hV : Rd2 V fun j e => v (o + j) e) (hU : Rd2 U fun i j => if i ≤ j then 1 else 0)
    (hl : Rd2 l fun i _ => L (o + i)) (hc : Rd2 c fun i _ => ∑ s ∈ Finset.range o, Model.m q k sc (o + i) s) :
    Rd2 (dlf D U Q G K V l c) (fun i j => Model.dl q k v g sc L (o + i) (o + j)) :=
  ((hG.nt hV rd2_zero' none).mul (rd_a D o hQ hK hU hl hc)).congr fun i _ j _ => by rw [zero_add]; rfl

theorem rd_dz (hQ : Rd2 Q fun i e => q (o + i) e) (hG : Rd2 G fun i e => g (o + i) e) (hK : Rd2 K fun j e => k (o + j) e)
    (hV : Rd2 V fun j e => v (o + j) e) (hU : Rd2 U fun i j => if i ≤ j then 1 else 0) (hW : Rd2 W fun i j => if i < j then 1 else 0)
    (hl : Rd2 l fun i _ => L (o + i)) (hc : Rd2 c fun i _ => ∑ s ∈ Finset.range o, Model.m q k sc (o + i) s)
    (hd : Rd2 d fun i _ => ∑ s ∈ Finset.range o, Model.dl q k v g sc L (o + i) s) :
    Rd2 (dzf D U W Q G K V l c d) (fun i j => Model.dz q k v g sc L (o + i) (o + j)) := by
  have hb := (rd_lb (rd_z o hQ hK)).exp
  have hx := rd_dl D o hQ hG hK hV hU hl hc
  refine ((((((hx.mul (rd2_one.sub hb)).sub (hb.mul ((hd.col D.ne D.bc).add ((hx.trunc D.bb).nn hW rd2_zero' none)))).sel (bd_mask D) rd2_zero).mul rd2_sc).trunc D.bb)).congr ?_
  intro i _ j hj
  show (if j < i then _ * (1 - _) - _ * (_ + (0 + _)) else 0) * sc = (if o + j < o + i then _ else 0) * sc
  simp only [add_lt_add_iff_left, Finset.sum_range_add, zero_add, Model.sum_before hj]

end Val

section Step
variable {n kk : ℕ} (D : Dims n) (S : Skip kk n) {q k v g : ℕ → ℕ → ℝ} {L : ℕ → ℝ}
variable {Q G : M Ideal 2048 128 .bf16} {K V : M Ideal 256 128 .bf16} {U W : M Ideal 256 256 .bf16} {l c d : M Ideal 2048 1 .f32}
  {r : M Ideal 2048 128 .f32} {b : M Ideal 256 128 .f32}

theorem rd_cut {φ : FTy} {x : M Ideal 2048 128 φ} {X : ℕ → ℕ → ℝ} (h : Rd2 x X) : Rd2 (cut S x) (fun i e => X (kk + i) e) :=
  (h.slice kk 0 S.sQ S.eq.ge (by norm_num)).congr fun i _ j _ => by rw [zero_add]
theorem rd_cut1 {x : M Ideal 2048 1 .f32} {X : ℕ → ℕ → ℝ} (h : Rd2 x X) : Rd2 (cut1 S x) (fun i e => X (kk + i) e) :=
  (h.slice kk 0 S.s1 S.eq.ge (by norm_num)).congr fun i _ j _ => by rw [zero_add]
theorem rd_join {x : M Ideal 2048 128 .f32} {y : M Ideal n 128 .f32} {X Y : ℕ → ℕ → ℝ} (h : Rd2 x X) (h' : Rd2 y fun i e => Y (kk + i) e)
    (e : ∀ i < kk, ∀ j < 128, X i j = Y i j) : Rd2 (join S x y) Y :=
  Rd2.rows (((h.slice 0 0 S.tQ (by have := S.eq; omega) (by norm_num))).congr fun i hi j hj => by rw [zero_add, zero_add]; exact e i hi j hj) h' S.eq S.cQ
theorem rd_join1 {x : M Ideal 2048 1 .f32} {y : M Ideal n 1 .f32} {X Y : ℕ → ℕ → ℝ} (h : Rd2 x X) (h' : Rd2 y fun i e => Y (kk + i) e)
    (e : ∀ i < kk, ∀ j < 1, X i j = Y i j) : Rd2 (join1 S x y) Y :=
  Rd2.rows (((h.slice 0 0 S.t1 (by have := S.eq; omega) (by norm_num))).congr fun i hi j hj => by rw [zero_add, zero_add]; exact e i hi j hj) h' S.eq S.c1

theorem rd_clS (hQ : Rd2 Q q) (hK : Rd2 K fun j e => k (kk + j) e) (hc : Rd2 c fun t _ => ∑ s ∈ Finset.range kk, Model.m q k sc t s) :
    Rd2 (clS D S Q K c) (fun t _ => ∑ s ∈ Finset.range (kk + 256), Model.m q k sc t s) :=
  rd_join1 S hc (((rd_cut1 S hc).add (Rd2.rowSum (rd_m D kk (rd_z kk (rd_cut S hQ) hK)) _ D.rd _ _ D.cs)).congr fun i _ j _ => by
    rw [Finset.sum_range_add]) fun i hi j _ => (Model.sum_stop (fun s hs => Model.m_of_le hs) kk 256 hi.le).symm

theorem rd_aS (hQ : Rd2 Q q) (hK : Rd2 K fun j e => k (kk + j) e) (hU : Rd2 U fun i j => if i ≤ j then 1 else 0)
    (hl : Rd2 l fun t _ => L t) (hc : Rd2 c fun t _ => ∑ s ∈ Finset.range kk, Model.m q k sc t s) :
    Rd2 (aS D S U Q K l c) (fun i j => Model.a q k sc L (kk + i) (kk + j)) :=
  rd_a D kk (rd_cut S hQ) hK hU (rd_cut1 S hl) (rd_cut1 S hc)

theorem rd_cdS (hQ : Rd2 Q q) (hG : Rd2 G g) (hK : Rd2 K fun j e => k (kk + j) e) (hV : Rd2 V fun j e => v (kk + j) e)
    (hU : Rd2 U fun i j => if i ≤ j then 1 else 0) (hl : Rd2 l fun t _ => L t)
    (hc : Rd2 c fun t _ => ∑ s ∈ Finset.range kk, Model.m q k sc t s) (hd : Rd2 d fun t _ => ∑ s ∈ Finset.range kk, Model.dl q k v g sc L t s) :
    Rd2 (cdS D S U Q G K V l c d) (fun t _ => ∑ s ∈ Finset.range (kk + 256), Model.dl q k v g sc L t s) :=
  rd_join1 S hd (((rd_cut1 S hd).add (Rd2.rowSum (rd_dl D kk (rd_cut S hQ) (rd_cut S hG) hK hV hU (rd_cut1 S hl) (rd_cut1 S hc)) _ D.rd _ _ D.cs)).congr
    fun i _ j _ => by rw [Finset.sum_range_add]) fun i hi j _ => (Model.sum_stop (fun s hs => Model.dl_of_le hs) kk 256 hi.le).symm

theorem rd_dzS (hQ : Rd2 Q q) (hG : Rd2 G g) (hK : Rd2 K fun j e => k (kk + j) e) (hV : Rd2 V fun j e => v (kk + j) e)
    (hU : Rd2 U fun i j => if i ≤ j then 1 else 0) (hW : Rd2 W fun i j => if i < j then 1 else 0) (hl : Rd2 l fun t _ => L t)
    (hc : Rd2 c fun t _ => ∑ s ∈ Finset.range kk, Model.m q k sc t s) (hd : Rd2 d fun t _ => ∑ s ∈ Finset.range kk, Model.dl q k v g sc L t s) :
    Rd2 (dzS D S U W Q G K V l c d) (fun i j => Model.dz q k v g sc L (kk + i) (kk + j)) :=
  rd_dz D kk (rd_cut S hQ) (rd_cut S hG) hK hV hU hW (rd_cut1 S hl) (rd_cut1 S hc) (rd_cut1 S hd)

theorem rd_dqS (hQ : Rd2 Q q) (hG : Rd2 G g) (hK : Rd2 K fun j e => k (kk + j) e) (hV : Rd2 V fun j e => v (kk + j) e)
    (hU : Rd2 U fun i j => if i ≤ j then 1 else 0) (hW : Rd2 W fun i j => if i < j then 1 else 0) (hl : Rd2 l fun t _ => L t)
    (hc : Rd2 c fun t _ => ∑ s ∈ Finset.range kk, Model.m q k sc t s) (hd : Rd2 d fun t _ => ∑ s ∈ Finset.range kk, Model.dl q k v g sc L t s)
    (hr : Rd2 r fun t e => Model.dq q k v g sc L kk t e) :
    Rd2 (dqS D S U W Q G K V l c d r) (fun t e => Model.dq q k v g sc L (kk + 256) t e) :=
  rd_join S hr (((rd_cut S hr).add ((rd_dzS D S hQ hG hK hV hU hW hl hc hd).nn hK rd2_zero' none)).congr fun i _ j _ => by
    rw [zero_add]; simp only [Model.dq, Finset.sum_range_add])
    fun i hi j _ => (Model.sum_stop (f := fun s => Model.dz q k v g sc L i s * k s j) (fun s hs => by rw [Model.dz_of_le hs, zero_mul]) kk 256 hi.le).symm

theorem rd_dkS (hQ : Rd2 Q q) (hG : Rd2 G g) (hK : Rd2 K fun j e => k (kk + j) e) (hV : Rd2 V fun j e => v (kk + j) e)
    (hU : Rd2 U fun i j => if i ≤ j then 1 else 0) (hW : Rd2 W fun i j => if i < j then 1 else 0) (hl : Rd2 l fun t _ => L t)
    (hc : Rd2 c fun t _ => ∑ s ∈ Finset.range kk, Model.m q k sc t s) (hd : Rd2 d fun t _ => ∑ s ∈ Finset.range kk, Model.dl q k v g sc L t s)
    (hb : Rd2 b fun _ _ => 0) :
    Rd2 (dkS D S U W Q G K V l c d b) (fun j e => Model.dk q k v g sc L 2048 (kk + j) e) :=
  ((hb.add (Rd2.tn D.wf (rd_dzS D S hQ hG hK hV hU hW hl hc hd) (rd_cut S hQ) rd2_zero' none)).cast D.c2).congr fun j _ e _ => by
    rw [zero_add, zero_add, Model.dk, S.eq]
    exact (Model.sum_start (f := fun t => Model.dz q k v g sc L t (kk + j) * q t e) (fun t ht => by rw [Model.dz_of_le ht, zero_mul]) kk n (by omega)).symm

theorem rd_dvS (hQ : Rd2 Q q) (hG : Rd2 G g) (hK : Rd2 K fun j e => k (kk + j) e)
    (hU : Rd2 U fun i j => if i ≤ j then 1 else 0) (hl : Rd2 l fun t _ => L t)
    (hc : Rd2 c fun t _ => ∑ s ∈ Finset.range kk, Model.m q k sc t s) (hb : Rd2 b fun _ _ => 0) :
    Rd2 (dvS D S U Q G K l c b) (fun j e => Model.dv q k g sc L 2048 (kk + j) e) :=
  ((hb.add (Rd2.tn D.wf ((rd_aS D S hQ hK hU hl hc).trunc D.bb) (rd_cut S hG) rd2_zero' none)).cast D.c2).congr fun j _ e _ => by
    rw [zero_add, zero_add, Model.dv, S.eq]
    exact (Model.sum_start (f := fun t => Model.a q k sc L t (kk + j) * g t e) (fun t ht => by rw [Model.a_of_le ht, zero_mul]) kk n (by omega)).symm

end Step

end Cert.Proof.Block

end
-- ==== Proof.Conds.lean ====
/- The side conditions of each block's operations, from the program's. -/
module

public import proofs.«01_k».proof.Proof.Block
public import proofs.«01_k».proof.Proof.Gen.KernelIdeal

@[expose] public section

noncomputable section

namespace Cert.KernelIdeal.Bwd

open Cert.KernelIdeal Cert.KernelIdeal.Gen
open Idealize.ShloMosaic Cert.Proof.Block

theorem dims2048 : Dims 2048 :=
  ⟨broadcasts_S2048x1_S2048x256, reduces_S2048x256_S2048, shapeCasts_S2048_S2048x1, iota_S2048x256_d0_w32, iota_S2048x256_d1_w32,
    dot_S2048x256_S2048x128_S256x128_0_0_1_1_n_n_wf, shapeCasts_S256x128_S256x128, bitsLt_bf16_f32, by norm_num, by norm_num⟩
theorem dims1792 : Dims 1792 :=
  ⟨broadcasts_S1792x1_S1792x256, reduces_S1792x256_S1792, shapeCasts_S1792_S1792x1, iota_S1792x256_d0_w32, iota_S1792x256_d1_w32,
    dot_S1792x256_S1792x128_S256x128_0_0_1_1_n_n_wf, shapeCasts_S256x128_S256x128, bitsLt_bf16_f32, by norm_num, by norm_num⟩
theorem skip256 : Skip 256 1792 :=
  ⟨by norm_num, slices_S2048x128_o256_0_S1792x128, slices_S2048x1_o256_0_S1792x1, slices_S2048x128_o0_0_S256x128, slices_S2048x1_o0_0_S256x1,
    concatenates_S256x128_S1792x128_S2048x128_d0, concatenates_S256x1_S1792x1_S2048x1_d0⟩
theorem dims1536 : Dims 1536 :=
  ⟨broadcasts_S1536x1_S1536x256, reduces_S1536x256_S1536, shapeCasts_S1536_S1536x1, iota_S1536x256_d0_w32, iota_S1536x256_d1_w32,
    dot_S1536x256_S1536x128_S256x128_0_0_1_1_n_n_wf, shapeCasts_S256x128_S256x128, bitsLt_bf16_f32, by norm_num, by norm_num⟩
theorem skip512 : Skip 512 1536 :=
  ⟨by norm_num, slices_S2048x128_o512_0_S1536x128, slices_S2048x1_o512_0_S1536x1, slices_S2048x128_o0_0_S512x128, slices_S2048x1_o0_0_S512x1,
    concatenates_S512x128_S1536x128_S2048x128_d0, concatenates_S512x1_S1536x1_S2048x1_d0⟩
theorem dims1280 : Dims 1280 :=
  ⟨broadcasts_S1280x1_S1280x256, reduces_S1280x256_S1280, shapeCasts_S1280_S1280x1, iota_S1280x256_d0_w32, iota_S1280x256_d1_w32,
    dot_S1280x256_S1280x128_S256x128_0_0_1_1_n_n_wf, shapeCasts_S256x128_S256x128, bitsLt_bf16_f32, by norm_num, by norm_num⟩
theorem skip768 : Skip 768 1280 :=
  ⟨by norm_num, slices_S2048x128_o768_0_S1280x128, slices_S2048x1_o768_0_S1280x1, slices_S2048x128_o0_0_S768x128, slices_S2048x1_o0_0_S768x1,
    concatenates_S768x128_S1280x128_S2048x128_d0, concatenates_S768x1_S1280x1_S2048x1_d0⟩
theorem dims1024 : Dims 1024 :=
  ⟨broadcasts_S1024x1_S1024x256, reduces_S1024x256_S1024, shapeCasts_S1024_S1024x1, iota_S1024x256_d0_w32, iota_S1024x256_d1_w32,
    dot_S1024x256_S1024x128_S256x128_0_0_1_1_n_n_wf, shapeCasts_S256x128_S256x128, bitsLt_bf16_f32, by norm_num, by norm_num⟩
theorem skip1024 : Skip 1024 1024 :=
  ⟨by norm_num, slices_S2048x128_o1024_0_S1024x128, slices_S2048x1_o1024_0_S1024x1, slices_S2048x128_o0_0_S1024x128, slices_S2048x1_o0_0_S1024x1,
    concatenates_S1024x128_S1024x128_S2048x128_d0, concatenates_S1024x1_S1024x1_S2048x1_d0⟩
theorem dims768 : Dims 768 :=
  ⟨broadcasts_S768x1_S768x256, reduces_S768x256_S768, shapeCasts_S768_S768x1, iota_S768x256_d0_w32, iota_S768x256_d1_w32,
    dot_S768x256_S768x128_S256x128_0_0_1_1_n_n_wf, shapeCasts_S256x128_S256x128, bitsLt_bf16_f32, by norm_num, by norm_num⟩
theorem skip1280 : Skip 1280 768 :=
  ⟨by norm_num, slices_S2048x128_o1280_0_S768x128, slices_S2048x1_o1280_0_S768x1, slices_S2048x128_o0_0_S1280x128, slices_S2048x1_o0_0_S1280x1,
    concatenates_S1280x128_S768x128_S2048x128_d0, concatenates_S1280x1_S768x1_S2048x1_d0⟩
theorem dims512 : Dims 512 :=
  ⟨broadcasts_S512x1_S512x256, reduces_S512x256_S512, shapeCasts_S512_S512x1, iota_S512x256_d0_w32, iota_S512x256_d1_w32,
    dot_S512x256_S512x128_S256x128_0_0_1_1_n_n_wf, shapeCasts_S256x128_S256x128, bitsLt_bf16_f32, by norm_num, by norm_num⟩
theorem skip1536 : Skip 1536 512 :=
  ⟨by norm_num, slices_S2048x128_o1536_0_S512x128, slices_S2048x1_o1536_0_S512x1, slices_S2048x128_o0_0_S1536x128, slices_S2048x1_o0_0_S1536x1,
    concatenates_S1536x128_S512x128_S2048x128_d0, concatenates_S1536x1_S512x1_S2048x1_d0⟩
theorem dims256 : Dims 256 :=
  ⟨broadcasts_S256x1_S256x256, (by decide), (by decide), iota_S256x256_d0_w32, iota_S256x256_d1_w32,
    dot_S256x256_S256x128_S256x128_0_0_1_1_n_n_wf, shapeCasts_S256x128_S256x128, bitsLt_bf16_f32, by norm_num, by norm_num⟩
theorem skip1792 : Skip 1792 256 :=
  ⟨by norm_num, slices_S2048x128_o1792_0_S256x128, slices_S2048x1_o1792_0_S256x1, slices_S2048x128_o0_0_S1792x128, (by decide),
    concatenates_S1792x128_S256x128_S2048x128_d0, (by decide)⟩

end Cert.KernelIdeal.Bwd

end
-- ==== Proof.Steps.lean ====
/- The eight key blocks of the body, one after another, over the reals. -/
module

public import proofs.«01_k».proof.Proof.Run
public import proofs.«01_k».proof.Proof.Conds

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Cert.Proof.Block Cert.Proof.Rd Cert.Proof
open scoped BigOperators

variable {q k v g : ℕ → ℕ → ℝ} {L : ℕ → ℝ}

theorem rd_upto : Rd2 (k0_pay51 (F := Ideal)) (fun i j => if i ≤ j then 1 else 0) :=
  (rd2_one.sel (bd2_upto (by norm_num) (by norm_num) iota_S256x256_d0_w32 iota_S256x256_d1_w32) rd2_zero).trunc bitsLt_bf16_f32
theorem rd_before : Rd2 (k0_pay52 (F := Ideal)) (fun i j => if i < j then 1 else 0) :=
  (rd2_one.sel (bd2_before (by norm_num) (by norm_num) iota_S256x256_d0_w32 iota_S256x256_d1_w32) rd2_zero).trunc bitsLt_bf16_f32

section First
variable {n : ℕ} (D : Dims 2048) {Q G : M Ideal 2048 128 .bf16} {K V : M Ideal 256 128 .bf16} {U W : M Ideal 256 256 .bf16} {l : M Ideal 2048 1 .f32}
  {b : M Ideal 256 128 .f32}

variable {c d : M Ideal 2048 1 .f32} {r : M Ideal 2048 128 .f32}

theorem rd_from {a m : ℕ} {x : (⟨2, ![a, m]⟩ : Shape).Idx → EReal} {X : ℕ → ℕ → ℝ} (h : Rd2 x X) : Rd2 x fun i e => X (0 + i) e :=
  h.congr fun i _ j _ => by rw [zero_add]
theorem rd_none {a : ℕ} {x : (⟨2, ![a, 1]⟩ : Shape).Idx → EReal} (f : ℕ → ℕ → ℝ) (h : Rd2 x fun _ _ => 0) :
    Rd2 x fun i _ => ∑ s ∈ Finset.range 0, f (0 + i) s :=
  h.congr fun i _ j _ => by rw [Finset.sum_range_zero]

theorem rd_cl0 (hQ : Rd2 Q q) (hK : Rd2 K fun j e => k (0 + j) e) (hc : Rd2 c fun _ _ => 0) :
    Rd2 (colf D c (mf D (zf Q K))) (fun t _ => ∑ s ∈ Finset.range 256, Model.m q k sc t s) :=
  (hc.add (Rd2.rowSum (rd_m D 0 (rd_z 0 (rd_from hQ) hK)) _ D.rd _ _ D.cs)).congr fun i _ j _ => by simp only [zero_add]

theorem rd_cd0 (hQ : Rd2 Q q) (hG : Rd2 G g) (hK : Rd2 K fun j e => k (0 + j) e) (hV : Rd2 V fun j e => v (0 + j) e)
    (hU : Rd2 U fun i j => if i ≤ j then 1 else 0) (hl : Rd2 l fun t _ => L t) (hc : Rd2 c fun _ _ => 0) (hd : Rd2 d fun _ _ => 0) :
    Rd2 (colf D d (dlf D U Q G K V l c)) (fun t _ => ∑ s ∈ Finset.range 256, Model.dl q k v g sc L t s) :=
  (hd.add (Rd2.rowSum (rd_dl D 0 (rd_from hQ) (rd_from hG) hK hV hU (rd_from hl) (rd_none (Model.m q k sc) hc)) _ D.rd _ _ D.cs)).congr
    fun i _ j _ => by simp only [zero_add]

theorem rd_dz0 (hQ : Rd2 Q q) (hG : Rd2 G g) (hK : Rd2 K fun j e => k (0 + j) e) (hV : Rd2 V fun j e => v (0 + j) e)
    (hU : Rd2 U fun i j => if i ≤ j then 1 else 0) (hW : Rd2 W fun i j => if i < j then 1 else 0) (hl : Rd2 l fun t _ => L t)
    (hc : Rd2 c fun _ _ => 0) (hd : Rd2 d fun _ _ => 0) :
    Rd2 (dzf D U W Q G K V l c d) (fun t s => Model.dz q k v g sc L t s) :=
  (rd_dz D 0 (rd_from hQ) (rd_from hG) hK hV hU hW (rd_from hl) (rd_none (Model.m q k sc) hc) (rd_none (Model.dl q k v g sc L) hd)).congr
    fun i _ j _ => by simp only [zero_add]

theorem rd_dq0 (hQ : Rd2 Q q) (hG : Rd2 G g) (hK : Rd2 K fun j e => k (0 + j) e) (hV : Rd2 V fun j e => v (0 + j) e)
    (hU : Rd2 U fun i j => if i ≤ j then 1 else 0) (hW : Rd2 W fun i j => if i < j then 1 else 0) (hl : Rd2 l fun t _ => L t)
    (hc : Rd2 c fun _ _ => 0) (hd : Rd2 d fun _ _ => 0) (hr : Rd2 r fun _ _ => 0) :
    Rd2 (dqf r (dzf D U W Q G K V l c d) K) (fun t e => Model.dq q k v g sc L 256 t e) :=
  (hr.add ((rd_dz0 D hQ hG hK hV hU hW hl hc hd).nn hK rd2_zero' none)).congr fun i _ j _ => by simp only [zero_add, Model.dq]

theorem rd_dk0 (hQ : Rd2 Q q) (hG : Rd2 G g) (hK : Rd2 K fun j e => k (0 + j) e) (hV : Rd2 V fun j e => v (0 + j) e)
    (hU : Rd2 U fun i j => if i ≤ j then 1 else 0) (hW : Rd2 W fun i j => if i < j then 1 else 0) (hl : Rd2 l fun t _ => L t)
    (hc : Rd2 c fun _ _ => 0) (hd : Rd2 d fun _ _ => 0) (hb : Rd2 b fun _ _ => 0) :
    Rd2 (tnf D b (dzf D U W Q G K V l c d) Q) (fun j e => Model.dk q k v g sc L 2048 (0 + j) e) :=
  ((hb.add (Rd2.tn D.wf (rd_dz0 D hQ hG hK hV hU hW hl hc hd) hQ rd2_zero' none)).cast D.c2).congr fun j _ e _ => by simp only [zero_add, Model.dk]

theorem rd_dv0 (hQ : Rd2 Q q) (hG : Rd2 G g) (hK : Rd2 K fun j e => k (0 + j) e)
    (hU : Rd2 U fun i j => if i ≤ j then 1 else 0) (hl : Rd2 l fun t _ => L t) (hc : Rd2 c fun _ _ => 0) (hb : Rd2 b fun _ _ => 0) :
    Rd2 (tnf D b (truncf .bf16 (af D U Q K l c) D.bb) G) (fun j e => Model.dv q k g sc L 2048 (0 + j) e) :=
  ((hb.add (Rd2.tn D.wf ((rd_a D 0 (rd_from hQ) hK hU (rd_from hl) (rd_none (Model.m q k sc) hc)).trunc D.bb) hG rd2_zero' none)).cast D.c2).congr fun j _ e _ => by
    simp only [zero_add, Model.dv]
end First

/-- What the body does with key block 0: the running sums and the gradient of the queries after it, and the block's rows of the
   gradients of the keys and the values. -/
theorem step0 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v100 (F := Ideal) c arg2 harg2 arg13 x1) fun j e => k (0 + j) e)
    (hV : Rd2 (kernelRun0_A.sl.v104 (F := Ideal) c arg3 harg3 arg14 x2) fun j e => v (0 + j) e)
    (hl : Rd2 (kernelRun0_A.sl.r_3 (F := Ideal) c arg5 harg5 x4) fun t _ => L t)
    (hb : Rd2 (kernelRun0_A.sl.v165 (F := Ideal) c arg16) fun _ _ => 0)
    (hb' : Rd2 (kernelRun0_A.sl.v175 (F := Ideal) c arg17) fun _ _ => 0) :
    Rd2 (kernelRun0_A.sl.r_10 (F := Ideal) c arg1 harg1 arg2 harg2 arg12 arg13 x0 x1) (fun t _ => ∑ s ∈ Finset.range 256, Model.m q k sc t s) ∧
    Rd2 (kernelRun0_A.sl.r_11 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 256, Model.dl q k v g sc L t s) ∧
    Rd2 (kernelRun0_A.sl.r_12 (F := Ideal) c arg1 harg1 arg2 harg2 arg3 harg3 arg4 harg4 arg5 harg5 arg6 harg6 arg7 harg7 arg12 arg13 arg14 arg15 x0 x1 x2 x3 x4 x5 x6) (fun t e => Model.dq q k v g sc L 256 t e) ∧
    Rd2 (k0_pay79 (F := Ideal) (kernelRun0_A.sl.v74 (F := Ideal) c arg1 harg1 arg12 x0) k0_pay72 (kernelRun0_A.sl.r_9 (F := Ideal) c arg1 harg1 arg2 harg2 arg3 harg3 arg4 harg4 arg5 harg5 arg6 harg6 arg7 harg7 arg12 arg13 arg14 arg15 x0 x1 x2 x3 x4 x5 x6) (k0_pay77 (F := Ideal)) (kernelRun0_A.sl.v165 (F := Ideal) c arg16)) (fun j e => Model.dk q k v g sc L 2048 (0 + j) e) ∧
    Rd2 (k0_pay80 (F := Ideal) (kernelRun0_A.sl.v78 (F := Ideal) c arg4 harg4 arg6 harg6 arg7 harg7 arg15 x3 x5 x6) (kernelRun0_A.sl.r_7 (F := Ideal) c arg1 harg1 arg2 harg2 arg5 harg5 arg12 arg13 x0 x1 x4) (kernelRun0_A.sl.v175 (F := Ideal) c arg17)) (fun j e => Model.dv q k g sc L 2048 (0 + j) e) :=
  ⟨rd_cl0 dims2048 hQ hK rd2_zero,
   rd_cd0 dims2048 hQ hG hK hV rd_upto hl rd2_zero rd2_zero,
   rd_dq0 dims2048 hQ hG hK hV rd_upto rd_before hl rd2_zero rd2_zero rd2_zero,
   rd_dk0 dims2048 hQ hG hK hV rd_upto rd_before hl rd2_zero rd2_zero hb,
   rd_dv0 dims2048 hQ hG hK rd_upto hl rd2_zero hb'⟩

/-- What the body does with key block 1: the running sums and the gradient of the queries after it, and the block's rows of the
   gradients of the keys and the values. -/
theorem step1 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v198 (F := Ideal) c arg2 harg2 arg13 x1) fun j e => k (256 + j) e)
    (hV : Rd2 (kernelRun0_A.sl.v202 (F := Ideal) c arg3 harg3 arg14 x2) fun j e => v (256 + j) e)
    (hl : Rd2 (kernelRun0_A.sl.r_3 (F := Ideal) c arg5 harg5 x4) fun t _ => L t)
    (hc : Rd2 (kernelRun0_A.sl.r_10 (F := Ideal) c arg1 harg1 arg2 harg2 arg12 arg13 x0 x1) (fun t _ => ∑ s ∈ Finset.range 256, Model.m q k sc t s))
    (hd : Rd2 (kernelRun0_A.sl.r_11 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 256, Model.dl q k v g sc L t s))
    (hr : Rd2 (kernelRun0_A.sl.r_12 (F := Ideal) c arg1 harg1 arg2 harg2 arg3 harg3 arg4 harg4 arg5 harg5 arg6 harg6 arg7 harg7 arg12 arg13 arg14 arg15 x0 x1 x2 x3 x4 x5 x6) fun t e => Model.dq q k v g sc L 256 t e)
    (hb : Rd2 (kernelRun0_A.sl.v266 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v276 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_22 (F := Ideal) c arg1 harg1 arg2 harg2 arg12 arg13 x0 x1) (fun t _ => ∑ s ∈ Finset.range 512, Model.m q k sc t s) ∧
    Rd2 (kernelRun0_A.sl.r_23 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 512, Model.dl q k v g sc L t s) ∧
    Rd2 (kernelRun0_A.sl.r_24 (F := Ideal) c arg1 harg1 arg2 harg2 arg3 harg3 arg4 harg4 arg5 harg5 arg6 harg6 arg7 harg7 arg12 arg13 arg14 arg15 x0 x1 x2 x3 x4 x5 x6) (fun t e => Model.dq q k v g sc L 512 t e) ∧
    Rd2 (k0_pay94 (F := Ideal) (k0_pay52 (F := Ideal)) (kernelRun0_A.sl.r_11 (F := Ideal) c arg1 harg1 arg2 harg2 arg3 harg3 arg4 harg4 arg5 harg5 arg6 harg6 arg7 harg7 arg12 arg13 arg14 arg15 x0 x1 x2 x3 x4 x5 x6) (kernelRun0_A.sl.r_13 (F := Ideal) c arg1 harg1 arg12 x0) (kernelRun0_A.sl.r_14 (F := Ideal) c arg4 harg4 arg6 harg6 arg7 harg7 arg15 x3 x5 x6) (kernelRun0_A.sl.v202 (F := Ideal) c arg3 harg3 arg14 x2) (kernelRun0_A.sl.r_15 (F := Ideal) c arg1 harg1 arg2 harg2 arg12 arg13 x0 x1) k0_pay89 (kernelRun0_A.sl.r_17 (F := Ideal) c arg1 harg1 arg2 harg2 arg5 harg5 arg12 arg13 x0 x1 x4) (kernelRun0_A.sl.cst_96 (F := Ideal)) (kernelRun0_A.sl.v266 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (256 + j) e) ∧
    Rd2 (k0_pay95 (F := Ideal) (kernelRun0_A.sl.r_14 (F := Ideal) c arg4 harg4 arg6 harg6 arg7 harg7 arg15 x3 x5 x6) (kernelRun0_A.sl.r_17 (F := Ideal) c arg1 harg1 arg2 harg2 arg5 harg5 arg12 arg13 x0 x1 x4) (kernelRun0_A.sl.v276 (F := Ideal) c arg1 harg1 arg2 harg2 arg4 harg4 arg5 harg5 arg6 harg6 arg7 harg7 arg12 arg13 arg15 arg17 x0 x1 x3 x4 x5 x6)) (fun j e => Model.dv q k g sc L 2048 (256 + j) e) :=
  ⟨rd_clS dims1792 skip256 hQ hK hc,
   rd_cdS dims1792 skip256 hQ hG hK hV rd_upto hl hc hd,
   rd_dqS dims1792 skip256 hQ hG hK hV rd_upto rd_before hl hc hd hr,
   rd_dkS dims1792 skip256 hQ hG hK hV rd_upto rd_before hl hc hd hb,
   rd_dvS dims1792 skip256 hQ hG hK rd_upto hl hc hb'⟩

/-- What the body does with key block 2: the running sums and the gradient of the queries after it, and the block's rows of the
   gradients of the keys and the values. -/
theorem step2 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v308 (F := Ideal) c arg2 harg2 arg13 x1) fun j e => k (512 + j) e)
    (hV : Rd2 (kernelRun0_A.sl.v312 (F := Ideal) c arg3 harg3 arg14 x2) fun j e => v (512 + j) e)
    (hl : Rd2 (kernelRun0_A.sl.r_3 (F := Ideal) c arg5 harg5 x4) fun t _ => L t)
    (hc : Rd2 (kernelRun0_A.sl.r_22 (F := Ideal) c arg1 harg1 arg2 harg2 arg12 arg13 x0 x1) (fun t _ => ∑ s ∈ Finset.range 512, Model.m q k sc t s))
    (hd : Rd2 (kernelRun0_A.sl.r_23 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 512, Model.dl q k v g sc L t s))
    (hr : Rd2 (kernelRun0_A.sl.r_24 (F := Ideal) c arg1 harg1 arg2 harg2 arg3 harg3 arg4 harg4 arg5 harg5 arg6 harg6 arg7 harg7 arg12 arg13 arg14 arg15 x0 x1 x2 x3 x4 x5 x6) fun t e => Model.dq q k v g sc L 512 t e)
    (hb : Rd2 (kernelRun0_A.sl.v376 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v386 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_34 (F := Ideal) c arg1 harg1 arg2 harg2 arg12 arg13 x0 x1) (fun t _ => ∑ s ∈ Finset.range 768, Model.m q k sc t s) ∧
    Rd2 (kernelRun0_A.sl.r_35 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 768, Model.dl q k v g sc L t s) ∧
    Rd2 (kernelRun0_A.sl.r_36 (F := Ideal) c arg1 harg1 arg2 harg2 arg3 harg3 arg4 harg4 arg5 harg5 arg6 harg6 arg7 harg7 arg12 arg13 arg14 arg15 x0 x1 x2 x3 x4 x5 x6) (fun t e => Model.dq q k v g sc L 768 t e) ∧
    Rd2 (k0_pay114 (F := Ideal) (kernelRun0_A.sl.r_33 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (512 + j) e) ∧
    Rd2 (k0_pay115 (F := Ideal) (kernelRun0_A.sl.r_26 (F := Ideal) c arg4 harg4 arg6 harg6 arg7 harg7 arg15 x3 x5 x6) (kernelRun0_A.sl.r_30 (F := Ideal) c arg1 harg1 arg2 harg2 arg5 harg5 arg12 arg13 x0 x1 x4) (kernelRun0_A.sl.v386 (F := Ideal) c arg1 harg1 arg2 harg2 arg4 harg4 arg5 harg5 arg6 harg6 arg7 harg7 arg12 arg13 arg15 arg17 x0 x1 x3 x4 x5 x6)) (fun j e => Model.dv q k g sc L 2048 (512 + j) e) :=
  ⟨rd_clS dims1536 skip512 hQ hK hc,
   rd_cdS dims1536 skip512 hQ hG hK hV rd_upto hl hc hd,
   rd_dqS dims1536 skip512 hQ hG hK hV rd_upto rd_before hl hc hd hr,
   rd_dkS dims1536 skip512 hQ hG hK hV rd_upto rd_before hl hc hd hb,
   rd_dvS dims1536 skip512 hQ hG hK rd_upto hl hc hb'⟩

/-- What the body does with key block 3: the running sums and the gradient of the queries after it, and the block's rows of the
   gradients of the keys and the values. -/
theorem step3 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v418 (F := Ideal) c arg2 harg2 arg13 x1) fun j e => k (768 + j) e)
    (hV : Rd2 (kernelRun0_A.sl.v422 (F := Ideal) c arg3 harg3 arg14 x2) fun j e => v (768 + j) e)
    (hl : Rd2 (kernelRun0_A.sl.r_3 (F := Ideal) c arg5 harg5 x4) fun t _ => L t)
    (hc : Rd2 (kernelRun0_A.sl.r_34 (F := Ideal) c arg1 harg1 arg2 harg2 arg12 arg13 x0 x1) (fun t _ => ∑ s ∈ Finset.range 768, Model.m q k sc t s))
    (hd : Rd2 (kernelRun0_A.sl.r_35 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 768, Model.dl q k v g sc L t s))
    (hr : Rd2 (kernelRun0_A.sl.r_36 (F := Ideal) c arg1 harg1 arg2 harg2 arg3 harg3 arg4 harg4 arg5 harg5 arg6 harg6 arg7 harg7 arg12 arg13 arg14 arg15 x0 x1 x2 x3 x4 x5 x6) fun t e => Model.dq q k v g sc L 768 t e)
    (hb : Rd2 (kernelRun0_A.sl.v486 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v496 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_49 (F := Ideal) c arg1 harg1 arg2 harg2 arg12 arg13 x0 x1) (fun t _ => ∑ s ∈ Finset.range 1024, Model.m q k sc t s) ∧
    Rd2 (kernelRun0_A.sl.r_50 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1024, Model.dl q k v g sc L t s) ∧
    Rd2 (kernelRun0_A.sl.r_51 (F := Ideal) c arg1 harg1 arg2 harg2 arg3 harg3 arg4 harg4 arg5 harg5 arg6 harg6 arg7 harg7 arg12 arg13 arg14 arg15 x0 x1 x2 x3 x4 x5 x6) (fun t e => Model.dq q k v g sc L 1024 t e) ∧
    Rd2 (k0_pay131 (F := Ideal) (kernelRun0_A.sl.r_37 (F := Ideal) c arg1 harg1 arg12 x0) (kernelRun0_A.sl.r_40 (F := Ideal) c arg1 harg1 arg2 harg2 arg12 arg13 x0 x1) k0_pay125 (kernelRun0_A.sl.r_43 (F := Ideal) c arg1 harg1 arg2 harg2 arg3 harg3 arg4 harg4 arg5 harg5 arg6 harg6 arg7 harg7 arg12 arg13 arg14 arg15 x0 x1 x2 x3 x4 x5 x6) (kernelRun0_A.sl.r_44 (F := Ideal) c arg1 harg1 arg2 harg2 arg3 harg3 arg4 harg4 arg5 harg5 arg6 harg6 arg7 harg7 arg12 arg13 arg14 arg15 x0 x1 x2 x3 x4 x5 x6) (kernelRun0_A.sl.v486 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (768 + j) e) ∧
    Rd2 (k0_pay132 (F := Ideal) (kernelRun0_A.sl.r_38 (F := Ideal) c arg4 harg4 arg6 harg6 arg7 harg7 arg15 x3 x5 x6) (kernelRun0_A.sl.r_42 (F := Ideal) c arg1 harg1 arg2 harg2 arg5 harg5 arg12 arg13 x0 x1 x4) (kernelRun0_A.sl.v496 (F := Ideal) c arg1 harg1 arg2 harg2 arg4 harg4 arg5 harg5 arg6 harg6 arg7 harg7 arg12 arg13 arg15 arg17 x0 x1 x3 x4 x5 x6)) (fun j e => Model.dv q k g sc L 2048 (768 + j) e) :=
  ⟨rd_clS dims1280 skip768 hQ hK hc,
   rd_cdS dims1280 skip768 hQ hG hK hV rd_upto hl hc hd,
   rd_dqS dims1280 skip768 hQ hG hK hV rd_upto rd_before hl hc hd hr,
   rd_dkS dims1280 skip768 hQ hG hK hV rd_upto rd_before hl hc hd hb,
   rd_dvS dims1280 skip768 hQ hG hK rd_upto hl hc hb'⟩

/-- What the body does with key block 4: the running sums and the gradient of the queries after it, and the block's rows of the
   gradients of the keys and the values. -/
theorem step4 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v528 (F := Ideal) c arg2 harg2 arg13 x1) fun j e => k (1024 + j) e)
    (hV : Rd2 (kernelRun0_A.sl.v532 (F := Ideal) c arg3 harg3 arg14 x2) fun j e => v (1024 + j) e)
    (hl : Rd2 (kernelRun0_A.sl.r_3 (F := Ideal) c arg5 harg5 x4) fun t _ => L t)
    (hc : Rd2 (kernelRun0_A.sl.r_49 (F := Ideal) c arg1 harg1 arg2 harg2 arg12 arg13 x0 x1) (fun t _ => ∑ s ∈ Finset.range 1024, Model.m q k sc t s))
    (hd : Rd2 (kernelRun0_A.sl.r_50 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1024, Model.dl q k v g sc L t s))
    (hr : Rd2 (kernelRun0_A.sl.r_51 (F := Ideal) c arg1 harg1 arg2 harg2 arg3 harg3 arg4 harg4 arg5 harg5 arg6 harg6 arg7 harg7 arg12 arg13 arg14 arg15 x0 x1 x2 x3 x4 x5 x6) fun t e => Model.dq q k v g sc L 1024 t e)
    (hb : Rd2 (kernelRun0_A.sl.v596 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v606 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_62 (F := Ideal) c arg1 harg1 arg2 harg2 arg12 arg13 x0 x1) (fun t _ => ∑ s ∈ Finset.range 1280, Model.m q k sc t s) ∧
    Rd2 (kernelRun0_A.sl.r_63 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1280, Model.dl q k v g sc L t s) ∧
    Rd2 (kernelRun0_A.sl.r_64 (F := Ideal) c arg1 harg1 arg2 harg2 arg3 harg3 arg4 harg4 arg5 harg5 arg6 harg6 arg7 harg7 arg12 arg13 arg14 arg15 x0 x1 x2 x3 x4 x5 x6) (fun t e => Model.dq q k v g sc L 1280 t e) ∧
    Rd2 (k0_pay153 (F := Ideal) (k0_pay51 (F := Ideal)) (k0_pay52 (F := Ideal)) (kernelRun0_A.sl.r_50 (F := Ideal) c arg1 harg1 arg2 harg2 arg3 harg3 arg4 harg4 arg5 harg5 arg6 harg6 arg7 harg7 arg12 arg13 arg14 arg15 x0 x1 x2 x3 x4 x5 x6) (kernelRun0_A.sl.r_52 (F := Ideal) c arg1 harg1 arg12 x0) (kernelRun0_A.sl.r_53 (F := Ideal) c arg4 harg4 arg6 harg6 arg7 harg7 arg15 x3 x5 x6) (kernelRun0_A.sl.v532 (F := Ideal) c arg3 harg3 arg14 x2) (kernelRun0_A.sl.r_54 (F := Ideal) c arg1 harg1 arg2 harg2 arg12 arg13 x0 x1) k0_pay145 (kernelRun0_A.sl.r_55 (F := Ideal) c arg1 harg1 arg2 harg2 arg12 arg13 x0 x1) (kernelRun0_A.sl.r_56 (F := Ideal) c arg5 harg5 x4) (kernelRun0_A.sl.r_57 (F := Ideal) c arg1 harg1 arg2 harg2 arg12 arg13 x0 x1) (kernelRun0_A.sl.r_58 (F := Ideal) c arg1 harg1 arg2 harg2 arg12 arg13 x0 x1) (kernelRun0_A.sl.v596 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (1024 + j) e) ∧
    Rd2 (k0_pay154 (F := Ideal) (kernelRun0_A.sl.r_53 (F := Ideal) c arg4 harg4 arg6 harg6 arg7 harg7 arg15 x3 x5 x6) (kernelRun0_A.sl.r_59 (F := Ideal) c arg1 harg1 arg2 harg2 arg5 harg5 arg12 arg13 x0 x1 x4) (kernelRun0_A.sl.v606 (F := Ideal) c arg1 harg1 arg2 harg2 arg4 harg4 arg5 harg5 arg6 harg6 arg7 harg7 arg12 arg13 arg15 arg17 x0 x1 x3 x4 x5 x6)) (fun j e => Model.dv q k g sc L 2048 (1024 + j) e) :=
  ⟨rd_clS dims1024 skip1024 hQ hK hc,
   rd_cdS dims1024 skip1024 hQ hG hK hV rd_upto hl hc hd,
   rd_dqS dims1024 skip1024 hQ hG hK hV rd_upto rd_before hl hc hd hr,
   rd_dkS dims1024 skip1024 hQ hG hK hV rd_upto rd_before hl hc hd hb,
   rd_dvS dims1024 skip1024 hQ hG hK rd_upto hl hc hb'⟩

/-- What the body does with key block 5: the running sums and the gradient of the queries after it, and the block's rows of the
   gradients of the keys and the values. -/
theorem step5 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v638 (F := Ideal) c arg2 harg2 arg13 x1) fun j e => k (1280 + j) e)
    (hV : Rd2 (kernelRun0_A.sl.v642 (F := Ideal) c arg3 harg3 arg14 x2) fun j e => v (1280 + j) e)
    (hl : Rd2 (kernelRun0_A.sl.r_3 (F := Ideal) c arg5 harg5 x4) fun t _ => L t)
    (hc : Rd2 (kernelRun0_A.sl.r_62 (F := Ideal) c arg1 harg1 arg2 harg2 arg12 arg13 x0 x1) (fun t _ => ∑ s ∈ Finset.range 1280, Model.m q k sc t s))
    (hd : Rd2 (kernelRun0_A.sl.r_63 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1280, Model.dl q k v g sc L t s))
    (hr : Rd2 (kernelRun0_A.sl.r_64 (F := Ideal) c arg1 harg1 arg2 harg2 arg3 harg3 arg4 harg4 arg5 harg5 arg6 harg6 arg7 harg7 arg12 arg13 arg14 arg15 x0 x1 x2 x3 x4 x5 x6) fun t e => Model.dq q k v g sc L 1280 t e)
    (hb : Rd2 (kernelRun0_A.sl.v706 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v716 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_73 (F := Ideal) c arg1 harg1 arg2 harg2 arg12 arg13 x0 x1) (fun t _ => ∑ s ∈ Finset.range 1536, Model.m q k sc t s) ∧
    Rd2 (kernelRun0_A.sl.r_74 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1536, Model.dl q k v g sc L t s) ∧
    Rd2 (kernelRun0_A.sl.r_75 (F := Ideal) c arg1 harg1 arg2 harg2 arg3 harg3 arg4 harg4 arg5 harg5 arg6 harg6 arg7 harg7 arg12 arg13 arg14 arg15 x0 x1 x2 x3 x4 x5 x6) (fun t e => Model.dq q k v g sc L 1536 t e) ∧
    Rd2 (k0_pay170 (F := Ideal) (kernelRun0_A.sl.r_65 (F := Ideal) c arg1 harg1 arg12 x0) k0_pay164 (kernelRun0_A.sl.r_72 (F := Ideal) c arg1 harg1 arg2 harg2 arg3 harg3 arg4 harg4 arg5 harg5 arg6 harg6 arg7 harg7 arg12 arg13 arg14 arg15 x0 x1 x2 x3 x4 x5 x6) (kernelRun0_A.sl.cst_232 (F := Ideal)) (kernelRun0_A.sl.v706 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (1280 + j) e) ∧
    Rd2 (k0_pay171 (F := Ideal) (kernelRun0_A.sl.r_66 (F := Ideal) c arg4 harg4 arg6 harg6 arg7 harg7 arg15 x3 x5 x6) (kernelRun0_A.sl.r_70 (F := Ideal) c arg1 harg1 arg2 harg2 arg5 harg5 arg12 arg13 x0 x1 x4) (kernelRun0_A.sl.v716 (F := Ideal) c arg1 harg1 arg2 harg2 arg4 harg4 arg5 harg5 arg6 harg6 arg7 harg7 arg12 arg13 arg15 arg17 x0 x1 x3 x4 x5 x6)) (fun j e => Model.dv q k g sc L 2048 (1280 + j) e) :=
  ⟨rd_clS dims768 skip1280 hQ hK hc,
   rd_cdS dims768 skip1280 hQ hG hK hV rd_upto hl hc hd,
   rd_dqS dims768 skip1280 hQ hG hK hV rd_upto rd_before hl hc hd hr,
   rd_dkS dims768 skip1280 hQ hG hK hV rd_upto rd_before hl hc hd hb,
   rd_dvS dims768 skip1280 hQ hG hK rd_upto hl hc hb'⟩

/-- What the body does with key block 6: the running sums and the gradient of the queries after it, and the block's rows of the
   gradients of the keys and the values. -/
theorem step6 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v748 (F := Ideal) c arg2 harg2 arg13 x1) fun j e => k (1536 + j) e)
    (hV : Rd2 (kernelRun0_A.sl.v752 (F := Ideal) c arg3 harg3 arg14 x2) fun j e => v (1536 + j) e)
    (hl : Rd2 (kernelRun0_A.sl.r_3 (F := Ideal) c arg5 harg5 x4) fun t _ => L t)
    (hc : Rd2 (kernelRun0_A.sl.r_73 (F := Ideal) c arg1 harg1 arg2 harg2 arg12 arg13 x0 x1) (fun t _ => ∑ s ∈ Finset.range 1536, Model.m q k sc t s))
    (hd : Rd2 (kernelRun0_A.sl.r_74 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1536, Model.dl q k v g sc L t s))
    (hr : Rd2 (kernelRun0_A.sl.r_75 (F := Ideal) c arg1 harg1 arg2 harg2 arg3 harg3 arg4 harg4 arg5 harg5 arg6 harg6 arg7 harg7 arg12 arg13 arg14 arg15 x0 x1 x2 x3 x4 x5 x6) fun t e => Model.dq q k v g sc L 1536 t e)
    (hb : Rd2 (kernelRun0_A.sl.v816 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v826 (F := Ideal) c arg1 harg1 arg2 harg2 arg4 harg4 arg5 harg5 arg6 harg6 arg7 harg7 arg12 arg13 arg15 arg17 x0 x1 x3 x4 x5 x6) fun _ _ => 0) :
    Rd2 (kernelRun0_A.sl.r_86 (F := Ideal) c arg1 harg1 arg2 harg2 arg12 arg13 x0 x1) (fun t _ => ∑ s ∈ Finset.range 1792, Model.m q k sc t s) ∧
    Rd2 (kernelRun0_A.sl.r_87 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1792, Model.dl q k v g sc L t s) ∧
    Rd2 (kernelRun0_A.sl.r_88 (F := Ideal) c arg1 harg1 arg2 harg2 arg3 harg3 arg4 harg4 arg5 harg5 arg6 harg6 arg7 harg7 arg12 arg13 arg14 arg15 x0 x1 x2 x3 x4 x5 x6) (fun t e => Model.dq q k v g sc L 1792 t e) ∧
    Rd2 (k0_pay188 (F := Ideal) (k0_pay52 (F := Ideal)) (kernelRun0_A.sl.r_74 (F := Ideal) c arg1 harg1 arg2 harg2 arg3 harg3 arg4 harg4 arg5 harg5 arg6 harg6 arg7 harg7 arg12 arg13 arg14 arg15 x0 x1 x2 x3 x4 x5 x6) (kernelRun0_A.sl.r_76 (F := Ideal) c arg1 harg1 arg12 x0) (kernelRun0_A.sl.r_77 (F := Ideal) c arg4 harg4 arg6 harg6 arg7 harg7 arg15 x3 x5 x6) (kernelRun0_A.sl.v752 (F := Ideal) c arg3 harg3 arg14 x2) (kernelRun0_A.sl.r_78 (F := Ideal) c arg1 harg1 arg2 harg2 arg12 arg13 x0 x1) k0_pay180 (kernelRun0_A.sl.r_80 (F := Ideal) c arg5 harg5 x4) (kernelRun0_A.sl.r_81 (F := Ideal) c arg1 harg1 arg2 harg2 arg12 arg13 x0 x1) (kernelRun0_A.sl.r_82 (F := Ideal) c arg1 harg1 arg2 harg2 arg12 arg13 x0 x1) (kernelRun0_A.sl.v816 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (1536 + j) e) ∧
    Rd2 (k0_pay190 (F := Ideal) (kernelRun0_A.sl.r_85 (F := Ideal) c arg1 harg1 arg2 harg2 arg4 harg4 arg5 harg5 arg6 harg6 arg7 harg7 arg12 arg13 arg15 arg17 x0 x1 x3 x4 x5 x6)) (fun j e => Model.dv q k g sc L 2048 (1536 + j) e) :=
  ⟨rd_clS dims512 skip1536 hQ hK hc,
   rd_cdS dims512 skip1536 hQ hG hK hV rd_upto hl hc hd,
   rd_dqS dims512 skip1536 hQ hG hK hV rd_upto rd_before hl hc hd hr,
   rd_dkS dims512 skip1536 hQ hG hK hV rd_upto rd_before hl hc hd hb,
   rd_dvS dims512 skip1536 hQ hG hK rd_upto hl hc hb'⟩

/-- What the body does with key block 7: the running sums and the gradient of the queries after it, and the block's rows of the
   gradients of the keys and the values. -/
theorem step7 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)
    (hQ : Rd2 (kernelRun0_A.sl.v74 (F := Ideal) c arg1 harg1 arg12 x0) q)
    (hG : Rd2 (kernelRun0_A.sl.v78 (F := Ideal) c arg4 harg4 arg6 harg6 arg7 harg7 arg15 x3 x5 x6) g)
    (hK : Rd2 (kernelRun0_A.sl.v858 (F := Ideal) c arg2 harg2 arg13 x1) fun j e => k (1792 + j) e)
    (hV : Rd2 (kernelRun0_A.sl.v862 (F := Ideal) c arg3 harg3 arg14 x2) fun j e => v (1792 + j) e)
    (hl : Rd2 (kernelRun0_A.sl.r_3 (F := Ideal) c arg5 harg5 x4) fun t _ => L t)
    (hc : Rd2 (kernelRun0_A.sl.r_86 (F := Ideal) c arg1 harg1 arg2 harg2 arg12 arg13 x0 x1) (fun t _ => ∑ s ∈ Finset.range 1792, Model.m q k sc t s))
    (hd : Rd2 (kernelRun0_A.sl.r_87 (F := Ideal) c arg1 harg1 arg2 harg2 arg3 harg3 arg4 harg4 arg5 harg5 arg6 harg6 arg7 harg7 arg12 arg13 arg14 arg15 x0 x1 x2 x3 x4 x5 x6) (fun t _ => ∑ s ∈ Finset.range 1792, Model.dl q k v g sc L t s))
    (hr : Rd2 (kernelRun0_A.sl.r_88 (F := Ideal) c arg1 harg1 arg2 harg2 arg3 harg3 arg4 harg4 arg5 harg5 arg6 harg6 arg7 harg7 arg12 arg13 arg14 arg15 x0 x1 x2 x3 x4 x5 x6) fun t e => Model.dq q k v g sc L 1792 t e)
    (hb : Rd2 (kernelRun0_A.sl.v926 (F := Ideal) c arg1 harg1 arg2 harg2 arg3 harg3 arg4 harg4 arg5 harg5 arg6 harg6 arg7 harg7 arg12 arg13 arg14 arg15 arg16 x0 x1 x2 x3 x4 x5 x6) fun _ _ => 0)
    (hb' : Rd2 (kernelRun0_A.sl.v936 (F := Ideal) c arg1 harg1 arg2 harg2 arg4 harg4 arg5 harg5 arg6 harg6 arg7 harg7 arg12 arg13 arg15 arg17 x0 x1 x3 x4 x5 x6) fun _ _ => 0) :
    Rd2 (k0_pay204 (F := Ideal) (kernelRun0_A.sl.r_88 (F := Ideal) c arg1 harg1 arg2 harg2 arg3 harg3 arg4 harg4 arg5 harg5 arg6 harg6 arg7 harg7 arg12 arg13 arg14 arg15 x0 x1 x2 x3 x4 x5 x6) (kernelRun0_A.sl.v858 (F := Ideal) c arg2 harg2 arg13 x1) (kernelRun0_A.sl.r_95 (F := Ideal) c arg1 harg1 arg2 harg2 arg3 harg3 arg4 harg4 arg5 harg5 arg6 harg6 arg7 harg7 arg12 arg13 arg14 arg15 x0 x1 x2 x3 x4 x5 x6)) (fun t e => Model.dq q k v g sc L 2048 t e) ∧
    Rd2 (k0_pay202 (F := Ideal) (kernelRun0_A.sl.r_89 (F := Ideal) c arg1 harg1 arg12 x0) (kernelRun0_A.sl.r_95 (F := Ideal) c arg1 harg1 arg2 harg2 arg3 harg3 arg4 harg4 arg5 harg5 arg6 harg6 arg7 harg7 arg12 arg13 arg14 arg15 x0 x1 x2 x3 x4 x5 x6) (kernelRun0_A.sl.v926 (F := Ideal) c arg1 harg1 arg2 harg2 arg3 harg3 arg4 harg4 arg5 harg5 arg6 harg6 arg7 harg7 arg12 arg13 arg14 arg15 arg16 x0 x1 x2 x3 x4 x5 x6)) (fun j e => Model.dk q k v g sc L 2048 (1792 + j) e) ∧
    Rd2 (k0_pay203 (F := Ideal) (kernelRun0_A.sl.r_90 (F := Ideal) c arg4 harg4 arg6 harg6 arg7 harg7 arg15 x3 x5 x6) (kernelRun0_A.sl.r_94 (F := Ideal) c arg1 harg1 arg2 harg2 arg5 harg5 arg12 arg13 x0 x1 x4) (kernelRun0_A.sl.v936 (F := Ideal) c arg1 harg1 arg2 harg2 arg4 harg4 arg5 harg5 arg6 harg6 arg7 harg7 arg12 arg13 arg15 arg17 x0 x1 x3 x4 x5 x6)) (fun j e => Model.dv q k g sc L 2048 (1792 + j) e) :=
  ⟨rd_dqS dims256 skip1792 hQ hG hK hV rd_upto rd_before hl hc hd hr,
   rd_dkS dims256 skip1792 hQ hG hK hV rd_upto rd_before hl hc hd hb,
   rd_dvS dims256 skip1792 hQ hG hK rd_upto hl hc hb'⟩

end Cert.KernelIdeal.Bwd

end
-- ==== Proof.Norm.lean ====
/- The gradient through the output norm: the real functions, and the body's operations that compute them. -/
module

public import proofs.«01_k».proof.Proof.Ops
public import proofs.«01_k».proof.Proof.Model
public import proofs.«01_k».proof.Proof.Gen.KernelIdeal
public import proofs.«01_k».proof.Proof.Gen.KernelIdeal.Skeleton

@[expose] public section

noncomputable section

namespace Cert.Proof.Model

open scoped BigOperators
open Idealize.ShloMosaic Cert.Proof.Rd

/-- The number of columns and the norm's shift, as the programs spell them. -/
def wd : ℝ := val32 0x43000000#32
def eps : ℝ := val32 0x358637BD#32

theorem wd_eq : wd = 128 := by
  have h : Ideal.ofBits .f32 0x43000000#32 = ((128 : ℝ) : EReal) := by
    simp [Ideal.ofBits, Ideal.ieee]; rw [← EReal.coe_mul]; norm_num
  rw [wd, val32, h, EReal.toReal_coe]

theorem eps_pos : 0 < eps := by
  have h : ∃ r : ℝ, 0 < r ∧ Ideal.ofBits .f32 0x358637BD#32 = (r : EReal) := by
    refine ⟨_, ?_, by simp [Ideal.ofBits, Ideal.ieee]; rfl⟩
    positivity
  obtain ⟨r, hr, h⟩ := h
  rw [eps, val32, h, EReal.toReal_coe]; exact hr

variable (o d : ℕ → ℕ → ℝ) (gn : ℕ → ℝ)

/-- The shifted mean square of a row, and its reciprocal root. -/
def ms (t : ℕ) : ℝ := (∑ e ∈ Finset.range 128, o t e * o t e) / wd + eps
def rr (t : ℕ) : ℝ := (Real.sqrt (ms o t))⁻¹
def oh (t e : ℕ) : ℝ := o t e * rr o t

/-- The gradient of the head's output, and of the gain. -/
def dO (t e : ℕ) : ℝ :=
  rr o t * (d t e * gn e - oh o t e * ((∑ x ∈ Finset.range 128, d t x * gn x * oh o t x) / wd))
def dgain (n e : ℕ) : ℝ := ∑ t ∈ Finset.range n, d t e * oh o t e

theorem ms_pos (t : ℕ) : 0 < ms o t := by
  have : 0 ≤ (∑ e ∈ Finset.range 128, o t e * o t e) / wd := by
    rw [wd_eq]; exact div_nonneg (Finset.sum_nonneg fun e _ => mul_self_nonneg _) (by norm_num)
  have := eps_pos
  unfold ms; linarith

end Cert.Proof.Model

namespace Cert.KernelIdeal.Bwd

open Cert.KernelIdeal Cert.KernelIdeal.Gen
open Idealize.ShloMosaic Idealize.ShloMosaic.ValueIdx Cert.Proof.Rd Cert.Proof
open scoped BigOperators

variable {o d : ℕ → ℕ → ℝ} {gn : ℕ → ℝ} {x3 x5 : Vec Ideal S2048x128 .f32} {x6 : Vec Ideal S1x128 .f32}

theorem wd_ne : Model.wd ≠ 0 := by rw [Model.wd_eq]; norm_num

theorem rd_r (h : Rd2 x3 o) : Rd2 (k0_pay45 (F := Ideal) x3) (fun t _ => Model.rr o t) :=
  (((Rd2.rowSum ((h.cast shapeCasts_S2048x128_S2048x128).mul (h.cast shapeCasts_S2048x128_S2048x128)) _ reduces_S2048x128_S2048 _ _ shapeCasts_S2048_S2048x1).div
    (rd2_word 0x43000000#32 (by decide)) (fun _ _ _ _ => wd_ne)).add (rd2_word 0x358637BD#32 (by decide))).rsqrt fun t _ _ _ => Model.ms_pos o t

theorem rd_oh (h : Rd2 x3 o) : Rd2 (k0_pay46 (F := Ideal) x3) (fun t e => Model.oh o t e) :=
  (h.cast shapeCasts_S2048x128_S2048x128).mul ((rd_r h).col (by norm_num) broadcasts_S2048x1_S2048x128)

theorem rd_dgain (h : Rd2 x3 o) (hd : Rd2 x5 d) : Rd2 (k0_pay47 (F := Ideal) x3 x5) (fun _ e => Model.dgain o d 2048 e) :=
  Rd2.colSum (hd.mul (rd_oh h)) _ reduces_S2048x128_S128 _ _ shapeCasts_S128_S1x128

theorem rd_dO (h : Rd2 x3 o) (hd : Rd2 x5 d) (hg : Rd2 x6 fun _ e => gn e) :
    Rd2 (k0_pay48 (F := Ideal) x5 (k0_pay45 x3) (k0_pay46 x3) x6) (fun t e => Model.dO o d gn t e) :=
  have hdg := hd.mul (hg.row (by norm_num) broadcasts_S1x128_S2048x128)
  ((((rd_r h).col (by norm_num) broadcasts_S2048x1_S2048x128).mul (hdg.sub ((rd_oh h).mul
    (((Rd2.rowSum (hdg.mul (rd_oh h)) _ reduces_S2048x128_S2048 _ _ shapeCasts_S2048_S2048x1).div (rd2_word 0x43000000#32 (by decide))
      (fun _ _ _ _ => wd_ne)).col (by norm_num) broadcasts_S2048x1_S2048x128)))).trunc bitsLt_bf16_f32).cast shapeCasts_S2048x128_S2048x128

end Cert.KernelIdeal.Bwd

end
-- ==== Proof.Reads.lean ====
/- What the scratch buffers hold where the body reads them: a whole store, and stores of blocks of rows. -/
module

public import proofs.«01_k».proof.Proof.Ops
public import Idealize.ShloMosaic.Lib.Pipeline.Value
public import Idealize.ShloMosaic.Lib.Pipeline.RowLoads
public import Idealize.ShloMosaic.Lib.Pipeline.ReadBack

@[expose] public section

noncomputable section

namespace Cert.Proof.Rd

open Idealize.ShloMosaic Idealize.ShloMosaic.ValueIdx

variable {sig : RefSig} {κ : Kind} {sp : Space} {S : Shape} {e : EltTy}

/-- A load of a box of a buffer that one store filled. -/
theorem readCov_filled (v : View sig κ sp S e) {off : Fin S.rank → ℕ} (h : off = fun _ => 0) (inb : ∀ a, off a + S.size a ≤ S.size a)
    (w : S.Idx → Elt Ideal e) (L : List (View.Piece (Elt Ideal) S e)) (off' size : Fin S.rank → ℕ) (inb' : ∀ a, off' a + size a ≤ S.size a) :
    v.readCov (⟨Rect.unit off S.size inb, w⟩ :: L) (Rect.unit off' size inb').toLoadRect
      = extractStridedSlice ⟨_, size⟩ off' w ⟨rfl, inb'⟩ := by
  rw [View.readCov_eq_canon', View.canon_cons_unit_zero h]
  exact View.ld_unit w off' size inb'

theorem readAt_filled {m : Memref sig κ sp S e} (hm : m.IsWhole) {off : Fin S.rank → ℕ} (h : off = fun _ => 0) (inb : ∀ a, off a + S.size a ≤ S.size a)
    (x : S.Idx → Elt Ideal e) : View.readAt (Elt Ideal) m.view (Rect.unit off S.size inb).toLoadRect (hm.unread x) = x := by
  rw [View.readAt_eq_ld, hm.read_unread, View.ld_unit_zero h]

theorem rd_filled_bf16 {M N m n o : ℕ} {X : ℕ → ℕ → ℝ} (v : View sig κ sp ⟨2, ![M, N]⟩ .bf16) {off off' : Fin 2 → ℕ} (h : off = fun _ => 0) (h' : off' = ![o, 0])
    (inb : ∀ a, off a + (⟨2, ![M, N]⟩ : Shape).size a ≤ (⟨2, ![M, N]⟩ : Shape).size a) {w : (⟨2, ![M, N]⟩ : Shape).Idx → EReal}
    (L : List (View.Piece (Elt Ideal) ⟨2, ![M, N]⟩ .bf16)) (inb' : ∀ a, off' a + (⟨2, ![m, n]⟩ : Shape).size a ≤ (⟨2, ![M, N]⟩ : Shape).size a) (hw : Rd2 w X) :
    Rd2 (v.readCov ((⟨Rect.unit (s := (⟨2, ![M, N]⟩ : Shape)) off (⟨2, ![M, N]⟩ : Shape).size inb, w⟩ : View.Piece (Elt Ideal) ⟨2, ![M, N]⟩ .bf16) :: L)
      (Rect.unit (s := (⟨2, ![M, N]⟩ : Shape)) off' (⟨2, ![m, n]⟩ : Shape).size inb').toLoadRect) (fun i j => X (o + i) j) := by
  subst h'
  have e := readCov_filled (S := ⟨2, ![M, N]⟩) v h inb w L ![o, 0] (⟨2, ![m, n]⟩ : Shape).size inb'
  have hr := (hw.slice (n' := m) (m' := n) o 0 ⟨rfl, inb'⟩ (inb' 0) (inb' 1)).congr (Y := fun i j => X (o + i) j) fun i _ j _ => by rw [zero_add]
  exact fun i j => (congrFun e (ix2 i j)).trans (hr i j)

theorem rd_filled_f32 {M N m n o : ℕ} {X : ℕ → ℕ → ℝ} (v : View sig κ sp ⟨2, ![M, N]⟩ .f32) {off off' : Fin 2 → ℕ} (h : off = fun _ => 0) (h' : off' = ![o, 0])
    (inb : ∀ a, off a + (⟨2, ![M, N]⟩ : Shape).size a ≤ (⟨2, ![M, N]⟩ : Shape).size a) {w : (⟨2, ![M, N]⟩ : Shape).Idx → EReal}
    (L : List (View.Piece (Elt Ideal) ⟨2, ![M, N]⟩ .f32)) (inb' : ∀ a, off' a + (⟨2, ![m, n]⟩ : Shape).size a ≤ (⟨2, ![M, N]⟩ : Shape).size a) (hw : Rd2 w X) :
    Rd2 (v.readCov ((⟨Rect.unit (s := (⟨2, ![M, N]⟩ : Shape)) off (⟨2, ![M, N]⟩ : Shape).size inb, w⟩ : View.Piece (Elt Ideal) ⟨2, ![M, N]⟩ .f32) :: L)
      (Rect.unit (s := (⟨2, ![M, N]⟩ : Shape)) off' (⟨2, ![m, n]⟩ : Shape).size inb').toLoadRect) (fun i j => X (o + i) j) := by
  subst h'
  have e := readCov_filled (S := ⟨2, ![M, N]⟩) v h inb w L ![o, 0] (⟨2, ![m, n]⟩ : Shape).size inb'
  have hr := (hw.slice (n' := m) (m' := n) o 0 ⟨rfl, inb'⟩ (inb' 0) (inb' 1)).congr (Y := fun i j => X (o + i) j) fun i _ j _ => by rw [zero_add]
  exact fun i j => (congrFun e (ix2 i j)).trans (hr i j)

/-- A load of rows that the last store does not meet. -/
theorem rd_skip {M N k k' : ℕ} {X : ℕ → ℕ → ℝ} (v : View sig κ sp ⟨2, ![M, N]⟩ .f32) (o o' : ℕ) (h : o + k ≤ o') {x : (⟨2, ![k, N]⟩ : Shape).Idx → EReal}
    {L : List (View.Piece (Elt Ideal) ⟨2, ![M, N]⟩ .f32)} (inb : ∀ a, (![o, 0] : Fin 2 → Nat) a + (⟨2, ![k, N]⟩ : Shape).size a ≤ (⟨2, ![M, N]⟩ : Shape).size a)
    (inb' : ∀ a, (![o', 0] : Fin 2 → Nat) a + (⟨2, ![k', N]⟩ : Shape).size a ≤ (⟨2, ![M, N]⟩ : Shape).size a)
    (hL : Rd2 (v.readCov L (Rect.unit (s := (⟨2, ![M, N]⟩ : Shape)) ![o', 0] (⟨2, ![k', N]⟩ : Shape).size inb').toLoadRect) X) :
    Rd2 (v.readCov ((⟨Rect.unit (s := (⟨2, ![M, N]⟩ : Shape)) ![o, 0] (⟨2, ![k, N]⟩ : Shape).size inb, x⟩ : View.Piece (Elt Ideal) ⟨2, ![M, N]⟩ .f32) :: L)
      (Rect.unit (s := (⟨2, ![M, N]⟩ : Shape)) ![o', 0] (⟨2, ![k', N]⟩ : Shape).size inb').toLoadRect) X := by
  rw [View.readCov_cons_of_rows_disjoint v o o' (Or.inl h)]
  exact hL

/-- The rows below `n` of a buffer hold `X`. -/
def Below {M N : ℕ} (f : (⟨2, ![M, N]⟩ : Shape).Idx → EReal) (X : ℕ → ℕ → ℝ) (n : ℕ) : Prop :=
  ∀ (i : Fin M) (j : Fin N), i.val < n → f (ix2 i j) = ((X i j : ℝ) : EReal)

theorem below_zero {M N : ℕ} (f : (⟨2, ![M, N]⟩ : Shape).Idx → EReal) (X : ℕ → ℕ → ℝ) : Below f X 0 := fun _ _ h => absurd h (Nat.not_lt_zero _)

theorem below_all {M N : ℕ} {f : (⟨2, ![M, N]⟩ : Shape).Idx → EReal} {X : ℕ → ℕ → ℝ} (h : Below f X M) : Rd2 f X := fun i j => h i j i.isLt

/-- A store of the next block of rows. -/
theorem below_cons {M N : ℕ} {X : ℕ → ℕ → ℝ} {L : List (View.Piece (Elt Ideal) ⟨2, ![M, N]⟩ .f32)} (o k : ℕ)
    (inb : ∀ a, (![o, 0] : Fin 2 → Nat) a + (⟨2, ![k, N]⟩ : Shape).size a ≤ (⟨2, ![M, N]⟩ : Shape).size a)
    {p : (⟨2, ![k, N]⟩ : Shape).Idx → EReal} (hL : Below (View.canon L) X o) (hp : Rd2 p fun i j => X (o + i) j) :
    Below (View.canon ((⟨Rect.unit (s := (⟨2, ![M, N]⟩ : Shape)) ![o, 0] (⟨2, ![k, N]⟩ : Shape).size inb, p⟩ : View.Piece (Elt Ideal) ⟨2, ![M, N]⟩ .f32) :: L)) X (o + k) := by
  intro i j hi
  by_cases h : i.val < o
  · rw [View.canon_cons_of_not_mem]
    · exact hL i j h
    · intro hm
      have : o ≤ i.val := ((Rect.mem_set_unit (inb := inb)).1 hm (0 : Fin 2)).1
      omega
  · have e : ix2 i j = (Rect.unit (s := (⟨2, ![M, N]⟩ : Shape)) ![o, 0] (⟨2, ![k, N]⟩ : Shape).size inb).emb
        (ix2 (⟨i.val - o, by omega⟩ : Fin k) j) := by
      funext a; apply Fin.ext
      match a with
      | ⟨0, _⟩ => show i.val = o + 1 * (i.val - o); omega
      | ⟨1, _⟩ => show j.val = 0 + 1 * j.val; omega
    rw [e, View.canon_cons_emb]
    refine (hp _ _).trans ?_
    show ((X (o + (i.val - o)) j.val : ℝ) : EReal) = _
    rw [show o + (i.val - o) = i.val by omega]

end Cert.Proof.Rd

end
-- ==== Proof.Body.lean ====
/- The body over the reals: what it leaves in its four outputs. -/
module

public import proofs.«01_k».proof.Proof.Dats
public import proofs.«01_k».proof.Proof.Steps
public import proofs.«01_k».proof.Proof.Norm
public import proofs.«01_k».proof.Proof.Reads

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Cert.Proof.Block Cert.Proof.Rd Cert.Proof
open scoped BigOperators

variable {q k v o d : ℕ → ℕ → ℝ} {L gn : ℕ → ℝ}

theorem off00 : (![0, 0] : Fin 2 → ℕ) = fun _ => 0 := by decide
theorem off1_eq : k0_off1 = ![0, 0] := by decide
theorem off1_zero : k0_off1 = fun _ => 0 := off1_eq.trans off00

theorem rd_v74 (c : Dev nD) (arg1 : Memref sig .tc .vmem S2048x128 .f32) (harg1 : arg1.IsWhole) (arg12 : Memref sig .tc .vmem S2048x128 .bf16) (x0 : Vec Ideal S2048x128 .f32) (h : Rd2 x0 q) :
    Rd2 (kernelRun0_A.sl.v74 (F := Ideal) c arg1 harg1 arg12 x0) q := by
  unfold kernelRun0_A.sl.v74 kernelRun0_A.sl.HS0_1
  rw [readAt_filled harg1 off00]
  exact (rd_filled_bf16 (o := 0) _ off00 off1_eq _ [] _ ((h.trunc bitsLt_bf16_f32).cast shapeCasts_S2048x128_S2048x128)).congr fun _ _ _ _ => by rw [zero_add]

theorem rd_v100 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v100 (F := Ideal) c arg2 harg2 arg13 x1) fun j e => k (0 + j) e := by
  unfold kernelRun0_A.sl.v100 kernelRun0_A.sl.HS1_1
  rw [readAt_filled harg2 off00]
  exact rd_filled_bf16 (o := 0) _ off00 rfl _ [] _ ((h.trunc bitsLt_bf16_f32).cast shapeCasts_S2048x128_S2048x128)

theorem rd_v104 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v104 (F := Ideal) c arg3 harg3 arg14 x2) fun j e => v (0 + j) e := by
  unfold kernelRun0_A.sl.v104 kernelRun0_A.sl.HS2_1
  rw [readAt_filled harg3 off00]
  exact rd_filled_bf16 (o := 0) _ off00 rfl _ [] _ ((h.trunc bitsLt_bf16_f32).cast shapeCasts_S2048x128_S2048x128)

theorem rd_v165 (c : Dev nD) (arg16 : Memref sig .tc .vmem S2048x128 .f32)  :
    Rd2 (kernelRun0_A.sl.v165 (F := Ideal) c arg16) fun _ _ => 0 := by
  unfold kernelRun0_A.sl.v165 kernelRun0_A.sl.HS4_1
  exact (rd_filled_f32 (o := 0) _ off00 rfl _ [] _ (rd2_zero.cast shapeCasts_S2048x128_S2048x128))

theorem rd_v175 (c : Dev nD) (arg17 : Memref sig .tc .vmem S2048x128 .f32)  :
    Rd2 (kernelRun0_A.sl.v175 (F := Ideal) c arg17) fun _ _ => 0 := by
  unfold kernelRun0_A.sl.v175 kernelRun0_A.sl.HS5_1
  exact (rd_filled_f32 (o := 0) _ off00 rfl _ [] _ (rd2_zero.cast shapeCasts_S2048x128_S2048x128))

theorem rd_v198 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v198 (F := Ideal) c arg2 harg2 arg13 x1) fun j e => k (256 + j) e := by
  unfold kernelRun0_A.sl.v198 kernelRun0_A.sl.HS1_1
  rw [readAt_filled harg2 off00]
  exact rd_filled_bf16 (o := 256) _ off00 rfl _ [] _ ((h.trunc bitsLt_bf16_f32).cast shapeCasts_S2048x128_S2048x128)

theorem rd_v202 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v202 (F := Ideal) c arg3 harg3 arg14 x2) fun j e => v (256 + j) e := by
  unfold kernelRun0_A.sl.v202 kernelRun0_A.sl.HS2_1
  rw [readAt_filled harg3 off00]
  exact rd_filled_bf16 (o := 256) _ off00 rfl _ [] _ ((h.trunc bitsLt_bf16_f32).cast shapeCasts_S2048x128_S2048x128)

theorem rd_v266 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v266 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v266 kernelRun0_A.sl.HS4_2 kernelRun0_A.sl.HS4_1
  exact (rd_skip _ 0 256 (by norm_num) _ _ (rd_filled_f32 (o := 256) _ off00 rfl _ [] _ (rd2_zero.cast shapeCasts_S2048x128_S2048x128)))

theorem rd_v276 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v276 (F := Ideal) c arg1 harg1 arg2 harg2 arg4 harg4 arg5 harg5 arg6 harg6 arg7 harg7 arg12 arg13 arg15 arg17 x0 x1 x3 x4 x5 x6) fun _ _ => 0 := by
  unfold kernelRun0_A.sl.v276 kernelRun0_A.sl.HS5_2 kernelRun0_A.sl.HS5_1
  exact (rd_skip _ 0 256 (by norm_num) _ _ (rd_filled_f32 (o := 256) _ off00 rfl _ [] _ (rd2_zero.cast shapeCasts_S2048x128_S2048x128)))

theorem rd_v308 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v308 (F := Ideal) c arg2 harg2 arg13 x1) fun j e => k (512 + j) e := by
  unfold kernelRun0_A.sl.v308 kernelRun0_A.sl.HS1_1
  rw [readAt_filled harg2 off00]
  exact rd_filled_bf16 (o := 512) _ off00 rfl _ [] _ ((h.trunc bitsLt_bf16_f32).cast shapeCasts_S2048x128_S2048x128)

theorem rd_v312 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v312 (F := Ideal) c arg3 harg3 arg14 x2) fun j e => v (512 + j) e := by
  unfold kernelRun0_A.sl.v312 kernelRun0_A.sl.HS2_1
  rw [readAt_filled harg3 off00]
  exact rd_filled_bf16 (o := 512) _ off00 rfl _ [] _ ((h.trunc bitsLt_bf16_f32).cast shapeCasts_S2048x128_S2048x128)

theorem rd_v376 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v376 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v376 kernelRun0_A.sl.HS4_3 kernelRun0_A.sl.HS4_2 kernelRun0_A.sl.HS4_1
  exact (rd_skip _ 256 512 (by norm_num) _ _ (rd_skip _ 0 512 (by norm_num) _ _ (rd_filled_f32 (o := 512) _ off00 rfl _ [] _ (rd2_zero.cast shapeCasts_S2048x128_S2048x128))))

theorem rd_v386 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v386 (F := Ideal) c arg1 harg1 arg2 harg2 arg4 harg4 arg5 harg5 arg6 harg6 arg7 harg7 arg12 arg13 arg15 arg17 x0 x1 x3 x4 x5 x6) fun _ _ => 0 := by
  unfold kernelRun0_A.sl.v386 kernelRun0_A.sl.HS5_3 kernelRun0_A.sl.HS5_2 kernelRun0_A.sl.HS5_1
  exact (rd_skip _ 256 512 (by norm_num) _ _ (rd_skip _ 0 512 (by norm_num) _ _ (rd_filled_f32 (o := 512) _ off00 rfl _ [] _ (rd2_zero.cast shapeCasts_S2048x128_S2048x128))))

theorem rd_v418 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v418 (F := Ideal) c arg2 harg2 arg13 x1) fun j e => k (768 + j) e := by
  unfold kernelRun0_A.sl.v418 kernelRun0_A.sl.HS1_1
  rw [readAt_filled harg2 off00]
  exact rd_filled_bf16 (o := 768) _ off00 rfl _ [] _ ((h.trunc bitsLt_bf16_f32).cast shapeCasts_S2048x128_S2048x128)

theorem rd_v422 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v422 (F := Ideal) c arg3 harg3 arg14 x2) fun j e => v (768 + j) e := by
  unfold kernelRun0_A.sl.v422 kernelRun0_A.sl.HS2_1
  rw [readAt_filled harg3 off00]
  exact rd_filled_bf16 (o := 768) _ off00 rfl _ [] _ ((h.trunc bitsLt_bf16_f32).cast shapeCasts_S2048x128_S2048x128)

theorem rd_v486 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v486 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v486 kernelRun0_A.sl.HS4_4 kernelRun0_A.sl.HS4_3 kernelRun0_A.sl.HS4_2 kernelRun0_A.sl.HS4_1
  exact (rd_skip _ 512 768 (by norm_num) _ _ (rd_skip _ 256 768 (by norm_num) _ _ (rd_skip _ 0 768 (by norm_num) _ _ (rd_filled_f32 (o := 768) _ off00 rfl _ [] _ (rd2_zero.cast shapeCasts_S2048x128_S2048x128)))))

theorem rd_v496 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v496 (F := Ideal) c arg1 harg1 arg2 harg2 arg4 harg4 arg5 harg5 arg6 harg6 arg7 harg7 arg12 arg13 arg15 arg17 x0 x1 x3 x4 x5 x6) fun _ _ => 0 := by
  unfold kernelRun0_A.sl.v496 kernelRun0_A.sl.HS5_4 kernelRun0_A.sl.HS5_3 kernelRun0_A.sl.HS5_2 kernelRun0_A.sl.HS5_1
  exact (rd_skip _ 512 768 (by norm_num) _ _ (rd_skip _ 256 768 (by norm_num) _ _ (rd_skip _ 0 768 (by norm_num) _ _ (rd_filled_f32 (o := 768) _ off00 rfl _ [] _ (rd2_zero.cast shapeCasts_S2048x128_S2048x128)))))

theorem rd_v528 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v528 (F := Ideal) c arg2 harg2 arg13 x1) fun j e => k (1024 + j) e := by
  unfold kernelRun0_A.sl.v528 kernelRun0_A.sl.HS1_1
  rw [readAt_filled harg2 off00]
  exact rd_filled_bf16 (o := 1024) _ off00 rfl _ [] _ ((h.trunc bitsLt_bf16_f32).cast shapeCasts_S2048x128_S2048x128)

theorem rd_v532 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v532 (F := Ideal) c arg3 harg3 arg14 x2) fun j e => v (1024 + j) e := by
  unfold kernelRun0_A.sl.v532 kernelRun0_A.sl.HS2_1
  rw [readAt_filled harg3 off00]
  exact rd_filled_bf16 (o := 1024) _ off00 rfl _ [] _ ((h.trunc bitsLt_bf16_f32).cast shapeCasts_S2048x128_S2048x128)

theorem rd_v596 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v596 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v596 kernelRun0_A.sl.HS4_5 kernelRun0_A.sl.HS4_4 kernelRun0_A.sl.HS4_3 kernelRun0_A.sl.HS4_2 kernelRun0_A.sl.HS4_1
  exact (rd_skip _ 768 1024 (by norm_num) _ _ (rd_skip _ 512 1024 (by norm_num) _ _ (rd_skip _ 256 1024 (by norm_num) _ _ (rd_skip _ 0 1024 (by norm_num) _ _ (rd_filled_f32 (o := 1024) _ off00 rfl _ [] _ (rd2_zero.cast shapeCasts_S2048x128_S2048x128))))))

theorem rd_v606 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v606 (F := Ideal) c arg1 harg1 arg2 harg2 arg4 harg4 arg5 harg5 arg6 harg6 arg7 harg7 arg12 arg13 arg15 arg17 x0 x1 x3 x4 x5 x6) fun _ _ => 0 := by
  unfold kernelRun0_A.sl.v606 kernelRun0_A.sl.HS5_5 kernelRun0_A.sl.HS5_4 kernelRun0_A.sl.HS5_3 kernelRun0_A.sl.HS5_2 kernelRun0_A.sl.HS5_1
  exact (rd_skip _ 768 1024 (by norm_num) _ _ (rd_skip _ 512 1024 (by norm_num) _ _ (rd_skip _ 256 1024 (by norm_num) _ _ (rd_skip _ 0 1024 (by norm_num) _ _ (rd_filled_f32 (o := 1024) _ off00 rfl _ [] _ (rd2_zero.cast shapeCasts_S2048x128_S2048x128))))))

theorem rd_v638 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v638 (F := Ideal) c arg2 harg2 arg13 x1) fun j e => k (1280 + j) e := by
  unfold kernelRun0_A.sl.v638 kernelRun0_A.sl.HS1_1
  rw [readAt_filled harg2 off00]
  exact rd_filled_bf16 (o := 1280) _ off00 rfl _ [] _ ((h.trunc bitsLt_bf16_f32).cast shapeCasts_S2048x128_S2048x128)

theorem rd_v642 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v642 (F := Ideal) c arg3 harg3 arg14 x2) fun j e => v (1280 + j) e := by
  unfold kernelRun0_A.sl.v642 kernelRun0_A.sl.HS2_1
  rw [readAt_filled harg3 off00]
  exact rd_filled_bf16 (o := 1280) _ off00 rfl _ [] _ ((h.trunc bitsLt_bf16_f32).cast shapeCasts_S2048x128_S2048x128)

theorem rd_v706 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v706 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v706 kernelRun0_A.sl.HS4_6 kernelRun0_A.sl.HS4_5 kernelRun0_A.sl.HS4_4 kernelRun0_A.sl.HS4_3 kernelRun0_A.sl.HS4_2 kernelRun0_A.sl.HS4_1
  exact (rd_skip _ 1024 1280 (by norm_num) _ _ (rd_skip _ 768 1280 (by norm_num) _ _ (rd_skip _ 512 1280 (by norm_num) _ _ (rd_skip _ 256 1280 (by norm_num) _ _ (rd_skip _ 0 1280 (by norm_num) _ _ (rd_filled_f32 (o := 1280) _ off00 rfl _ [] _ (rd2_zero.cast shapeCasts_S2048x128_S2048x128)))))))

theorem rd_v716 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v716 (F := Ideal) c arg1 harg1 arg2 harg2 arg4 harg4 arg5 harg5 arg6 harg6 arg7 harg7 arg12 arg13 arg15 arg17 x0 x1 x3 x4 x5 x6) fun _ _ => 0 := by
  unfold kernelRun0_A.sl.v716 kernelRun0_A.sl.HS5_6 kernelRun0_A.sl.HS5_5 kernelRun0_A.sl.HS5_4 kernelRun0_A.sl.HS5_3 kernelRun0_A.sl.HS5_2 kernelRun0_A.sl.HS5_1
  exact (rd_skip _ 1024 1280 (by norm_num) _ _ (rd_skip _ 768 1280 (by norm_num) _ _ (rd_skip _ 512 1280 (by norm_num) _ _ (rd_skip _ 256 1280 (by norm_num) _ _ (rd_skip _ 0 1280 (by norm_num) _ _ (rd_filled_f32 (o := 1280) _ off00 rfl _ [] _ (rd2_zero.cast shapeCasts_S2048x128_S2048x128)))))))

theorem rd_v748 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v748 (F := Ideal) c arg2 harg2 arg13 x1) fun j e => k (1536 + j) e := by
  unfold kernelRun0_A.sl.v748 kernelRun0_A.sl.HS1_1
  rw [readAt_filled harg2 off00]
  exact rd_filled_bf16 (o := 1536) _ off00 rfl _ [] _ ((h.trunc bitsLt_bf16_f32).cast shapeCasts_S2048x128_S2048x128)

theorem rd_v752 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v752 (F := Ideal) c arg3 harg3 arg14 x2) fun j e => v (1536 + j) e := by
  unfold kernelRun0_A.sl.v752 kernelRun0_A.sl.HS2_1
  rw [readAt_filled harg3 off00]
  exact rd_filled_bf16 (o := 1536) _ off00 rfl _ [] _ ((h.trunc bitsLt_bf16_f32).cast shapeCasts_S2048x128_S2048x128)

theorem rd_v816 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v816 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v816 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
  exact (rd_skip _ 1280 1536 (by norm_num) _ _ (rd_skip _ 1024 1536 (by norm_num) _ _ (rd_skip _ 768 1536 (by norm_num) _ _ (rd_skip _ 512 1536 (by norm_num) _ _ (rd_skip _ 256 1536 (by norm_num) _ _ (rd_skip _ 0 1536 (by norm_num) _ _ (rd_filled_f32 (o := 1536) _ off00 rfl _ [] _ (rd2_zero.cast shapeCasts_S2048x128_S2048x128))))))))

theorem rd_v826 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v826 (F := Ideal) c arg1 harg1 arg2 harg2 arg4 harg4 arg5 harg5 arg6 harg6 arg7 harg7 arg12 arg13 arg15 arg17 x0 x1 x3 x4 x5 x6) fun _ _ => 0 := by
  unfold kernelRun0_A.sl.v826 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1
  exact (rd_skip _ 1280 1536 (by norm_num) _ _ (rd_skip _ 1024 1536 (by norm_num) _ _ (rd_skip _ 768 1536 (by norm_num) _ _ (rd_skip _ 512 1536 (by norm_num) _ _ (rd_skip _ 256 1536 (by norm_num) _ _ (rd_skip _ 0 1536 (by norm_num) _ _ (rd_filled_f32 (o := 1536) _ off00 rfl _ [] _ (rd2_zero.cast shapeCasts_S2048x128_S2048x128))))))))

theorem rd_v858 (c : Dev nD) (arg2 : Memref sig .tc .vmem S2048x128 .f32) (harg2 : arg2.IsWhole) (arg13 : Memref sig .tc .vmem S2048x128 .bf16) (x1 : Vec Ideal S2048x128 .f32) (h : Rd2 x1 k) :
    Rd2 (kernelRun0_A.sl.v858 (F := Ideal) c arg2 harg2 arg13 x1) fun j e => k (1792 + j) e := by
  unfold kernelRun0_A.sl.v858 kernelRun0_A.sl.HS1_1
  rw [readAt_filled harg2 off00]
  exact rd_filled_bf16 (o := 1792) _ off00 rfl _ [] _ ((h.trunc bitsLt_bf16_f32).cast shapeCasts_S2048x128_S2048x128)

theorem rd_v862 (c : Dev nD) (arg3 : Memref sig .tc .vmem S2048x128 .f32) (harg3 : arg3.IsWhole) (arg14 : Memref sig .tc .vmem S2048x128 .bf16) (x2 : Vec Ideal S2048x128 .f32) (h : Rd2 x2 v) :
    Rd2 (kernelRun0_A.sl.v862 (F := Ideal) c arg3 harg3 arg14 x2) fun j e => v (1792 + j) e := by
  unfold kernelRun0_A.sl.v862 kernelRun0_A.sl.HS2_1
  rw [readAt_filled harg3 off00]
  exact rd_filled_bf16 (o := 1792) _ off00 rfl _ [] _ ((h.trunc bitsLt_bf16_f32).cast shapeCasts_S2048x128_S2048x128)

theorem rd_v926 (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v926 (F := Ideal) c arg1 harg1 arg2 harg2 arg3 harg3 arg4 harg4 arg5 harg5 arg6 harg6 arg7 harg7 arg12 arg13 arg14 arg15 arg16 x0 x1 x2 x3 x4 x5 x6) fun _ _ => 0 := by
  unfold kernelRun0_A.sl.v926 kernelRun0_A.sl.HS4_8 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
  exact (rd_skip _ 1536 1792 (by norm_num) _ _ (rd_skip _ 1280 1792 (by norm_num) _ _ (rd_skip _ 1024 1792 (by norm_num) _ _ (rd_skip _ 768 1792 (by norm_num) _ _ (rd_skip _ 512 1792 (by norm_num) _ _ (rd_skip _ 256 1792 (by norm_num) _ _ (rd_skip _ 0 1792 (by norm_num) _ _ (rd_filled_f32 (o := 1792) _ off00 rfl _ [] _ (rd2_zero.cast shapeCasts_S2048x128_S2048x128)))))))))

theorem rd_v936 (c : Dev nD) (arg1 : Memref sig .tc .vmem S2048x128 .f32) (harg1 : arg1.IsWhole) (arg2 : Memref sig .tc .vmem S2048x128 .f32) (harg2 : arg2.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg15 : Memref sig .tc .vmem S2048x128 .bf16) (arg17 : Memref sig .tc .vmem S2048x128 .f32) (x0 : Vec Ideal S2048x128 .f32) (x1 : Vec Ideal S2048x128 .f32) (x3 : Vec Ideal S2048x128 .f32) (x4 : Vec Ideal S2048x128 .f32) (x5 : Vec Ideal S2048x128 .f32) (x6 : Vec Ideal S1x128 .f32)  :
    Rd2 (kernelRun0_A.sl.v936 (F := Ideal) c arg1 harg1 arg2 harg2 arg4 harg4 arg5 harg5 arg6 harg6 arg7 harg7 arg12 arg13 arg15 arg17 x0 x1 x3 x4 x5 x6) fun _ _ => 0 := by
  unfold kernelRun0_A.sl.v936 kernelRun0_A.sl.HS5_8 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1
  exact (rd_skip _ 1536 1792 (by norm_num) _ _ (rd_skip _ 1280 1792 (by norm_num) _ _ (rd_skip _ 1024 1792 (by norm_num) _ _ (rd_skip _ 768 1792 (by norm_num) _ _ (rd_skip _ 512 1792 (by norm_num) _ _ (rd_skip _ 256 1792 (by norm_num) _ _ (rd_skip _ 0 1792 (by norm_num) _ _ (rd_filled_f32 (o := 1792) _ off00 rfl _ [] _ (rd2_zero.cast shapeCasts_S2048x128_S2048x128)))))))))

theorem rd_v78 (c : Dev nD) (arg4 : Memref sig .tc .vmem S2048x128 .f32) (harg4 : arg4.IsWhole) (arg6 : Memref sig .tc .vmem S2048x128 .f32) (harg6 : arg6.IsWhole) (arg7 : Memref sig .tc .vmem S1x128 .f32) (harg7 : arg7.IsWhole) (arg15 : Memref sig .tc .vmem S2048x128 .bf16) (x3 : Vec Ideal S2048x128 .f32) (x5 : Vec Ideal S2048x128 .f32) (x6 : Vec Ideal S1x128 .f32) (ho : Rd2 x3 o) (hd : Rd2 x5 d) (hg : Rd2 x6 fun _ e => gn e) :
    Rd2 (kernelRun0_A.sl.v78 (F := Ideal) c arg4 harg4 arg6 harg6 arg7 harg7 arg15 x3 x5 x6) (fun t e => Model.dO o d gn t e) := by
  unfold kernelRun0_A.sl.v78 kernelRun0_A.sl.HS3_1 kernelRun0_A.sl.r kernelRun0_A.sl.r_1 kernelRun0_A.sl.r_2
  rw [readAt_filled harg4 off00, readAt_filled harg6 off00, readAt_filled harg7 off00]
  exact (rd_filled_bf16 (o := 0) _ off00 off1_eq _ [] _ (rd_dO ho hd hg)).congr fun _ _ _ _ => by rw [zero_add]

theorem rd_r_3 (c : Dev nD) (arg5 : Memref sig .tc .vmem S2048x128 .f32) (harg5 : arg5.IsWhole) (x4 : Vec Ideal S2048x128 .f32) (h : Rd2 x4 fun t _ => L t) :
    Rd2 (kernelRun0_A.sl.r_3 (F := Ideal) c arg5 harg5 x4) fun t _ => L t := by
  unfold kernelRun0_A.sl.r_3
  rw [readAt_filled harg5 off1_zero]
  exact ((h.cast shapeCasts_S2048x128_S2048x128).slice 0 0 slices_S2048x128_o0_0_S2048x1 (by norm_num) (by norm_num)).congr fun _ _ _ _ => by rw [zero_add]

set_option maxHeartbeats 4000000 in
theorem body_values (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg12 : Memref sig .tc .vmem S2048x128 .bf16) (arg13 : Memref sig .tc .vmem S2048x128 .bf16) (arg14 : Memref sig .tc .vmem S2048x128 .bf16) (arg15 : Memref sig .tc .vmem S2048x128 .bf16) (arg16 : Memref sig .tc .vmem S2048x128 .f32) (arg17 : Memref sig .tc .vmem S2048x128 .f32) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32) (h0 : Rd2 x0 q) (h1 : Rd2 x1 k) (h2 : Rd2 x2 v) (h3 : Rd2 x3 o) (h4 : Rd2 x4 fun t _ => L t) (h5 : Rd2 x5 d) (h6 : Rd2 x6 fun _ e => gn e) :
    Rd2 (k0_pay204 (F := Ideal) (kernelRun0_A.sl.r_88 (F := Ideal) c arg1 harg1 arg2 harg2 arg3 harg3 arg4 harg4 arg5 harg5 arg6 harg6 arg7 harg7 arg12 arg13 arg14 arg15 x0 x1 x2 x3 x4 x5 x6) (kernelRun0_A.sl.v858 (F := Ideal) c arg2 harg2 arg13 x1) (kernelRun0_A.sl.r_95 (F := Ideal) c arg1 harg1 arg2 harg2 arg3 harg3 arg4 harg4 arg5 harg5 arg6 harg6 arg7 harg7 arg12 arg13 arg14 arg15 x0 x1 x2 x3 x4 x5 x6)) (fun t e => Model.dq q k v (Model.dO o d gn) sc L 2048 t e) ∧
    Rd2 (kernelRun0_A.sl.v954 (F := Ideal) c arg1 harg1 arg2 harg2 arg3 harg3 arg4 harg4 arg5 harg5 arg6 harg6 arg7 harg7 arg12 arg13 arg14 arg15 arg16 x0 x1 x2 x3 x4 x5 x6) (fun s e => Model.dk q k v (Model.dO o d gn) sc L 2048 s e) ∧
    Rd2 (kernelRun0_A.sl.v957 (F := Ideal) c arg1 harg1 arg2 harg2 arg4 harg4 arg5 harg5 arg6 harg6 arg7 harg7 arg12 arg13 arg15 arg17 x0 x1 x3 x4 x5 x6) (fun s e => Model.dv q k (Model.dO o d gn) sc L 2048 s e) := by
  have hQ := rd_v74 c arg1 harg1 arg12 x0 h0
  have hG := rd_v78 c arg4 harg4 arg6 harg6 arg7 harg7 arg15 x3 x5 x6 h3 h5 h6
  have hl := rd_r_3 c arg5 harg5 x4 h4
  obtain ⟨c1, d1, r1, p0, w0⟩ := step0 c arg1 harg1 arg2 harg2 arg3 harg3 arg4 harg4 arg5 harg5 arg6 harg6 arg7 harg7 arg12 arg13 arg14 arg15 arg16 arg17 x0 x1 x2 x3 x4 x5 x6 hQ hG (rd_v100 c arg2 harg2 arg13 x1 h1) (rd_v104 c arg3 harg3 arg14 x2 h2) hl (rd_v165 c arg16 ) (rd_v175 c arg17 )
  obtain ⟨c2, d2, r2, p1, w1⟩ := step1 c arg1 harg1 arg2 harg2 arg3 harg3 arg4 harg4 arg5 harg5 arg6 harg6 arg7 harg7 arg12 arg13 arg14 arg15 arg16 arg17 x0 x1 x2 x3 x4 x5 x6 hQ hG (rd_v198 c arg2 harg2 arg13 x1 h1) (rd_v202 c arg3 harg3 arg14 x2 h2) hl c1 d1 r1 (rd_v266 c arg1 harg1 arg2 harg2 arg3 harg3 arg4 harg4 arg5 harg5 arg6 harg6 arg7 harg7 arg12 arg13 arg14 arg15 arg16 x0 x1 x2 x3 x4 x5 x6 ) (rd_v276 c arg1 harg1 arg2 harg2 arg4 harg4 arg5 harg5 arg6 harg6 arg7 harg7 arg12 arg13 arg15 arg17 x0 x1 x3 x4 x5 x6 )
  obtain ⟨c3, d3, r3, p2, w2⟩ := step2 c arg1 harg1 arg2 harg2 arg3 harg3 arg4 harg4 arg5 harg5 arg6 harg6 arg7 harg7 arg12 arg13 arg14 arg15 arg16 arg17 x0 x1 x2 x3 x4 x5 x6 hQ hG (rd_v308 c arg2 harg2 arg13 x1 h1) (rd_v312 c arg3 harg3 arg14 x2 h2) hl c2 d2 r2 (rd_v376 c arg1 harg1 arg2 harg2 arg3 harg3 arg4 harg4 arg5 harg5 arg6 harg6 arg7 harg7 arg12 arg13 arg14 arg15 arg16 x0 x1 x2 x3 x4 x5 x6 ) (rd_v386 c arg1 harg1 arg2 harg2 arg4 harg4 arg5 harg5 arg6 harg6 arg7 harg7 arg12 arg13 arg15 arg17 x0 x1 x3 x4 x5 x6 )
  obtain ⟨c4, d4, r4, p3, w3⟩ := step3 c arg1 harg1 arg2 harg2 arg3 harg3 arg4 harg4 arg5 harg5 arg6 harg6 arg7 harg7 arg12 arg13 arg14 arg15 arg16 arg17 x0 x1 x2 x3 x4 x5 x6 hQ hG (rd_v418 c arg2 harg2 arg13 x1 h1) (rd_v422 c arg3 harg3 arg14 x2 h2) hl c3 d3 r3 (rd_v486 c arg1 harg1 arg2 harg2 arg3 harg3 arg4 harg4 arg5 harg5 arg6 harg6 arg7 harg7 arg12 arg13 arg14 arg15 arg16 x0 x1 x2 x3 x4 x5 x6 ) (rd_v496 c arg1 harg1 arg2 harg2 arg4 harg4 arg5 harg5 arg6 harg6 arg7 harg7 arg12 arg13 arg15 arg17 x0 x1 x3 x4 x5 x6 )
  obtain ⟨c5, d5, r5, p4, w4⟩ := step4 c arg1 harg1 arg2 harg2 arg3 harg3 arg4 harg4 arg5 harg5 arg6 harg6 arg7 harg7 arg12 arg13 arg14 arg15 arg16 arg17 x0 x1 x2 x3 x4 x5 x6 hQ hG (rd_v528 c arg2 harg2 arg13 x1 h1) (rd_v532 c arg3 harg3 arg14 x2 h2) hl c4 d4 r4 (rd_v596 c arg1 harg1 arg2 harg2 arg3 harg3 arg4 harg4 arg5 harg5 arg6 harg6 arg7 harg7 arg12 arg13 arg14 arg15 arg16 x0 x1 x2 x3 x4 x5 x6 ) (rd_v606 c arg1 harg1 arg2 harg2 arg4 harg4 arg5 harg5 arg6 harg6 arg7 harg7 arg12 arg13 arg15 arg17 x0 x1 x3 x4 x5 x6 )
  obtain ⟨c6, d6, r6, p5, w5⟩ := step5 c arg1 harg1 arg2 harg2 arg3 harg3 arg4 harg4 arg5 harg5 arg6 harg6 arg7 harg7 arg12 arg13 arg14 arg15 arg16 arg17 x0 x1 x2 x3 x4 x5 x6 hQ hG (rd_v638 c arg2 harg2 arg13 x1 h1) (rd_v642 c arg3 harg3 arg14 x2 h2) hl c5 d5 r5 (rd_v706 c arg1 harg1 arg2 harg2 arg3 harg3 arg4 harg4 arg5 harg5 arg6 harg6 arg7 harg7 arg12 arg13 arg14 arg15 arg16 x0 x1 x2 x3 x4 x5 x6 ) (rd_v716 c arg1 harg1 arg2 harg2 arg4 harg4 arg5 harg5 arg6 harg6 arg7 harg7 arg12 arg13 arg15 arg17 x0 x1 x3 x4 x5 x6 )
  obtain ⟨c7, d7, r7, p6, w6⟩ := step6 c arg1 harg1 arg2 harg2 arg3 harg3 arg4 harg4 arg5 harg5 arg6 harg6 arg7 harg7 arg12 arg13 arg14 arg15 arg16 arg17 x0 x1 x2 x3 x4 x5 x6 hQ hG (rd_v748 c arg2 harg2 arg13 x1 h1) (rd_v752 c arg3 harg3 arg14 x2 h2) hl c6 d6 r6 (rd_v816 c arg1 harg1 arg2 harg2 arg3 harg3 arg4 harg4 arg5 harg5 arg6 harg6 arg7 harg7 arg12 arg13 arg14 arg15 arg16 x0 x1 x2 x3 x4 x5 x6 ) (rd_v826 c arg1 harg1 arg2 harg2 arg4 harg4 arg5 harg5 arg6 harg6 arg7 harg7 arg12 arg13 arg15 arg17 x0 x1 x3 x4 x5 x6 )
  obtain ⟨rq, p7, w7⟩ := step7 c arg1 harg1 arg2 harg2 arg3 harg3 arg4 harg4 arg5 harg5 arg6 harg6 arg7 harg7 arg12 arg13 arg14 arg15 arg16 arg17 x0 x1 x2 x3 x4 x5 x6 hQ hG (rd_v858 c arg2 harg2 arg13 x1 h1) (rd_v862 c arg3 harg3 arg14 x2 h2) hl c7 d7 r7 (rd_v926 c arg1 harg1 arg2 harg2 arg3 harg3 arg4 harg4 arg5 harg5 arg6 harg6 arg7 harg7 arg12 arg13 arg14 arg15 arg16 x0 x1 x2 x3 x4 x5 x6 ) (rd_v936 c arg1 harg1 arg2 harg2 arg4 harg4 arg5 harg5 arg6 harg6 arg7 harg7 arg12 arg13 arg15 arg17 x0 x1 x3 x4 x5 x6 )
  refine ⟨rq, ?_, ?_⟩
  · have hb : Rd2 (View.canon (kernelRun0_A.sl.HS4_9 (F := Ideal) c arg1 harg1 arg2 harg2 arg3 harg3 arg4 harg4 arg5 harg5 arg6 harg6 arg7 harg7 arg12 arg13 arg14 arg15 arg16 x0 x1 x2 x3 x4 x5 x6)) (fun s e => Model.dk q k v (Model.dO o d gn) sc L 2048 s e) := by
      unfold kernelRun0_A.sl.HS4_9 kernelRun0_A.sl.HS4_8 kernelRun0_A.sl.HS4_7 kernelRun0_A.sl.HS4_6 kernelRun0_A.sl.HS4_5 kernelRun0_A.sl.HS4_4 kernelRun0_A.sl.HS4_3 kernelRun0_A.sl.HS4_2 kernelRun0_A.sl.HS4_1
      exact below_all (below_cons 1792 256 _ (below_cons 1536 256 _ (below_cons 1280 256 _ (below_cons 1024 256 _ (below_cons 768 256 _ (below_cons 512 256 _ (below_cons 256 256 _ (below_cons 0 256 _ (below_zero _ _) p0) p1) p2) p3) p4) p5) p6) p7)
    unfold kernelRun0_A.sl.v954
    rw [View.readCov_eq_canon']
    have e := View.ld_unit_zero (S := S2048x128) off00 inb_S2048x128_S2048x128_0_0 (View.canon (kernelRun0_A.sl.HS4_9 (F := Ideal) c arg1 harg1 arg2 harg2 arg3 harg3 arg4 harg4 arg5 harg5 arg6 harg6 arg7 harg7 arg12 arg13 arg14 arg15 arg16 x0 x1 x2 x3 x4 x5 x6))
    exact fun i j => (congrFun e (ix2 i j)).trans (hb i j)
  · have hb : Rd2 (View.canon (kernelRun0_A.sl.HS5_9 (F := Ideal) c arg1 harg1 arg2 harg2 arg4 harg4 arg5 harg5 arg6 harg6 arg7 harg7 arg12 arg13 arg15 arg17 x0 x1 x3 x4 x5 x6)) (fun s e => Model.dv q k (Model.dO o d gn) sc L 2048 s e) := by
      unfold kernelRun0_A.sl.HS5_9 kernelRun0_A.sl.HS5_8 kernelRun0_A.sl.HS5_7 kernelRun0_A.sl.HS5_6 kernelRun0_A.sl.HS5_5 kernelRun0_A.sl.HS5_4 kernelRun0_A.sl.HS5_3 kernelRun0_A.sl.HS5_2 kernelRun0_A.sl.HS5_1
      exact below_all (below_cons 1792 256 _ (below_cons 1536 256 _ (below_cons 1280 256 _ (below_cons 1024 256 _ (below_cons 768 256 _ (below_cons 512 256 _ (below_cons 256 256 _ (below_cons 0 256 _ (below_zero _ _) w0) w1) w2) w3) w4) w5) w6) w7)
    unfold kernelRun0_A.sl.v957
    rw [View.readCov_eq_canon']
    have e := View.ld_unit_zero (S := S2048x128) off00 inb_S2048x128_S2048x128_0_0 (View.canon (kernelRun0_A.sl.HS5_9 (F := Ideal) c arg1 harg1 arg2 harg2 arg4 harg4 arg5 harg5 arg6 harg6 arg7 harg7 arg12 arg13 arg15 arg17 x0 x1 x3 x4 x5 x6))
    exact fun i j => (congrFun e (ix2 i j)).trans (hb i j)

variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S1x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S2048x128 .f32) (harg17 : arg17.IsWhole) (x0 : Vec Ideal S2048x128 .f32) (x1 : Vec Ideal S2048x128 .f32) (x2 : Vec Ideal S2048x128 .f32) (x3 : Vec Ideal S2048x128 .f32) (x4 : Vec Ideal S2048x128 .f32) (x5 : Vec Ideal S2048x128 .f32) (x6 : Vec Ideal S1x128 .f32)

theorem out7_eq : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = (k0_pay204 (F := Ideal) (kernelRun0_A.sl.r_88 (F := Ideal) c arg1 harg1 arg2 harg2 arg3 harg3 arg4 harg4 arg5 harg5 arg6 harg6 arg7 harg7 arg12 arg13 arg14 arg15 x0 x1 x2 x3 x4 x5 x6) (kernelRun0_A.sl.v858 (F := Ideal) c arg2 harg2 arg13 x1) (kernelRun0_A.sl.r_95 (F := Ideal) c arg1 harg1 arg2 harg2 arg3 harg3 arg4 harg4 arg5 harg5 arg6 harg6 arg7 harg7 arg12 arg13 arg14 arg15 x0 x1 x2 x3 x4 x5 x6)) := by
  unfold out0_A_7
  rw [View.read_writes_junk_eq_canon]
  exact View.canon_cons_unit_zero off1_zero _ _ _

theorem out8_eq : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = (k0_pay205 (F := Ideal) (kernelRun0_A.sl.v954 (F := Ideal) c arg1 harg1 arg2 harg2 arg3 harg3 arg4 harg4 arg5 harg5 arg6 harg6 arg7 harg7 arg12 arg13 arg14 arg15 arg16 x0 x1 x2 x3 x4 x5 x6)) := by
  unfold out0_A_8
  rw [View.read_writes_junk_eq_canon]
  exact View.canon_cons_unit_zero off00 _ _ _

theorem out9_eq : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = (k0_pay206 (F := Ideal) (kernelRun0_A.sl.v957 (F := Ideal) c arg1 harg1 arg2 harg2 arg4 harg4 arg5 harg5 arg6 harg6 arg7 harg7 arg12 arg13 arg15 arg17 x0 x1 x3 x4 x5 x6)) := by
  unfold out0_A_9
  rw [View.read_writes_junk_eq_canon]
  exact View.canon_cons_unit_zero off00 _ _ _

theorem out10_eq : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = k0_pay47 (F := Ideal) x3 x5 := by
  have e : k0_pay47 (F := Ideal) (View.readAt (Elt Ideal) arg4.view (Rect.unit ![0, 0] S2048x128.size inb_S2048x128_S2048x128_0_0).toLoadRect (harg4.unread x3))
      (View.readAt (Elt Ideal) arg6.view (Rect.unit ![0, 0] S2048x128.size inb_S2048x128_S2048x128_0_0).toLoadRect (harg6.unread x5)) = k0_pay47 (F := Ideal) x3 x5 := by
    rw [readAt_filled harg4 off00, readAt_filled harg6 off00]
  unfold out0_A_10
  rw [View.read_writes_junk_eq_canon, ← e]
  exact View.canon_cons_unit_zero off00 _ _ _

theorem out_values (h0 : Rd2 x0 q) (h1 : Rd2 x1 k) (h2 : Rd2 x2 v) (h3 : Rd2 x3 o) (h4 : Rd2 x4 fun t _ => L t) (h5 : Rd2 x5 d) (h6 : Rd2 x6 fun _ e => gn e) :
    Rd2 (out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (fun t e => Model.dq q k v (Model.dO o d gn) sc L 2048 t e) ∧
    Rd2 (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (fun s e => Model.dk q k v (Model.dO o d gn) sc L 2048 s e) ∧
    Rd2 (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (fun s e => Model.dv q k (Model.dO o d gn) sc L 2048 s e) ∧
    Rd2 (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6) (fun _ e => Model.dgain o d 2048 e) := by
  rw [out7_eq, out8_eq, out9_eq, out10_eq]
  obtain ⟨e7, e8, e9⟩ := body_values c arg1 harg1 arg2 harg2 arg3 harg3 arg4 harg4 arg5 harg5 arg6 harg6 arg7 harg7 arg12 arg13 arg14 arg15 arg16 arg17 x0 x1 x2 x3 x4 x5 x6 h0 h1 h2 h3 h4 h5 h6
  exact ⟨e7, e8.trunc bitsLt_bf16_f32, e9.trunc bitsLt_bf16_f32, rd_dgain h3 h5⟩

end Cert.KernelIdeal.Bwd

end
-- ==== Proof.Prefix.lean ====
/- What the host lines leave for the kernel: the attention output and the row sums of the masked log terms are the
   arrays that the reference computes on its way, laid out in columns. -/
module

public import proofs.«01_k».proof.Proof.Gen.KernelIdeal.Frame
public import proofs.«01_k».proof.Proof.Gen.ReferenceIdeal.Read

@[expose] public section

set_option maxRecDepth 16384

noncomputable section

namespace Cert.KernelIdeal.Bwd

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ)

set_option maxHeartbeats 4000000 in
/-- The attention output that the kernel is given. -/
theorem V_main_v28 (c : Dev nD) : (V m c main_v28 : S2048x1024.Idx → F .f32)
    = shapeCast S2048x1024 (Cert.ReferenceIdeal.Read.val_main_v27 (F := F) (m ((c : Thread nD τ).loc main_arg0))) shapeCasts_S2048x8x128_S2048x1024 := by
  show StableHlo.after _ _ (Proc.devRef .tc main_v28) = _
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

set_option maxHeartbeats 4000000 in
/-- The row sums that the kernel is given. -/
theorem V_main_v32 (c : Dev nD) : (V m c main_v32 : S2048x1024.Idx → F .f32)
    = shapeCast S2048x1024 (broadcastInDim S2048x8x128 ![0, 1, 2] bcast_S2048x8x1_S2048x8x128_0_1_2 (broadcastInDim S2048x8x1 ![0, 1] bcast_S2048x8_S2048x8x1_0_1
        (transpose S2048x8 [1, 0] (Host.reduceAdd (Cert.ReferenceIdeal.Read.val_main_v20_0 (F := F) (m ((c : Thread nD τ).loc main_arg0))) (constant S_ .f32 0x00000000#32) reducesTo_S8x2048x2048_S8x2048_d2 h_S_) transposes_S8x2048_S2048x8_1_0)))
        shapeCasts_S2048x8x128_S2048x1024 := by
  show StableHlo.after _ _ (Proc.devRef .tc main_v32) = _
  simp only [hostOps0, hostOps0_1, hostOps0_2, hostOps0_3, hostOps0_4, hostOps0_5, hostOps0_6, hostOps0_7, hostOps0_8, hostOps0_9, List.flatten_cons, List.flatten_nil, List.append_nil, List.cons_append, List.nil_append, TRef.binary, TRef.nullary, TRef.ternary, TRef.unary, TRef.toBuf, TRef.ofBuf, cast_eq]
  after_results_simp
  rfl

end Cert.KernelIdeal.Bwd

end
-- ==== Proof.HostOps.lean ====
/- Scalars of the host programs that hold real numbers, one lemma per operation, and the host's running sums. -/
module

public import proofs.«01_k».proof.Proof.Ops
public import proofs.«01_k».proof.Proof.Model

@[expose] public section

noncomputable section

namespace Cert.Proof.Host

open Idealize.ShloMosaic Idealize.ShloMosaic.ValueIdx Idealize.ShloMosaic.WordCmp Cert.Proof Cert.Proof.Rd
open scoped BigOperators

variable {a b : Ideal .f32} {x y : ℝ}

theorem s_add (ha : a = (x : EReal)) (hb : b = (y : EReal)) : (FloatOps.addf a b : Ideal .f32) = ((x + y : ℝ) : EReal) := by
  subst ha hb; exact (EReal.coe_add x y).symm

theorem s_sub (ha : a = (x : EReal)) (hb : b = (y : EReal)) : (FloatOps.subf a b : Ideal .f32) = ((x - y : ℝ) : EReal) := by
  subst ha hb; exact (EReal.coe_sub x y).symm

theorem s_mul (ha : a = (x : EReal)) (hb : b = (y : EReal)) : (FloatOps.mulf a b : Ideal .f32) = ((x * y : ℝ) : EReal) := by
  subst ha hb; exact (EReal.coe_mul x y).symm

theorem s_neg (ha : a = (x : EReal)) : (FloatOps.hostNegf a : Ideal .f32) = ((-x : ℝ) : EReal) := by
  subst ha; exact (EReal.coe_neg x).symm

theorem s_div (ha : a = (x : EReal)) (hb : b = (y : EReal)) (hy : y ≠ 0) : (FloatOps.hostDivf a b : Ideal .f32) = ((x / y : ℝ) : EReal) := by
  subst ha hb
  show Ideal.div (x : EReal) (y : EReal) = _
  rw [Ideal.div_coe hy, ← EReal.coe_mul, mul_one_div]

theorem s_exp (ha : a = (x : EReal)) : (FloatOps.hostUnary .exp a : Ideal .f32) = ((Real.exp x : ℝ) : EReal) := by
  subst ha; rfl

theorem s_rsqrt (ha : a = (x : EReal)) (hx : 0 < x) : (FloatOps.hostUnary .rsqrt a : Ideal .f32) = (((Real.sqrt x)⁻¹ : ℝ) : EReal) := by
  subst ha
  show (if x < 0 then (⊥ : EReal) else if x = 0 then ⊤ else ((Real.sqrt x)⁻¹ : ℝ)) = _
  rw [if_neg (not_lt.2 hx.le), if_neg hx.ne']

theorem zero32 : (FloatOps.ofBits .f32 0x00000000#32 : Ideal .f32) = ((0 : ℝ) : EReal) := Ideal.ofBits_zero_f32
theorem top32 : (FloatOps.ofBits .f32 0x7F800000#32 : Ideal .f32) = (⊤ : EReal) := by
  show Ideal.ofBits .f32 0x7F800000#32 = ⊤
  simp [Ideal.ofBits, Ideal.ieee]

theorem s_where {p : Prop} [Decidable p] {c : BitVec 1} (hc : c = BitVec.ofBool (decide p)) (ha : a = (x : EReal)) (hb : b = (y : EReal)) :
    (Scalar.select c a b : Ideal .f32) = ((if p then x else y : ℝ) : EReal) := by
  subst hc ha hb
  rw [select_ofBool]
  by_cases h : p <;> simp [h]

/-- The softplus, as the host spells it. -/
theorem s_softplus (ha : a = (x : EReal)) :
    (Scalar.select (FloatOps.cmpf .une (FloatOps.subf a (FloatOps.ofBits .f32 0x00000000#32)) (FloatOps.subf a (FloatOps.ofBits .f32 0x00000000#32)))
      (FloatOps.addf a (FloatOps.ofBits .f32 0x00000000#32))
      (FloatOps.addf (FloatOps.maximumf a (FloatOps.ofBits .f32 0x00000000#32))
        (FloatOps.hostUnary .log1p (FloatOps.hostUnary .exp (FloatOps.hostNegf (FloatOps.hostAbsf (FloatOps.subf a (FloatOps.ofBits .f32 0x00000000#32))))))) : Ideal .f32)
      = ((-Model.ls (-x) : ℝ) : EReal) := by
  rw [s_sub ha zero32, sub_zero]
  have h1 : (FloatOps.hostAbsf ((x : EReal) : Ideal .f32) : Ideal .f32) = ((|x| : ℝ) : EReal) := by
    show max (x : EReal) (-(x : EReal)) = _
    rw [← EReal.coe_neg, abs_eq_max_neg]
    exact (Monotone.map_max (fun _ _ h => EReal.coe_le_coe_iff.2 h)).symm
  rw [h1, s_exp (s_neg rfl)]
  have h2 : (FloatOps.hostUnary .log1p (((Real.exp (-|x|) : ℝ) : EReal) : Ideal .f32) : Ideal .f32) = ((Model.sp (-x) : ℝ) : EReal) := by
    show Ideal.log (1 + ((Real.exp (-|x|) : ℝ) : EReal)) = _
    have hp : 0 < 1 + Real.exp (-|x|) := by positivity
    rw [← EReal.coe_one, ← EReal.coe_add]
    show (if 1 + Real.exp (-|x|) ≤ 0 then (⊥ : EReal) else (Real.log (1 + Real.exp (-|x|)) : EReal)) = _
    rw [if_neg (not_le.2 hp), Model.sp, abs_neg]
  rw [h2]
  have h3 : (FloatOps.maximumf a (FloatOps.ofBits .f32 0x00000000#32) : Ideal .f32) = ((max x 0 : ℝ) : EReal) := by
    rw [ha, zero32]
    exact (Monotone.map_max (fun _ _ h => EReal.coe_le_coe_iff.2 h)).symm
  rw [h3, s_add rfl rfl, s_add ha zero32]
  refine (s_where (p := ((x : ℝ) : EReal) ≠ (x : EReal)) rfl rfl rfl).trans (congrArg Real.toEReal ?_)
  rw [if_neg (fun h => h rfl)]
  rw [Model.ls]
  have : min (-x) 0 = -max x 0 := by rw [← neg_zero, min_neg_neg, neg_zero]
  rw [this]; ring

/-- A value that is not infinite is kept. -/
theorem s_keep (ha : a = (x : EReal)) :
    (Scalar.select (FloatOps.cmpf .oeq a (FloatOps.ofBits .f32 0x7F800000#32)) (FloatOps.ofBits .f32 0x00000000#32) a : Ideal .f32) = (x : EReal) := by
  rw [top32, zero32, ha]
  exact (s_where (p := ((x : ℝ) : EReal) = ⊤) rfl rfl rfl).trans (congrArg Real.toEReal (if_neg (EReal.coe_ne_top x)))

/-- The softplus gradient's factor. -/
theorem s_factor {c : Ideal .f32} (ha : a = (x : EReal)) (hc : c = (y : EReal)) :
    (FloatOps.hostUnary .exp (FloatOps.subf
      (Scalar.select (FloatOps.cmpf .oeq a (FloatOps.ofBits .f32 0x7F800000#32)) (FloatOps.ofBits .f32 0x00000000#32) a)
      (Scalar.select (FloatOps.cmpf .oeq c (FloatOps.ofBits .f32 0x7F800000#32)) (FloatOps.ofBits .f32 0x00000000#32) c)) : Ideal .f32)
      = ((Real.exp (x - y) : ℝ) : EReal) :=
  s_exp (s_sub (s_keep ha) (s_keep hc))

/-! ## Sums -/

theorem s_sum {n : ℕ} {f : Fin n → EReal} {g : ℕ → ℝ} (h : ∀ k : Fin n, f k = ((g k.val : ℝ) : EReal)) :
    ∑ k : Fin n, f k = ((∑ k ∈ Finset.range n, g k : ℝ) : EReal) := by
  rw [← coe_sum_fin]; exact Finset.sum_congr rfl fun k _ => h k

theorem s_dot {n : ℕ} {f f' : Fin n → EReal} {g g' : ℕ → ℝ} (h : ∀ k : Fin n, f k = ((g k.val : ℝ) : EReal))
    (h' : ∀ k : Fin n, f' k = ((g' k.val : ℝ) : EReal)) :
    ∑ k : Fin n, f k * f' k = ((∑ k ∈ Finset.range n, g k * g' k : ℝ) : EReal) :=
  s_sum fun k => by rw [h k, h' k, EReal.coe_mul]

theorem s_init {n : ℕ} {z : EReal} {f : Fin n → EReal} {g : ℕ → ℝ} (hz : z = ((0 : ℝ) : EReal)) (h : ∀ k : Fin n, f k = ((g k.val : ℝ) : EReal)) :
    z + ∑ k : Fin n, f k = ((∑ k ∈ Finset.range n, g k : ℝ) : EReal) := by
  rw [s_sum h, hz, ← EReal.coe_add, zero_add]

/-! ## Running sums -/

theorem foldl_add {α : Type*} (g : α → EReal) (l : List α) (v : EReal) : l.foldl (fun r n => r + g n) v = v + (l.map g).sum := by
  induction l generalizing v with
  | nil => simp
  | cons c l ih => rw [List.foldl_cons, ih, List.map_cons, List.sum_cons, add_assoc]

/-- The positions of a window that is one row long. -/
def row (N : ℕ) : Fin N ≃ (⟨3, ![1, 1, N]⟩ : Shape).Idx where
  toFun k := ix3 (0 : Fin 1) (0 : Fin 1) k
  invFun p := p 2
  left_inv _ := rfl
  right_inv p := by
    funext c
    match c with
    | ⟨0, _⟩ => exact Fin.ext (by have h := (p 0).isLt; change (p 0).val < 1 at h; show 0 = (p 0).val; omega)
    | ⟨1, _⟩ => exact Fin.ext (by have h := (p 1).isLt; change (p 1).val < 1 at h; show 0 = (p 1).val; omega)
    | ⟨2, _⟩ => rfl

theorem inWindow {A B N lo : ℕ} (v : (⟨3, ![A, B, N]⟩ : Shape).Idx → EReal) (i : (⟨3, ![A, B, N]⟩ : Shape).Idx) (w w' : (⟨3, ![1, 1, N]⟩ : Shape).Idx) (e : w = w')
    {d : Decidable (∀ c : Fin 3, (![0, 0, lo] : Fin 3 → ℕ) c ≤ (i c).val * (![1, 1, 1] : Fin 3 → ℕ) c + (w c).val
        ∧ (i c).val * (![1, 1, 1] : Fin 3 → ℕ) c + (w c).val - (![0, 0, lo] : Fin 3 → ℕ) c < (![A, B, N] : Fin 3 → ℕ) c)}
    (hc : ∀ c : Fin 3, (![0, 0, lo] : Fin 3 → ℕ) c ≤ (i c).val * (![1, 1, 1] : Fin 3 → ℕ) c + (w' c).val
        ∧ (i c).val * (![1, 1, 1] : Fin 3 → ℕ) c + (w' c).val - (![0, 0, lo] : Fin 3 → ℕ) c < (![A, B, N] : Fin 3 → ℕ) c) :
    (@dite EReal (∀ c : Fin 3, (![0, 0, lo] : Fin 3 → ℕ) c ≤ (i c).val * (![1, 1, 1] : Fin 3 → ℕ) c + (w c).val
        ∧ (i c).val * (![1, 1, 1] : Fin 3 → ℕ) c + (w c).val - (![0, 0, lo] : Fin 3 → ℕ) c < (![A, B, N] : Fin 3 → ℕ) c) d (fun hin => v (fun c => ⟨(i c).val * (![1, 1, 1] : Fin 3 → ℕ) c + (w c).val - (![0, 0, lo] : Fin 3 → ℕ) c, (hin c).2⟩)) (fun _ => (0 : EReal)))
    = v (fun c => ⟨(i c).val * (![1, 1, 1] : Fin 3 → ℕ) c + (w' c).val - (![0, 0, lo] : Fin 3 → ℕ) c, (hc c).2⟩) := by
  subst e; exact dif_pos hc

theorem offWindow {A B N lo : ℕ} (v : (⟨3, ![A, B, N]⟩ : Shape).Idx → EReal) (i : (⟨3, ![A, B, N]⟩ : Shape).Idx) (w w' : (⟨3, ![1, 1, N]⟩ : Shape).Idx) (e : w = w')
    {d : Decidable (∀ c : Fin 3, (![0, 0, lo] : Fin 3 → ℕ) c ≤ (i c).val * (![1, 1, 1] : Fin 3 → ℕ) c + (w c).val
        ∧ (i c).val * (![1, 1, 1] : Fin 3 → ℕ) c + (w c).val - (![0, 0, lo] : Fin 3 → ℕ) c < (![A, B, N] : Fin 3 → ℕ) c)}
    (hc : ¬ (∀ c : Fin 3, (![0, 0, lo] : Fin 3 → ℕ) c ≤ (i c).val * (![1, 1, 1] : Fin 3 → ℕ) c + (w' c).val
        ∧ (i c).val * (![1, 1, 1] : Fin 3 → ℕ) c + (w' c).val - (![0, 0, lo] : Fin 3 → ℕ) c < (![A, B, N] : Fin 3 → ℕ) c)) :
    (@dite EReal (∀ c : Fin 3, (![0, 0, lo] : Fin 3 → ℕ) c ≤ (i c).val * (![1, 1, 1] : Fin 3 → ℕ) c + (w c).val
        ∧ (i c).val * (![1, 1, 1] : Fin 3 → ℕ) c + (w c).val - (![0, 0, lo] : Fin 3 → ℕ) c < (![A, B, N] : Fin 3 → ℕ) c) d (fun hin => v (fun c => ⟨(i c).val * (![1, 1, 1] : Fin 3 → ℕ) c + (w c).val - (![0, 0, lo] : Fin 3 → ℕ) c, (hin c).2⟩)) (fun _ => (0 : EReal))) = 0 := by
  subst e; exact dif_neg hc

theorem window_apply {A B N lo hi : ℕ} {u : Shape} (v : FVec Ideal (⟨3, ![A, B, N]⟩ : Shape) .f32) (init : u.Idx → Ideal .f32)
    (h : (⟨3, ![A, B, N]⟩ : Shape).ReduceWindows ![1, 1, N] ![1, 1, 1] ![0, 0, lo] ![0, 0, hi] ⟨3, ![A, B, N]⟩) (hu : 0 < u.numel)
    (h0 : init (Shape.Idx.first hu) = ((0 : ℝ) : EReal)) {X : ℕ → ℝ} (i : (⟨3, ![A, B, N]⟩ : Shape).Idx)
    (hX : ∀ k : Fin N, v (ix3 (n0 := A) (n1 := B) (i 0) (i 1) k) = ((X k.val : ℝ) : EReal)) :
    Host.reduceWindowAdd ![1, 1, N] ![1, 1, 1] ![0, 0, lo] ![0, 0, hi] v init h hu i
      = ((∑ k ∈ Finset.range N, (if lo ≤ (i 2).val + k ∧ (i 2).val + k - lo < N then X ((i 2).val + k - lo) else 0) : ℝ) : EReal) := by
  unfold Host.reduceWindowAdd
  rw [Ideal.hostReduceWindowAdd_def]
  unfold Ideal.hostReduceWindowAdd Host.reduceWindow
  rw [h0]
  refine (foldl_add _ _ _).trans ?_
  rw [EReal.coe_zero, zero_add, ← Fin.sum_univ_def]
  rw [← Equiv.sum_comp ((row N).trans (⟨3, ![1, 1, N]⟩ : Shape).rowMajor)]
  refine s_sum (g := fun k => if lo ≤ (i 2).val + k ∧ (i 2).val + k - lo < N then X ((i 2).val + k - lo) else 0) fun k => ?_
  by_cases hk : lo ≤ (i 2).val + k.val ∧ (i 2).val + k.val - lo < N
  · rw [if_pos hk]
    have hc : ∀ c : Fin 3, (![0, 0, lo] : Fin 3 → ℕ) c ≤ (i c).val * (![1, 1, 1] : Fin 3 → ℕ) c + ((row N k) c).val
        ∧ (i c).val * (![1, 1, 1] : Fin 3 → ℕ) c + ((row N k) c).val - (![0, 0, lo] : Fin 3 → ℕ) c < (![A, B, N] : Fin 3 → ℕ) c := by
      intro c
      match c with
      | ⟨0, _⟩ => exact ⟨Nat.zero_le _, by have := (i 0).isLt; change (i 0).val < A at this; show (i 0).val * 1 + 0 - 0 < A; omega⟩
      | ⟨1, _⟩ => exact ⟨Nat.zero_le _, by have := (i 1).isLt; change (i 1).val < B at this; show (i 1).val * 1 + 0 - 0 < B; omega⟩
      | ⟨2, _⟩ => exact ⟨by show lo ≤ (i 2).val * 1 + k.val; omega, by show (i 2).val * 1 + k.val - lo < N; omega⟩
    have e : (⟨3, ![1, 1, N]⟩ : Shape).rowMajor.symm (((row N).trans (⟨3, ![1, 1, N]⟩ : Shape).rowMajor) k) = row N k := Equiv.symm_apply_apply _ _
    refine (inWindow v i _ _ e hc).trans ?_
    refine Eq.trans (congrArg v ?_) (hX ⟨(i 2).val + k.val - lo, hk.2⟩)
    funext c
    match c with
    | ⟨0, _⟩ => exact Fin.ext (by show (i 0).val * 1 + 0 - 0 = (i 0).val; omega)
    | ⟨1, _⟩ => exact Fin.ext (by show (i 1).val * 1 + 0 - 0 = (i 1).val; omega)
    | ⟨2, _⟩ => exact Fin.ext (by show (i 2).val * 1 + k.val - lo = (i 2).val + k.val - lo; omega)
  · rw [if_neg hk]
    have e : (⟨3, ![1, 1, N]⟩ : Shape).rowMajor.symm (((row N).trans (⟨3, ![1, 1, N]⟩ : Shape).rowMajor) k) = row N k := Equiv.symm_apply_apply _ _
    refine (offWindow (lo := lo) v i _ _ e fun hc => hk ?_).trans rfl
    have h2 := hc 2
    change lo ≤ (i 2).val * 1 + k.val ∧ (i 2).val * 1 + k.val - lo < N at h2
    constructor <;> omega

theorem tail_sum (X : ℕ → ℝ) {N j : ℕ} (hj : j < N) :
    (∑ k ∈ Finset.range N, (if 0 ≤ j + k ∧ j + k - 0 < N then X (j + k - 0) else 0)) = ∑ k ∈ Finset.range N, X k - ∑ k ∈ Finset.range j, X k := by
  obtain ⟨n, rfl⟩ := Nat.exists_eq_add_of_lt hj
  have e1 : j + n + 1 = (n + 1) + j := by omega
  have e2 : ∑ k ∈ Finset.range (j + n + 1), X k = ∑ k ∈ Finset.range j, X k + ∑ k ∈ Finset.range (n + 1), X (j + k) := by
    rw [add_assoc, Finset.sum_range_add]
  rw [e2, add_sub_cancel_left, e1, Finset.sum_range_add]
  rw [Finset.sum_eq_zero (s := Finset.range j), add_zero]
  · refine Finset.sum_congr rfl fun k hk => ?_
    rw [Finset.mem_range] at hk
    rw [if_pos ⟨Nat.zero_le _, by omega⟩, Nat.sub_zero]
  · intro k _
    rw [if_neg (by omega)]

theorem head_sum (X : ℕ → ℝ) {N j : ℕ} (hj : j < N) :
    (∑ k ∈ Finset.range N, (if N - 1 ≤ j + k ∧ j + k - (N - 1) < N then X (j + k - (N - 1)) else 0)) = ∑ k ∈ Finset.range (j + 1), X k := by
  have e1 : ∀ f : ℕ → ℝ, ∑ k ∈ Finset.range N, f k = ∑ k ∈ Finset.range (N - 1 - j), f k + ∑ k ∈ Finset.range (j + 1), f (N - 1 - j + k) := by
    intro f
    rw [← Finset.sum_range_add]
    congr 2; omega
  rw [e1, Finset.sum_eq_zero (s := Finset.range (N - 1 - j)), zero_add]
  · refine Finset.sum_congr rfl fun k hk => ?_
    rw [Finset.mem_range] at hk
    rw [if_pos ⟨by omega, by omega⟩]
    congr 1; omega
  · intro k hk
    rw [Finset.mem_range] at hk
    rw [if_neg (by omega)]

/-! ## The real identities -/

theorem exp_ls (x : ℝ) : Real.exp (Model.ls x) = (1 + Real.exp (-x))⁻¹ := by
  have hp : ∀ y : ℝ, 0 < 1 + Real.exp y := fun y => by positivity
  have key : Model.ls x = -Real.log (1 + Real.exp (-x)) := by
    unfold Model.ls Model.sp
    rcases le_total 0 x with h | h
    · rw [min_eq_right h, abs_of_nonneg h]; ring
    · rw [min_eq_left h, abs_of_nonpos h, neg_neg]
      have : 1 + Real.exp (-x) = Real.exp (-x) * (1 + Real.exp x) := by
        rw [mul_add, mul_one, ← Real.exp_add, neg_add_cancel, Real.exp_zero, add_comm]
      rw [this, Real.log_mul (Real.exp_pos _).ne' (hp x).ne', Real.log_exp]; ring
  rw [key, Real.exp_neg, Real.exp_log (hp _)]

theorem l1_eq (x : ℝ) : Model.l1 x = Model.ls (-x) := by
  unfold Model.l1 Model.ls Model.sp
  rw [abs_neg]

theorem exp_factor (x : ℝ) : Real.exp (x + Model.ls (-x)) = Real.exp (Model.ls x) := by
  rw [Real.exp_add, exp_ls, exp_ls, neg_neg]
  have h1 : 1 + Real.exp x ≠ 0 := by positivity
  have h2 : 1 + Real.exp (-x) ≠ 0 := by positivity
  have h3 : Real.exp x * Real.exp (-x) = 1 := by rw [← Real.exp_add, add_neg_cancel, Real.exp_zero]
  field_simp
  linear_combination h3

theorem exp_one_sub (x : ℝ) : Real.exp (Model.ls (-x)) = 1 - Real.exp (Model.ls x) := by
  rw [exp_ls, exp_ls, neg_neg]
  have h1 : 1 + Real.exp x ≠ 0 := by positivity
  have h2 : 1 + Real.exp (-x) ≠ 0 := by positivity
  have h3 : Real.exp x * Real.exp (-x) = 1 := by rw [← Real.exp_add, add_neg_cancel, Real.exp_zero]
  field_simp
  linear_combination -h3

end Cert.Proof.Host

end
-- ==== Proof.RefA.lean ====
/- The reference's forward pass over the reals: the logits, the weights, the head's output and its norm. -/
module

public import proofs.«01_k».proof.Proof.HostOps
public import proofs.«01_k».proof.Proof.Block
public import proofs.«01_k».proof.Proof.Norm
public import proofs.«01_k».proof.Proof.Gen.ReferenceIdeal.Read

@[expose] public section

noncomputable section

namespace Cert.Proof.Ref

open Cert.ReferenceIdeal Cert.ReferenceIdeal.Gen Cert.ReferenceIdeal.Read
open Idealize.ShloMosaic Idealize.ShloMosaic.ValueIdx Idealize.ShloMosaic.WordCmp Cert.Proof Cert.Proof.Rd Cert.Proof.Host
open Cert.Proof.Block (sc)
open scoped BigOperators

/-- Head `h`'s columns, from column `n` on. -/
def col (X : ℕ → ℕ → ℝ) (n h : ℕ) : ℕ → ℕ → ℝ := fun t e => X t (n + (128 * h + e))
def qh (P : ℕ → ℕ → ℝ) (h : ℕ) : ℕ → ℕ → ℝ := col P 2048 h
def kh (P : ℕ → ℕ → ℝ) (h : ℕ) : ℕ → ℕ → ℝ := col P 3072 h
def vh (P : ℕ → ℕ → ℝ) (h : ℕ) : ℕ → ℕ → ℝ := col P 4096 h
/-- A row's whole sum of `log (1 - β)`. -/
def Lh (P : ℕ → ℕ → ℝ) (h t : ℕ) : ℝ := ∑ j ∈ Finset.range 2048, Model.m (qh P h) (kh P h) sc t j
/-- The head's output. -/
def oh (P : ℕ → ℕ → ℝ) (h t e : ℕ) : ℝ := ∑ s ∈ Finset.range 2048, vh P h s e * Model.a (qh P h) (kh P h) sc (Lh P h) t s
def zh (P : ℕ → ℕ → ℝ) (h t s : ℕ) : ℝ := Model.z (qh P h) (kh P h) sc t s
def mh (P : ℕ → ℕ → ℝ) (h t s : ℕ) : ℝ := Model.m (qh P h) (kh P h) sc t s
def ah (P : ℕ → ℕ → ℝ) (h t s : ℕ) : ℝ := Model.a (qh P h) (kh P h) sc (Lh P h) t s

theorem lay_div {t h e : ℕ} (hh : h < 8) (he : e < 128) : ((t * 8 + h) * 128 + e) / 1024 = t := by omega
theorem lay_mod {t h e : ℕ} (hh : h < 8) (he : e < 128) : ((t * 8 + h) * 128 + e) % 1024 = 128 * h + e := by omega

theorem lt8 (i : S2048x8x128.Idx) : (i 1).val < 8 := (i 1).isLt
theorem lt128 (i : S2048x8x128.Idx) : (i 2).val < 128 := (i 2).isLt

variable {x0 : S2048x5120.Idx → EReal} {P : ℕ → ℕ → ℝ}

section
variable (h0 : ∀ i : S2048x5120.Idx, x0 i = ((P (i 0).val (i 1).val : ℝ) : EReal))
include h0

theorem r_v4 (i : S2048x8x128.Idx) : val_main_v4 (F := Ideal) x0 i = ((qh P (i 1).val (i 0).val (i 2).val : ℝ) : EReal) :=
  (val_main_v4_apply (F := Ideal) x0 i).trans ((val_main_v0_apply (F := Ideal) x0 _).trans ((h0 _).trans (congrArg Real.toEReal
    (congrArg₂ P (lay_div (lt8 i) (lt128 i)) (congrArg (2048 + ·) (lay_mod (lt8 i) (lt128 i)))))))
theorem r_v5 (i : S2048x8x128.Idx) : val_main_v5 (F := Ideal) x0 i = ((kh P (i 1).val (i 0).val (i 2).val : ℝ) : EReal) :=
  (val_main_v5_apply (F := Ideal) x0 i).trans ((val_main_v1_apply (F := Ideal) x0 _).trans ((h0 _).trans (congrArg Real.toEReal
    (congrArg₂ P (lay_div (lt8 i) (lt128 i)) (congrArg (3072 + ·) (lay_mod (lt8 i) (lt128 i)))))))
theorem r_v6 (i : S2048x8x128.Idx) : val_main_v6 (F := Ideal) x0 i = ((vh P (i 1).val (i 0).val (i 2).val : ℝ) : EReal) :=
  (val_main_v6_apply (F := Ideal) x0 i).trans ((val_main_v2_apply (F := Ideal) x0 _).trans ((h0 _).trans (congrArg Real.toEReal
    (congrArg₂ P (lay_div (lt8 i) (lt128 i)) (congrArg (4096 + ·) (lay_mod (lt8 i) (lt128 i)))))))

theorem r_v7 (i : S8x2048x2048.Idx) : val_main_v7 (F := Ideal) x0 i
    = ((∑ e ∈ Finset.range 128, qh P (i 0).val (i 1).val e * kh P (i 0).val (i 2).val e : ℝ) : EReal) :=
  (val_main_v7_apply x0 i).trans (s_dot (fun k => r_v4 h0 _) (fun k => r_v5 h0 _))

omit h0 in
theorem r_v8 (i : S8x2048x2048.Idx) : val_main_v8 (F := Ideal) i = ((sc : ℝ) : EReal) :=
  (val_main_v8_apply (F := Ideal) i).trans (ofBits_val32 0x3DB504F3#32 (by decide))

theorem r_v9 (i : S8x2048x2048.Idx) : val_main_v9 (F := Ideal) x0 i = ((zh P (i 0).val (i 1).val (i 2).val : ℝ) : EReal) :=
  s_mul (r_v7 h0 i) (r_v8 i)

/-! ## The logarithms of `β` and of `1 - β` -/

theorem r_c0v0 (i : S8x2048x2048.Idx) : val_main_call0_v0 (F := Ideal) x0 i = ((-zh P (i 0).val (i 1).val (i 2).val : ℝ) : EReal) := s_neg (r_v9 h0 i)
theorem r_c0v1 (i : S8x2048x2048.Idx) : val_main_call0_v1_0 (F := Ideal) x0 i = ((-Model.ls (zh P (i 0).val (i 1).val (i 2).val) : ℝ) : EReal) :=
  (s_softplus (r_c0v0 h0 i)).trans (by rw [neg_neg])
theorem r_v17_0 (i : S8x2048x2048.Idx) : val_main_v17_0 (F := Ideal) x0 i = ((Model.ls (zh P (i 0).val (i 1).val (i 2).val) : ℝ) : EReal) :=
  (s_neg (r_c0v1 h0 i)).trans (by rw [neg_neg])
theorem r_v17_1 (i : S8x2048x2048.Idx) : val_main_v17_1 (F := Ideal) x0 i = ((1 - Real.exp (Model.ls (zh P (i 0).val (i 1).val (i 2).val)) : ℝ) : EReal) :=
  (s_factor (r_c0v0 h0 i) (r_c0v1 h0 i)).trans (congrArg Real.toEReal (by
    rw [← exp_one_sub, ← exp_factor, neg_neg, sub_neg_eq_add]))

theorem r_v18 (i : S8x2048x2048.Idx) : val_main_v18 (F := Ideal) x0 i = ((-zh P (i 0).val (i 1).val (i 2).val : ℝ) : EReal) := s_neg (r_v9 h0 i)
theorem r_c1v0 (i : S8x2048x2048.Idx) : val_main_call1_v0 (F := Ideal) x0 i = ((zh P (i 0).val (i 1).val (i 2).val : ℝ) : EReal) :=
  (s_neg (r_v18 h0 i)).trans (by rw [neg_neg])
theorem r_c1v1 (i : S8x2048x2048.Idx) : val_main_call1_v1_0 (F := Ideal) x0 i = ((-Model.l1 (zh P (i 0).val (i 1).val (i 2).val) : ℝ) : EReal) :=
  (s_softplus (r_c1v0 h0 i)).trans (by rw [l1_eq])
theorem r_v19_0 (i : S8x2048x2048.Idx) : val_main_v19_0 (F := Ideal) x0 i = ((Model.l1 (zh P (i 0).val (i 1).val (i 2).val) : ℝ) : EReal) :=
  (s_neg (r_c1v1 h0 i)).trans (by rw [neg_neg])
theorem r_v19_1 (i : S8x2048x2048.Idx) : val_main_v19_1 (F := Ideal) x0 i = ((Real.exp (Model.ls (zh P (i 0).val (i 1).val (i 2).val)) : ℝ) : EReal) :=
  (s_factor (r_c1v0 h0 i) (r_c1v1 h0 i)).trans (congrArg Real.toEReal (by
    rw [← exp_factor, l1_eq, sub_neg_eq_add]))

/-! ## The mask and the weights -/

omit h0 in
theorem r_v16 (i : S2048x2048.Idx) : val_main_v16 (F := Ideal) i = BitVec.ofBool (decide ((i 1).val < (i 0).val)) := by
  have e1 : val_main_v14 (F := Ideal) i = BitVec.ofNat 32 (i 1).val := (val_main_v14_apply (F := Ideal) i).trans ((val_main_v13_apply (F := Ideal) _).trans (val_main_v12_apply (F := Ideal) _))
  have e2 : val_main_v15 (F := Ideal) i = BitVec.ofNat 32 (i 0).val := (val_main_v15_apply (F := Ideal) i).trans ((val_main_v11_apply (F := Ideal) _).trans (val_main_v10_apply (F := Ideal) _))
  rw [val_main_v16_apply, e1, e2]
  have b0 : (i 0).val < 2048 := (i 0).isLt
  have b1 : (i 1).val < 2048 := (i 1).isLt
  exact cmpi_slt_ofNat (by omega) (by omega)

omit h0 in
theorem r_v20_1 (i : S8x2048x2048.Idx) : val_main_v20_1 (F := Ideal) i = BitVec.ofBool (decide ((i 2).val < (i 1).val)) :=
  (val_main_v20_1_apply (F := Ideal) i).trans (r_v16 _)
omit h0 in
theorem r_v25_1 (i : S8x2048x2048.Idx) : val_main_v25_1 (F := Ideal) i = BitVec.ofBool (decide ((i 2).val < (i 1).val)) :=
  (val_main_v25_1_apply (F := Ideal) i).trans (r_v16 _)
omit h0 in
theorem r_c2v2 (i : S8x2048x2048.Idx) : val_main_call2_v2 (F := Ideal) i = ((0 : ℝ) : EReal) := (val_main_call2_v2_apply (F := Ideal) i).trans zero32
omit h0 in
theorem r_c4v2 (i : S8x2048x2048.Idx) : val_main_call4_v2 (F := Ideal) i = ((0 : ℝ) : EReal) := (val_main_call4_v2_apply (F := Ideal) i).trans zero32

theorem r_v20_0 (i : S8x2048x2048.Idx) : val_main_v20_0 (F := Ideal) x0 i = ((mh P (i 0).val (i 1).val (i 2).val : ℝ) : EReal) :=
  s_where (r_v20_1 i) (r_v19_0 h0 i) (r_c2v2 i)

theorem r_v21 (i : S8x2048x2048.Idx) : val_main_v21 (F := Ideal) x0 i
    = ((Lh P (i 0).val (i 1).val - ∑ j ∈ Finset.range (i 2).val, mh P (i 0).val (i 1).val j : ℝ) : EReal) :=
  (window_apply (A := 8) (B := 2048) (N := 2048) (lo := 0) (hi := 2047) (val_main_v20_0 (F := Ideal) x0) (val_main_call3_v0 (F := Ideal)) _ h_S_
    ((val_main_call3_v0_apply (F := Ideal) _).trans zero32) (X := fun j => mh P (i 0).val (i 1).val j) i (fun k => r_v20_0 h0 _)).trans
    (congrArg Real.toEReal (tail_sum _ (i 2).isLt))

theorem r_v24 (i : S8x2048x2048.Idx) : val_main_v24 (F := Ideal) x0 i
    = ((Real.exp (Model.ls (zh P (i 0).val (i 1).val (i 2).val) + (Lh P (i 0).val (i 1).val - ∑ j ∈ Finset.range ((i 2).val + 1), mh P (i 0).val (i 1).val j)) : ℝ) : EReal) :=
  (s_exp (s_add (r_v17_0 h0 i) (s_sub (r_v21 h0 i) (r_v20_0 h0 i)))).trans (congrArg Real.toEReal (by
    rw [Finset.sum_range_succ]; congr 1; ring))

theorem r_v25_0 (i : S8x2048x2048.Idx) : val_main_v25_0 (F := Ideal) x0 i = ((ah P (i 0).val (i 1).val (i 2).val : ℝ) : EReal) :=
  s_where (r_v25_1 i) (r_v24 h0 i) (r_c4v2 i)

/-! ## The head's output and its norm -/

theorem r_v26 (i : S8x128x2048.Idx) : val_main_v26 (F := Ideal) x0 i = ((oh P (i 0).val (i 2).val (i 1).val : ℝ) : EReal) :=
  (val_main_v26_apply x0 i).trans (s_dot (fun k => r_v6 h0 _) (fun k => r_v25_0 h0 _))
theorem r_v27 (i : S2048x8x128.Idx) : val_main_v27 (F := Ideal) x0 i = ((oh P (i 1).val (i 0).val (i 2).val : ℝ) : EReal) :=
  (val_main_v27_apply (F := Ideal) x0 i).trans (r_v26 h0 _)

theorem r_v30 (i : S2048x8.Idx) : val_main_v30 (F := Ideal) x0 i
    = ((∑ e ∈ Finset.range 128, oh P (i 1).val (i 0).val e * oh P (i 1).val (i 0).val e : ℝ) : EReal) :=
  (val_main_v30_apply x0 i).trans (s_init zero32 (fun k => s_mul (r_v27 h0 _) (r_v27 h0 _)))
theorem r_v33 (i : S2048x8x1.Idx) : val_main_v33 (F := Ideal) x0 i
    = (((∑ e ∈ Finset.range 128, oh P (i 1).val (i 0).val e * oh P (i 1).val (i 0).val e) / Model.wd : ℝ) : EReal) :=
  s_div ((val_main_v31_apply (F := Ideal) x0 i).trans (r_v30 h0 _)) ((val_main_v32_apply (F := Ideal) i).trans (ofBits_val32 0x43000000#32 (by decide))) Cert.KernelIdeal.Bwd.wd_ne
theorem r_v35 (i : S2048x8x1.Idx) : val_main_v35 (F := Ideal) x0 i = ((Model.ms (oh P (i 1).val) (i 0).val : ℝ) : EReal) :=
  s_add (r_v33 h0 i) ((val_main_v34_apply (F := Ideal) i).trans (ofBits_val32 0x358637BD#32 (by decide)))
theorem r_v36 (i : S2048x8x1.Idx) : val_main_v36 (F := Ideal) x0 i = ((Model.rr (oh P (i 1).val) (i 0).val : ℝ) : EReal) :=
  s_rsqrt (r_v35 h0 i) (Model.ms_pos _ _)
theorem r_v41 (i : S2048x8x128.Idx) : val_main_v41 (F := Ideal) x0 i = ((Model.oh (oh P (i 1).val) (i 0).val (i 2).val : ℝ) : EReal) :=
  s_mul (r_v27 h0 i) ((val_main_v40_apply (F := Ideal) x0 i).trans (r_v36 h0 _))

end

end Cert.Proof.Ref

end
-- ==== Proof.RefB.lean ====
/- The reference's gradients over the reals: of the output norm, of the weights, and of `q`, `k`, `v`. -/
module

public import proofs.«01_k».proof.Proof.RefA

@[expose] public section

noncomputable section

namespace Cert.Proof.Ref

open Cert.ReferenceIdeal Cert.ReferenceIdeal.Gen Cert.ReferenceIdeal.Read
open Idealize.ShloMosaic Idealize.ShloMosaic.ValueIdx Idealize.ShloMosaic.WordCmp Cert.Proof Cert.Proof.Rd Cert.Proof.Host
open Cert.Proof.Block (sc)
open scoped BigOperators

def gh (A : ℕ → ℝ) (h e : ℕ) : ℝ := A (1024 + (128 * h + e))
def dh (D : ℕ → ℕ → ℝ) (h : ℕ) : ℕ → ℕ → ℝ := col D 1024 h
/-- The gradient of the head's output. -/
def gO (P : ℕ → ℕ → ℝ) (A : ℕ → ℝ) (D : ℕ → ℕ → ℝ) (h : ℕ) : ℕ → ℕ → ℝ := Model.dO (oh P h) (dh D h) (gh A h)
def dlh (P : ℕ → ℕ → ℝ) (A : ℕ → ℝ) (D : ℕ → ℕ → ℝ) (h : ℕ) : ℕ → ℕ → ℝ := Model.dl (qh P h) (kh P h) (vh P h) (gO P A D h) sc (Lh P h)
def dzh (P : ℕ → ℕ → ℝ) (A : ℕ → ℝ) (D : ℕ → ℕ → ℝ) (h : ℕ) : ℕ → ℕ → ℝ := Model.dz (qh P h) (kh P h) (vh P h) (gO P A D h) sc (Lh P h)

theorem half_eq : val32 0xBF000000#32 = -(1 / 2) := by
  have h : Ideal.ofBits .f32 0xBF000000#32 = ((-(1 / 2) : ℝ) : EReal) := by
    simp [Ideal.ofBits, Ideal.ieee]; rw [← EReal.coe_mul]; norm_num
  rw [val32, h, EReal.toReal_coe]

/-- The norm's gradient as the reference spells it. -/
theorem dO_eq (o d : ℕ → ℕ → ℝ) (gn : ℕ → ℝ) (t e : ℕ) :
    d t e * gn e * Model.rr o t
        + o t e * ((∑ x ∈ Finset.range 128, o t x * (d t x * gn x)) * (val32 0xBF000000#32 * (Model.rr o t / Model.ms o t)) / Model.wd)
        + (∑ x ∈ Finset.range 128, o t x * (d t x * gn x)) * (val32 0xBF000000#32 * (Model.rr o t / Model.ms o t)) / Model.wd * o t e
      = Model.dO o d gn t e := by
  have hr : Model.rr o t / Model.ms o t = Model.rr o t * (Model.rr o t * Model.rr o t) := by
    have h2 : Model.rr o t * Model.rr o t = (Model.ms o t)⁻¹ := by
      rw [Model.rr, ← mul_inv, Real.mul_self_sqrt (Model.ms_pos o t).le]
    rw [h2, div_eq_mul_inv]
  have hs : ∑ x ∈ Finset.range 128, d t x * gn x * Model.oh o t x = (∑ x ∈ Finset.range 128, o t x * (d t x * gn x)) * Model.rr o t := by
    rw [Finset.sum_mul]; exact Finset.sum_congr rfl fun x _ => by rw [Model.oh]; ring
  rw [Model.dO, hs, hr, half_eq, Model.oh]
  ring

variable {x0 : S2048x5120.Idx → EReal} {x1 : S1x2048.Idx → EReal} {x2 : S2048x2048.Idx → EReal}
  {P : ℕ → ℕ → ℝ} {A : ℕ → ℝ} {D : ℕ → ℕ → ℝ}

section
variable (h0 : ∀ i : S2048x5120.Idx, x0 i = ((P (i 0).val (i 1).val : ℝ) : EReal))
  (h1 : ∀ i : S1x2048.Idx, x1 i = ((A (i 1).val : ℝ) : EReal))
  (h2 : ∀ i : S2048x2048.Idx, x2 i = ((D (i 0).val (i 1).val : ℝ) : EReal))

/-! ## The norm -/

include h0 in
theorem r_v39 (i : S2048x8x1.Idx) : val_main_v39 (F := Ideal) x0 i
    = ((val32 0xBF000000#32 * (Model.rr (oh P (i 1).val) (i 0).val / Model.ms (oh P (i 1).val) (i 0).val) : ℝ) : EReal) :=
  s_mul ((val_main_v38_apply (F := Ideal) i).trans (ofBits_val32 0xBF000000#32 (by decide)))
    (s_div (r_v36 h0 i) (r_v35 h0 i) (Model.ms_pos _ _).ne')

theorem div128 {c : ℕ} (t : ℕ) (hc : c < 1024) : (t * 1024 + c) / 1024 = t := by omega
theorem mod128 {c : ℕ} (t : ℕ) (hc : c < 1024) : (t * 1024 + c) / 128 % 8 = c / 128 := by omega
theorem rem128 {c : ℕ} (t : ℕ) (hc : c < 1024) : (t * 1024 + c) % 128 = c % 128 := by omega
theorem lt1024 (i : S2048x1024.Idx) : (i 1).val < 1024 := (i 1).isLt
theorem join (c : ℕ) : 128 * (c / 128) + c % 128 = c := by omega

/-- Reading an array by its column: head `c / 128`, column `c % 128`. -/
theorem unflat {X : ℕ → ℕ → ℕ → ℝ} (i : S2048x1024.Idx) :
    ((X (((i 0).val * 1024 + (i 1).val) / 128 % 8) (((i 0).val * 1024 + (i 1).val) / 1024) (((i 0).val * 1024 + (i 1).val) % 128) : ℝ) : EReal)
      = ((X ((i 1).val / 128) (i 0).val ((i 1).val % 128) : ℝ) : EReal) := by
  rw [div128 _ (lt1024 i), mod128 _ (lt1024 i), rem128 _ (lt1024 i)]

include h0 in
theorem r_v42 (i : S2048x1024.Idx) : val_main_v42 (F := Ideal) x0 i
    = ((Model.oh (oh P ((i 1).val / 128)) (i 0).val ((i 1).val % 128) : ℝ) : EReal) :=
  (val_main_v42_apply (F := Ideal) x0 i).trans ((r_v41 h0 _).trans (unflat (X := fun h t e => Model.oh (oh P h) t e) i))

include h2 in
theorem r_v45 (i : S2048x1024.Idx) : val_main_v45 (F := Ideal) x2 i = ((D (i 0).val (1024 + (i 1).val) : ℝ) : EReal) :=
  (val_main_v45_apply (F := Ideal) x2 i).trans (h2 _)

include h0 h2 in
theorem r_v46 (i : S2048x1024.Idx) : val_main_v46 (F := Ideal) x0 x2 i
    = ((dh D ((i 1).val / 128) (i 0).val ((i 1).val % 128) * Model.oh (oh P ((i 1).val / 128)) (i 0).val ((i 1).val % 128) : ℝ) : EReal) :=
  (s_mul (r_v42 h0 i) (r_v45 h2 i)).trans (congrArg Real.toEReal (by
    rw [mul_comm]; congr 1; show D _ _ = D _ _; rw [join]))

include h0 h2 in
theorem r_v47 (i : S1024.Idx) : val_main_v47 (F := Ideal) x0 x2 i
    = ((Model.dgain (oh P ((i 0).val / 128)) (dh D ((i 0).val / 128)) 2048 ((i 0).val % 128) : ℝ) : EReal) :=
  (val_main_v47_apply x0 x2 i).trans (s_init zero32 (fun k => r_v46 h0 h2 _))

include h0 h2 in
/-- The gradient of the gain. -/
theorem r_v48 (i : S1x1024.Idx) : val_main_v48 (F := Ideal) x0 x2 i
    = ((Model.dgain (oh P ((i 1).val / 128)) (dh D ((i 1).val / 128)) 2048 ((i 1).val % 128) : ℝ) : EReal) := by
  refine (val_main_v48_apply (F := Ideal) x0 x2 i).trans ((r_v47 h0 h2 _).trans ?_)
  have hz : (i 0).val < 1 := (i 0).isLt
  have : (i 0).val * 1024 + (i 1).val = (i 1).val := by omega
  show ((Model.dgain (oh P (((i 0).val * 1024 + (i 1).val) / 128)) (dh D (((i 0).val * 1024 + (i 1).val) / 128)) 2048 (((i 0).val * 1024 + (i 1).val) % 128) : ℝ) : EReal) = _
  rw [this]

include h1 in
theorem r_v49 (i : S2048x1024.Idx) : val_main_v49 (F := Ideal) x1 i = ((A (1024 + (i 1).val) : ℝ) : EReal) :=
  (val_main_v49_apply (F := Ideal) x1 i).trans ((val_main_v3_apply (F := Ideal) x1 _).trans (h1 _))

include h1 h2 in
theorem r_v51 (i : S2048x8x128.Idx) : val_main_v51 (F := Ideal) x1 x2 i
    = ((dh D (i 1).val (i 0).val (i 2).val * gh A (i 1).val (i 2).val : ℝ) : EReal) :=
  (val_main_v51_apply (F := Ideal) x1 x2 i).trans ((s_mul (r_v45 h2 _) (r_v49 h1 _)).trans (congrArg Real.toEReal
    (congrArg₂ (· * ·) (congrArg₂ D (lay_div (lt8 i) (lt128 i)) (congrArg (1024 + ·) (lay_mod (lt8 i) (lt128 i))))
      (congrArg A (congrArg (1024 + ·) (lay_mod (lt8 i) (lt128 i)))))))

include h0 h1 h2 in
theorem r_v53 (i : S2048x8.Idx) : val_main_v53 (F := Ideal) x0 x1 x2 i
    = ((∑ e ∈ Finset.range 128, oh P (i 1).val (i 0).val e * (dh D (i 1).val (i 0).val e * gh A (i 1).val e) : ℝ) : EReal) :=
  (val_main_v53_apply x0 x1 x2 i).trans (s_init zero32 (fun k => s_mul (r_v27 h0 _) (r_v51 h1 h2 _)))

include h0 h1 h2 in
theorem r_v54 (i : S2048x8x1.Idx) : val_main_v54 (F := Ideal) x0 x1 x2 i
    = ((∑ e ∈ Finset.range 128, oh P (i 1).val (i 0).val e * (dh D (i 1).val (i 0).val e * gh A (i 1).val e) : ℝ) : EReal) := by
  refine (val_main_v54_apply (F := Ideal) x0 x1 x2 i).trans ((r_v53 h0 h1 h2 _).trans ?_)
  have b1 : (i 1).val < 8 := (i 1).isLt
  have b2 : (i 2).val < 1 := (i 2).isLt
  have e1 : (((i 0).val * 8 + (i 1).val) * 1 + (i 2).val) / 8 = (i 0).val := by omega
  have e2 : (((i 0).val * 8 + (i 1).val) * 1 + (i 2).val) % 8 = (i 1).val := by omega
  show ((∑ e ∈ Finset.range 128, oh P ((((i 0).val * 8 + (i 1).val) * 1 + (i 2).val) % 8) ((((i 0).val * 8 + (i 1).val) * 1 + (i 2).val) / 8) e
    * (dh D ((((i 0).val * 8 + (i 1).val) * 1 + (i 2).val) % 8) ((((i 0).val * 8 + (i 1).val) * 1 + (i 2).val) / 8) e
      * gh A ((((i 0).val * 8 + (i 1).val) * 1 + (i 2).val) % 8) e) : ℝ) : EReal) = _
  rw [e1, e2]

/-- The row's share of the norm's gradient. -/
def wv (P : ℕ → ℕ → ℝ) (A : ℕ → ℝ) (D : ℕ → ℕ → ℝ) (h t : ℕ) : ℝ :=
  (∑ x ∈ Finset.range 128, oh P h t x * (dh D h t x * gh A h x)) * (val32 0xBF000000#32 * (Model.rr (oh P h) t / Model.ms (oh P h) t)) / Model.wd

include h0 h1 h2 in
theorem r_v59 (i : S2048x8x1.Idx) : val_main_v59 (F := Ideal) x0 x1 x2 i = ((wv P A D (i 1).val (i 0).val : ℝ) : EReal) :=
  s_div (s_mul (r_v54 h0 h1 h2 i) (r_v39 h0 i)) ((val_main_v58_apply (F := Ideal) i).trans (ofBits_val32 0x43000000#32 (by decide))) Cert.KernelIdeal.Bwd.wd_ne

include h0 h1 h2 in
theorem r_v60 (i : S2048x8.Idx) : val_main_v60 (F := Ideal) x0 x1 x2 i = ((wv P A D (i 1).val (i 0).val : ℝ) : EReal) := by
  refine (val_main_v60_apply x0 x1 x2 i).trans ?_
  have e : ∀ k : Fin 1, val_main_v59 (F := Ideal) x0 x1 x2 (idx_main_v60 i k) = ((wv P A D (i 1).val (i 0).val : ℝ) : EReal) := fun k => r_v59 h0 h1 h2 _
  rw [Fin.sum_univ_one, e]
  exact (congrArg (· + _) (zero32.trans EReal.coe_zero)).trans (zero_add _)

include h0 h1 h2 in
theorem r_v61 (i : S2048x8x128.Idx) : val_main_v61 (F := Ideal) x0 x1 x2 i = ((wv P A D (i 1).val (i 0).val : ℝ) : EReal) :=
  (val_main_v61_apply (F := Ideal) x0 x1 x2 i).trans (r_v60 h0 h1 h2 _)

include h0 h1 h2 in
theorem r_v65 (i : S2048x8x128.Idx) : val_main_v65 (F := Ideal) x0 x1 x2 i = ((gO P A D (i 1).val (i 0).val (i 2).val : ℝ) : EReal) :=
  (s_add (s_add (s_mul (r_v51 h1 h2 i) ((val_main_v55_apply (F := Ideal) x0 i).trans (r_v36 h0 _))) (s_mul (r_v27 h0 i) (r_v61 h0 h1 h2 i)))
    (s_mul (r_v61 h0 h1 h2 i) (r_v27 h0 i))).trans (congrArg Real.toEReal (dO_eq _ _ _ _ _))

include h0 h1 h2 in
theorem r_v66 (i : S8x128x2048.Idx) : val_main_v66 (F := Ideal) x0 x1 x2 i = ((gO P A D (i 0).val (i 2).val (i 1).val : ℝ) : EReal) :=
  (val_main_v66_apply (F := Ideal) x0 x1 x2 i).trans (r_v65 h0 h1 h2 _)

/-! ## The weights -/

include h0 h1 h2 in
theorem r_v67 (i : S8x2048x2048.Idx) : val_main_v67 (F := Ideal) x0 x1 x2 i
    = ((∑ e ∈ Finset.range 128, gO P A D (i 0).val (i 1).val e * vh P (i 0).val (i 2).val e : ℝ) : EReal) :=
  (val_main_v67_apply x0 x1 x2 i).trans (s_dot (fun k => r_v66 h0 h1 h2 _) (fun k => r_v6 h0 _))

theorem r_c5v0 (i : S8x2048x2048.Idx) : val_main_call5_v0 (F := Ideal) i = ((0 : ℝ) : EReal) := (val_main_call5_v0_apply (F := Ideal) i).trans zero32
theorem r_c7v0 (i : S8x2048x2048.Idx) : val_main_call7_v0 (F := Ideal) i = ((0 : ℝ) : EReal) := (val_main_call7_v0_apply (F := Ideal) i).trans zero32

include h0 h1 h2 in
theorem r_v71 (i : S8x2048x2048.Idx) : val_main_v71 (F := Ideal) x0 x1 x2 i = ((dlh P A D (i 0).val (i 1).val (i 2).val : ℝ) : EReal) :=
  (s_mul (s_where (r_v25_1 i) (r_v67 h0 h1 h2 i) (r_c5v0 i)) (r_v24 h0 i)).trans (congrArg Real.toEReal (by
    rw [dlh, Model.dl, Model.a]
    by_cases h : (i 2).val < (i 1).val
    · rw [if_pos h, if_pos h]; rfl
    · rw [if_neg h, if_neg h, zero_mul, mul_zero]))

include h0 h1 h2 in
theorem r_v73 (i : S8x2048x2048.Idx) : val_main_v73 (F := Ideal) x0 x1 x2 i
    = ((∑ j ∈ Finset.range ((i 2).val + 1), dlh P A D (i 0).val (i 1).val j : ℝ) : EReal) :=
  (window_apply (A := 8) (B := 2048) (N := 2048) (lo := 2047) (hi := 0) (val_main_v71 (F := Ideal) x0 x1 x2) (val_main_call6_v0 (F := Ideal)) _ h_S_
    ((val_main_call6_v0_apply (F := Ideal) _).trans zero32) (X := fun j => dlh P A D (i 0).val (i 1).val j) i (fun k => r_v71 h0 h1 h2 _)).trans
    (congrArg Real.toEReal (head_sum (N := 2048) _ (i 2).isLt))

include h0 h1 h2 in
theorem r_v75 (i : S8x2048x2048.Idx) : val_main_v75 (F := Ideal) x0 x1 x2 i
    = ((if (i 2).val < (i 1).val then ∑ j ∈ Finset.range (i 2).val, dlh P A D (i 0).val (i 1).val j else 0 : ℝ) : EReal) :=
  s_where (r_v20_1 i) ((s_add (s_neg (r_v71 h0 h1 h2 i)) (r_v73 h0 h1 h2 i)).trans (congrArg Real.toEReal (by
    rw [Finset.sum_range_succ]; ring))) (r_c7v0 i)

include h0 h1 h2 in
theorem r_v81 (i : S8x2048x2048.Idx) : val_main_v81 (F := Ideal) x0 x1 x2 i = ((dzh P A D (i 0).val (i 1).val (i 2).val : ℝ) : EReal) :=
  (s_mul (s_add (s_neg (s_neg (s_mul (s_neg (r_v75 h0 h1 h2 i)) (r_v19_1 h0 i)))) (s_neg (s_mul (s_neg (r_v71 h0 h1 h2 i)) (r_v17_1 h0 i))))
    ((val_main_v80_apply (F := Ideal) i).trans (ofBits_val32 0x3DB504F3#32 (by decide)))).trans (congrArg Real.toEReal (by
    rw [dzh, Model.dz]
    by_cases h : (i 2).val < (i 1).val
    · rw [if_pos h, if_pos h]
      show _ = (dlh P A D (i 0).val (i 1).val (i 2).val * (1 - Real.exp (Model.ls (zh P (i 0).val (i 1).val (i 2).val)))
        - Real.exp (Model.ls (zh P (i 0).val (i 1).val (i 2).val)) * ∑ j ∈ Finset.range (i 2).val, dlh P A D (i 0).val (i 1).val j) * val32 0x3DB504F3#32
      ring
    · have hz : dlh P A D (i 0).val (i 1).val (i 2).val = 0 := Model.dl_of_le (not_lt.1 h)
      rw [if_neg h, if_neg h, hz]; ring))

/-! ## The gradients of `q`, `k`, `v` -/

include h0 h1 h2 in
/-- The gradient of `q`. -/
theorem r_v89 (i : S2048x1024.Idx) : val_main_v89 (F := Ideal) x0 x1 x2 i
    = ((Model.dq (qh P ((i 1).val / 128)) (kh P ((i 1).val / 128)) (vh P ((i 1).val / 128)) (gO P A D ((i 1).val / 128)) sc (Lh P ((i 1).val / 128)) 2048 (i 0).val ((i 1).val % 128) : ℝ) : EReal) :=
  (val_main_v88_apply (F := Ideal) x0 x1 x2 i).trans ((val_main_v85_apply (F := Ideal) x0 x1 x2 _).trans ((val_main_v84_apply x0 x1 x2 _).trans
    ((s_dot (fun k => r_v81 h0 h1 h2 _) (fun k => r_v5 h0 _)).trans
      (unflat (X := fun h t e => Model.dq (qh P h) (kh P h) (vh P h) (gO P A D h) sc (Lh P h) 2048 t e) i))))

include h0 h1 h2 in
/-- The gradient of `k`. -/
theorem r_v90 (i : S2048x1024.Idx) : val_main_v90 (F := Ideal) x0 x1 x2 i
    = ((Model.dk (qh P ((i 1).val / 128)) (kh P ((i 1).val / 128)) (vh P ((i 1).val / 128)) (gO P A D ((i 1).val / 128)) sc (Lh P ((i 1).val / 128)) 2048 (i 0).val ((i 1).val % 128) : ℝ) : EReal) :=
  (val_main_v87_apply (F := Ideal) x0 x1 x2 i).trans ((val_main_v83_apply (F := Ideal) x0 x1 x2 _).trans ((val_main_v82_apply x0 x1 x2 _).trans
    ((s_dot (fun k => r_v81 h0 h1 h2 _) (fun k => r_v4 h0 _)).trans
      (unflat (X := fun h t e => Model.dk (qh P h) (kh P h) (vh P h) (gO P A D h) sc (Lh P h) 2048 t e) i))))

include h0 h1 h2 in
/-- The gradient of `v`. -/
theorem r_v91 (i : S2048x1024.Idx) : val_main_v91 (F := Ideal) x0 x1 x2 i
    = ((Model.dv (qh P ((i 1).val / 128)) (kh P ((i 1).val / 128)) (gO P A D ((i 1).val / 128)) sc (Lh P ((i 1).val / 128)) 2048 (i 0).val ((i 1).val % 128) : ℝ) : EReal) :=
  (val_main_v86_apply (F := Ideal) x0 x1 x2 i).trans ((val_main_v69_apply (F := Ideal) x0 x1 x2 _).trans ((val_main_v68_apply x0 x1 x2 _).trans
    ((s_dot (fun k => r_v66 h0 h1 h2 _) (fun k => r_v25_0 h0 _)).trans
      ((congrArg Real.toEReal (Finset.sum_congr rfl fun _ _ => mul_comm _ _)).trans
        (unflat (X := fun h t e => Model.dv (qh P h) (kh P h) (gO P A D h) sc (Lh P h) 2048 t e) i)))))

end

end Cert.Proof.Ref

end
-- ==== Proof.Arrays.lean ====
/- The kernel's result arrays over the reals: every block of a result is what the body leaves at one head, from that
   head's blocks of the arguments and of the two arrays that the host lines prepare. -/
module

public import proofs.«01_k».proof.Proof.Blocks
public import proofs.«01_k».proof.Proof.Body
public import proofs.«01_k».proof.Proof.Prefix
public import proofs.«01_k».proof.Proof.RefB

@[expose] public section

set_option maxRecDepth 16384

noncomputable section

namespace Cert.KernelIdeal.Bwd

open Cert.KernelIdeal Cert.KernelIdeal.Gen
open Idealize.ShloMosaic Idealize.ShloMosaic.TcCoe Idealize.ShloMosaic.ValueIdx Idealize.SL.Sem
open Cert.Proof Cert.Proof.Rd Cert.Proof.Ref Cert.Proof.Host
open Cert.Proof.Block (sc)
open scoped BigOperators

variable (m : (ℓ : Loc nD τ sig) → Buf (Elt Ideal) ℓ) (c : Dev nD) {P : ℕ → ℕ → ℝ} {A : ℕ → ℝ} {D : ℕ → ℕ → ℝ}

/-! ## The block indices -/

theorem index0 : ∀ t : Fin cfg0.N, win0_0.index t 0 = 0 ∧ win0_0.index t 1 = 16 + t.val :=
  (by decide +kernel : ∀ t : Fin grid0.N, win0_0.index t 0 = 0 ∧ win0_0.index t 1 = 16 + t.val)
theorem index1 : ∀ t : Fin cfg0.N, win0_1.index t 0 = 0 ∧ win0_1.index t 1 = 24 + t.val :=
  (by decide +kernel : ∀ t : Fin grid0.N, win0_1.index t 0 = 0 ∧ win0_1.index t 1 = 24 + t.val)
theorem index2 : ∀ t : Fin cfg0.N, win0_2.index t 0 = 0 ∧ win0_2.index t 1 = 32 + t.val :=
  (by decide +kernel : ∀ t : Fin grid0.N, win0_2.index t 0 = 0 ∧ win0_2.index t 1 = 32 + t.val)
theorem index3 : ∀ t : Fin cfg0.N, win0_3.index t 0 = 0 ∧ win0_3.index t 1 = 0 + t.val :=
  (by decide +kernel : ∀ t : Fin grid0.N, win0_3.index t 0 = 0 ∧ win0_3.index t 1 = 0 + t.val)
theorem index4 : ∀ t : Fin cfg0.N, win0_4.index t 0 = 0 ∧ win0_4.index t 1 = 0 + t.val :=
  (by decide +kernel : ∀ t : Fin grid0.N, win0_4.index t 0 = 0 ∧ win0_4.index t 1 = 0 + t.val)
theorem index5 : ∀ t : Fin cfg0.N, win0_5.index t 0 = 0 ∧ win0_5.index t 1 = 8 + t.val :=
  (by decide +kernel : ∀ t : Fin grid0.N, win0_5.index t 0 = 0 ∧ win0_5.index t 1 = 8 + t.val)
theorem index6 : ∀ t : Fin cfg0.N, win0_6.index t 0 = 0 ∧ win0_6.index t 1 = 8 + t.val :=
  (by decide +kernel : ∀ t : Fin grid0.N, win0_6.index t 0 = 0 ∧ win0_6.index t 1 = 8 + t.val)
theorem index7 : ∀ t : Fin cfg0.N, win0_7.index t 0 = 0 ∧ win0_7.index t 1 = 0 + t.val :=
  (by decide +kernel : ∀ t : Fin grid0.N, win0_7.index t 0 = 0 ∧ win0_7.index t 1 = 0 + t.val)
theorem index8 : ∀ t : Fin cfg0.N, win0_8.index t 0 = 0 ∧ win0_8.index t 1 = 0 + t.val :=
  (by decide +kernel : ∀ t : Fin grid0.N, win0_8.index t 0 = 0 ∧ win0_8.index t 1 = 0 + t.val)
theorem index9 : ∀ t : Fin cfg0.N, win0_9.index t 0 = 0 ∧ win0_9.index t 1 = 0 + t.val :=
  (by decide +kernel : ∀ t : Fin grid0.N, win0_9.index t 0 = 0 ∧ win0_9.index t 1 = 0 + t.val)
theorem index10 : ∀ t : Fin cfg0.N, win0_10.index t 0 = 0 ∧ win0_10.index t 1 = 0 + t.val :=
  (by decide +kernel : ∀ t : Fin grid0.N, win0_10.index t 0 = 0 ∧ win0_10.index t 1 = 0 + t.val)

/-! ## The arrays that the host lines prepare -/

section
variable (h0 : ∀ i : S2048x5120.Idx, (m ((c : Thread nD τ).loc main_arg0) : S2048x5120.Idx → EReal) i = ((P (i 0).val (i 1).val : ℝ) : EReal))
  (h1 : ∀ i : S1x2048.Idx, (m ((c : Thread nD τ).loc main_arg1) : S1x2048.Idx → EReal) i = ((A (i 1).val : ℝ) : EReal))
  (h2 : ∀ i : S2048x2048.Idx, (m ((c : Thread nD τ).loc main_arg2) : S2048x2048.Idx → EReal) i = ((D (i 0).val (i 1).val : ℝ) : EReal))

theorem flat_apply (y : S2048x8x128.Idx → EReal) (i : S2048x1024.Idx) :
    shapeCast S2048x1024 y shapeCasts_S2048x8x128_S2048x1024 i = y (Cert.ReferenceIdeal.Read.idx_main_v42 i) :=
  shapeCast_apply y shapeCasts_S2048x8x128_S2048x1024 i (Cert.ReferenceIdeal.Read.idx_main_v42 i)
    (by rewrite [Shape.rowMajor_val_three, Shape.rowMajor_val_two]; have h0 : (i 0).val < 2048 := (i 0).isLt; have h1 : (i 1).val < 1024 := (i 1).isLt; show (((i 0).val * 1024 + (i 1).val) / 1024 * 8 + ((i 0).val * 1024 + (i 1).val) / 128 % 8) * 128 + ((i 0).val * 1024 + (i 1).val) % 128 = (i 0).val * 1024 + (i 1).val; omega)

include h0 in
theorem V28_apply (i : S2048x1024.Idx) : (V m c main_v28 : S2048x1024.Idx → EReal) i
    = ((Cert.Proof.Ref.oh P ((i 1).val / 128) (i 0).val ((i 1).val % 128) : ℝ) : EReal) :=
  (congrFun (V_main_v28 m c) i).trans ((flat_apply _ i).trans ((r_v27 h0 _).trans (unflat (X := fun h t e => Cert.Proof.Ref.oh P h t e) i)))

theorem rows_apply (y : S8x2048.Idx → EReal) (i : S2048x8x128.Idx) :
    broadcastInDim S2048x8x128 ![0, 1, 2] bcast_S2048x8x1_S2048x8x128_0_1_2 (broadcastInDim S2048x8x1 ![0, 1] bcast_S2048x8_S2048x8x1_0_1
      (transpose S2048x8 [1, 0] y transposes_S8x2048_S2048x8_1_0)) i = y (ix2 (n0 := 8) (n1 := 2048) (i 1) (i 0)) :=
  (broadcastInDim_apply _ bcast_S2048x8x1_S2048x8x128_0_1_2 _ i (ix3 (n0 := 2048) (n1 := 8) (n2 := 1) (i 0) (i 1) 0) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])).trans
  ((broadcastInDim_apply _ bcast_S2048x8_S2048x8x1_0_1 _ _ (ix2 (n0 := 2048) (n1 := 8) (i 0) (i 1)) (fun a => match a with
    | ⟨0, _⟩ => by show (i 0).val = if (2048 : Nat) = 1 then 0 else (i 0).val; rw [if_neg (by decide)]
    | ⟨1, _⟩ => by show (i 1).val = if (8 : Nat) = 1 then 0 else (i 1).val; rw [if_neg (by decide)])).trans
  (transpose_apply [1, 0] y transposes_S8x2048_S2048x8_1_0 _ (ix2 (n0 := 8) (n1 := 2048) (i 1) (i 0)) (fun b => match b with
    | ⟨0, _⟩ => rfl
    | ⟨1, _⟩ => rfl)))

include h0 in
theorem r_v28 (i : S8x2048.Idx) : Cert.ReferenceIdeal.Read.val_main_v28 (F := Ideal) (m ((c : Thread nD τ).loc main_arg0)) i
    = ((Lh P (i 0).val (i 1).val : ℝ) : EReal) :=
  (Cert.ReferenceIdeal.Read.val_main_v28_apply _ i).trans (s_init zero32 (fun k => r_v20_0 h0 _))

include h0 in
theorem V32_apply (i : S2048x1024.Idx) : (V m c main_v32 : S2048x1024.Idx → EReal) i
    = ((Lh P ((i 1).val / 128) (i 0).val : ℝ) : EReal) :=
  (congrFun (V_main_v32 m c) i).trans ((flat_apply _ i).trans ((rows_apply _ _).trans ((r_v28 m c h0 _).trans
    (unflat (X := fun h t _ => Lh P h t) i))))

/-! ## The blocks that the body is given -/

include h0 in
theorem block0 (t : Fin cfg0.N) : Rd2 (a := 2048) (b := 128) (iblk m c 0 t) (qh P t.val) := fun i j => by
  have hi := index0 t
  unfold iblk
  rw [View.read_apply]
  refine ((congrFun (V_main_arg0 m c) _).trans (h0 _)).trans (congrArg Real.toEReal ?_)
  have e0 : win0_0.index t 0 * 2048 + 1 * i.val = i.val := by rw [hi.1]; omega
  have e1 : win0_0.index t 1 * 128 + 1 * j.val = 2048 + (128 * t.val + j.val) := by rw [hi.2]; omega
  show P (win0_0.index t 0 * 2048 + 1 * i.val) (win0_0.index t 1 * 128 + 1 * j.val) = P i.val (2048 + (128 * t.val + j.val))
  rw [e0, e1]

include h0 in
theorem block1 (t : Fin cfg0.N) : Rd2 (a := 2048) (b := 128) (iblk m c 1 t) (kh P t.val) := fun i j => by
  have hi := index1 t
  unfold iblk
  rw [View.read_apply]
  refine ((congrFun (V_main_arg0 m c) _).trans (h0 _)).trans (congrArg Real.toEReal ?_)
  have e0 : win0_1.index t 0 * 2048 + 1 * i.val = i.val := by rw [hi.1]; omega
  have e1 : win0_1.index t 1 * 128 + 1 * j.val = 3072 + (128 * t.val + j.val) := by rw [hi.2]; omega
  show P (win0_1.index t 0 * 2048 + 1 * i.val) (win0_1.index t 1 * 128 + 1 * j.val) = P i.val (3072 + (128 * t.val + j.val))
  rw [e0, e1]

include h0 in
theorem block2 (t : Fin cfg0.N) : Rd2 (a := 2048) (b := 128) (iblk m c 2 t) (vh P t.val) := fun i j => by
  have hi := index2 t
  unfold iblk
  rw [View.read_apply]
  refine ((congrFun (V_main_arg0 m c) _).trans (h0 _)).trans (congrArg Real.toEReal ?_)
  have e0 : win0_2.index t 0 * 2048 + 1 * i.val = i.val := by rw [hi.1]; omega
  have e1 : win0_2.index t 1 * 128 + 1 * j.val = 4096 + (128 * t.val + j.val) := by rw [hi.2]; omega
  show P (win0_2.index t 0 * 2048 + 1 * i.val) (win0_2.index t 1 * 128 + 1 * j.val) = P i.val (4096 + (128 * t.val + j.val))
  rw [e0, e1]

include h0 in
theorem block3 (t : Fin cfg0.N) : Rd2 (a := 2048) (b := 128) (iblk m c 3 t) (Cert.Proof.Ref.oh P t.val) := fun i j => by
  have hi := index3 t
  unfold iblk
  rw [View.read_apply]
  refine (V28_apply m c h0 _).trans (congrArg Real.toEReal ?_)
  have e0 : win0_3.index t 0 * 2048 + 1 * i.val = i.val := by rw [hi.1]; omega
  have e1 : win0_3.index t 1 * 128 + 1 * j.val = 128 * t.val + j.val := by rw [hi.2]; omega
  have hj := j.isLt
  have e2 : (128 * t.val + j.val) / 128 = t.val := by omega
  have e3 : (128 * t.val + j.val) % 128 = j.val := by omega
  show Cert.Proof.Ref.oh P ((win0_3.index t 1 * 128 + 1 * j.val) / 128) (win0_3.index t 0 * 2048 + 1 * i.val) ((win0_3.index t 1 * 128 + 1 * j.val) % 128) = _
  rw [e0, e1, e2, e3]

include h0 in
theorem block4 (t : Fin cfg0.N) : Rd2 (a := 2048) (b := 128) (iblk m c 4 t) (fun r _ => Lh P t.val r) := fun i j => by
  have hi := index4 t
  unfold iblk
  rw [View.read_apply]
  refine (V32_apply m c h0 _).trans (congrArg Real.toEReal ?_)
  have e0 : win0_4.index t 0 * 2048 + 1 * i.val = i.val := by rw [hi.1]; omega
  have e1 : win0_4.index t 1 * 128 + 1 * j.val = 128 * t.val + j.val := by rw [hi.2]; omega
  have hj := j.isLt
  have e2 : (128 * t.val + j.val) / 128 = t.val := by omega
  show Lh P ((win0_4.index t 1 * 128 + 1 * j.val) / 128) (win0_4.index t 0 * 2048 + 1 * i.val) = _
  rw [e0, e1, e2]

include h2 in
theorem block5 (t : Fin cfg0.N) : Rd2 (a := 2048) (b := 128) (iblk m c 5 t) (dh D t.val) := fun i j => by
  have hi := index5 t
  unfold iblk
  rw [View.read_apply]
  refine ((congrFun (V_main_arg2 m c) _).trans (h2 _)).trans (congrArg Real.toEReal ?_)
  have e0 : win0_5.index t 0 * 2048 + 1 * i.val = i.val := by rw [hi.1]; omega
  have e1 : win0_5.index t 1 * 128 + 1 * j.val = 1024 + (128 * t.val + j.val) := by rw [hi.2]; omega
  show D (win0_5.index t 0 * 2048 + 1 * i.val) (win0_5.index t 1 * 128 + 1 * j.val) = D i.val (1024 + (128 * t.val + j.val))
  rw [e0, e1]

include h1 in
theorem block6 (t : Fin cfg0.N) : Rd2 (a := 1) (b := 128) (iblk m c 6 t) (fun _ e => gh A t.val e) := fun i j => by
  have hi := index6 t
  unfold iblk
  rw [View.read_apply]
  refine ((congrFun (V_main_arg1 m c) _).trans (h1 _)).trans (congrArg Real.toEReal ?_)
  have e0 : win0_6.index t 0 * 1 + 1 * i.val = i.val := by rw [hi.1]; omega
  have e1 : win0_6.index t 1 * 128 + 1 * j.val = 1024 + (128 * t.val + j.val) := by rw [hi.2]; omega
  show A (win0_6.index t 1 * 128 + 1 * j.val) = A (1024 + (128 * t.val + j.val))
  rw [e1]

/-! ## The result arrays -/

include h0 h1 h2 in
theorem array7 (i : S2048x1024.Idx) : ((dats m 0 c).arrAt 7 cfg0.N : S2048x1024.Idx → EReal) i = ((Model.dq (qh P ((i 1).val / 128)) (kh P ((i 1).val / 128)) (vh P ((i 1).val / 128)) (gO P A D ((i 1).val / 128)) sc (Lh P ((i 1).val / 128)) 2048 (i 0).val ((i 1).val % 128) : ℝ) : EReal) := by
  have hc : (i 1).val < 1024 := (i 1).isLt
  have hN : (i 1).val / 128 < cfg0.N := by show (i 1).val / 128 < 8; omega
  have hi := index7 ⟨(i 1).val / 128, hN⟩
  have hm : (i 1).val % 128 < 128 := Nat.mod_lt _ (by decide)
  have hb := congrFun (blocks7 m c ⟨(i 1).val / 128, hN⟩ (flush0_7 _)) (ix2 (n0 := 2048) (n1 := 128) (i 0) ⟨(i 1).val % 128, hm⟩)
  rw [View.read_apply, flushed7_A] at hb
  have hv := (out_values c (grid0.coords ⟨(i 1).val / 128, hN⟩) (ms0_0 ⟨(i 1).val / 128, hN⟩) (hs0_0 ⟨(i 1).val / 128, hN⟩) (ms0_1 ⟨(i 1).val / 128, hN⟩) (hs0_1 ⟨(i 1).val / 128, hN⟩) (ms0_2 ⟨(i 1).val / 128, hN⟩) (hs0_2 ⟨(i 1).val / 128, hN⟩) (ms0_3 ⟨(i 1).val / 128, hN⟩) (hs0_3 ⟨(i 1).val / 128, hN⟩) (ms0_4 ⟨(i 1).val / 128, hN⟩) (hs0_4 ⟨(i 1).val / 128, hN⟩) (ms0_5 ⟨(i 1).val / 128, hN⟩) (hs0_5 ⟨(i 1).val / 128, hN⟩) (ms0_6 ⟨(i 1).val / 128, hN⟩) (hs0_6 ⟨(i 1).val / 128, hN⟩) (ms0_7 ⟨(i 1).val / 128, hN⟩) (hs0_7 ⟨(i 1).val / 128, hN⟩) (ms0_8 ⟨(i 1).val / 128, hN⟩) (hs0_8 ⟨(i 1).val / 128, hN⟩) (ms0_9 ⟨(i 1).val / 128, hN⟩) (hs0_9 ⟨(i 1).val / 128, hN⟩) (ms0_10 ⟨(i 1).val / 128, hN⟩) (hs0_10 ⟨(i 1).val / 128, hN⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 ⟨(i 1).val / 128, hN⟩) (iblk m c 1 ⟨(i 1).val / 128, hN⟩) (iblk m c 2 ⟨(i 1).val / 128, hN⟩) (iblk m c 3 ⟨(i 1).val / 128, hN⟩) (iblk m c 4 ⟨(i 1).val / 128, hN⟩) (iblk m c 5 ⟨(i 1).val / 128, hN⟩) (iblk m c 6 ⟨(i 1).val / 128, hN⟩) (block0 m c h0 ⟨(i 1).val / 128, hN⟩) (block1 m c h0 ⟨(i 1).val / 128, hN⟩) (block2 m c h0 ⟨(i 1).val / 128, hN⟩) (block3 m c h0 ⟨(i 1).val / 128, hN⟩) (block4 m c h0 ⟨(i 1).val / 128, hN⟩) (block5 m c h2 ⟨(i 1).val / 128, hN⟩) (block6 m c h1 ⟨(i 1).val / 128, hN⟩)).1 (i 0) ⟨(i 1).val % 128, hm⟩
  have he : ((cfg0.win 7).blk ⟨(i 1).val / 128, hN⟩).view.emb (ix2 (n0 := 2048) (n1 := 128) (i 0) ⟨(i 1).val % 128, hm⟩) = i := by
    funext a
    match a with
    | ⟨0, _⟩ => exact Fin.ext (by show win0_7.index ⟨(i 1).val / 128, hN⟩ 0 * 2048 + 1 * (i 0).val = (i 0).val; rw [hi.1]; omega)
    | ⟨1, _⟩ => exact Fin.ext (by
      show win0_7.index ⟨(i 1).val / 128, hN⟩ 1 * 128 + 1 * ((i 1).val % 128) = (i 1).val
      rw [hi.2]; show (0 + (i 1).val / 128) * 128 + 1 * ((i 1).val % 128) = (i 1).val; omega)
  rw [he] at hb
  exact hb.trans hv

include h0 h1 h2 in
theorem array8 (i : S2048x1024.Idx) : ((dats m 0 c).arrAt 8 cfg0.N : S2048x1024.Idx → EReal) i = ((Model.dk (qh P ((i 1).val / 128)) (kh P ((i 1).val / 128)) (vh P ((i 1).val / 128)) (gO P A D ((i 1).val / 128)) sc (Lh P ((i 1).val / 128)) 2048 (i 0).val ((i 1).val % 128) : ℝ) : EReal) := by
  have hc : (i 1).val < 1024 := (i 1).isLt
  have hN : (i 1).val / 128 < cfg0.N := by show (i 1).val / 128 < 8; omega
  have hi := index8 ⟨(i 1).val / 128, hN⟩
  have hm : (i 1).val % 128 < 128 := Nat.mod_lt _ (by decide)
  have hb := congrFun (blocks8 m c ⟨(i 1).val / 128, hN⟩ (flush0_8 _)) (ix2 (n0 := 2048) (n1 := 128) (i 0) ⟨(i 1).val % 128, hm⟩)
  rw [View.read_apply, flushed8_A] at hb
  have hv := (out_values c (grid0.coords ⟨(i 1).val / 128, hN⟩) (ms0_0 ⟨(i 1).val / 128, hN⟩) (hs0_0 ⟨(i 1).val / 128, hN⟩) (ms0_1 ⟨(i 1).val / 128, hN⟩) (hs0_1 ⟨(i 1).val / 128, hN⟩) (ms0_2 ⟨(i 1).val / 128, hN⟩) (hs0_2 ⟨(i 1).val / 128, hN⟩) (ms0_3 ⟨(i 1).val / 128, hN⟩) (hs0_3 ⟨(i 1).val / 128, hN⟩) (ms0_4 ⟨(i 1).val / 128, hN⟩) (hs0_4 ⟨(i 1).val / 128, hN⟩) (ms0_5 ⟨(i 1).val / 128, hN⟩) (hs0_5 ⟨(i 1).val / 128, hN⟩) (ms0_6 ⟨(i 1).val / 128, hN⟩) (hs0_6 ⟨(i 1).val / 128, hN⟩) (ms0_7 ⟨(i 1).val / 128, hN⟩) (hs0_7 ⟨(i 1).val / 128, hN⟩) (ms0_8 ⟨(i 1).val / 128, hN⟩) (hs0_8 ⟨(i 1).val / 128, hN⟩) (ms0_9 ⟨(i 1).val / 128, hN⟩) (hs0_9 ⟨(i 1).val / 128, hN⟩) (ms0_10 ⟨(i 1).val / 128, hN⟩) (hs0_10 ⟨(i 1).val / 128, hN⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 ⟨(i 1).val / 128, hN⟩) (iblk m c 1 ⟨(i 1).val / 128, hN⟩) (iblk m c 2 ⟨(i 1).val / 128, hN⟩) (iblk m c 3 ⟨(i 1).val / 128, hN⟩) (iblk m c 4 ⟨(i 1).val / 128, hN⟩) (iblk m c 5 ⟨(i 1).val / 128, hN⟩) (iblk m c 6 ⟨(i 1).val / 128, hN⟩) (block0 m c h0 ⟨(i 1).val / 128, hN⟩) (block1 m c h0 ⟨(i 1).val / 128, hN⟩) (block2 m c h0 ⟨(i 1).val / 128, hN⟩) (block3 m c h0 ⟨(i 1).val / 128, hN⟩) (block4 m c h0 ⟨(i 1).val / 128, hN⟩) (block5 m c h2 ⟨(i 1).val / 128, hN⟩) (block6 m c h1 ⟨(i 1).val / 128, hN⟩)).2.1 (i 0) ⟨(i 1).val % 128, hm⟩
  have he : ((cfg0.win 8).blk ⟨(i 1).val / 128, hN⟩).view.emb (ix2 (n0 := 2048) (n1 := 128) (i 0) ⟨(i 1).val % 128, hm⟩) = i := by
    funext a
    match a with
    | ⟨0, _⟩ => exact Fin.ext (by show win0_8.index ⟨(i 1).val / 128, hN⟩ 0 * 2048 + 1 * (i 0).val = (i 0).val; rw [hi.1]; omega)
    | ⟨1, _⟩ => exact Fin.ext (by
      show win0_8.index ⟨(i 1).val / 128, hN⟩ 1 * 128 + 1 * ((i 1).val % 128) = (i 1).val
      rw [hi.2]; show (0 + (i 1).val / 128) * 128 + 1 * ((i 1).val % 128) = (i 1).val; omega)
  rw [he] at hb
  exact hb.trans hv

include h0 h1 h2 in
theorem array9 (i : S2048x1024.Idx) : ((dats m 0 c).arrAt 9 cfg0.N : S2048x1024.Idx → EReal) i = ((Model.dv (qh P ((i 1).val / 128)) (kh P ((i 1).val / 128)) (gO P A D ((i 1).val / 128)) sc (Lh P ((i 1).val / 128)) 2048 (i 0).val ((i 1).val % 128) : ℝ) : EReal) := by
  have hc : (i 1).val < 1024 := (i 1).isLt
  have hN : (i 1).val / 128 < cfg0.N := by show (i 1).val / 128 < 8; omega
  have hi := index9 ⟨(i 1).val / 128, hN⟩
  have hm : (i 1).val % 128 < 128 := Nat.mod_lt _ (by decide)
  have hb := congrFun (blocks9 m c ⟨(i 1).val / 128, hN⟩ (flush0_9 _)) (ix2 (n0 := 2048) (n1 := 128) (i 0) ⟨(i 1).val % 128, hm⟩)
  rw [View.read_apply, flushed9_A] at hb
  have hv := (out_values c (grid0.coords ⟨(i 1).val / 128, hN⟩) (ms0_0 ⟨(i 1).val / 128, hN⟩) (hs0_0 ⟨(i 1).val / 128, hN⟩) (ms0_1 ⟨(i 1).val / 128, hN⟩) (hs0_1 ⟨(i 1).val / 128, hN⟩) (ms0_2 ⟨(i 1).val / 128, hN⟩) (hs0_2 ⟨(i 1).val / 128, hN⟩) (ms0_3 ⟨(i 1).val / 128, hN⟩) (hs0_3 ⟨(i 1).val / 128, hN⟩) (ms0_4 ⟨(i 1).val / 128, hN⟩) (hs0_4 ⟨(i 1).val / 128, hN⟩) (ms0_5 ⟨(i 1).val / 128, hN⟩) (hs0_5 ⟨(i 1).val / 128, hN⟩) (ms0_6 ⟨(i 1).val / 128, hN⟩) (hs0_6 ⟨(i 1).val / 128, hN⟩) (ms0_7 ⟨(i 1).val / 128, hN⟩) (hs0_7 ⟨(i 1).val / 128, hN⟩) (ms0_8 ⟨(i 1).val / 128, hN⟩) (hs0_8 ⟨(i 1).val / 128, hN⟩) (ms0_9 ⟨(i 1).val / 128, hN⟩) (hs0_9 ⟨(i 1).val / 128, hN⟩) (ms0_10 ⟨(i 1).val / 128, hN⟩) (hs0_10 ⟨(i 1).val / 128, hN⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 ⟨(i 1).val / 128, hN⟩) (iblk m c 1 ⟨(i 1).val / 128, hN⟩) (iblk m c 2 ⟨(i 1).val / 128, hN⟩) (iblk m c 3 ⟨(i 1).val / 128, hN⟩) (iblk m c 4 ⟨(i 1).val / 128, hN⟩) (iblk m c 5 ⟨(i 1).val / 128, hN⟩) (iblk m c 6 ⟨(i 1).val / 128, hN⟩) (block0 m c h0 ⟨(i 1).val / 128, hN⟩) (block1 m c h0 ⟨(i 1).val / 128, hN⟩) (block2 m c h0 ⟨(i 1).val / 128, hN⟩) (block3 m c h0 ⟨(i 1).val / 128, hN⟩) (block4 m c h0 ⟨(i 1).val / 128, hN⟩) (block5 m c h2 ⟨(i 1).val / 128, hN⟩) (block6 m c h1 ⟨(i 1).val / 128, hN⟩)).2.2.1 (i 0) ⟨(i 1).val % 128, hm⟩
  have he : ((cfg0.win 9).blk ⟨(i 1).val / 128, hN⟩).view.emb (ix2 (n0 := 2048) (n1 := 128) (i 0) ⟨(i 1).val % 128, hm⟩) = i := by
    funext a
    match a with
    | ⟨0, _⟩ => exact Fin.ext (by show win0_9.index ⟨(i 1).val / 128, hN⟩ 0 * 2048 + 1 * (i 0).val = (i 0).val; rw [hi.1]; omega)
    | ⟨1, _⟩ => exact Fin.ext (by
      show win0_9.index ⟨(i 1).val / 128, hN⟩ 1 * 128 + 1 * ((i 1).val % 128) = (i 1).val
      rw [hi.2]; show (0 + (i 1).val / 128) * 128 + 1 * ((i 1).val % 128) = (i 1).val; omega)
  rw [he] at hb
  exact hb.trans hv

include h0 h1 h2 in
theorem array10 (i : S1x1024.Idx) : ((dats m 0 c).arrAt 10 cfg0.N : S1x1024.Idx → EReal) i = ((Model.dgain (Cert.Proof.Ref.oh P ((i 1).val / 128)) (dh D ((i 1).val / 128)) 2048 ((i 1).val % 128) : ℝ) : EReal) := by
  have hc : (i 1).val < 1024 := (i 1).isLt
  have hN : (i 1).val / 128 < cfg0.N := by show (i 1).val / 128 < 8; omega
  have hi := index10 ⟨(i 1).val / 128, hN⟩
  have hm : (i 1).val % 128 < 128 := Nat.mod_lt _ (by decide)
  have hb := congrFun (blocks10 m c ⟨(i 1).val / 128, hN⟩ (flush0_10 _)) (ix2 (n0 := 1) (n1 := 128) (i 0) ⟨(i 1).val % 128, hm⟩)
  rw [View.read_apply, flushed10_A] at hb
  have hv := (out_values c (grid0.coords ⟨(i 1).val / 128, hN⟩) (ms0_0 ⟨(i 1).val / 128, hN⟩) (hs0_0 ⟨(i 1).val / 128, hN⟩) (ms0_1 ⟨(i 1).val / 128, hN⟩) (hs0_1 ⟨(i 1).val / 128, hN⟩) (ms0_2 ⟨(i 1).val / 128, hN⟩) (hs0_2 ⟨(i 1).val / 128, hN⟩) (ms0_3 ⟨(i 1).val / 128, hN⟩) (hs0_3 ⟨(i 1).val / 128, hN⟩) (ms0_4 ⟨(i 1).val / 128, hN⟩) (hs0_4 ⟨(i 1).val / 128, hN⟩) (ms0_5 ⟨(i 1).val / 128, hN⟩) (hs0_5 ⟨(i 1).val / 128, hN⟩) (ms0_6 ⟨(i 1).val / 128, hN⟩) (hs0_6 ⟨(i 1).val / 128, hN⟩) (ms0_7 ⟨(i 1).val / 128, hN⟩) (hs0_7 ⟨(i 1).val / 128, hN⟩) (ms0_8 ⟨(i 1).val / 128, hN⟩) (hs0_8 ⟨(i 1).val / 128, hN⟩) (ms0_9 ⟨(i 1).val / 128, hN⟩) (hs0_9 ⟨(i 1).val / 128, hN⟩) (ms0_10 ⟨(i 1).val / 128, hN⟩) (hs0_10 ⟨(i 1).val / 128, hN⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 ⟨(i 1).val / 128, hN⟩) (iblk m c 1 ⟨(i 1).val / 128, hN⟩) (iblk m c 2 ⟨(i 1).val / 128, hN⟩) (iblk m c 3 ⟨(i 1).val / 128, hN⟩) (iblk m c 4 ⟨(i 1).val / 128, hN⟩) (iblk m c 5 ⟨(i 1).val / 128, hN⟩) (iblk m c 6 ⟨(i 1).val / 128, hN⟩) (block0 m c h0 ⟨(i 1).val / 128, hN⟩) (block1 m c h0 ⟨(i 1).val / 128, hN⟩) (block2 m c h0 ⟨(i 1).val / 128, hN⟩) (block3 m c h0 ⟨(i 1).val / 128, hN⟩) (block4 m c h0 ⟨(i 1).val / 128, hN⟩) (block5 m c h2 ⟨(i 1).val / 128, hN⟩) (block6 m c h1 ⟨(i 1).val / 128, hN⟩)).2.2.2 (i 0) ⟨(i 1).val % 128, hm⟩
  have he : ((cfg0.win 10).blk ⟨(i 1).val / 128, hN⟩).view.emb (ix2 (n0 := 1) (n1 := 128) (i 0) ⟨(i 1).val % 128, hm⟩) = i := by
    funext a
    match a with
    | ⟨0, _⟩ => exact Fin.ext (by show win0_10.index ⟨(i 1).val / 128, hN⟩ 0 * 1 + 1 * (i 0).val = (i 0).val; rw [hi.1]; omega)
    | ⟨1, _⟩ => exact Fin.ext (by
      show win0_10.index ⟨(i 1).val / 128, hN⟩ 1 * 128 + 1 * ((i 1).val % 128) = (i 1).val
      rw [hi.2]; show (0 + (i 1).val / 128) * 128 + 1 * ((i 1).val % 128) = (i 1).val; omega)
  rw [he] at hb
  exact hb.trans hv

end

end Cert.KernelIdeal.Bwd

end
-- ==== Proof.Equation.lean ====
/- The equation: on finite arguments the kernel's four results are the reference's. -/
module

public import proofs.«01_k».proof.Defs
public import proofs.«01_k».proof.Proof.Arrays
public import proofs.«01_k».proof.Proof.Finite

@[expose] public section

set_option maxRecDepth 16384

noncomputable section

namespace Cert.Proof

open Idealize.ShloMosaic Idealize.ShloMosaic.ValueIdx Idealize.ShloMosaic.TcCoe Idealize.SL.Sem
open Cert.Proof.Ref Cert.KernelIdeal.Bwd

/-- A rank-2 array of real numbers, by row and column. -/
def real2 {a b : ℕ} (x : (⟨2, ![a, b]⟩ : Shape).Idx → EReal) (i j : ℕ) : ℝ :=
  if h : i < a ∧ j < b then (x (ix2 (n0 := a) (n1 := b) ⟨i, h.1⟩ ⟨j, h.2⟩)).toReal else 0

theorem eq_real2 {a b : ℕ} {x : (⟨2, ![a, b]⟩ : Shape).Idx → EReal} (h : ∀ i, x i = (((x i).toReal : ℝ) : EReal)) (i : (⟨2, ![a, b]⟩ : Shape).Idx) :
    x i = ((real2 x (i 0).val (i 1).val : ℝ) : EReal) := by
  have h0 : (i 0).val < a := (i 0).isLt
  have h1 : (i 1).val < b := (i 1).isLt
  have e : ix2 (n0 := a) (n1 := b) ⟨(i 0).val, h0⟩ ⟨(i 1).val, h1⟩ = i := by
    funext c
    match c with
    | ⟨0, _⟩ => rfl
    | ⟨1, _⟩ => rfl
  rw [real2, dif_pos ⟨h0, h1⟩, e]
  exact h i

theorem algebraic : Cert.algebraic_KernelIdeal_ReferenceIdeal_pre_finite (hKernelIdeal := Cert.KernelIdeal.Gen.facts)
    (hReferenceIdeal := Cert.ReferenceIdeal.Gen.facts) (hPre_finite := Fin.facts) := by
  intro m g m' g' hpre hargs
  have hx0 : ∀ (c : Dev Cert.KernelIdeal.nD) (i : Cert.KernelIdeal.S2048x5120.Idx),
      (m ((c.tc : Thread Cert.KernelIdeal.nD Cert.KernelIdeal.τ).loc Cert.KernelIdeal.main_arg0) : Cert.KernelIdeal.S2048x5120.Idx → EReal) i = _ :=
    fun c i => eq_real2 (fun j => Fin.real_of_lt (congrFun (hpre c).1 j)) i
  have hx1 : ∀ (c : Dev Cert.KernelIdeal.nD) (i : Cert.KernelIdeal.S1x2048.Idx),
      (m ((c.tc : Thread Cert.KernelIdeal.nD Cert.KernelIdeal.τ).loc Cert.KernelIdeal.main_arg1) : Cert.KernelIdeal.S1x2048.Idx → EReal) i
        = ((real2 (a := 1) (b := 2048) (m ((c.tc : Thread Cert.KernelIdeal.nD Cert.KernelIdeal.τ).loc Cert.KernelIdeal.main_arg1)) 0 (i 1).val : ℝ) : EReal) :=
    fun c i => (eq_real2 (fun j => Fin.real_of_lt (congrFun (hpre c).2.1 j)) i).trans (by
      have hz : (i 0).val = 0 := by have h := (i 0).isLt; change (i 0).val < 1 at h; omega
      rw [hz])
  have hx2 : ∀ (c : Dev Cert.KernelIdeal.nD) (i : Cert.KernelIdeal.S2048x2048.Idx),
      (m ((c.tc : Thread Cert.KernelIdeal.nD Cert.KernelIdeal.τ).loc Cert.KernelIdeal.main_arg2) : Cert.KernelIdeal.S2048x2048.Idx → EReal) i = _ :=
    fun c i => eq_real2 (fun j => Fin.real_of_lt (congrFun (hpre c).2.2 j)) i
  refine ⟨fun c => (dats m 0 c).arrAt 7 Cert.KernelIdeal.cfg0.N, fun c => (dats m 0 c).arrAt 8 Cert.KernelIdeal.cfg0.N,
    fun c => (dats m 0 c).arrAt 9 Cert.KernelIdeal.cfg0.N, fun c => (dats m 0 c).arrAt 10 Cert.KernelIdeal.cfg0.N, run_blocks m g, ?_⟩
  refine (θ_run Cert.ReferenceIdeal.defs _ _).mono (fun r h c => ?_) (Cert.ReferenceIdeal.Value.run (F := Ideal) m' g')
  obtain ⟨e0, e1, e2, e3, ea⟩ := h c
  obtain ⟨a0, a1, a2⟩ := hargs c
  have y0 := fun i => (congrFun a0 i).trans (hx0 c i)
  have y1 := fun i => (congrFun a1 i).trans (hx1 c i)
  have y2 := fun i => (congrFun a2 i).trans (hx2 c i)
  refine ⟨(e0.trans (Cert.ReferenceIdeal.Read.val_main_v89_eq _)).trans (funext fun i => ?_),
    (e1.trans (Cert.ReferenceIdeal.Read.val_main_v90_eq _)).trans (funext fun i => ?_),
    (e2.trans (Cert.ReferenceIdeal.Read.val_main_v91_eq _)).trans (funext fun i => ?_),
    (e3.trans (Cert.ReferenceIdeal.Read.val_main_v48_eq _)).trans (funext fun i => ?_), ea⟩
  · exact (r_v89 y0 y1 y2 i).trans (array7 m c (hx0 c) (hx1 c) (hx2 c) i).symm
  · exact (r_v90 y0 y1 y2 i).trans (array8 m c (hx0 c) (hx1 c) (hx2 c) i).symm
  · exact (r_v91 y0 y1 y2 i).trans (array9 m c (hx0 c) (hx1 c) (hx2 c) i).symm
  · exact (r_v48 y0 y2 i).trans (array10 m c (hx0 c) (hx1 c) (hx2 c) i).symm

end Cert.Proof

end
-- ==== Proof.Prod.lean ====
/- Products of arrays of extended reals, read entry by entry. Nothing here asks that an entry be finite. -/
module

public import proofs.«01_k».proof.Proof.Ops

@[expose] public section

noncomputable section

namespace Cert.Proof

open Idealize.ShloMosaic Idealize.ShloMosaic.ValueIdx
open scoped BigOperators

/-- The entry of an array of two axes at a row and a column; zero outside the array. -/
def ent {a b : ℕ} (x : (⟨2, ![a, b]⟩ : Shape).Idx → EReal) (i j : ℕ) : EReal :=
  if h : i < a ∧ j < b then x (ix2 (n0 := a) (n1 := b) ⟨i, h.1⟩ ⟨j, h.2⟩) else 0

theorem ent_ix2 {a b : ℕ} (x : (⟨2, ![a, b]⟩ : Shape).Idx → EReal) (i : Fin a) (j : Fin b) : x (ix2 i j) = ent x i.val j.val := by
  rw [ent, dif_pos ⟨i.isLt, j.isLt⟩]

/-- An array is read at an index whose coordinates are `p` and `q`. -/
theorem ent_at {a b : ℕ} (x : (⟨2, ![a, b]⟩ : Shape).Idx → EReal) {i : (⟨2, ![a, b]⟩ : Shape).Idx} {p q : ℕ}
    (hp : (i 0).val = p) (hq : (i 1).val = q) : x i = ent x p q := by
  subst hp; subst hq
  have e : i = ix2 (n0 := a) (n1 := b) (i 0) (i 1) := by
    funext c
    match c with
    | ⟨0, _⟩ => rfl
    | ⟨1, _⟩ => rfl
  exact (congrArg x e).trans (ent_ix2 x (i 0) (i 1))

/-- Row `i` of the one against row `j` of the other. -/
def nt (K : ℕ) (x y : ℕ → ℕ → EReal) (i j : ℕ) : EReal := ∑ k : Fin K, x i k.val * y j k.val
/-- Row `i` of the one against column `j` of the other. -/
def nn (K : ℕ) (x y : ℕ → ℕ → EReal) (i j : ℕ) : EReal := ∑ k : Fin K, x i k.val * y k.val j
/-- Column `i` of the one against column `j` of the other. -/
def tn (K : ℕ) (x y : ℕ → ℕ → EReal) (i j : ℕ) : EReal := ∑ k : Fin K, x k.val i * y k.val j

theorem zero2 : (![0, 0] : Fin 2 → ℕ) = fun _ => 0 := by
  funext a
  match a with
  | ⟨0, _⟩ => rfl
  | ⟨1, _⟩ => rfl

theorem zero_bits : Ideal.ofBits .f32 (0x00000000#32) = (0 : EReal) := Ideal.ofBits_zero_f32

section
variable {M K N : ℕ} {φ₁ φ₂ : FTy} (prec : Option ContractPrecision) {X Y : ℕ → ℕ → EReal} {f : Fin M → ℕ} {g : Fin N → ℕ}

/-- A product that starts from zero, its operands being blocks of two arrays: the block of the product at their rows
    and columns. -/
theorem nt_block {l : FVec Ideal ⟨2, ![M, K]⟩ φ₁} {r : FVec Ideal ⟨2, ![N, K]⟩ φ₂}
    (hl : ∀ i k, l (ix2 i k) = X (f i) k.val) (hr : ∀ j k, r (ix2 j k) = Y (g j) k.val) (i : Fin M) (j : Fin N) :
    FloatOps.matmul (DotDims.transposedRhs M K N) prec l r (constant (F := Ideal) ⟨2, ![M, N]⟩ .f32 0x00000000#32) (ix2 i j)
      = nt K X Y (f i) (g j) :=
  (Ideal.matmul_transposedRhs_apply _ _ _ _ _ _).trans <| (congrArg (· + _) zero_bits).trans <| (zero_add _).trans <|
    Finset.sum_congr rfl fun k _ => by rw [hl, hr]

theorem nn_block {l : FVec Ideal ⟨2, ![M, K]⟩ φ₁} {r : FVec Ideal ⟨2, ![K, N]⟩ φ₂}
    (hl : ∀ i k, l (ix2 i k) = X (f i) k.val) (hr : ∀ k j, r (ix2 k j) = Y k.val (g j)) (i : Fin M) (j : Fin N) :
    FloatOps.matmul (DotDims.plain M K N) prec l r (constant (F := Ideal) ⟨2, ![M, N]⟩ .f32 0x00000000#32) (ix2 i j)
      = nn K X Y (f i) (g j) :=
  (Ideal.matmul_plain_apply _ _ _ _ _ _).trans <| (congrArg (· + _) zero_bits).trans <| (zero_add _).trans <|
    Finset.sum_congr rfl fun k _ => by rw [hl, hr]

theorem tn_block (wf : DotDims.WF ⟨2, ![K, M]⟩ ⟨2, ![K, N]⟩ ⟨2, ![M, N]⟩ [0] [0] [1] [1] [] []) {l : FVec Ideal ⟨2, ![K, M]⟩ φ₁}
    {r : FVec Ideal ⟨2, ![K, N]⟩ φ₂}
    (hl : ∀ k i, l (ix2 k i) = X k.val (f i)) (hr : ∀ k j, r (ix2 k j) = Y k.val (g j)) (i : Fin M) (j : Fin N) :
    FloatOps.matmul (Rd.tn K M N wf) prec l r (constant (F := Ideal) ⟨2, ![M, N]⟩ .f32 0x00000000#32) (ix2 i j)
      = tn K X Y (f i) (g j) :=
  (Rd.tn_apply wf _ _ _ _ _ _).trans <| (congrArg (· + _) zero_bits).trans <| (zero_add _).trans <|
    Finset.sum_congr rfl fun k _ => by rw [hl, hr]

end

/-- A band of rows lies in the array. -/
theorem rows_inb {R C n r : ℕ} (h : r + n ≤ R) : ∀ a, (![r, 0] : Fin 2 → ℕ) a + (⟨2, ![n, C]⟩ : Shape).size a ≤ (⟨2, ![R, C]⟩ : Shape).size a := fun a =>
  match a with
  | ⟨0, _⟩ => h
  | ⟨1, _⟩ => Nat.le_of_eq (Nat.zero_add C)

/-- A band of rows of an array, read entry by entry. -/
theorem ld_rows {R C n r : ℕ} {φ : EltTy} {x : (⟨2, ![R, C]⟩ : Shape).Idx → Elt Ideal φ} {Z : ℕ → ℕ → Elt Ideal φ}
    (hx : ∀ i k, x (ix2 i k) = Z i.val k.val) (inb : ∀ a, (![r, 0] : Fin 2 → ℕ) a + (⟨2, ![n, C]⟩ : Shape).size a ≤ (⟨2, ![R, C]⟩ : Shape).size a)
    (i : Fin n) (k : Fin C) :
    View.ld x (Rect.unit (s := ⟨2, ![R, C]⟩) ![r, 0] (⟨2, ![n, C]⟩ : Shape).size inb) (ix2 i k) = Z (r + i.val) k.val := by
  have hr : r + n ≤ R := inb 0
  have e : (Rect.unit (s := ⟨2, ![R, C]⟩) ![r, 0] (⟨2, ![n, C]⟩ : Shape).size inb).emb (ix2 i k)
      = ix2 (n0 := R) (n1 := C) ⟨r + i.val, by have := i.isLt; omega⟩ k := by
    funext a
    match a with
    | ⟨0, _⟩ => exact Fin.ext (congrArg (r + ·) (Nat.one_mul _))
    | ⟨1, _⟩ => exact Fin.ext ((Nat.zero_add _).trans (Nat.one_mul _))
  exact (congrArg x e).trans (hx _ _)

/-- A band of rows that holds the entries of one function of the array's rows and columns, read index by index. -/
theorem piece_rows {R C n r : ℕ} {φ : EltTy} {v : (⟨2, ![n, C]⟩ : Shape).Idx → Elt Ideal φ} {Z : ℕ → ℕ → Elt Ideal φ}
    (inb : ∀ a, (![r, 0] : Fin 2 → ℕ) a + (⟨2, ![n, C]⟩ : Shape).size a ≤ (⟨2, ![R, C]⟩ : Shape).size a)
    (hv : ∀ i k, v (ix2 i k) = Z (r + i.val) k.val) (x : (⟨2, ![n, C]⟩ : Shape).Idx) :
    v x = (fun y : (⟨2, ![R, C]⟩ : Shape).Idx => Z (y 0).val (y 1).val)
      ((Rect.unit (s := ⟨2, ![R, C]⟩) ![r, 0] (⟨2, ![n, C]⟩ : Shape).size inb).emb x) := by
  have e : x = ix2 (n0 := n) (n1 := C) (x 0) (x 1) := by
    funext c
    match c with
    | ⟨0, _⟩ => rfl
    | ⟨1, _⟩ => rfl
  refine ((congrArg v e).trans (hv (x 0) (x 1))).trans ?_
  show Z (r + (x 0).val) (x 1).val = Z (r + 1 * (x 0).val) (0 + 1 * (x 1).val)
  rw [Nat.one_mul, Nat.one_mul, Nat.zero_add]

theorem one_bits : Ideal.ofBits .f32 (0x3F800000#32) = (1 : EReal) := Ideal.ofBits_one_f32

end Cert.Proof

end
-- ==== Proof.ValDFfnIn.lean ====
/- The gradient of the feed-forward layer's gate and up products: the two arrays that the kernel leaves are those that
   the reference computes, where the arguments' entries are real numbers. -/
module

public import proofs.«01_k».proof.Proof.Prod
public import proofs.«01_k».proof.Proof.Finite
public import proofs.«01_k».proof.Proof.Gen.DFfnInIdeal.Value
public import proofs.«01_k».proof.Proof.Gen.DFfnInRefIdeal.Run
public import proofs.«01_k».proof.Proof.Gen.DFfnInRefIdeal.Read
public import proofs.«01_k».proof.Defs

@[expose] public section

set_option maxRecDepth 16384

noncomputable section

namespace Cert.DFfnInIdeal.Val

open Cert.DFfnInIdeal Cert.DFfnInIdeal.Gen Cert.DFfnInIdeal.Value Cert.Proof
open Idealize.ShloMosaic Idealize.ShloMosaic.ValueIdx Idealize.ShloMosaic.TcCoe Idealize.ShloMosaic.Tactic Idealize.SL.Sem

/-! ## One band of rows -/

section
variable {F : FTy → Type} [FloatOps F]

/-- The product of a band of rows of the incoming gradient with a block of the down weight. -/
def band (a : Vec F S256x2048 .bf16) (w : Vec F S512x2048 .bf16) : FVec F S256x512 .f32 :=
  matmul dot_S256x2048_S512x2048_S256x512_1_1_0_0_n_n none (shapeCast S256x2048 a shapeCasts_S256x2048_S256x2048 : FVec F S256x2048 .bf16)
    (shapeCast S512x2048 w shapeCasts_S512x2048_S512x2048 : FVec F S512x2048 .bf16) (constant S256x512 .f32 0x00000000#32)

def wide (a : Vec F S256x512 .bf16) : FVec F S256x512 .f32 :=
  extf .f32 (shapeCast S256x512 a shapeCasts_S256x512_S256x512 : FVec F S256x512 .bf16) bitsLt_bf16_f32

def bandG (a : Vec F S256x2048 .bf16) (w : Vec F S512x2048 .bf16) (z u : Vec F S256x512 .bf16) : FVec F S256x512 .bf16 :=
  truncf .bf16 (mulf (mulf (band a w) (wide u)) (mulf (logistic (wide z)) (addf (broadcast S256x512 (Scalar.ofBits .f32 0x3F800000#32))
    (mulf (wide z) (subf (broadcast S256x512 (Scalar.ofBits .f32 0x3F800000#32)) (logistic (wide z))))))) bitsLt_bf16_f32

def bandU (a : Vec F S256x2048 .bf16) (w : Vec F S512x2048 .bf16) (z : Vec F S256x512 .bf16) : FVec F S256x512 .bf16 :=
  truncf .bf16 (mulf (band a w) (mulf (wide z) (logistic (wide z)))) bitsLt_bf16_f32
end

variable {x0 : Vec Ideal S2048x2048 .bf16} {x1 : Vec Ideal S512x2048 .bf16} {x2 x3 : Vec Ideal S2048x512 .bf16} {X Y Z U : ℕ → ℕ → EReal}
  (hx : ∀ i k, x0 (ix2 i k) = X i.val k.val) (hy : ∀ j k, x1 (ix2 j k) = Y j.val k.val)
  (hz : ∀ i j, x2 (ix2 i j) = Z i.val j.val) (hu : ∀ i j, x3 (ix2 i j) = U i.val j.val)

include hx hy in
theorem band_apply {r : ℕ} (inb : ∀ a, (![r, 0] : Fin 2 → ℕ) a + S256x2048.size a ≤ S2048x2048.size a) (i : Fin 256) (j : Fin 512) :
    band (F := Ideal) (View.ld x0 (Rect.unit (s := S2048x2048) ![r, 0] S256x2048.size inb)) (View.ld x1 r0_1) (ix2 i j) = nt 2048 X Y (r + i.val) j.val := by
  rw [band, shapeCast_self, shapeCast_self, View.ld_unit_zero zero2]
  exact nt_block none (fun i k => ld_rows hx inb i k) hy i j

include hz in
theorem wide_apply {r : ℕ} (inb : ∀ a, (![r, 0] : Fin 2 → ℕ) a + S256x512.size a ≤ S2048x512.size a) (i : Fin 256) (j : Fin 512) :
    wide (F := Ideal) (View.ld x2 (Rect.unit (s := S2048x512) ![r, 0] S256x512.size inb)) (ix2 i j) = Z (r + i.val) j.val := by
  rw [wide, shapeCast_self]
  exact ld_rows hz inb i j

/-- The gradient of the gate, as the kernel writes it. -/
def gate (X Y Z U : ℕ → ℕ → EReal) (i j : ℕ) : EReal :=
  nt 2048 X Y i j * U i j * (Ideal.logistic (Z i j) * (1 + Z i j * (1 - Ideal.logistic (Z i j))))
/-- The gradient of the up product, as the kernel writes it. -/
def up (X Y Z : ℕ → ℕ → EReal) (i j : ℕ) : EReal := nt 2048 X Y i j * (Z i j * Ideal.logistic (Z i j))

include hx hy hz hu in
theorem bandG_piece {r : ℕ} (h : r + 256 ≤ 2048) (x : S256x512.Idx) :
    bandG (F := Ideal) (View.ld x0 (Rect.unit (s := S2048x2048) ![r, 0] S256x2048.size (rows_inb h))) (View.ld x1 r0_1)
        (View.ld x2 (Rect.unit (s := S2048x512) ![r, 0] S256x512.size (rows_inb h))) (View.ld x3 (Rect.unit (s := S2048x512) ![r, 0] S256x512.size (rows_inb h))) x
      = (fun y : S2048x512.Idx => gate X Y Z U (y 0).val (y 1).val) ((Rect.unit (s := S2048x512) ![r, 0] S256x512.size (rows_inb h)).emb x) := by
  refine piece_rows (R := 2048) (C := 512) (φ := .bf16) (Z := gate X Y Z U) (rows_inb h) (fun i j => ?_) x
  show band (F := Ideal) _ _ (ix2 i j) * wide (F := Ideal) _ (ix2 i j) * (Ideal.logistic (wide (F := Ideal) _ (ix2 i j))
    * (Ideal.ofBits .f32 0x3F800000#32 + wide (F := Ideal) _ (ix2 i j) * (Ideal.ofBits .f32 0x3F800000#32 - Ideal.logistic (wide (F := Ideal) _ (ix2 i j))))) = _
  rw [band_apply hx hy, wide_apply hz, wide_apply hu, one_bits]
  rfl

include hx hy hz in
theorem bandU_piece {r : ℕ} (h : r + 256 ≤ 2048) (x : S256x512.Idx) :
    bandU (F := Ideal) (View.ld x0 (Rect.unit (s := S2048x2048) ![r, 0] S256x2048.size (rows_inb h))) (View.ld x1 r0_1)
        (View.ld x2 (Rect.unit (s := S2048x512) ![r, 0] S256x512.size (rows_inb h))) x
      = (fun y : S2048x512.Idx => up X Y Z (y 0).val (y 1).val) ((Rect.unit (s := S2048x512) ![r, 0] S256x512.size (rows_inb h)).emb x) := by
  refine piece_rows (R := 2048) (C := 512) (φ := .bf16) (Z := up X Y Z) (rows_inb h) (fun i j => ?_) x
  show band (F := Ideal) _ _ (ix2 i j) * (wide (F := Ideal) _ (ix2 i j) * Ideal.logistic (wide (F := Ideal) _ (ix2 i j))) = _
  rw [band_apply hx hy, wide_apply hz]
  rfl

theorem gate_out (i : S2048x512.Idx) (hx : ∀ i k, x0 (ix2 i k) = X i.val k.val) (hy : ∀ j k, x1 (ix2 j k) = Y j.val k.val)
    (hz : ∀ i j, x2 (ix2 i j) = Z i.val j.val) (hu : ∀ i j, x3 (ix2 i j) = U i.val j.val) : out0_4 x0 x1 x2 x3 i = gate X Y Z U (i 0).val (i 1).val := by
  refine View.canon_apply_of_pieces (Val := Elt Ideal) (e := .bf16) (fun y : S2048x512.Idx => gate X Y Z U (y 0).val (y 1).val) _ ?_ i (cover0_4 _ _ _ _ _ _ _ _ i)
  refine List.forall_mem_cons.mpr ⟨bandG_piece hx hy hz hu (r := 1792) (by decide), ?_⟩
  refine List.forall_mem_cons.mpr ⟨bandG_piece hx hy hz hu (r := 1536) (by decide), ?_⟩
  refine List.forall_mem_cons.mpr ⟨bandG_piece hx hy hz hu (r := 1280) (by decide), ?_⟩
  refine List.forall_mem_cons.mpr ⟨bandG_piece hx hy hz hu (r := 1024) (by decide), ?_⟩
  refine List.forall_mem_cons.mpr ⟨bandG_piece hx hy hz hu (r := 768) (by decide), ?_⟩
  refine List.forall_mem_cons.mpr ⟨bandG_piece hx hy hz hu (r := 512) (by decide), ?_⟩
  refine List.forall_mem_cons.mpr ⟨bandG_piece hx hy hz hu (r := 256) (by decide), ?_⟩
  refine List.forall_mem_cons.mpr ⟨bandG_piece hx hy hz hu (r := 0) (by decide), ?_⟩
  exact fun _ h => absurd h List.not_mem_nil

theorem up_out (i : S2048x512.Idx) (hx : ∀ i k, x0 (ix2 i k) = X i.val k.val) (hy : ∀ j k, x1 (ix2 j k) = Y j.val k.val)
    (hz : ∀ i j, x2 (ix2 i j) = Z i.val j.val) : out0_5 x0 x1 x2 x3 i = up X Y Z (i 0).val (i 1).val := by
  refine View.canon_apply_of_pieces (Val := Elt Ideal) (e := .bf16) (fun y : S2048x512.Idx => up X Y Z (y 0).val (y 1).val) _ ?_ i (cover0_5 _ _ _ _ _ _ _ _ i)
  refine List.forall_mem_cons.mpr ⟨bandU_piece hx hy hz (r := 1792) (by decide), ?_⟩
  refine List.forall_mem_cons.mpr ⟨bandU_piece hx hy hz (r := 1536) (by decide), ?_⟩
  refine List.forall_mem_cons.mpr ⟨bandU_piece hx hy hz (r := 1280) (by decide), ?_⟩
  refine List.forall_mem_cons.mpr ⟨bandU_piece hx hy hz (r := 1024) (by decide), ?_⟩
  refine List.forall_mem_cons.mpr ⟨bandU_piece hx hy hz (r := 768) (by decide), ?_⟩
  refine List.forall_mem_cons.mpr ⟨bandU_piece hx hy hz (r := 512) (by decide), ?_⟩
  refine List.forall_mem_cons.mpr ⟨bandU_piece hx hy hz (r := 256) (by decide), ?_⟩
  refine List.forall_mem_cons.mpr ⟨bandU_piece hx hy hz (r := 0) (by decide), ?_⟩
  exact fun _ h => absurd h List.not_mem_nil

/-! ## The arrays -/

variable (m : (ℓ : Loc nD τ sig) → Buf (Elt Ideal) ℓ) (c : Dev nD)

/-- The entries of the four arguments. -/
abbrev A : ℕ → ℕ → EReal := ent (a := 2048) (b := 2048) (m ((c : Thread nD τ).loc main_arg0))
abbrev B : ℕ → ℕ → EReal := ent (a := 5632) (b := 2048) (m ((c : Thread nD τ).loc main_arg1))
abbrev C : ℕ → ℕ → EReal := ent (a := 2048) (b := 5632) (m ((c : Thread nD τ).loc main_arg2))
abbrev D : ℕ → ℕ → EReal := ent (a := 2048) (b := 5632) (m ((c : Thread nD τ).loc main_arg3))

theorem index0 : ∀ t : Fin cfg0.N, win0_0.index t 0 = t.val / 11 ∧ win0_0.index t 1 = 0 :=
  (by decide +kernel : ∀ t : Fin grid0.N, win0_0.index t 0 = t.val / 11 ∧ win0_0.index t 1 = 0)
theorem index1 : ∀ t : Fin cfg0.N, win0_1.index t 0 = t.val % 11 ∧ win0_1.index t 1 = 0 :=
  (by decide +kernel : ∀ t : Fin grid0.N, win0_1.index t 0 = t.val % 11 ∧ win0_1.index t 1 = 0)
theorem index2 : ∀ t : Fin cfg0.N, win0_2.index t 0 = t.val / 11 ∧ win0_2.index t 1 = t.val % 11 :=
  (by decide +kernel : ∀ t : Fin grid0.N, win0_2.index t 0 = t.val / 11 ∧ win0_2.index t 1 = t.val % 11)
theorem index3 : ∀ t : Fin cfg0.N, win0_3.index t 0 = t.val / 11 ∧ win0_3.index t 1 = t.val % 11 :=
  (by decide +kernel : ∀ t : Fin grid0.N, win0_3.index t 0 = t.val / 11 ∧ win0_3.index t 1 = t.val % 11)
theorem index4 : ∀ t : Fin cfg0.N, win0_4.index t 0 = t.val / 11 ∧ win0_4.index t 1 = t.val % 11 :=
  (by decide +kernel : ∀ t : Fin grid0.N, win0_4.index t 0 = t.val / 11 ∧ win0_4.index t 1 = t.val % 11)
theorem index5 : ∀ t : Fin cfg0.N, win0_5.index t 0 = t.val / 11 ∧ win0_5.index t 1 = t.val % 11 :=
  (by decide +kernel : ∀ t : Fin grid0.N, win0_5.index t 0 = t.val / 11 ∧ win0_5.index t 1 = t.val % 11)

theorem V0 : (V m c main_v0 : S2048x2048.Idx → EReal) = m ((c : Thread nD τ).loc main_arg0) := by
  show StableHlo.after _ _ (Proc.devRef .tc main_v0) = _
  after_results
  rfl

theorem V1 : (V m c main_v1 : S5632x2048.Idx → EReal) = m ((c : Thread nD τ).loc main_arg1) := by
  show StableHlo.after _ _ (Proc.devRef .tc main_v1) = _
  after_results
  rfl

theorem V2 : (V m c main_v2 : S2048x5632.Idx → EReal) = m ((c : Thread nD τ).loc main_arg2) := by
  show StableHlo.after _ _ (Proc.devRef .tc main_v2) = _
  after_results
  rfl

theorem V3 : (V m c main_v3 : S2048x5632.Idx → EReal) = m ((c : Thread nD τ).loc main_arg3) := by
  show StableHlo.after _ _ (Proc.devRef .tc main_v3) = _
  after_results
  rfl

theorem block0 (t : Fin cfg0.N) (p : Fin 2048) (q : Fin 2048) : (iblk m c 0 t : S2048x2048.Idx → EReal) (ix2 p q) = A m c (t.val / 11 * 2048 + p.val) q.val := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 512) (q : Fin 2048) : (iblk m c 1 t : S512x2048.Idx → EReal) (ix2 p q) = B m c (t.val % 11 * 512 + p.val) q.val := by
  unfold iblk
  rw [View.read_apply]
  refine (congrFun (V1 m c) _).trans (ent_at _ ?_ ?_)
  · show win0_1.index t 0 * 512 + 1 * p.val = _; rw [(index1 t).1]; omega
  · show win0_1.index t 1 * 2048 + 1 * q.val = _; rw [(index1 t).2]; omega

theorem block2 (t : Fin cfg0.N) (p : Fin 2048) (q : Fin 512) : (iblk m c 2 t : S2048x512.Idx → EReal) (ix2 p q) = C m c (t.val / 11 * 2048 + p.val) (t.val % 11 * 512 + q.val) := by
  unfold iblk
  rw [View.read_apply]
  refine (congrFun (V2 m c) _).trans (ent_at _ ?_ ?_)
  · show win0_2.index t 0 * 2048 + 1 * p.val = _; rw [(index2 t).1]; omega
  · show win0_2.index t 1 * 512 + 1 * q.val = _; rw [(index2 t).2]; omega

theorem block3 (t : Fin cfg0.N) (p : Fin 2048) (q : Fin 512) : (iblk m c 3 t : S2048x512.Idx → EReal) (ix2 p q) = D m c (t.val / 11 * 2048 + p.val) (t.val % 11 * 512 + q.val) := by
  unfold iblk
  rw [View.read_apply]
  refine (congrFun (V3 m c) _).trans (ent_at _ ?_ ?_)
  · show win0_3.index t 0 * 2048 + 1 * p.val = _; rw [(index3 t).1]; omega
  · show win0_3.index t 1 * 512 + 1 * q.val = _; rw [(index3 t).2]; omega

/-! The point that writes an entry of the results. -/
section
variable (i : S2048x5632.Idx)
theorem point_lt : (i 1).val / 512 < cfg0.N := by have h1 : (i 1).val < 5632 := (i 1).isLt; show _ < 11; omega
abbrev point : Fin cfg0.N := ⟨(i 1).val / 512, point_lt i⟩
abbrev inner : S2048x512.Idx := ix2 (n0 := 2048) (n1 := 512) (i 0) ⟨(i 1).val % 512, Nat.mod_lt _ (by decide)⟩
theorem row_eq : (point i).val / 11 * 2048 + (i 0).val = (i 0).val := by
  have h1 : (i 1).val < 5632 := (i 1).isLt; show (i 1).val / 512 / 11 * 2048 + _ = _; omega
theorem col_eq : (point i).val % 11 * 512 + (i 1).val % 512 = (i 1).val := by
  have h1 : (i 1).val < 5632 := (i 1).isLt; show (i 1).val / 512 % 11 * 512 + _ = _; omega
end

theorem emb4 (i : S2048x5632.Idx) : ((cfg0.win 4).blk (point i)).view.emb (inner i) = i := by
  funext a
  match a with
  | ⟨0, _⟩ => exact Fin.ext ((congrArg (· * 2048 + 1 * (i 0).val) (index4 (point i)).1).trans ((congrArg _ (Nat.one_mul _)).trans (row_eq i)))
  | ⟨1, _⟩ => exact Fin.ext ((congrArg (· * 512 + 1 * ((i 1).val % 512)) (index4 (point i)).2).trans ((congrArg _ (Nat.one_mul _)).trans (col_eq i)))

theorem array4 (i : S2048x5632.Idx) : ((dats m 0 c).arrAt 4 cfg0.N : S2048x5632.Idx → EReal) i = gate (A m c) (B m c) (C m c) (D m c) (i 0).val (i 1).val := by
  have hb := congrFun (blocks4 m c (point i) (flush0_4 _)) (inner i)
  rw [View.read_apply, flushed4, emb4] at hb
  exact hb.trans ((gate_out _ (X := fun p q => A m c (_ + p) q) (Y := fun p q => B m c (_ + p) q) (Z := fun p q => C m c (_ + p) (_ + q)) (U := fun p q => D m c (_ + p) (_ + q)) (block0 m c (point i)) (block1 m c (point i)) (block2 m c (point i)) (block3 m c (point i))).trans (congrArg₂ (gate (A m c) (B m c) (C m c) (D m c)) (row_eq i) (col_eq i)))

theorem emb5 (i : S2048x5632.Idx) : ((cfg0.win 5).blk (point i)).view.emb (inner i) = i := by
  funext a
  match a with
  | ⟨0, _⟩ => exact Fin.ext ((congrArg (· * 2048 + 1 * (i 0).val) (index5 (point i)).1).trans ((congrArg _ (Nat.one_mul _)).trans (row_eq i)))
  | ⟨1, _⟩ => exact Fin.ext ((congrArg (· * 512 + 1 * ((i 1).val % 512)) (index5 (point i)).2).trans ((congrArg _ (Nat.one_mul _)).trans (col_eq i)))

theorem array5 (i : S2048x5632.Idx) : ((dats m 0 c).arrAt 5 cfg0.N : S2048x5632.Idx → EReal) i = up (A m c) (B m c) (C m c) (i 0).val (i 1).val := by
  have hb := congrFun (blocks5 m c (point i) (flush0_5 _)) (inner i)
  rw [View.read_apply, flushed5, emb5] at hb
  exact hb.trans ((up_out _ (X := fun p q => A m c (_ + p) q) (Y := fun p q => B m c (_ + p) q) (Z := fun p q => C m c (_ + p) (_ + q)) (block0 m c (point i)) (block1 m c (point i)) (block2 m c (point i))).trans (congrArg₂ (up (A m c) (B m c) (C m c)) (row_eq i) (col_eq i)))

/-! ## The reference -/

section
variable (x0 : (⟨S2048x2048, .f32⟩ : BufTy).Contents (Elt Ideal)) (x1 : (⟨S5632x2048, .f32⟩ : BufTy).Contents (Elt Ideal))
  (x2 x3 : (⟨S2048x5632, .f32⟩ : BufTy).Contents (Elt Ideal)) (i : S2048x5632.Idx)

open Cert.DFfnInRefIdeal.Read in
theorem ref3 : val_main_v3 (F := Ideal) x0 x1 i = nt 2048 (ent (a := 2048) (b := 2048) x0) (ent (a := 5632) (b := 2048) x1) (i 0).val (i 1).val :=
  (val_main_v3_apply x0 x1 i).trans (Finset.sum_congr rfl fun k _ => congrArg₂ (· * ·) (ent_at _ rfl rfl) (ent_at _ rfl rfl))

open Cert.DFfnInRefIdeal.Read in
theorem ref_sigmoid : val_main_v0_2 (F := Ideal) x2 i = Ideal.logistic (x2 i) := by
  rw [val_main_v0_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-x2 i)) = _
  rw [one_bits]
  rfl

/-- The gradient of the gate as the reference writes it: the product rule on the gate times its sigmoid. -/
def rule (g z u s : EReal) : EReal := g * u * s + z * (g * u) * (s * (1 - s))

open Cert.DFfnInRefIdeal.Read in
theorem ref7 : val_main_v7 (F := Ideal) x0 x1 x2 x3 i = rule (val_main_v3 (F := Ideal) x0 x1 i) (x2 i) (x3 i) (Ideal.logistic (x2 i)) := by
  rw [val_main_v7_apply, val_main_v6_apply, val_main_call1_v1_apply, val_main_call1_v2_apply, val_main_call1_v0_apply, val_main_v0_1_apply,
    val_main_call0_v7_apply, val_main_call0_v6_apply, val_main_call0_cst_1_apply, val_main_v5_apply, ref_sigmoid]
  show val_main_v3 (F := Ideal) x0 x1 i * x3 i * Ideal.logistic (x2 i)
    + x2 i * (val_main_v3 (F := Ideal) x0 x1 i * x3 i) * (Ideal.logistic (x2 i) * (Ideal.ofBits .f32 0x3F800000#32 - Ideal.logistic (x2 i))) = _
  rw [one_bits]
  rfl

open Cert.DFfnInRefIdeal.Read in
theorem ref8 : val_main_v8 (F := Ideal) x0 x1 x2 i = x2 i * Ideal.logistic (x2 i) * val_main_v3 (F := Ideal) x0 x1 i := by
  rw [val_main_v8_apply, val_main_v4_apply, val_main_v0_0_apply, ref_sigmoid]
  rfl
end

/-! ## Real arguments -/

/-- Every entry is a real number. -/
def Real2 (X : ℕ → ℕ → EReal) : Prop := ∀ i j, ∃ r : ℝ, X i j = r

theorem real_ent {a b : ℕ} {x : (⟨2, ![a, b]⟩ : Shape).Idx → EReal} (h : ∀ i, ∃ r : ℝ, x i = r) : Real2 (ent x) := by
  intro i j
  unfold ent
  split
  · exact h _
  · exact ⟨0, rfl⟩

theorem real_nt {K : ℕ} {X Y : ℕ → ℕ → EReal} (hX : Real2 X) (hY : Real2 Y) : Real2 (nt K X Y) := by
  choose x ex using hX
  choose y ey using hY
  intro i j
  refine ⟨∑ k : Fin K, x i k.val * y j k.val, ?_⟩
  rw [Rd.coe_sum]
  exact Finset.sum_congr rfl fun k _ => by rw [ex, ey, EReal.coe_mul]

/-- The two writings of the gate's gradient agree on real numbers. -/
theorem rule_eq {g z u : EReal} (hg : ∃ r : ℝ, g = r) (hz : ∃ r : ℝ, z = r) (hu : ∃ r : ℝ, u = r) :
    rule g z u (Ideal.logistic z) = g * u * (Ideal.logistic z * (1 + z * (1 - Ideal.logistic z))) := by
  obtain ⟨g, rfl⟩ := hg
  obtain ⟨z, rfl⟩ := hz
  obtain ⟨u, rfl⟩ := hu
  rw [rule, Ideal.logistic_coe]
  generalize (1 + Real.exp (-z))⁻¹ = s
  rw [← EReal.coe_one]
  simp only [← EReal.coe_mul, ← EReal.coe_add, ← EReal.coe_sub]
  exact congrArg _ (by ring)

theorem facts : Cert.Pre_finite_d_ffn_in.Facts where
  bcast_S_S2048x2048 := by decide
  bcast_S_S5632x2048 := by decide
  bcast_S_S2048x5632 := by decide

theorem algebraic : Cert.algebraic_DFfnInIdeal_DFfnInRefIdeal_pre_finite_d_ffn_in (hDFfnInIdeal := Cert.DFfnInIdeal.Gen.facts)
    (hDFfnInRefIdeal := Cert.DFfnInRefIdeal.Gen.facts) (hPre_finite_d_ffn_in := facts) := by
  intro m g m' g' hpre hargs
  refine ⟨fun c => (dats m 0 c).arrAt 4 cfg0.N, fun c => (dats m 0 c).arrAt 5 cfg0.N, run_blocks m g, ?_⟩
  refine (θ_run Cert.DFfnInRefIdeal.defs _ _).mono (fun r h c => ?_) (Cert.DFfnInRefIdeal.Value.run (F := Ideal) m' g')
  obtain ⟨e0, e1, ea⟩ := h c
  obtain ⟨a0, a1, a2, a3⟩ := hargs c
  obtain ⟨p0, p1, p2, p3⟩ := hpre c
  refine ⟨(e0.trans (Cert.DFfnInRefIdeal.Read.val_main_v7_eq _ _ _ _)).trans (funext fun i => ?_),
    (e1.trans (Cert.DFfnInRefIdeal.Read.val_main_v8_eq _ _ _)).trans (funext fun i => ?_), ea⟩
  · rw [a0, a1, a2, a3]
    refine ((ref7 _ _ _ _ i).trans ?_).trans (array4 m c i).symm
    rw [ref3, ent_at (a := 2048) (b := 5632) (m ((c : Thread nD τ).loc main_arg2)) (i := i) rfl rfl,
      ent_at (a := 2048) (b := 5632) (m ((c : Thread nD τ).loc main_arg3)) (i := i) rfl rfl]
    exact rule_eq (real_nt (real_ent fun i => ⟨_, Fin.real_of_lt (congrFun p0 i)⟩) (real_ent fun i => ⟨_, Fin.real_of_lt (congrFun p1 i)⟩) _ _)
      (real_ent (fun i => ⟨_, Fin.real_of_lt (congrFun p2 i)⟩) _ _) (real_ent (fun i => ⟨_, Fin.real_of_lt (congrFun p3 i)⟩) _ _)
  · rw [a0, a1, a2]
    refine ((ref8 _ _ _ i).trans ?_).trans (array5 m c i).symm
    rw [ref3, ent_at (a := 2048) (b := 5632) (m ((c : Thread nD τ).loc main_arg2)) (i := i) rfl rfl]
    exact mul_comm _ _

end Cert.DFfnInIdeal.Val

end
-- ==== Proof.ValDH2.lean ====
/- The gradient that reaches the second norm: the array that the kernel leaves, two products summed block by block over the
   feed-forward layer's width, is the one that the reference computes. -/
module

public import proofs.«01_k».proof.Proof.Prod
public import proofs.«01_k».proof.Proof.Reads
public import proofs.«01_k».proof.Proof.Gen.DH2Ideal.Value
public import proofs.«01_k».proof.Proof.Gen.DH2RefIdeal.Run
public import proofs.«01_k».proof.Proof.Gen.DH2RefIdeal.Read
public import proofs.«01_k».proof.Defs

@[expose] public section

set_option maxRecDepth 16384

noncomputable section

namespace Cert.DH2Ideal.Val

open Cert.DH2Ideal Cert.DH2Ideal.Gen Cert.DH2Ideal.Value Cert.Proof
open Idealize.ShloMosaic Idealize.ShloMosaic.ValueIdx Idealize.ShloMosaic.TcCoe Idealize.ShloMosaic.Tactic Idealize.SL.Sem
open scoped BigOperators

/-! ## The body -/

theorem outA (c : Dev nD) (i : grid0.Coords) (arg3 : Memref sig .tc .vmem S2048x1408 .bf16) (harg3 : arg3.IsWhole) (arg4 : Memref sig .tc .vmem S512x1408 .bf16) (harg4 : arg4.IsWhole) (arg5 : Memref sig .tc .vmem S2048x1408 .bf16) (harg5 : arg5.IsWhole) (arg6 : Memref sig .tc .vmem S512x1408 .bf16) (harg6 : arg6.IsWhole) (arg7 : Memref sig .tc .vmem S2048x512 .f32) (harg7 : arg7.IsWhole)
    (hc0 : cond0_0 i) (hc1 : ¬cond0_1 i) (x0 : Vec Ideal S2048x1408 .bf16) (x1 : Vec Ideal S512x1408 .bf16) (x2 : Vec Ideal S2048x1408 .bf16) (x3 : Vec Ideal S512x1408 .bf16) :
    out0_A_4 c i arg3 harg3 arg4 harg4 arg5 harg5 arg6 harg6 arg7 harg7 hc0 hc1 x0 x1 x2 x3 = k0_pay1 x0 x1 x2 x3 := by
  unfold out0_A_4
  rw [View.read_writes_eq_canon _ _ _ (cover0_A_4 c i arg3 harg3 arg4 harg4 arg5 harg5 arg6 harg6 arg7 harg7 hc0 hc1 x0 x1 x2 x3)]
  refine (View.canon_unit_zero (S := S2048x512) zero2 inb_S2048x512_S2048x512_0_0 _).trans ?_
  exact congr (congr (congrArg₂ k0_pay1 (Rd.readAt_filled harg3 zero2 _ x0) (Rd.readAt_filled harg4 zero2 _ x1)) (Rd.readAt_filled harg5 zero2 _ x2)) (Rd.readAt_filled harg6 zero2 _ x3)

theorem outB (c : Dev nD) (i : grid0.Coords) (arg3 : Memref sig .tc .vmem S2048x1408 .bf16) (harg3 : arg3.IsWhole) (arg4 : Memref sig .tc .vmem S512x1408 .bf16) (harg4 : arg4.IsWhole) (arg5 : Memref sig .tc .vmem S2048x1408 .bf16) (harg5 : arg5.IsWhole) (arg6 : Memref sig .tc .vmem S512x1408 .bf16) (harg6 : arg6.IsWhole) (arg7 : Memref sig .tc .vmem S2048x512 .f32) (harg7 : arg7.IsWhole)
    (hc0 : ¬cond0_0 i) (hc1 : cond0_1 i) (x0 : Vec Ideal S2048x1408 .bf16) (x1 : Vec Ideal S512x1408 .bf16) (x2 : Vec Ideal S2048x1408 .bf16) (x3 : Vec Ideal S512x1408 .bf16)
    (xo4 : Vec Ideal S2048x512 .f32) : out0_B_4 c i arg3 harg3 arg4 harg4 arg5 harg5 arg6 harg6 arg7 harg7 hc0 hc1 x0 x1 x2 x3 xo4 = k0_pay2 x0 x1 x2 x3 xo4 := by
  unfold out0_B_4
  rw [View.read_writes_eq_canon _ _ _ (cover0_B_4 c i arg3 harg3 arg4 harg4 arg5 harg5 arg6 harg6 arg7 harg7 hc0 hc1 x0 x1 x2 x3 xo4)]
  refine (View.canon_unit_zero (S := S2048x512) zero2 inb_S2048x512_S2048x512_0_0 _).trans ?_
  exact congr (congr (congr (congrArg₂ k0_pay2 (Rd.readAt_filled harg3 zero2 _ x0) (Rd.readAt_filled harg4 zero2 _ x1)) (Rd.readAt_filled harg5 zero2 _ x2)) (Rd.readAt_filled harg6 zero2 _ x3))
    (Rd.readAt_filled harg7 zero2 _ xo4)

/-- The two products of one block, added. -/
theorem pay1_apply {x0 : Vec Ideal S2048x1408 .bf16} {x1 : Vec Ideal S512x1408 .bf16} {x2 : Vec Ideal S2048x1408 .bf16} {x3 : Vec Ideal S512x1408 .bf16}
    {X Y Z U : ℕ → ℕ → EReal} {g : Fin 512 → ℕ} (hx : ∀ i k, x0 (ix2 i k) = X i.val k.val) (hy : ∀ j k, x1 (ix2 j k) = Y (g j) k.val)
    (hz : ∀ i k, x2 (ix2 i k) = Z i.val k.val) (hu : ∀ j k, x3 (ix2 j k) = U (g j) k.val) (i : Fin 2048) (j : Fin 512) :
    k0_pay1 x0 x1 x2 x3 (ix2 i j) = nt 1408 X Y i.val (g j) + nt 1408 Z U i.val (g j) := by
  unfold k0_pay1
  rw [shapeCast_self, shapeCast_self, shapeCast_self, shapeCast_self]
  exact congrArg₂ (· + ·) (nt_block none hx hy i j) (nt_block none hz hu i j)

/-! ## The accumulation -/

variable (m : (ℓ : Loc nD τ sig) → Buf (Elt Ideal) ℓ) (c : Dev nD)

/-- The entries of the four arguments, the gate's gradient and weight, then the up product's. -/
abbrev A : ℕ → ℕ → EReal := ent (a := 2048) (b := 5632) (m ((c : Thread nD τ).loc main_arg0))
abbrev B : ℕ → ℕ → EReal := ent (a := 2048) (b := 5632) (m ((c : Thread nD τ).loc main_arg2))
abbrev C : ℕ → ℕ → EReal := ent (a := 2048) (b := 5632) (m ((c : Thread nD τ).loc main_arg1))
abbrev D : ℕ → ℕ → EReal := ent (a := 2048) (b := 5632) (m ((c : Thread nD τ).loc main_arg3))

theorem index0 : ∀ t : Fin cfg0.N, win0_0.index t 0 = 0 ∧ win0_0.index t 1 = t.val % 4 :=
  (by decide +kernel : ∀ t : Fin grid0.N, win0_0.index t 0 = 0 ∧ win0_0.index t 1 = t.val % 4)
theorem index1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem index2 : ∀ t : Fin cfg0.N, win0_2.index t 0 = 0 ∧ win0_2.index t 1 = t.val % 4 :=
  (by decide +kernel : ∀ t : Fin grid0.N, win0_2.index t 0 = 0 ∧ win0_2.index t 1 = t.val % 4)
theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem index4 : ∀ t : Fin cfg0.N, win0_4.index t 0 = 0 ∧ win0_4.index t 1 = t.val / 4 :=
  (by decide +kernel : ∀ t : Fin grid0.N, win0_4.index t 0 = 0 ∧ win0_4.index t 1 = t.val / 4)

theorem V0 : (V m c main_v0 : S2048x5632.Idx → EReal) = m ((c : Thread nD τ).loc main_arg0) := by
  show StableHlo.after _ _ (Proc.devRef .tc main_v0) = _
  after_results
  rfl

theorem V1 : (V m c main_v1 : S2048x5632.Idx → EReal) = m ((c : Thread nD τ).loc main_arg2) := by
  show StableHlo.after _ _ (Proc.devRef .tc main_v1) = _
  after_results
  rfl

theorem V2 : (V m c main_v2 : S2048x5632.Idx → EReal) = m ((c : Thread nD τ).loc main_arg1) := by
  show StableHlo.after _ _ (Proc.devRef .tc main_v2) = _
  after_results
  rfl

theorem V3 : (V m c main_v3 : S2048x5632.Idx → EReal) = m ((c : Thread nD τ).loc main_arg3) := by
  show StableHlo.after _ _ (Proc.devRef .tc main_v3) = _
  after_results
  rfl

theorem block0 (t : Fin cfg0.N) (p : Fin 2048) (q : Fin 1408) : (iblk m c 0 t : S2048x1408.Idx → EReal) (ix2 p q) = A m c p.val (t.val % 4 * 1408 + q.val) := by
  unfold iblk
  rw [View.read_apply]
  refine (congrFun (V0 m c) _).trans (ent_at _ ?_ ?_)
  · show win0_0.index t 0 * 2048 + 1 * p.val = _; rw [(index0 t).1]; omega
  · show win0_0.index t 1 * 1408 + 1 * q.val = _; rw [(index0 t).2]; omega

theorem block1 (t : Fin cfg0.N) (p : Fin 512) (q : Fin 1408) : (iblk m c 1 t : S512x1408.Idx → EReal) (ix2 p q) = B m c (t.val / 4 * 512 + p.val) (t.val % 4 * 1408 + q.val) := by
  unfold iblk
  rw [View.read_apply]
  refine (congrFun (V1 m c) _).trans (ent_at _ ?_ ?_)
  · show win0_1.index t 0 * 512 + 1 * p.val = _; rw [(index1 t).1]; omega
  · show win0_1.index t 1 * 1408 + 1 * q.val = _; rw [(index1 t).2]; omega

theorem block2 (t : Fin cfg0.N) (p : Fin 2048) (q : Fin 1408) : (iblk m c 2 t : S2048x1408.Idx → EReal) (ix2 p q) = C m c p.val (t.val % 4 * 1408 + q.val) := by
  unfold iblk
  rw [View.read_apply]
  refine (congrFun (V2 m c) _).trans (ent_at _ ?_ ?_)
  · show win0_2.index t 0 * 2048 + 1 * p.val = _; rw [(index2 t).1]; omega
  · show win0_2.index t 1 * 1408 + 1 * q.val = _; rw [(index2 t).2]; omega

theorem block3 (t : Fin cfg0.N) (p : Fin 512) (q : Fin 1408) : (iblk m c 3 t : S512x1408.Idx → EReal) (ix2 p q) = D m c (t.val / 4 * 512 + p.val) (t.val % 4 * 1408 + q.val) := by
  unfold iblk
  rw [View.read_apply]
  refine (congrFun (V3 m c) _).trans (ent_at _ ?_ ?_)
  · show win0_3.index t 0 * 512 + 1 * p.val = _; rw [(index3 t).1]; omega
  · show win0_3.index t 1 * 1408 + 1 * q.val = _; rw [(index3 t).2]; omega

/-- Block `b` of the width: its part of the two products at a row and a column. -/
def part (i j b : ℕ) : EReal :=
  nt 1408 (fun p q => A m c p (b * 1408 + q)) (fun p q => B m c p (b * 1408 + q)) i j + nt 1408 (fun p q => C m c p (b * 1408 + q)) (fun p q => D m c p (b * 1408 + q)) i j

theorem pay1_part (t : Fin cfg0.N) (i : Fin 2048) (j : Fin 512) :
    k0_pay1 (F := Ideal) (iblk m c 0 t) (iblk m c 1 t) (iblk m c 2 t) (iblk m c 3 t) (ix2 i j) = part m c i.val (t.val / 4 * 512 + j.val) (t.val % 4) :=
  pay1_apply (X := fun p q => A m c p (t.val % 4 * 1408 + q)) (Y := fun p q => B m c p (t.val % 4 * 1408 + q)) (Z := fun p q => C m c p (t.val % 4 * 1408 + q))
    (U := fun p q => D m c p (t.val % 4 * 1408 + q)) (g := fun j => t.val / 4 * 512 + j.val) (block0 m c t) (block1 m c t) (block2 m c t) (block3 m c t) i j

/-- After a point the staging buffer holds the sum of the parts up to the point's block. -/
theorem outs_sum (n : ℕ) (hn : n < cfg0.N) (i : Fin 2048) (j : Fin 512) :
    outsAt0 m c n hn (ix2 i j) = ∑ b ∈ Finset.range (n % 4 + 1), part m c i.val (n / 4 * 512 + j.val) b := by
  induction n with
  | zero =>
    rw [outsAt0_A m c ⟨0, hn⟩ rfl (show ¬1 ≤ 0 % 4 by decide), outA, pay1_part]
    exact (Finset.sum_range_one _).symm
  | succ n ih =>
    by_cases h : (n + 1) % 4 = 0
    · have h1 : ¬1 ≤ (n + 1) % 4 := by omega
      rw [outsAt0_A m c ⟨n + 1, hn⟩ h h1, outA, pay1_part]
      show part m c i.val ((n + 1) / 4 * 512 + j.val) ((n + 1) % 4) = _
      rw [h]
      exact (Finset.sum_range_one _).symm
    · have h1 : 1 ≤ (n + 1) % 4 := by omega
      have e1 : (n + 1) % 4 = n % 4 + 1 := by omega
      have e2 : (n + 1) / 4 = n / 4 := by omega
      rw [outsAt0_B m c ⟨n + 1, hn⟩ h h1, outB, k0_pay2, shapeCast_self]
      refine (congrArg₂ (· + ·) (ih (Nat.lt_of_succ_lt hn)) (pay1_part m c ⟨n + 1, hn⟩ i j)).trans ?_
      show _ + part m c i.val ((n + 1) / 4 * 512 + j.val) ((n + 1) % 4) = _
      rw [e1, e2]
      exact (Finset.sum_range_succ _ _).symm

/-- Sums over consecutive blocks make up the sum over the whole. -/
theorem sum_blocks (K n : ℕ) (f : ℕ → EReal) : ∑ b ∈ Finset.range n, ∑ k : Fin K, f (b * K + k.val) = ∑ k : Fin (n * K), f k.val := by
  rw [← Finset.sum_range (fun k => f k)]
  induction n with
  | zero => rw [Nat.zero_mul]; rfl
  | succ n ih => rw [Finset.sum_range_succ, ih, Nat.succ_mul, Finset.sum_range_add, ← Finset.sum_range (fun k => f (n * K + k))]

theorem parts (i j : ℕ) : ∑ b ∈ Finset.range 4, part m c i j b = nt 5632 (A m c) (B m c) i j + nt 5632 (C m c) (D m c) i j :=
  Finset.sum_add_distrib.trans (congrArg₂ (· + ·) (sum_blocks 1408 4 fun k => A m c i k * B m c j k) (sum_blocks 1408 4 fun k => C m c i k * D m c j k))

/-! ## The array -/

theorem idx_inj4 : ∀ t t' : Fin cfg0.N, t.val % 4 = 3 → t'.val % 4 = 3 → win0_4.index t = win0_4.index t' → t = t' := by
  intro t t' h h' e
  have e1 := congrFun e 1
  rw [(index4 t).2, (index4 t').2] at e1
  exact Fin.ext (by omega)

theorem disjoint4 : ∀ t t' : Fin cfg0.N, (cfg0.win 4).flush t = true → (cfg0.win 4).flush t' = true → t ≠ t' →
    Disjoint ((cfg0.win 4).blk t).view.set ((cfg0.win 4).blk t').view.set :=
  fun t t' h h' hne => (cfg0.win 4).disjoint_blk fun e => hne (idx_inj4 t t' ((flush0_4 t).mp h) ((flush0_4 t').mp h') e)

section
variable (i : S2048x2048.Idx)
theorem point_lt : (i 1).val / 512 * 4 + 3 < cfg0.N := by have h1 : (i 1).val < 2048 := (i 1).isLt; show _ < 16; omega
/-- The point that writes an entry of the result: the last of its column tile. -/
abbrev point : Fin cfg0.N := ⟨(i 1).val / 512 * 4 + 3, point_lt i⟩
abbrev inner : S2048x512.Idx := ix2 (n0 := 2048) (n1 := 512) (i 0) ⟨(i 1).val % 512, Nat.mod_lt _ (by decide)⟩
theorem point_mod : (point i).val % 4 = 3 := by show ((i 1).val / 512 * 4 + 3) % 4 = 3; omega
theorem col_eq : (point i).val / 4 * 512 + (i 1).val % 512 = (i 1).val := by show ((i 1).val / 512 * 4 + 3) / 4 * 512 + _ = _; omega

theorem emb4 : ((cfg0.win 4).blk (point i)).view.emb (inner i) = i := by
  funext a
  match a with
  | ⟨0, _⟩ => exact Fin.ext ((congrArg (· * 2048 + 1 * (i 0).val) (index4 (point i)).1).trans ((congrArg _ (Nat.one_mul _)).trans ((congrArg (· + (i 0).val) (Nat.zero_mul 2048)).trans (Nat.zero_add _))))
  | ⟨1, _⟩ => exact Fin.ext ((congrArg (· * 512 + 1 * ((i 1).val % 512)) (index4 (point i)).2).trans ((congrArg _ (Nat.one_mul _)).trans (col_eq i)))

theorem array4 : ((dats m 0 c).arrAt 4 cfg0.N : S2048x2048.Idx → EReal) i
    = nt 5632 (A m c) (B m c) (i 0).val (i 1).val + nt 5632 (C m c) (D m c) (i 0).val (i 1).val := by
  have hb := congrFun ((dats m 0 c).read_blk_arrAt_eq_flushed 4 disjoint4 cfg0.N (point i) (point i).isLt ((flush0_4 _).mpr (point_mod i))) (inner i)
  rw [View.read_apply, flushed4, emb4] at hb
  refine hb.trans ((outs_sum m c (point i).val (point i).isLt (i 0) ⟨(i 1).val % 512, Nat.mod_lt _ (by decide)⟩).trans ?_)
  rw [point_mod, col_eq]
  exact parts m c _ _
end

/-! ## The reference -/

open Cert.DH2RefIdeal.Read in
theorem ref5 (x0 x1 x2 x3 : (⟨S2048x5632, .f32⟩ : BufTy).Contents (Elt Ideal)) (i : S2048x2048.Idx) :
    val_main_v5 (F := Ideal) x0 x1 x2 x3 i
      = nt 5632 (ent (a := 2048) (b := 5632) x1) (ent (a := 2048) (b := 5632) x3) (i 0).val (i 1).val
        + nt 5632 (ent (a := 2048) (b := 5632) x0) (ent (a := 2048) (b := 5632) x2) (i 0).val (i 1).val :=
  (val_main_v5_apply x0 x1 x2 x3 i).trans (congrArg₂ (· + ·)
    ((val_main_v3_apply x1 x3 i).trans (Finset.sum_congr rfl fun k _ => congrArg₂ (· * ·) (ent_at _ rfl rfl) (ent_at _ rfl rfl)))
    ((val_main_v4_apply x0 x2 i).trans (Finset.sum_congr rfl fun k _ => congrArg₂ (· * ·) (ent_at _ rfl rfl) (ent_at _ rfl rfl))))

theorem algebraic : Cert.algebraic_DH2Ideal_DH2RefIdeal (hDH2Ideal := Cert.DH2Ideal.Gen.facts) (hDH2RefIdeal := Cert.DH2RefIdeal.Gen.facts) := by
  intro m g m' g' _ hargs
  refine ⟨fun c => (dats m 0 c).arrAt 4 cfg0.N, run_blocks m g, ?_⟩
  refine (θ_run Cert.DH2RefIdeal.defs _ _).mono (fun r h c => ?_) (Cert.DH2RefIdeal.Value.run (F := Ideal) m' g')
  obtain ⟨e0, ea⟩ := h c
  obtain ⟨a0, a1, a2, a3⟩ := hargs c
  refine ⟨(e0.trans (Cert.DH2RefIdeal.Read.val_main_v5_eq _ _ _ _)).trans (funext fun i => ?_), ea⟩
  rw [a0, a1, a2, a3]
  exact ((ref5 _ _ _ _ i).trans (add_comm _ _)).trans (array4 m c i).symm

end Cert.DH2Ideal.Val

end
-- ==== Proof.ValDWDown.lean ====
/- The gradient of the weights of the second feed-forward product: the array that the kernel leaves is the product that the
   reference computes. -/
module

public import proofs.«01_k».proof.Proof.Prod
public import proofs.«01_k».proof.Proof.Gen.DWDownIdeal.Value
public import proofs.«01_k».proof.Proof.Gen.DWDownRefIdeal.Run
public import proofs.«01_k».proof.Proof.Gen.DWDownRefIdeal.Read
public import proofs.«01_k».proof.Defs

@[expose] public section

set_option maxRecDepth 16384

noncomputable section

namespace Cert.DWDownIdeal.Val

open Cert.DWDownIdeal Cert.DWDownIdeal.Gen Cert.DWDownIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 5632) (m ((c : Thread nD τ).loc main_arg0))
abbrev B : ℕ → ℕ → EReal := ent (a := 2048) (b := 2048) (m ((c : Thread nD τ).loc main_arg1))

theorem index0 : ∀ t : Fin cfg0.N, win0_0.index t 0 = 0 ∧ win0_0.index t 1 = t.val / 2 :=
  (by decide +kernel : ∀ t : Fin grid0.N, win0_0.index t 0 = 0 ∧ win0_0.index t 1 = t.val / 2)
theorem index1 : ∀ t : Fin cfg0.N, win0_1.index t 0 = 0 ∧ win0_1.index t 1 = t.val % 2 :=
  (by decide +kernel : ∀ t : Fin grid0.N, win0_1.index t 0 = 0 ∧ win0_1.index t 1 = t.val % 2)
theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem V0 : (V m c main_v0 : S2048x5632.Idx → EReal) = m ((c : Thread nD τ).loc main_arg0) := by
  show StableHlo.after _ _ (Proc.devRef .tc main_v0) = _
  after_results
  rfl

theorem V1 : (V m c main_v1 : S2048x2048.Idx → EReal) = m ((c : Thread nD τ).loc main_arg1) := by
  show StableHlo.after _ _ (Proc.devRef .tc main_v1) = _
  after_results
  rfl

theorem block0 (t : Fin cfg0.N) (p : Fin 2048) (q : Fin 1408) : (iblk m c 0 t : S2048x1408.Idx → EReal) (ix2 p q) = A m c p.val (t.val / 2 * 1408 + q.val) := by
  unfold iblk
  rw [View.read_apply]
  refine (congrFun (V0 m c) _).trans (ent_at _ ?_ ?_)
  · show win0_0.index t 0 * 2048 + 1 * p.val = _; rw [(index0 t).1]; omega
  · show win0_0.index t 1 * 1408 + 1 * q.val = _; rw [(index0 t).2]; omega

theorem block1 (t : Fin cfg0.N) (p : Fin 2048) (q : Fin 1024) : (iblk m c 1 t : S2048x1024.Idx → EReal) (ix2 p q) = B m c p.val (t.val % 2 * 1024 + q.val) := by
  unfold iblk
  rw [View.read_apply]
  refine (congrFun (V1 m c) _).trans (ent_at _ ?_ ?_)
  · show win0_1.index t 0 * 2048 + 1 * p.val = _; rw [(index1 t).1]; omega
  · show win0_1.index t 1 * 1024 + 1 * q.val = _; rw [(index1 t).2]; omega

theorem out (wf : DotDims.WF ⟨2, ![2048, 1408]⟩ ⟨2, ![2048, 1024]⟩ ⟨2, ![1408, 1024]⟩ [0] [0] [1] [1] [] []) (x0 : Vec Ideal S2048x1408 .bf16) (x1 : Vec Ideal S2048x1024 .bf16) : out0_2 x0 x1
    = matmul (φ₁ := .bf16) (φ₂ := .bf16) (Rd.tn 2048 1408 1024 wf) none x0 x1 (constant (F := Ideal) ⟨2, ![1408, 1024]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S5632x2048.Idx) : ((dats m 0 c).arrAt 2 cfg0.N : S5632x2048.Idx → EReal) i = tn 2048 (A m c) (B m c) (i 0).val (i 1).val := by
  have h0 : (i 0).val < 5632 := (i 0).isLt
  have h1 : (i 1).val < 2048 := (i 1).isLt
  have hN : (i 0).val / 1408 * 2 + (i 1).val / 1024 < cfg0.N := by show _ < 8; omega
  have hp : (i 0).val % 1408 < 1408 := Nat.mod_lt _ (by decide)
  have hq : (i 1).val % 1024 < 1024 := Nat.mod_lt _ (by decide)
  have e0 : ((i 0).val / 1408 * 2 + (i 1).val / 1024) / 2 * 1408 + (i 0).val % 1408 = (i 0).val := by omega
  have e1 : ((i 0).val / 1408 * 2 + (i 1).val / 1024) % 2 * 1024 + (i 1).val % 1024 = (i 1).val := by omega
  have hb := congrFun (blocks2 m c ⟨(i 0).val / 1408 * 2 + (i 1).val / 1024, hN⟩ (flush0_2 _)) (ix2 (n0 := 1408) (n1 := 1024) ⟨(i 0).val % 1408, hp⟩ ⟨(i 1).val % 1024, hq⟩)
  rw [View.read_apply, flushed2, out dot_S2048x1408_S2048x1024_S1408x1024_0_0_1_1_n_n.wf] at hb
  have he : ((cfg0.win 2).blk ⟨(i 0).val / 1408 * 2 + (i 1).val / 1024, hN⟩).view.emb (ix2 (n0 := 1408) (n1 := 1024) ⟨(i 0).val % 1408, hp⟩ ⟨(i 1).val % 1024, hq⟩) = i := by
    funext a
    match a with
    | ⟨0, _⟩ => exact Fin.ext ((congrArg (· * 1408 + 1 * ((i 0).val % 1408)) (index2 ⟨(i 0).val / 1408 * 2 + (i 1).val / 1024, hN⟩).1).trans ((congrArg _ (Nat.one_mul _)).trans e0))
    | ⟨1, _⟩ => exact Fin.ext ((congrArg (· * 1024 + 1 * ((i 1).val % 1024)) (index2 ⟨(i 0).val / 1408 * 2 + (i 1).val / 1024, hN⟩).2).trans ((congrArg _ (Nat.one_mul _)).trans e1))
  rw [he] at hb
  exact hb.trans ((tn_block none dot_S2048x1408_S2048x1024_S1408x1024_0_0_1_1_n_n.wf (block0 m c ⟨(i 0).val / 1408 * 2 + (i 1).val / 1024, hN⟩) (block1 m c ⟨(i 0).val / 1408 * 2 + (i 1).val / 1024, hN⟩) ⟨(i 0).val % 1408, hp⟩ ⟨(i 1).val % 1024, hq⟩).trans (congrArg₂ (tn 2048 (A m c) (B m c)) e0 e1))

theorem algebraic : Cert.algebraic_DWDownIdeal_DWDownRefIdeal (hDWDownIdeal := Cert.DWDownIdeal.Gen.facts) (hDWDownRefIdeal := Cert.DWDownRefIdeal.Gen.facts) := by
  intro m g m' g' _ hargs
  refine ⟨fun c => (dats m 0 c).arrAt 2 cfg0.N, run_blocks m g, ?_⟩
  refine (θ_run Cert.DWDownRefIdeal.defs _ _).mono (fun r h c => ?_) (Cert.DWDownRefIdeal.Value.run (F := Ideal) m' g')
  obtain ⟨e, ea⟩ := h c
  refine ⟨((e.trans (Cert.DWDownRefIdeal.Read.val_main_v3_eq _ _)).trans (funext fun i => ?_)), ea⟩
  rw [(hargs c).1, (hargs c).2]
  refine ((Cert.DWDownRefIdeal.Read.val_main_v3_apply _ _ i).trans (Cert.DWDownRefIdeal.Read.val_main_v2_apply _ _ _)).trans (Eq.trans ?_ (array m c i).symm)
  exact Finset.sum_congr rfl fun k _ => (mul_comm _ _).trans (congrArg₂ (· * ·) (ent_at _ rfl rfl) (ent_at _ rfl rfl))

end Cert.DWDownIdeal.Val

end
-- ==== Proof.ValDWOut.lean ====
/- The gradient of the weights of the output projection: the array that the kernel leaves is the product that the
   reference computes. -/
module

public import proofs.«01_k».proof.Proof.Prod
public import proofs.«01_k».proof.Proof.Gen.DWOutIdeal.Value
public import proofs.«01_k».proof.Proof.Gen.DWOutRefIdeal.Run
public import proofs.«01_k».proof.Proof.Gen.DWOutRefIdeal.Read
public import proofs.«01_k».proof.Defs

@[expose] public section

set_option maxRecDepth 16384

noncomputable section

namespace Cert.DWOutIdeal.Val

open Cert.DWOutIdeal Cert.DWOutIdeal.Gen Cert.DWOutIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 2048) (m ((c : Thread nD τ).loc main_arg0))
abbrev B : ℕ → ℕ → EReal := ent (a := 2048) (b := 2048) (m ((c : Thread nD τ).loc main_arg1))

theorem index0 : ∀ t : Fin cfg0.N, win0_0.index t 0 = 0 ∧ win0_0.index t 1 = t.val / 4 :=
  (by decide +kernel : ∀ t : Fin grid0.N, win0_0.index t 0 = 0 ∧ win0_0.index t 1 = t.val / 4)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem V0 : (V m c main_v0 : S2048x2048.Idx → EReal) = m ((c : Thread nD τ).loc main_arg0) := by
  show StableHlo.after _ _ (Proc.devRef .tc main_v0) = _
  after_results
  rfl

theorem V1 : (V m c main_v1 : S2048x2048.Idx → EReal) = m ((c : Thread nD τ).loc main_arg1) := by
  show StableHlo.after _ _ (Proc.devRef .tc main_v1) = _
  after_results
  rfl

theorem block0 (t : Fin cfg0.N) (p : Fin 2048) (q : Fin 2048) : (iblk m c 0 t : S2048x2048.Idx → EReal) (ix2 p q) = A m c p.val (t.val / 4 * 2048 + q.val) := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 2048) (q : Fin 512) : (iblk m c 1 t : S2048x512.Idx → EReal) (ix2 p q) = B m c p.val (t.val % 4 * 512 + q.val) := by
  unfold iblk
  rw [View.read_apply]
  refine (congrFun (V1 m c) _).trans (ent_at _ ?_ ?_)
  · show win0_1.index t 0 * 2048 + 1 * p.val = _; rw [(index1 t).1]; omega
  · show win0_1.index t 1 * 512 + 1 * q.val = _; rw [(index1 t).2]; omega

theorem out (wf : DotDims.WF ⟨2, ![2048, 2048]⟩ ⟨2, ![2048, 512]⟩ ⟨2, ![2048, 512]⟩ [0] [0] [1] [1] [] []) (x0 : Vec Ideal S2048x2048 .bf16) (x1 : Vec Ideal S2048x512 .bf16) : out0_2 x0 x1
    = matmul (φ₁ := .bf16) (φ₂ := .bf16) (Rd.tn 2048 2048 512 wf) none x0 x1 (constant (F := Ideal) ⟨2, ![2048, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x2048.Idx) : ((dats m 0 c).arrAt 2 cfg0.N : S2048x2048.Idx → EReal) i = tn 2048 (A m c) (B m c) (i 0).val (i 1).val := by
  have h0 : (i 0).val < 2048 := (i 0).isLt
  have h1 : (i 1).val < 2048 := (i 1).isLt
  have hN : (i 0).val / 2048 * 4 + (i 1).val / 512 < cfg0.N := by show _ < 4; omega
  have hp : (i 0).val % 2048 < 2048 := Nat.mod_lt _ (by decide)
  have hq : (i 1).val % 512 < 512 := Nat.mod_lt _ (by decide)
  have e0 : ((i 0).val / 2048 * 4 + (i 1).val / 512) / 4 * 2048 + (i 0).val % 2048 = (i 0).val := by omega
  have e1 : ((i 0).val / 2048 * 4 + (i 1).val / 512) % 4 * 512 + (i 1).val % 512 = (i 1).val := by omega
  have hb := congrFun (blocks2 m c ⟨(i 0).val / 2048 * 4 + (i 1).val / 512, hN⟩ (flush0_2 _)) (ix2 (n0 := 2048) (n1 := 512) ⟨(i 0).val % 2048, hp⟩ ⟨(i 1).val % 512, hq⟩)
  rw [View.read_apply, flushed2, out dot_S2048x2048_S2048x512_S2048x512_0_0_1_1_n_n.wf] at hb
  have he : ((cfg0.win 2).blk ⟨(i 0).val / 2048 * 4 + (i 1).val / 512, hN⟩).view.emb (ix2 (n0 := 2048) (n1 := 512) ⟨(i 0).val % 2048, hp⟩ ⟨(i 1).val % 512, hq⟩) = i := by
    funext a
    match a with
    | ⟨0, _⟩ => exact Fin.ext ((congrArg (· * 2048 + 1 * ((i 0).val % 2048)) (index2 ⟨(i 0).val / 2048 * 4 + (i 1).val / 512, hN⟩).1).trans ((congrArg _ (Nat.one_mul _)).trans e0))
    | ⟨1, _⟩ => exact Fin.ext ((congrArg (· * 512 + 1 * ((i 1).val % 512)) (index2 ⟨(i 0).val / 2048 * 4 + (i 1).val / 512, hN⟩).2).trans ((congrArg _ (Nat.one_mul _)).trans e1))
  rw [he] at hb
  exact hb.trans ((tn_block none dot_S2048x2048_S2048x512_S2048x512_0_0_1_1_n_n.wf (block0 m c ⟨(i 0).val / 2048 * 4 + (i 1).val / 512, hN⟩) (block1 m c ⟨(i 0).val / 2048 * 4 + (i 1).val / 512, hN⟩) ⟨(i 0).val % 2048, hp⟩ ⟨(i 1).val % 512, hq⟩).trans (congrArg₂ (tn 2048 (A m c) (B m c)) e0 e1))

theorem algebraic : Cert.algebraic_DWOutIdeal_DWOutRefIdeal (hDWOutIdeal := Cert.DWOutIdeal.Gen.facts) (hDWOutRefIdeal := Cert.DWOutRefIdeal.Gen.facts) := by
  intro m g m' g' _ hargs
  refine ⟨fun c => (dats m 0 c).arrAt 2 cfg0.N, run_blocks m g, ?_⟩
  refine (θ_run Cert.DWOutRefIdeal.defs _ _).mono (fun r h c => ?_) (Cert.DWOutRefIdeal.Value.run (F := Ideal) m' g')
  obtain ⟨e, ea⟩ := h c
  refine ⟨((e.trans (Cert.DWOutRefIdeal.Read.val_main_v3_eq _ _)).trans (funext fun i => ?_)), ea⟩
  rw [(hargs c).1, (hargs c).2]
  refine ((Cert.DWOutRefIdeal.Read.val_main_v3_apply _ _ i).trans (Cert.DWOutRefIdeal.Read.val_main_v2_apply _ _ _)).trans (Eq.trans ?_ (array m c i).symm)
  exact Finset.sum_congr rfl fun k _ => (mul_comm _ _).trans (congrArg₂ (· * ·) (ent_at _ rfl rfl) (ent_at _ rfl rfl))

end Cert.DWOutIdeal.Val

end
-- ==== Proof.ValDO.lean ====
/- The gradient of the attention output: the array that the kernel leaves is the product that the
   reference computes. -/
module

public import proofs.«01_k».proof.Proof.Prod
public import proofs.«01_k».proof.Proof.Gen.DOIdeal.Value
public import proofs.«01_k».proof.Proof.Gen.DORefIdeal.Run
public import proofs.«01_k».proof.Proof.Gen.DORefIdeal.Read
public import proofs.«01_k».proof.Defs

@[expose] public section

set_option maxRecDepth 16384

noncomputable section

namespace Cert.DOIdeal.Val

open Cert.DOIdeal Cert.DOIdeal.Gen Cert.DOIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 2048) (m ((c : Thread nD τ).loc main_arg0))
abbrev B : ℕ → ℕ → EReal := ent (a := 2048) (b := 2048) (m ((c : Thread nD τ).loc main_arg1))

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem V0 : (V m c main_v0 : S2048x2048.Idx → EReal) = m ((c : Thread nD τ).loc main_arg0) := by
  show StableHlo.after _ _ (Proc.devRef .tc main_v0) = _
  after_results
  rfl

theorem V1 : (V m c main_v1 : S2048x2048.Idx → EReal) = m ((c : Thread nD τ).loc main_arg1) := by
  show StableHlo.after _ _ (Proc.devRef .tc main_v1) = _
  after_results
  rfl

theorem block0 (t : Fin cfg0.N) (p : Fin 2048) (q : Fin 2048) : (iblk m c 0 t : S2048x2048.Idx → EReal) (ix2 p q) = A m c (t.val / 4 * 2048 + p.val) q.val := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 512) (q : Fin 2048) : (iblk m c 1 t : S512x2048.Idx → EReal) (ix2 p q) = B m c (t.val % 4 * 512 + p.val) q.val := by
  unfold iblk
  rw [View.read_apply]
  refine (congrFun (V1 m c) _).trans (ent_at _ ?_ ?_)
  · show win0_1.index t 0 * 512 + 1 * p.val = _; rw [(index1 t).1]; omega
  · show win0_1.index t 1 * 2048 + 1 * q.val = _; rw [(index1 t).2]; omega

theorem out (x0 : Vec Ideal S2048x2048 .bf16) (x1 : Vec Ideal S512x2048 .bf16) : out0_2 x0 x1
    = matmul (φ₁ := .bf16) (φ₂ := .bf16) (DotDims.transposedRhs 2048 2048 512) none x0 x1 (constant (F := Ideal) ⟨2, ![2048, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x2048.Idx) : ((dats m 0 c).arrAt 2 cfg0.N : S2048x2048.Idx → EReal) i = nt 2048 (A m c) (B m c) (i 0).val (i 1).val := by
  have h0 : (i 0).val < 2048 := (i 0).isLt
  have h1 : (i 1).val < 2048 := (i 1).isLt
  have hN : (i 0).val / 2048 * 4 + (i 1).val / 512 < cfg0.N := by show _ < 4; omega
  have hp : (i 0).val % 2048 < 2048 := Nat.mod_lt _ (by decide)
  have hq : (i 1).val % 512 < 512 := Nat.mod_lt _ (by decide)
  have e0 : ((i 0).val / 2048 * 4 + (i 1).val / 512) / 4 * 2048 + (i 0).val % 2048 = (i 0).val := by omega
  have e1 : ((i 0).val / 2048 * 4 + (i 1).val / 512) % 4 * 512 + (i 1).val % 512 = (i 1).val := by omega
  have hb := congrFun (blocks2 m c ⟨(i 0).val / 2048 * 4 + (i 1).val / 512, hN⟩ (flush0_2 _)) (ix2 (n0 := 2048) (n1 := 512) ⟨(i 0).val % 2048, hp⟩ ⟨(i 1).val % 512, hq⟩)
  rw [View.read_apply, flushed2, out] at hb
  have he : ((cfg0.win 2).blk ⟨(i 0).val / 2048 * 4 + (i 1).val / 512, hN⟩).view.emb (ix2 (n0 := 2048) (n1 := 512) ⟨(i 0).val % 2048, hp⟩ ⟨(i 1).val % 512, hq⟩) = i := by
    funext a
    match a with
    | ⟨0, _⟩ => exact Fin.ext ((congrArg (· * 2048 + 1 * ((i 0).val % 2048)) (index2 ⟨(i 0).val / 2048 * 4 + (i 1).val / 512, hN⟩).1).trans ((congrArg _ (Nat.one_mul _)).trans e0))
    | ⟨1, _⟩ => exact Fin.ext ((congrArg (· * 512 + 1 * ((i 1).val % 512)) (index2 ⟨(i 0).val / 2048 * 4 + (i 1).val / 512, hN⟩).2).trans ((congrArg _ (Nat.one_mul _)).trans e1))
  rw [he] at hb
  exact hb.trans ((nt_block none (block0 m c ⟨(i 0).val / 2048 * 4 + (i 1).val / 512, hN⟩) (block1 m c ⟨(i 0).val / 2048 * 4 + (i 1).val / 512, hN⟩) ⟨(i 0).val % 2048, hp⟩ ⟨(i 1).val % 512, hq⟩).trans (congrArg₂ (nt 2048 (A m c) (B m c)) e0 e1))

theorem algebraic : Cert.algebraic_DOIdeal_DORefIdeal (hDOIdeal := Cert.DOIdeal.Gen.facts) (hDORefIdeal := Cert.DORefIdeal.Gen.facts) := by
  intro m g m' g' _ hargs
  refine ⟨fun c => (dats m 0 c).arrAt 2 cfg0.N, run_blocks m g, ?_⟩
  refine (θ_run Cert.DORefIdeal.defs _ _).mono (fun r h c => ?_) (Cert.DORefIdeal.Value.run (F := Ideal) m' g')
  obtain ⟨e, ea⟩ := h c
  refine ⟨((e.trans (Cert.DORefIdeal.Read.val_main_v2_eq _ _)).trans (funext fun i => ?_)), ea⟩
  rw [(hargs c).1, (hargs c).2]
  refine (Cert.DORefIdeal.Read.val_main_v2_apply _ _ i).trans (Eq.trans ?_ (array m c i).symm)
  exact Finset.sum_congr rfl fun k _ => congrArg₂ (· * ·) (ent_at _ rfl rfl) (ent_at _ rfl rfl)

end Cert.DOIdeal.Val

end
-- ==== Proof.ValDH1.lean ====
/- The gradient of the normalized input of the first projection: the array that the kernel leaves is the product that the
   reference computes. -/
module

public import proofs.«01_k».proof.Proof.Prod
public import proofs.«01_k».proof.Proof.Gen.DH1Ideal.Value
public import proofs.«01_k».proof.Proof.Gen.DH1RefIdeal.Run
public import proofs.«01_k».proof.Proof.Gen.DH1RefIdeal.Read
public import proofs.«01_k».proof.Defs

@[expose] public section

set_option maxRecDepth 16384

noncomputable section

namespace Cert.DH1Ideal.Val

open Cert.DH1Ideal Cert.DH1Ideal.Gen Cert.DH1Ideal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 5120) (m ((c : Thread nD τ).loc main_arg0))
abbrev B : ℕ → ℕ → EReal := ent (a := 2048) (b := 5120) (m ((c : Thread nD τ).loc main_arg1))

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem V0 : (V m c main_v0 : S2048x5120.Idx → EReal) = m ((c : Thread nD τ).loc main_arg0) := by
  show StableHlo.after _ _ (Proc.devRef .tc main_v0) = _
  after_results
  rfl

theorem V1 : (V m c main_v1 : S2048x5120.Idx → EReal) = m ((c : Thread nD τ).loc main_arg1) := by
  show StableHlo.after _ _ (Proc.devRef .tc main_v1) = _
  after_results
  rfl

theorem block0 (t : Fin cfg0.N) (p : Fin 1024) (q : Fin 5120) : (iblk m c 0 t : S1024x5120.Idx → EReal) (ix2 p q) = A m c (t.val / 4 * 1024 + p.val) q.val := by
  unfold iblk
  rw [View.read_apply]
  refine (congrFun (V0 m c) _).trans (ent_at _ ?_ ?_)
  · show win0_0.index t 0 * 1024 + 1 * p.val = _; rw [(index0 t).1]; omega
  · show win0_0.index t 1 * 5120 + 1 * q.val = _; rw [(index0 t).2]; omega

theorem block1 (t : Fin cfg0.N) (p : Fin 512) (q : Fin 5120) : (iblk m c 1 t : S512x5120.Idx → EReal) (ix2 p q) = B m c (t.val % 4 * 512 + p.val) q.val := by
  unfold iblk
  rw [View.read_apply]
  refine (congrFun (V1 m c) _).trans (ent_at _ ?_ ?_)
  · show win0_1.index t 0 * 512 + 1 * p.val = _; rw [(index1 t).1]; omega
  · show win0_1.index t 1 * 5120 + 1 * q.val = _; rw [(index1 t).2]; omega

theorem out (x0 : Vec Ideal S1024x5120 .bf16) (x1 : Vec Ideal S512x5120 .bf16) : out0_2 x0 x1
    = matmul (φ₁ := .bf16) (φ₂ := .bf16) (DotDims.transposedRhs 1024 5120 512) none x0 x1 (constant (F := Ideal) ⟨2, ![1024, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x2048.Idx) : ((dats m 0 c).arrAt 2 cfg0.N : S2048x2048.Idx → EReal) i = nt 5120 (A m c) (B m c) (i 0).val (i 1).val := by
  have h0 : (i 0).val < 2048 := (i 0).isLt
  have h1 : (i 1).val < 2048 := (i 1).isLt
  have hN : (i 0).val / 1024 * 4 + (i 1).val / 512 < cfg0.N := by show _ < 8; omega
  have hp : (i 0).val % 1024 < 1024 := Nat.mod_lt _ (by decide)
  have hq : (i 1).val % 512 < 512 := Nat.mod_lt _ (by decide)
  have e0 : ((i 0).val / 1024 * 4 + (i 1).val / 512) / 4 * 1024 + (i 0).val % 1024 = (i 0).val := by omega
  have e1 : ((i 0).val / 1024 * 4 + (i 1).val / 512) % 4 * 512 + (i 1).val % 512 = (i 1).val := by omega
  have hb := congrFun (blocks2 m c ⟨(i 0).val / 1024 * 4 + (i 1).val / 512, hN⟩ (flush0_2 _)) (ix2 (n0 := 1024) (n1 := 512) ⟨(i 0).val % 1024, hp⟩ ⟨(i 1).val % 512, hq⟩)
  rw [View.read_apply, flushed2, out] at hb
  have he : ((cfg0.win 2).blk ⟨(i 0).val / 1024 * 4 + (i 1).val / 512, hN⟩).view.emb (ix2 (n0 := 1024) (n1 := 512) ⟨(i 0).val % 1024, hp⟩ ⟨(i 1).val % 512, hq⟩) = i := by
    funext a
    match a with
    | ⟨0, _⟩ => exact Fin.ext ((congrArg (· * 1024 + 1 * ((i 0).val % 1024)) (index2 ⟨(i 0).val / 1024 * 4 + (i 1).val / 512, hN⟩).1).trans ((congrArg _ (Nat.one_mul _)).trans e0))
    | ⟨1, _⟩ => exact Fin.ext ((congrArg (· * 512 + 1 * ((i 1).val % 512)) (index2 ⟨(i 0).val / 1024 * 4 + (i 1).val / 512, hN⟩).2).trans ((congrArg _ (Nat.one_mul _)).trans e1))
  rw [he] at hb
  exact hb.trans ((nt_block none (block0 m c ⟨(i 0).val / 1024 * 4 + (i 1).val / 512, hN⟩) (block1 m c ⟨(i 0).val / 1024 * 4 + (i 1).val / 512, hN⟩) ⟨(i 0).val % 1024, hp⟩ ⟨(i 1).val % 512, hq⟩).trans (congrArg₂ (nt 5120 (A m c) (B m c)) e0 e1))

theorem algebraic : Cert.algebraic_DH1Ideal_DH1RefIdeal (hDH1Ideal := Cert.DH1Ideal.Gen.facts) (hDH1RefIdeal := Cert.DH1RefIdeal.Gen.facts) := by
  intro m g m' g' _ hargs
  refine ⟨fun c => (dats m 0 c).arrAt 2 cfg0.N, run_blocks m g, ?_⟩
  refine (θ_run Cert.DH1RefIdeal.defs _ _).mono (fun r h c => ?_) (Cert.DH1RefIdeal.Value.run (F := Ideal) m' g')
  obtain ⟨e, ea⟩ := h c
  refine ⟨((e.trans (Cert.DH1RefIdeal.Read.val_main_v2_eq _ _)).trans (funext fun i => ?_)), ea⟩
  rw [(hargs c).1, (hargs c).2]
  refine (Cert.DH1RefIdeal.Read.val_main_v2_apply _ _ i).trans (Eq.trans ?_ (array m c i).symm)
  exact Finset.sum_congr rfl fun k _ => congrArg₂ (· * ·) (ent_at _ rfl rfl) (ent_at _ rfl rfl)

end Cert.DH1Ideal.Val

end
-- ==== Proof.ValGateUp.lean ====
/- The first feed-forward layer: the three arrays that the kernel leaves, the gate, the up product and the gated product,
   are those that the reference computes. -/
module

public import proofs.«01_k».proof.Proof.Prod
public import proofs.«01_k».proof.Proof.Gen.GateUpIdeal.Value
public import proofs.«01_k».proof.Proof.Gen.GateUpRefIdeal.Run
public import proofs.«01_k».proof.Proof.Gen.GateUpRefIdeal.Read
public import proofs.«01_k».proof.Defs

@[expose] public section

set_option maxRecDepth 16384

noncomputable section

namespace Cert.GateUpIdeal.Val

open Cert.GateUpIdeal Cert.GateUpIdeal.Gen Cert.GateUpIdeal.Value Cert.Proof
open Idealize.ShloMosaic Idealize.ShloMosaic.ValueIdx Idealize.ShloMosaic.TcCoe Idealize.ShloMosaic.Tactic Idealize.SL.Sem

/-! ## One band of rows -/

section
variable {F : FTy → Type} [FloatOps F]

/-- The product of a band of rows with a block of columns. -/
def band (a : Vec F S256x2048 .bf16) (w : Vec F S2048x512 .bf16) : FVec F S256x512 .f32 :=
  matmul dot_S256x2048_S2048x512_S256x512_1_0_0_1_n_n none (shapeCast S256x2048 a shapeCasts_S256x2048_S256x2048 : FVec F S256x2048 .bf16)
    (shapeCast S2048x512 w shapeCasts_S2048x512_S2048x512 : FVec F S2048x512 .bf16) (constant S256x512 .f32 0x00000000#32)

def bandR (a : Vec F S256x2048 .bf16) (w : Vec F S2048x512 .bf16) : FVec F S256x512 .bf16 := truncf .bf16 (band a w) bitsLt_bf16_f32

def bandG (a : Vec F S256x2048 .bf16) (w u : Vec F S2048x512 .bf16) : FVec F S256x512 .bf16 :=
  truncf .bf16 (mulf (mulf (band a w) (logistic (band a w))) (band a u)) bitsLt_bf16_f32
end

variable {x0 : Vec Ideal S2048x2048 .bf16} {x1 x2 : Vec Ideal S2048x512 .bf16} {X Y Z : ℕ → ℕ → EReal}
  (hx : ∀ i k, x0 (ix2 i k) = X i.val k.val) (hy : ∀ k j, x1 (ix2 k j) = Y k.val j.val) (hz : ∀ k j, x2 (ix2 k j) = Z k.val j.val)

include hx hy in
theorem band_apply {r : ℕ} (inb : ∀ a, (![r, 0] : Fin 2 → ℕ) a + S256x2048.size a ≤ S2048x2048.size a) (i : Fin 256) (j : Fin 512) :
    band (F := Ideal) (View.ld x0 (Rect.unit (s := S2048x2048) ![r, 0] S256x2048.size inb)) (View.ld x1 r0_1) (ix2 i j) = nn 2048 X Y (r + i.val) j.val := by
  rw [band, shapeCast_self, shapeCast_self, View.ld_unit_zero zero2]
  exact nn_block none (fun i k => ld_rows hx inb i k) hy i j

include hx hy in
theorem bandR_piece {r : ℕ} (h : r + 256 ≤ 2048) (x : S256x512.Idx) :
    bandR (F := Ideal) (View.ld x0 (Rect.unit (s := S2048x2048) ![r, 0] S256x2048.size (rows_inb h))) (View.ld x1 r0_1) x
      = (fun y : S2048x512.Idx => nn 2048 X Y (y 0).val (y 1).val) ((Rect.unit (s := S2048x512) ![r, 0] S256x512.size (rows_inb h)).emb x) :=
  piece_rows (R := 2048) (C := 512) (φ := .bf16) (Z := nn 2048 X Y) (rows_inb h) (band_apply hx hy (rows_inb h)) x

theorem gate_out (i : S2048x512.Idx) (hx : ∀ i k, x0 (ix2 i k) = X i.val k.val) (hy : ∀ k j, x1 (ix2 k j) = Y k.val j.val) :
    out0_3 x0 x1 x2 i = nn 2048 X Y (i 0).val (i 1).val := by
  refine View.canon_apply_of_pieces (Val := Elt Ideal) (e := .bf16) (fun y : S2048x512.Idx => nn 2048 X Y (y 0).val (y 1).val) _ ?_ i (cover0_3 _ _ _ _ _ _ _ _ i)
  refine List.forall_mem_cons.mpr ⟨bandR_piece hx hy (r := 1792) (by decide), ?_⟩
  refine List.forall_mem_cons.mpr ⟨bandR_piece hx hy (r := 1536) (by decide), ?_⟩
  refine List.forall_mem_cons.mpr ⟨bandR_piece hx hy (r := 1280) (by decide), ?_⟩
  refine List.forall_mem_cons.mpr ⟨bandR_piece hx hy (r := 1024) (by decide), ?_⟩
  refine List.forall_mem_cons.mpr ⟨bandR_piece hx hy (r := 768) (by decide), ?_⟩
  refine List.forall_mem_cons.mpr ⟨bandR_piece hx hy (r := 512) (by decide), ?_⟩
  refine List.forall_mem_cons.mpr ⟨bandR_piece hx hy (r := 256) (by decide), ?_⟩
  refine List.forall_mem_cons.mpr ⟨bandR_piece hx hy (r := 0) (by decide), ?_⟩
  exact fun _ h => absurd h List.not_mem_nil

theorem up_out (i : S2048x512.Idx) (hx : ∀ i k, x0 (ix2 i k) = X i.val k.val) (hz : ∀ k j, x2 (ix2 k j) = Z k.val j.val) :
    out0_4 x0 x1 x2 i = nn 2048 X Z (i 0).val (i 1).val := by
  refine View.canon_apply_of_pieces (Val := Elt Ideal) (e := .bf16) (fun y : S2048x512.Idx => nn 2048 X Z (y 0).val (y 1).val) _ ?_ i (cover0_4 _ _ _ _ _ _ _ _ i)
  refine List.forall_mem_cons.mpr ⟨bandR_piece hx hz (r := 1792) (by decide), ?_⟩
  refine List.forall_mem_cons.mpr ⟨bandR_piece hx hz (r := 1536) (by decide), ?_⟩
  refine List.forall_mem_cons.mpr ⟨bandR_piece hx hz (r := 1280) (by decide), ?_⟩
  refine List.forall_mem_cons.mpr ⟨bandR_piece hx hz (r := 1024) (by decide), ?_⟩
  refine List.forall_mem_cons.mpr ⟨bandR_piece hx hz (r := 768) (by decide), ?_⟩
  refine List.forall_mem_cons.mpr ⟨bandR_piece hx hz (r := 512) (by decide), ?_⟩
  refine List.forall_mem_cons.mpr ⟨bandR_piece hx hz (r := 256) (by decide), ?_⟩
  refine List.forall_mem_cons.mpr ⟨bandR_piece hx hz (r := 0) (by decide), ?_⟩
  exact fun _ h => absurd h List.not_mem_nil

/-- The gated product. -/
def gated (X Y Z : ℕ → ℕ → EReal) (i j : ℕ) : EReal := nn 2048 X Y i j * Ideal.logistic (nn 2048 X Y i j) * nn 2048 X Z i j

include hx hy hz in
theorem bandG_apply {r : ℕ} (inb : ∀ a, (![r, 0] : Fin 2 → ℕ) a + S256x2048.size a ≤ S2048x2048.size a) (i : Fin 256) (j : Fin 512) :
    bandG (F := Ideal) (View.ld x0 (Rect.unit (s := S2048x2048) ![r, 0] S256x2048.size inb)) (View.ld x1 r0_1) (View.ld x2 r0_1) (ix2 i j) = gated X Y Z (r + i.val) j.val := by
  show band (F := Ideal) _ _ (ix2 i j) * Ideal.logistic (band (F := Ideal) _ _ (ix2 i j)) * band (F := Ideal) _ _ (ix2 i j) = _
  rw [band_apply hx hy, band_apply hx hz]
  rfl

include hx hy hz in
theorem bandG_piece {r : ℕ} (h : r + 256 ≤ 2048) (x : S256x512.Idx) :
    bandG (F := Ideal) (View.ld x0 (Rect.unit (s := S2048x2048) ![r, 0] S256x2048.size (rows_inb h))) (View.ld x1 r0_1) (View.ld x2 r0_1) x
      = (fun y : S2048x512.Idx => gated X Y Z (y 0).val (y 1).val) ((Rect.unit (s := S2048x512) ![r, 0] S256x512.size (rows_inb h)).emb x) :=
  piece_rows (R := 2048) (C := 512) (φ := .bf16) (Z := gated X Y Z) (rows_inb h) (bandG_apply hx hy hz (rows_inb h)) x

theorem gated_out (i : S2048x512.Idx) (hx : ∀ i k, x0 (ix2 i k) = X i.val k.val) (hy : ∀ k j, x1 (ix2 k j) = Y k.val j.val)
    (hz : ∀ k j, x2 (ix2 k j) = Z k.val j.val) : out0_5 x0 x1 x2 i = gated X Y Z (i 0).val (i 1).val := by
  refine View.canon_apply_of_pieces (Val := Elt Ideal) (e := .bf16) (fun y : S2048x512.Idx => gated X Y Z (y 0).val (y 1).val) _ ?_ i (cover0_5 _ _ _ _ _ _ _ _ i)
  refine List.forall_mem_cons.mpr ⟨bandG_piece hx hy hz (r := 1792) (by decide), ?_⟩
  refine List.forall_mem_cons.mpr ⟨bandG_piece hx hy hz (r := 1536) (by decide), ?_⟩
  refine List.forall_mem_cons.mpr ⟨bandG_piece hx hy hz (r := 1280) (by decide), ?_⟩
  refine List.forall_mem_cons.mpr ⟨bandG_piece hx hy hz (r := 1024) (by decide), ?_⟩
  refine List.forall_mem_cons.mpr ⟨bandG_piece hx hy hz (r := 768) (by decide), ?_⟩
  refine List.forall_mem_cons.mpr ⟨bandG_piece hx hy hz (r := 512) (by decide), ?_⟩
  refine List.forall_mem_cons.mpr ⟨bandG_piece hx hy hz (r := 256) (by decide), ?_⟩
  refine List.forall_mem_cons.mpr ⟨bandG_piece hx hy hz (r := 0) (by decide), ?_⟩
  exact fun _ h => absurd h List.not_mem_nil

/-! ## The arrays -/

variable (m : (ℓ : Loc nD τ sig) → Buf (Elt Ideal) ℓ) (c : Dev nD)

/-- The entries of the three arguments. -/
abbrev A : ℕ → ℕ → EReal := ent (a := 2048) (b := 2048) (m ((c : Thread nD τ).loc main_arg0))
abbrev B : ℕ → ℕ → EReal := ent (a := 2048) (b := 5632) (m ((c : Thread nD τ).loc main_arg1))
abbrev C : ℕ → ℕ → EReal := ent (a := 2048) (b := 5632) (m ((c : Thread nD τ).loc main_arg2))

theorem index0 : ∀ t : Fin cfg0.N, win0_0.index t 0 = t.val / 11 ∧ win0_0.index t 1 = 0 :=
  (by decide +kernel : ∀ t : Fin grid0.N, win0_0.index t 0 = t.val / 11 ∧ win0_0.index t 1 = 0)
theorem index1 : ∀ t : Fin cfg0.N, win0_1.index t 0 = 0 ∧ win0_1.index t 1 = t.val % 11 :=
  (by decide +kernel : ∀ t : Fin grid0.N, win0_1.index t 0 = 0 ∧ win0_1.index t 1 = t.val % 11)
theorem index2 : ∀ t : Fin cfg0.N, win0_2.index t 0 = 0 ∧ win0_2.index t 1 = t.val % 11 :=
  (by decide +kernel : ∀ t : Fin grid0.N, win0_2.index t 0 = 0 ∧ win0_2.index t 1 = t.val % 11)
theorem index3 : ∀ t : Fin cfg0.N, win0_3.index t 0 = t.val / 11 ∧ win0_3.index t 1 = t.val % 11 :=
  (by decide +kernel : ∀ t : Fin grid0.N, win0_3.index t 0 = t.val / 11 ∧ win0_3.index t 1 = t.val % 11)
theorem index4 : ∀ t : Fin cfg0.N, win0_4.index t 0 = t.val / 11 ∧ win0_4.index t 1 = t.val % 11 :=
  (by decide +kernel : ∀ t : Fin grid0.N, win0_4.index t 0 = t.val / 11 ∧ win0_4.index t 1 = t.val % 11)
theorem index5 : ∀ t : Fin cfg0.N, win0_5.index t 0 = t.val / 11 ∧ win0_5.index t 1 = t.val % 11 :=
  (by decide +kernel : ∀ t : Fin grid0.N, win0_5.index t 0 = t.val / 11 ∧ win0_5.index t 1 = t.val % 11)

theorem V0 : (V m c main_v0 : S2048x2048.Idx → EReal) = m ((c : Thread nD τ).loc main_arg0) := by
  show StableHlo.after _ _ (Proc.devRef .tc main_v0) = _
  after_results
  rfl

theorem V1 : (V m c main_v1 : S2048x5632.Idx → EReal) = m ((c : Thread nD τ).loc main_arg1) := by
  show StableHlo.after _ _ (Proc.devRef .tc main_v1) = _
  after_results
  rfl

theorem V2 : (V m c main_v2 : S2048x5632.Idx → EReal) = m ((c : Thread nD τ).loc main_arg2) := by
  show StableHlo.after _ _ (Proc.devRef .tc main_v2) = _
  after_results
  rfl

theorem block0 (t : Fin cfg0.N) (p : Fin 2048) (q : Fin 2048) : (iblk m c 0 t : S2048x2048.Idx → EReal) (ix2 p q) = A m c (t.val / 11 * 2048 + p.val) q.val := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 2048) (q : Fin 512) : (iblk m c 1 t : S2048x512.Idx → EReal) (ix2 p q) = B m c p.val (t.val % 11 * 512 + q.val) := by
  unfold iblk
  rw [View.read_apply]
  refine (congrFun (V1 m c) _).trans (ent_at _ ?_ ?_)
  · show win0_1.index t 0 * 2048 + 1 * p.val = _; rw [(index1 t).1]; omega
  · show win0_1.index t 1 * 512 + 1 * q.val = _; rw [(index1 t).2]; omega

theorem block2 (t : Fin cfg0.N) (p : Fin 2048) (q : Fin 512) : (iblk m c 2 t : S2048x512.Idx → EReal) (ix2 p q) = C m c p.val (t.val % 11 * 512 + q.val) := by
  unfold iblk
  rw [View.read_apply]
  refine (congrFun (V2 m c) _).trans (ent_at _ ?_ ?_)
  · show win0_2.index t 0 * 2048 + 1 * p.val = _; rw [(index2 t).1]; omega
  · show win0_2.index t 1 * 512 + 1 * q.val = _; rw [(index2 t).2]; omega

/-! The point that writes an entry of the results. -/
section
variable (i : S2048x5632.Idx)
theorem point_lt : (i 1).val / 512 < cfg0.N := by have h1 : (i 1).val < 5632 := (i 1).isLt; show _ < 11; omega
abbrev point : Fin cfg0.N := ⟨(i 1).val / 512, point_lt i⟩
abbrev inner : S2048x512.Idx := ix2 (n0 := 2048) (n1 := 512) (i 0) ⟨(i 1).val % 512, Nat.mod_lt _ (by decide)⟩
theorem row_eq : (point i).val / 11 * 2048 + (i 0).val = (i 0).val := by
  have h1 : (i 1).val < 5632 := (i 1).isLt; show (i 1).val / 512 / 11 * 2048 + _ = _; omega
theorem col_eq : (point i).val % 11 * 512 + (i 1).val % 512 = (i 1).val := by
  have h1 : (i 1).val < 5632 := (i 1).isLt; show (i 1).val / 512 % 11 * 512 + _ = _; omega
end

theorem emb3 (i : S2048x5632.Idx) : ((cfg0.win 3).blk (point i)).view.emb (inner i) = i := by
  funext a
  match a with
  | ⟨0, _⟩ => exact Fin.ext ((congrArg (· * 2048 + 1 * (i 0).val) (index3 (point i)).1).trans ((congrArg _ (Nat.one_mul _)).trans (row_eq i)))
  | ⟨1, _⟩ => exact Fin.ext ((congrArg (· * 512 + 1 * ((i 1).val % 512)) (index3 (point i)).2).trans ((congrArg _ (Nat.one_mul _)).trans (col_eq i)))

theorem array3 (i : S2048x5632.Idx) : ((dats m 0 c).arrAt 3 cfg0.N : S2048x5632.Idx → EReal) i = nn 2048 (A m c) (B m c) (i 0).val (i 1).val := by
  have hb := congrFun (blocks3 m c (point i) (flush0_3 _)) (inner i)
  rw [View.read_apply, flushed3, emb3] at hb
  exact hb.trans ((gate_out _ (X := fun p q => A m c (_ + p) q) (Y := fun p q => B m c p (_ + q)) (block0 m c (point i)) (block1 m c (point i))).trans (congrArg₂ (nn 2048 (A m c) (B m c)) (row_eq i) (col_eq i)))

theorem emb4 (i : S2048x5632.Idx) : ((cfg0.win 4).blk (point i)).view.emb (inner i) = i := by
  funext a
  match a with
  | ⟨0, _⟩ => exact Fin.ext ((congrArg (· * 2048 + 1 * (i 0).val) (index4 (point i)).1).trans ((congrArg _ (Nat.one_mul _)).trans (row_eq i)))
  | ⟨1, _⟩ => exact Fin.ext ((congrArg (· * 512 + 1 * ((i 1).val % 512)) (index4 (point i)).2).trans ((congrArg _ (Nat.one_mul _)).trans (col_eq i)))

theorem array4 (i : S2048x5632.Idx) : ((dats m 0 c).arrAt 4 cfg0.N : S2048x5632.Idx → EReal) i = nn 2048 (A m c) (C m c) (i 0).val (i 1).val := by
  have hb := congrFun (blocks4 m c (point i) (flush0_4 _)) (inner i)
  rw [View.read_apply, flushed4, emb4] at hb
  exact hb.trans ((up_out _ (X := fun p q => A m c (_ + p) q) (Z := fun p q => C m c p (_ + q)) (block0 m c (point i)) (block2 m c (point i))).trans (congrArg₂ (nn 2048 (A m c) (C m c)) (row_eq i) (col_eq i)))

theorem emb5 (i : S2048x5632.Idx) : ((cfg0.win 5).blk (point i)).view.emb (inner i) = i := by
  funext a
  match a with
  | ⟨0, _⟩ => exact Fin.ext ((congrArg (· * 2048 + 1 * (i 0).val) (index5 (point i)).1).trans ((congrArg _ (Nat.one_mul _)).trans (row_eq i)))
  | ⟨1, _⟩ => exact Fin.ext ((congrArg (· * 512 + 1 * ((i 1).val % 512)) (index5 (point i)).2).trans ((congrArg _ (Nat.one_mul _)).trans (col_eq i)))

theorem array5 (i : S2048x5632.Idx) : ((dats m 0 c).arrAt 5 cfg0.N : S2048x5632.Idx → EReal) i = gated (A m c) (B m c) (C m c) (i 0).val (i 1).val := by
  have hb := congrFun (blocks5 m c (point i) (flush0_5 _)) (inner i)
  rw [View.read_apply, flushed5, emb5] at hb
  exact hb.trans ((gated_out _ (X := fun p q => A m c (_ + p) q) (Y := fun p q => B m c p (_ + q)) (Z := fun p q => C m c p (_ + q)) (block0 m c (point i)) (block1 m c (point i)) (block2 m c (point i))).trans (congrArg₂ (gated (A m c) (B m c) (C m c)) (row_eq i) (col_eq i)))

/-! ## The reference -/

open Cert.GateUpRefIdeal.Read in
theorem ref0 (x0 : (⟨S2048x2048, .f32⟩ : BufTy).Contents (Elt Ideal)) (x1 : (⟨S2048x5632, .f32⟩ : BufTy).Contents (Elt Ideal)) (i : S2048x5632.Idx) :
    val_main_v0 (F := Ideal) x0 x1 i = nn 2048 (ent (a := 2048) (b := 2048) x0) (ent (a := 2048) (b := 5632) x1) (i 0).val (i 1).val :=
  (val_main_v0_apply x0 x1 i).trans (Finset.sum_congr rfl fun k _ => congrArg₂ (· * ·) (ent_at _ rfl rfl) (ent_at _ rfl rfl))

open Cert.GateUpRefIdeal.Read in
theorem ref1 (x0 : (⟨S2048x2048, .f32⟩ : BufTy).Contents (Elt Ideal)) (x2 : (⟨S2048x5632, .f32⟩ : BufTy).Contents (Elt Ideal)) (i : S2048x5632.Idx) :
    val_main_v1 (F := Ideal) x0 x2 i = nn 2048 (ent (a := 2048) (b := 2048) x0) (ent (a := 2048) (b := 5632) x2) (i 0).val (i 1).val :=
  (val_main_v1_apply x0 x2 i).trans (Finset.sum_congr rfl fun k _ => congrArg₂ (· * ·) (ent_at _ rfl rfl) (ent_at _ rfl rfl))

open Cert.GateUpRefIdeal.Read in
theorem ref6 (x0 : (⟨S2048x2048, .f32⟩ : BufTy).Contents (Elt Ideal)) (x1 x2 : (⟨S2048x5632, .f32⟩ : BufTy).Contents (Elt Ideal)) (i : S2048x5632.Idx) :
    val_main_v6 (F := Ideal) x0 x1 x2 i
      = gated (ent (a := 2048) (b := 2048) x0) (ent (a := 2048) (b := 5632) x1) (ent (a := 2048) (b := 5632) x2) (i 0).val (i 1).val := by
  have e : val_main_v6 (F := Ideal) x0 x1 x2 i
      = val_main_v0 (F := Ideal) x0 x1 i * Ideal.logistic (val_main_v0 (F := Ideal) x0 x1 i) * val_main_v1 (F := Ideal) x0 x2 i := by
    rw [val_main_v6_apply, val_main_v5_apply, val_main_v4_apply, val_main_call0_v5_apply, val_main_call0_v4_apply, val_main_call0_cst_0_apply,
      val_main_call0_v3_apply, val_main_call0_v2_apply, val_main_call0_cst_apply, val_main_call0_v1_apply, val_main_call0_v0_apply]
    show val_main_v0 (F := Ideal) x0 x1 i * Ideal.div (Ideal.ofBits .f32 0x3F800000#32) (Ideal.ofBits .f32 0x3F800000#32 + Ideal.exp (-val_main_v0 (F := Ideal) x0 x1 i)) * val_main_v1 (F := Ideal) x0 x2 i = _
    rw [one_bits]
    rfl
  rw [e, ref0, ref1]
  rfl

theorem algebraic : Cert.algebraic_GateUpIdeal_GateUpRefIdeal (hGateUpIdeal := Cert.GateUpIdeal.Gen.facts) (hGateUpRefIdeal := Cert.GateUpRefIdeal.Gen.facts) := by
  intro m g m' g' _ hargs
  refine ⟨fun c => (dats m 0 c).arrAt 3 cfg0.N, fun c => (dats m 0 c).arrAt 4 cfg0.N, fun c => (dats m 0 c).arrAt 5 cfg0.N, run_blocks m g, ?_⟩
  refine (θ_run Cert.GateUpRefIdeal.defs _ _).mono (fun r h c => ?_) (Cert.GateUpRefIdeal.Value.run (F := Ideal) m' g')
  obtain ⟨e0, e1, e2, ea⟩ := h c
  obtain ⟨a0, a1, a2⟩ := hargs c
  refine ⟨(e0.trans (Cert.GateUpRefIdeal.Read.val_main_v2_eq _ _)).trans (funext fun i => ?_),
    (e1.trans (Cert.GateUpRefIdeal.Read.val_main_v3_eq _ _)).trans (funext fun i => ?_),
    (e2.trans (Cert.GateUpRefIdeal.Read.val_main_v6_eq _ _ _)).trans (funext fun i => ?_), ea⟩
  · rw [a0, a1]
    exact (ref0 _ _ i).trans (array3 m c i).symm
  · rw [a0, a2]
    exact (ref1 _ _ i).trans (array4 m c i).symm
  · rw [a0, a1, a2]
    exact (ref6 _ _ _ i).trans (array5 m c i).symm

end Cert.GateUpIdeal.Val

end
-- ==== Proof.ValDown.lean ====
/- The second feed-forward product: the array that the kernel leaves is the product that the
   reference computes. -/
module

public import proofs.«01_k».proof.Proof.Prod
public import proofs.«01_k».proof.Proof.Gen.DownIdeal.Value
public import proofs.«01_k».proof.Proof.Gen.DownRefIdeal.Run
public import proofs.«01_k».proof.Proof.Gen.DownRefIdeal.Read
public import proofs.«01_k».proof.Defs

@[expose] public section

set_option maxRecDepth 16384

noncomputable section

namespace Cert.DownIdeal.Val

open Cert.DownIdeal Cert.DownIdeal.Gen Cert.DownIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 5632) (m ((c : Thread nD τ).loc main_arg0))
abbrev B : ℕ → ℕ → EReal := ent (a := 5632) (b := 2048) (m ((c : Thread nD τ).loc main_arg1))

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem V0 : (V m c main_v0 : S2048x5632.Idx → EReal) = m ((c : Thread nD τ).loc main_arg0) := by
  show StableHlo.after _ _ (Proc.devRef .tc main_v0) = _
  after_results
  rfl

theorem V1 : (V m c main_v1 : S5632x2048.Idx → EReal) = m ((c : Thread nD τ).loc main_arg1) := by
  show StableHlo.after _ _ (Proc.devRef .tc main_v1) = _
  after_results
  rfl

theorem block0 (t : Fin cfg0.N) (p : Fin 1024) (q : Fin 5632) : (iblk m c 0 t : S1024x5632.Idx → EReal) (ix2 p q) = A m c (t.val / 4 * 1024 + p.val) q.val := by
  unfold iblk
  rw [View.read_apply]
  refine (congrFun (V0 m c) _).trans (ent_at _ ?_ ?_)
  · show win0_0.index t 0 * 1024 + 1 * p.val = _; rw [(index0 t).1]; omega
  · show win0_0.index t 1 * 5632 + 1 * q.val = _; rw [(index0 t).2]; omega

theorem block1 (t : Fin cfg0.N) (p : Fin 5632) (q : Fin 512) : (iblk m c 1 t : S5632x512.Idx → EReal) (ix2 p q) = B m c p.val (t.val % 4 * 512 + q.val) := by
  unfold iblk
  rw [View.read_apply]
  refine (congrFun (V1 m c) _).trans (ent_at _ ?_ ?_)
  · show win0_1.index t 0 * 5632 + 1 * p.val = _; rw [(index1 t).1]; omega
  · show win0_1.index t 1 * 512 + 1 * q.val = _; rw [(index1 t).2]; omega

theorem out (x0 : Vec Ideal S1024x5632 .bf16) (x1 : Vec Ideal S5632x512 .bf16) : out0_2 x0 x1
    = matmul (φ₁ := .bf16) (φ₂ := .bf16) (DotDims.plain 1024 5632 512) none x0 x1 (constant (F := Ideal) ⟨2, ![1024, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x2048.Idx) : ((dats m 0 c).arrAt 2 cfg0.N : S2048x2048.Idx → EReal) i = nn 5632 (A m c) (B m c) (i 0).val (i 1).val := by
  have h0 : (i 0).val < 2048 := (i 0).isLt
  have h1 : (i 1).val < 2048 := (i 1).isLt
  have hN : (i 0).val / 1024 * 4 + (i 1).val / 512 < cfg0.N := by show _ < 8; omega
  have hp : (i 0).val % 1024 < 1024 := Nat.mod_lt _ (by decide)
  have hq : (i 1).val % 512 < 512 := Nat.mod_lt _ (by decide)
  have e0 : ((i 0).val / 1024 * 4 + (i 1).val / 512) / 4 * 1024 + (i 0).val % 1024 = (i 0).val := by omega
  have e1 : ((i 0).val / 1024 * 4 + (i 1).val / 512) % 4 * 512 + (i 1).val % 512 = (i 1).val := by omega
  have hb := congrFun (blocks2 m c ⟨(i 0).val / 1024 * 4 + (i 1).val / 512, hN⟩ (flush0_2 _)) (ix2 (n0 := 1024) (n1 := 512) ⟨(i 0).val % 1024, hp⟩ ⟨(i 1).val % 512, hq⟩)
  rw [View.read_apply, flushed2, out] at hb
  have he : ((cfg0.win 2).blk ⟨(i 0).val / 1024 * 4 + (i 1).val / 512, hN⟩).view.emb (ix2 (n0 := 1024) (n1 := 512) ⟨(i 0).val % 1024, hp⟩ ⟨(i 1).val % 512, hq⟩) = i := by
    funext a
    match a with
    | ⟨0, _⟩ => exact Fin.ext ((congrArg (· * 1024 + 1 * ((i 0).val % 1024)) (index2 ⟨(i 0).val / 1024 * 4 + (i 1).val / 512, hN⟩).1).trans ((congrArg _ (Nat.one_mul _)).trans e0))
    | ⟨1, _⟩ => exact Fin.ext ((congrArg (· * 512 + 1 * ((i 1).val % 512)) (index2 ⟨(i 0).val / 1024 * 4 + (i 1).val / 512, hN⟩).2).trans ((congrArg _ (Nat.one_mul _)).trans e1))
  rw [he] at hb
  exact hb.trans ((nn_block none (block0 m c ⟨(i 0).val / 1024 * 4 + (i 1).val / 512, hN⟩) (block1 m c ⟨(i 0).val / 1024 * 4 + (i 1).val / 512, hN⟩) ⟨(i 0).val % 1024, hp⟩ ⟨(i 1).val % 512, hq⟩).trans (congrArg₂ (nn 5632 (A m c) (B m c)) e0 e1))

theorem algebraic : Cert.algebraic_DownIdeal_DownRefIdeal (hDownIdeal := Cert.DownIdeal.Gen.facts) (hDownRefIdeal := Cert.DownRefIdeal.Gen.facts) := by
  intro m g m' g' _ hargs
  refine ⟨fun c => (dats m 0 c).arrAt 2 cfg0.N, run_blocks m g, ?_⟩
  refine (θ_run Cert.DownRefIdeal.defs _ _).mono (fun r h c => ?_) (Cert.DownRefIdeal.Value.run (F := Ideal) m' g')
  obtain ⟨e, ea⟩ := h c
  refine ⟨((e.trans (Cert.DownRefIdeal.Read.val_main_v0_eq _ _)).trans (funext fun i => ?_)), ea⟩
  rw [(hargs c).1, (hargs c).2]
  refine (Cert.DownRefIdeal.Read.val_main_v0_apply _ _ i).trans (Eq.trans ?_ (array m c i).symm)
  exact Finset.sum_congr rfl fun k _ => congrArg₂ (· * ·) (ent_at _ rfl rfl) (ent_at _ rfl rfl)

end Cert.DownIdeal.Val

end
-- ==== Proof.ValProj.lean ====
/- The first projection: the array that the kernel leaves is the product that the
   reference computes. -/
module

public import proofs.«01_k».proof.Proof.Prod
public import proofs.«01_k».proof.Proof.Gen.ProjIdeal.Value
public import proofs.«01_k».proof.Proof.Gen.ProjRefIdeal.Run
public import proofs.«01_k».proof.Proof.Gen.ProjRefIdeal.Read
public import proofs.«01_k».proof.Defs

@[expose] public section

set_option maxRecDepth 16384

noncomputable section

namespace Cert.ProjIdeal.Val

open Cert.ProjIdeal Cert.ProjIdeal.Gen Cert.ProjIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 2048) (m ((c : Thread nD τ).loc main_arg0))
abbrev B : ℕ → ℕ → EReal := ent (a := 2048) (b := 5120) (m ((c : Thread nD τ).loc main_arg1))

theorem index0 : ∀ t : Fin cfg0.N, win0_0.index t 0 = t.val / 10 ∧ win0_0.index t 1 = 0 :=
  (by decide +kernel : ∀ t : Fin grid0.N, win0_0.index t 0 = t.val / 10 ∧ win0_0.index t 1 = 0)
theorem index1 : ∀ t : Fin cfg0.N, win0_1.index t 0 = 0 ∧ win0_1.index t 1 = t.val % 10 :=
  (by decide +kernel : ∀ t : Fin grid0.N, win0_1.index t 0 = 0 ∧ win0_1.index t 1 = t.val % 10)
theorem index2 : ∀ t : Fin cfg0.N, win0_2.index t 0 = t.val / 10 ∧ win0_2.index t 1 = t.val % 10 :=
  (by decide +kernel : ∀ t : Fin grid0.N, win0_2.index t 0 = t.val / 10 ∧ win0_2.index t 1 = t.val % 10)

theorem V0 : (V m c main_v0 : S2048x2048.Idx → EReal) = m ((c : Thread nD τ).loc main_arg0) := by
  show StableHlo.after _ _ (Proc.devRef .tc main_v0) = _
  after_results
  rfl

theorem V1 : (V m c main_v1 : S2048x5120.Idx → EReal) = m ((c : Thread nD τ).loc main_arg1) := by
  show StableHlo.after _ _ (Proc.devRef .tc main_v1) = _
  after_results
  rfl

theorem block0 (t : Fin cfg0.N) (p : Fin 2048) (q : Fin 2048) : (iblk m c 0 t : S2048x2048.Idx → EReal) (ix2 p q) = A m c (t.val / 10 * 2048 + p.val) q.val := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 2048) (q : Fin 512) : (iblk m c 1 t : S2048x512.Idx → EReal) (ix2 p q) = B m c p.val (t.val % 10 * 512 + q.val) := by
  unfold iblk
  rw [View.read_apply]
  refine (congrFun (V1 m c) _).trans (ent_at _ ?_ ?_)
  · show win0_1.index t 0 * 2048 + 1 * p.val = _; rw [(index1 t).1]; omega
  · show win0_1.index t 1 * 512 + 1 * q.val = _; rw [(index1 t).2]; omega

theorem out (x0 : Vec Ideal S2048x2048 .bf16) (x1 : Vec Ideal S2048x512 .bf16) : out0_2 x0 x1
    = matmul (φ₁ := .bf16) (φ₂ := .bf16) (DotDims.plain 2048 2048 512) none x0 x1 (constant (F := Ideal) ⟨2, ![2048, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x5120.Idx) : ((dats m 0 c).arrAt 2 cfg0.N : S2048x5120.Idx → EReal) i = nn 2048 (A m c) (B m c) (i 0).val (i 1).val := by
  have h0 : (i 0).val < 2048 := (i 0).isLt
  have h1 : (i 1).val < 5120 := (i 1).isLt
  have hN : (i 0).val / 2048 * 10 + (i 1).val / 512 < cfg0.N := by show _ < 10; omega
  have hp : (i 0).val % 2048 < 2048 := Nat.mod_lt _ (by decide)
  have hq : (i 1).val % 512 < 512 := Nat.mod_lt _ (by decide)
  have e0 : ((i 0).val / 2048 * 10 + (i 1).val / 512) / 10 * 2048 + (i 0).val % 2048 = (i 0).val := by omega
  have e1 : ((i 0).val / 2048 * 10 + (i 1).val / 512) % 10 * 512 + (i 1).val % 512 = (i 1).val := by omega
  have hb := congrFun (blocks2 m c ⟨(i 0).val / 2048 * 10 + (i 1).val / 512, hN⟩ (flush0_2 _)) (ix2 (n0 := 2048) (n1 := 512) ⟨(i 0).val % 2048, hp⟩ ⟨(i 1).val % 512, hq⟩)
  rw [View.read_apply, flushed2, out] at hb
  have he : ((cfg0.win 2).blk ⟨(i 0).val / 2048 * 10 + (i 1).val / 512, hN⟩).view.emb (ix2 (n0 := 2048) (n1 := 512) ⟨(i 0).val % 2048, hp⟩ ⟨(i 1).val % 512, hq⟩) = i := by
    funext a
    match a with
    | ⟨0, _⟩ => exact Fin.ext ((congrArg (· * 2048 + 1 * ((i 0).val % 2048)) (index2 ⟨(i 0).val / 2048 * 10 + (i 1).val / 512, hN⟩).1).trans ((congrArg _ (Nat.one_mul _)).trans e0))
    | ⟨1, _⟩ => exact Fin.ext ((congrArg (· * 512 + 1 * ((i 1).val % 512)) (index2 ⟨(i 0).val / 2048 * 10 + (i 1).val / 512, hN⟩).2).trans ((congrArg _ (Nat.one_mul _)).trans e1))
  rw [he] at hb
  exact hb.trans ((nn_block none (block0 m c ⟨(i 0).val / 2048 * 10 + (i 1).val / 512, hN⟩) (block1 m c ⟨(i 0).val / 2048 * 10 + (i 1).val / 512, hN⟩) ⟨(i 0).val % 2048, hp⟩ ⟨(i 1).val % 512, hq⟩).trans (congrArg₂ (nn 2048 (A m c) (B m c)) e0 e1))

theorem algebraic : Cert.algebraic_ProjIdeal_ProjRefIdeal (hProjIdeal := Cert.ProjIdeal.Gen.facts) (hProjRefIdeal := Cert.ProjRefIdeal.Gen.facts) := by
  intro m g m' g' _ hargs
  refine ⟨fun c => (dats m 0 c).arrAt 2 cfg0.N, run_blocks m g, ?_⟩
  refine (θ_run Cert.ProjRefIdeal.defs _ _).mono (fun r h c => ?_) (Cert.ProjRefIdeal.Value.run (F := Ideal) m' g')
  obtain ⟨e, ea⟩ := h c
  refine ⟨((e.trans (Cert.ProjRefIdeal.Read.val_main_v0_eq _ _)).trans (funext fun i => ?_)), ea⟩
  rw [(hargs c).1, (hargs c).2]
  refine (Cert.ProjRefIdeal.Read.val_main_v0_apply _ _ i).trans (Eq.trans ?_ (array m c i).symm)
  exact Finset.sum_congr rfl fun k _ => congrArg₂ (· * ·) (ent_at _ rfl rfl) (ent_at _ rfl rfl)

end Cert.ProjIdeal.Val

end
-- ==== Proof.ValAttnOut.lean ====
/- The output projection: the array that the kernel leaves is the product that the
   reference computes. -/
module

public import proofs.«01_k».proof.Proof.Prod
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Defs

@[expose] public section

set_option maxRecDepth 16384

noncomputable section

namespace Cert.AttnOutIdeal.Val

open Cert.AttnOutIdeal Cert.AttnOutIdeal.Gen Cert.AttnOutIdeal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the two arguments. -/
abbrev A : ℕ → ℕ → EReal := ent (a := 2048) (b := 2048) (m ((c : Thread nD τ).loc main_arg0))
abbrev B : ℕ → ℕ → EReal := ent (a := 2048) (b := 2048) (m ((c : Thread nD τ).loc main_arg1))

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = 0 ∧ win0_1.index t 1 = t.val % 4 :=
  (by decide +kernel : ∀ t : Fin grid0.N, win0_1.index t 0 = 0 ∧ win0_1.index t 1 = t.val % 4)
theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem V0 : (V m c main_v0 : S2048x2048.Idx → EReal) = m ((c : Thread nD τ).loc main_arg0) := by
  show StableHlo.after _ _ (Proc.devRef .tc main_v0) = _
  after_results
  rfl

theorem V1 : (V m c main_v1 : S2048x2048.Idx → EReal) = m ((c : Thread nD τ).loc main_arg1) := by
  show StableHlo.after _ _ (Proc.devRef .tc main_v1) = _
  after_results
  rfl

theorem block0 (t : Fin cfg0.N) (p : Fin 2048) (q : Fin 2048) : (iblk m c 0 t : S2048x2048.Idx → EReal) (ix2 p q) = A m c (t.val / 4 * 2048 + p.val) q.val := by
  unfold iblk
  rw [View.read_apply]
  refine (congrFun (V0 m c) _).trans (ent_at _ ?_ ?_)
  · show win0_0.index t 0 * 2048 + 1 * p.val = _; rw [(index0 t).1]; omega
  · show win0_0.index t 1 * 2048 + 1 * q.val = _; rw [(index0 t).2]; omega

theorem block1 (t : Fin cfg0.N) (p : Fin 2048) (q : Fin 512) : (iblk m c 1 t : S2048x512.Idx → EReal) (ix2 p q) = B m c p.val (t.val % 4 * 512 + q.val) := by
  unfold iblk
  rw [View.read_apply]
  refine (congrFun (V1 m c) _).trans (ent_at _ ?_ ?_)
  · show win0_1.index t 0 * 2048 + 1 * p.val = _; rw [(index1 t).1]; omega
  · show win0_1.index t 1 * 512 + 1 * q.val = _; rw [(index1 t).2]; omega

theorem out (x0 : Vec Ideal S2048x2048 .bf16) (x1 : Vec Ideal S2048x512 .bf16) : out0_2 x0 x1
    = matmul (φ₁ := .bf16) (φ₂ := .bf16) (DotDims.plain 2048 2048 512) none x0 x1 (constant (F := Ideal) ⟨2, ![2048, 512]⟩ .f32 0x00000000#32) := by
  rw [out0_2, View.ld_unit_zero zero2, View.ld_unit_zero zero2]
  refine (View.canon_unit_zero zero2 _ _).trans ?_
  unfold k0_pay1
  rw [shapeCast_self, shapeCast_self]
  rfl

/-- The array that the kernel leaves. -/
theorem array (i : S2048x2048.Idx) : ((dats m 0 c).arrAt 2 cfg0.N : S2048x2048.Idx → EReal) i = nn 2048 (A m c) (B m c) (i 0).val (i 1).val := by
  have h0 : (i 0).val < 2048 := (i 0).isLt
  have h1 : (i 1).val < 2048 := (i 1).isLt
  have hN : (i 0).val / 2048 * 4 + (i 1).val / 512 < cfg0.N := by show _ < 4; omega
  have hp : (i 0).val % 2048 < 2048 := Nat.mod_lt _ (by decide)
  have hq : (i 1).val % 512 < 512 := Nat.mod_lt _ (by decide)
  have e0 : ((i 0).val / 2048 * 4 + (i 1).val / 512) / 4 * 2048 + (i 0).val % 2048 = (i 0).val := by omega
  have e1 : ((i 0).val / 2048 * 4 + (i 1).val / 512) % 4 * 512 + (i 1).val % 512 = (i 1).val := by omega
  have hb := congrFun (blocks2 m c ⟨(i 0).val / 2048 * 4 + (i 1).val / 512, hN⟩ (flush0_2 _)) (ix2 (n0 := 2048) (n1 := 512) ⟨(i 0).val % 2048, hp⟩ ⟨(i 1).val % 512, hq⟩)
  rw [View.read_apply, flushed2, out] at hb
  have he : ((cfg0.win 2).blk ⟨(i 0).val / 2048 * 4 + (i 1).val / 512, hN⟩).view.emb (ix2 (n0 := 2048) (n1 := 512) ⟨(i 0).val % 2048, hp⟩ ⟨(i 1).val % 512, hq⟩) = i := by
    funext a
    match a with
    | ⟨0, _⟩ => exact Fin.ext ((congrArg (· * 2048 + 1 * ((i 0).val % 2048)) (index2 ⟨(i 0).val / 2048 * 4 + (i 1).val / 512, hN⟩).1).trans ((congrArg _ (Nat.one_mul _)).trans e0))
    | ⟨1, _⟩ => exact Fin.ext ((congrArg (· * 512 + 1 * ((i 1).val % 512)) (index2 ⟨(i 0).val / 2048 * 4 + (i 1).val / 512, hN⟩).2).trans ((congrArg _ (Nat.one_mul _)).trans e1))
  rw [he] at hb
  exact hb.trans ((nn_block none (block0 m c ⟨(i 0).val / 2048 * 4 + (i 1).val / 512, hN⟩) (block1 m c ⟨(i 0).val / 2048 * 4 + (i 1).val / 512, hN⟩) ⟨(i 0).val % 2048, hp⟩ ⟨(i 1).val % 512, hq⟩).trans (congrArg₂ (nn 2048 (A m c) (B m c)) e0 e1))

theorem algebraic : Cert.algebraic_AttnOutIdeal_AttnOutRefIdeal (hAttnOutIdeal := Cert.AttnOutIdeal.Gen.facts) (hAttnOutRefIdeal := Cert.AttnOutRefIdeal.Gen.facts) := by
  intro m g m' g' _ hargs
  refine ⟨fun c => (dats m 0 c).arrAt 2 cfg0.N, run_blocks m g, ?_⟩
  refine (θ_run Cert.AttnOutRefIdeal.defs _ _).mono (fun r h c => ?_) (Cert.AttnOutRefIdeal.Value.run (F := Ideal) m' g')
  obtain ⟨e, ea⟩ := h c
  refine ⟨((e.trans (Cert.AttnOutRefIdeal.Read.val_main_v0_eq _ _)).trans (funext fun i => ?_)), ea⟩
  rw [(hargs c).1, (hargs c).2]
  refine (Cert.AttnOutRefIdeal.Read.val_main_v0_apply _ _ i).trans (Eq.trans ?_ (array m c i).symm)
  exact Finset.sum_congr rfl fun k _ => congrArg₂ (· * ·) (ent_at _ rfl rfl) (ent_at _ rfl rfl)

end Cert.AttnOutIdeal.Val

end
-- ==== Proof.Modulated.lean ====
/- The modulated norm of rows of 2048 entries, read entry by entry. Nothing here asks that an entry be finite. -/
module

public import proofs.«01_k».proof.Proof.Prod

@[expose] public section

noncomputable section

namespace Cert.Proof

open Idealize.ShloMosaic Idealize.ShloMosaic.ValueIdx
open scoped BigOperators

/-- The reciprocal root of the shifted mean square of a row. -/
def root (X : ℕ → ℕ → EReal) (i : ℕ) : EReal :=
  Ideal.rsqrt (Ideal.div (∑ k : Fin 2048, X i k.val * X i k.val) (Ideal.ofBits .f32 0x45000000#32) + Ideal.ofBits .f32 0x358637BD#32)

/-- The normalised row with its gain, scaled and shifted. -/
def modulated (X : ℕ → ℕ → EReal) (g s b : ℕ → EReal) (i j : ℕ) : EReal :=
  X i j * root X i * g j * (Ideal.ofBits .f32 0x3F800000#32 + s j) + b j

theorem col_at {n m : ℕ} {e : Type} (v : (⟨2, ![n, 1]⟩ : Shape).Idx → e) (hn : n ≠ 1) (hb : (⟨2, ![n, 1]⟩ : Shape).Broadcasts ⟨2, ![n, m]⟩)
    (i : Fin n) (j : Fin m) : broadcastTo ⟨2, ![n, m]⟩ v hb (ix2 i j) = v (ix2 i 0) :=
  broadcastTo_apply v hb (ix2 i j) (ix2 i 0) fun x => match x with
    | ⟨0, _⟩ => (if_neg hn).symm
    | ⟨1, _⟩ => rfl

theorem row_at {n m : ℕ} {e : Type} (v : (⟨2, ![1, m]⟩ : Shape).Idx → e) (hm : m ≠ 1) (hb : (⟨2, ![1, m]⟩ : Shape).Broadcasts ⟨2, ![n, m]⟩)
    (i : Fin n) (j : Fin m) : broadcastTo ⟨2, ![n, m]⟩ v hb (ix2 i j) = v (ix2 0 j) :=
  broadcastTo_apply v hb (ix2 i j) (ix2 0 j) fun x => match x with
    | ⟨0, _⟩ => rfl
    | ⟨1, _⟩ => (if_neg hm).symm

theorem rowSum_at {n m : ℕ} (v : FVec Ideal ⟨2, ![n, m]⟩ .f32) (acc : BitVec 32) (hr : (⟨2, ![n, m]⟩ : Shape).Reduces [1] ⟨1, ![n]⟩)
    (hφ : FKind.Formats .f32) (hacc : acc = FKind.add.neutral .f32 hφ) (hc : (⟨1, ![n]⟩ : Shape).ShapeCasts ⟨2, ![n, 1]⟩) (i : Fin n) :
    shapeCast ⟨2, ![n, 1]⟩ (multiReduction .add [1] ⟨1, ![n]⟩ v acc hr hφ hacc) hc (ix2 i 0) = ∑ k : Fin m, v (ix2 i k) := by
  rw [shapeCast_apply _ hc (ix2 i 0) (ix1 i), Ideal.multiReduction_add_single]
  · refine Finset.sum_congr rfl fun k _ => congrArg v ?_
    funext x; apply Fin.ext
    match x with
    | ⟨0, _⟩ => rfl
    | ⟨1, _⟩ => rfl
  · rw [Shape.rowMajor_val_one, Shape.rowMajor_val_two]
    show i.val = i.val * 1 + 0
    omega

section
variable {n : ℕ} (v : FVec Ideal ⟨2, ![n, 2048]⟩ .f32) (g s b : FVec Ideal ⟨2, ![1, 2048]⟩ .f32) (hr : (⟨2, ![n, 2048]⟩ : Shape).Reduces [1] ⟨1, ![n]⟩)
  (hc : (⟨1, ![n]⟩ : Shape).ShapeCasts ⟨2, ![n, 1]⟩) (hb : (⟨2, ![n, 1]⟩ : Shape).Broadcasts ⟨2, ![n, 2048]⟩)
  (hb' : (⟨2, ![1, 2048]⟩ : Shape).Broadcasts ⟨2, ![n, 2048]⟩)

/-- The roots of the rows of a block, as a column. -/
def roots : FVec Ideal ⟨2, ![n, 1]⟩ .f32 :=
  rsqrt (addf (divf (shapeCast ⟨2, ![n, 1]⟩ (multiReduction .add [1] ⟨1, ![n]⟩ (mulf v v) 0x00000000#32 hr (.inl rfl) rfl) hc)
    (broadcast ⟨2, ![n, 1]⟩ (Scalar.ofBits .f32 0x45000000#32))) (broadcast ⟨2, ![n, 1]⟩ (Scalar.ofBits .f32 0x358637BD#32)))

/-- The modulated norm of a block of rows. -/
def modulate : FVec Ideal ⟨2, ![n, 2048]⟩ .f32 :=
  addf (mulf (mulf (mulf v (broadcastTo ⟨2, ![n, 2048]⟩ (roots v hr hc) hb)) (broadcastTo ⟨2, ![n, 2048]⟩ g hb'))
    (broadcastTo ⟨2, ![n, 2048]⟩ (addf (broadcast ⟨2, ![1, 2048]⟩ (Scalar.ofBits .f32 0x3F800000#32)) s) hb')) (broadcastTo ⟨2, ![n, 2048]⟩ b hb')

variable {v g s b} {X : ℕ → ℕ → EReal} {G S B : ℕ → EReal} {f : Fin n → ℕ}

theorem modulate_at (hn : n ≠ 1) (hv : ∀ p q, v (ix2 p q) = X (f p) q.val) (hg : ∀ q, g (ix2 0 q) = G q.val) (hs : ∀ q, s (ix2 0 q) = S q.val)
    (hbb : ∀ q, b (ix2 0 q) = B q.val) (p : Fin n) (q : Fin 2048) :
    modulate v g s b hr hc hb hb' (ix2 p q) = modulated X G S B (f p) q.val := by
  have e : roots v hr hc (ix2 p 0) = root X (f p) := by
    refine congrArg (fun y => Ideal.rsqrt (Ideal.div y _ + _)) ((rowSum_at (mulf v v) _ hr _ rfl hc p).trans (Finset.sum_congr rfl fun k _ => ?_))
    exact congrArg₂ (· * ·) (hv p k) (hv p k)
  refine congrArg₂ (· + ·) (congrArg₂ (· * ·) (congrArg₂ (· * ·) (congrArg₂ (· * ·) (hv p q) ?_) ?_) ?_) ?_
  · exact (col_at _ hn hb p q).trans e
  · exact (row_at _ (by decide) hb' p q).trans (hg q)
  · exact (row_at _ (by decide) hb' p q).trans (congrArg (_ + ·) (hs q))
  · exact (row_at _ (by decide) hb' p q).trans (hbb q)

end

end Cert.Proof

end
-- ==== Proof.ValNorm1.lean ====
/- The modulated norm before the two mixers: the array that the kernel leaves is the one that the reference computes. -/
module

public import proofs.«01_k».proof.Proof.Modulated
public import proofs.«01_k».proof.Proof.Gen.Norm1Ideal.Value
public import proofs.«01_k».proof.Proof.Gen.Norm1RefIdeal.Run
public import proofs.«01_k».proof.Proof.Gen.Norm1RefIdeal.Read
public import proofs.«01_k».proof.Defs

@[expose] public section

set_option maxRecDepth 16384

noncomputable section

namespace Cert.Norm1Ideal.Val

open Cert.Norm1Ideal Cert.Norm1Ideal.Gen Cert.Norm1Ideal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the arguments. -/
abbrev X : ℕ → ℕ → EReal := ent (a := 2048) (b := 2048) (m ((c : Thread nD τ).loc main_arg0))
abbrev G : ℕ → EReal := ent (a := 1) (b := 2048) (m ((c : Thread nD τ).loc main_arg1)) 0
abbrev S : ℕ → EReal := ent (a := 1) (b := 2048) (m ((c : Thread nD τ).loc main_arg2)) 0
abbrev B : ℕ → EReal := ent (a := 1) (b := 2048) (m ((c : Thread nD τ).loc main_arg3)) 0

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

theorem block0 (t : Fin cfg0.N) (p : Fin 256) (q : Fin 2048) : (iblk m c 0 t : S256x2048.Idx → EReal) (ix2 p q) = X m c (t.val * 256 + p.val) q.val := by
  unfold iblk
  rw [View.read_apply]
  refine (congrFun (V_main_arg0 m c) _).trans (ent_at _ ?_ ?_)
  · show win0_0.index t 0 * 256 + 1 * p.val = _; rw [(index0 t).1]; omega
  · show win0_0.index t 1 * 2048 + 1 * q.val = _; rw [(index0 t).2]; omega

theorem block1 (t : Fin cfg0.N) (q : Fin 2048) : (iblk m c 1 t : S1x2048.Idx → EReal) (ix2 0 q) = G m c q.val := by
  unfold iblk
  rw [View.read_apply]
  refine (congrFun (V_main_arg1 m c) _).trans (ent_at _ ?_ ?_)
  · show win0_1.index t 0 * 1 + 1 * 0 = _; rw [(index1 t).1]
  · show win0_1.index t 1 * 2048 + 1 * q.val = _; rw [(index1 t).2]; omega

theorem block2 (t : Fin cfg0.N) (q : Fin 2048) : (iblk m c 2 t : S1x2048.Idx → EReal) (ix2 0 q) = S m c q.val := by
  unfold iblk
  rw [View.read_apply]
  refine (congrFun (V_main_arg2 m c) _).trans (ent_at _ ?_ ?_)
  · show win0_2.index t 0 * 1 + 1 * 0 = _; rw [(index2 t).1]
  · show win0_2.index t 1 * 2048 + 1 * q.val = _; rw [(index2 t).2]; omega

theorem block3 (t : Fin cfg0.N) (q : Fin 2048) : (iblk m c 3 t : S1x2048.Idx → EReal) (ix2 0 q) = B m c q.val := by
  unfold iblk
  rw [View.read_apply]
  refine (congrFun (V_main_arg3 m c) _).trans (ent_at _ ?_ ?_)
  · show win0_3.index t 0 * 1 + 1 * 0 = _; rw [(index3 t).1]
  · show win0_3.index t 1 * 2048 + 1 * q.val = _; rw [(index3 t).2]; omega

abbrev value : ℕ → ℕ → EReal := modulated (X m c) (G m c) (S m c) (B m c)

theorem out (x0 : Vec Ideal S256x2048 .f32) (x1 x2 x3 : Vec Ideal S1x2048 .f32) : out0_4 x0 x1 x2 x3
    = modulate x0 x1 x2 x3 reduces_S256x2048_S256 shapeCasts_S256_S256x1 broadcasts_S256x1_S256x2048 broadcasts_S1x2048_S256x2048 := by
  rw [out0_4, View.ld_unit_zero zero2, View.ld_unit_zero zero2, View.ld_unit_zero zero2, View.ld_unit_zero zero2]
  exact View.canon_unit_zero zero2 _ _

theorem out_at (t : Fin cfg0.N) (p : Fin 256) (q : Fin 2048) : (out0_4 (F := Ideal) (iblk m c 0 t) (iblk m c 1 t) (iblk m c 2 t) (iblk m c 3 t) : S256x2048.Idx → EReal) (ix2 p q)
    = value m c (t.val * 256 + p.val) q.val :=
  (congrFun (out _ _ _ _) _).trans (modulate_at _ _ _ _ (by decide) (block0 m c t) (block1 m c t) (block2 m c t) (block3 m c t) p q)

/-- The array that the kernel leaves. -/
theorem array4 (i : S2048x2048.Idx) : ((dats m 0 c).arrAt 4 cfg0.N : S2048x2048.Idx → EReal) i = value m c (i 0).val (i 1).val := by
  have h0 : (i 0).val < 2048 := (i 0).isLt
  have h1 : (i 1).val < 2048 := (i 1).isLt
  have hN : (i 0).val / 256 < cfg0.N := by show _ < 8; omega
  have hp : (i 0).val % 256 < 256 := Nat.mod_lt _ (by decide)
  have e0 : (i 0).val / 256 * 256 + (i 0).val % 256 = (i 0).val := by omega
  have hb := congrFun (blocks4 m c ⟨(i 0).val / 256, hN⟩ (flush0_4 _)) (ix2 (n0 := 256) (n1 := 2048) ⟨(i 0).val % 256, hp⟩ ⟨(i 1).val, h1⟩)
  rw [View.read_apply, flushed4] at hb
  have he : ((cfg0.win 4).blk ⟨(i 0).val / 256, hN⟩).view.emb (ix2 (n0 := 256) (n1 := 2048) ⟨(i 0).val % 256, hp⟩ ⟨(i 1).val, h1⟩) = i := by
    funext a
    match a with
    | ⟨0, _⟩ => exact Fin.ext ((congrArg (· * 256 + 1 * ((i 0).val % 256)) (index4 ⟨(i 0).val / 256, hN⟩).1).trans ((congrArg _ (Nat.one_mul _)).trans e0))
    | ⟨1, _⟩ => exact Fin.ext ((congrArg (· * 2048 + 1 * (i 1).val) (index4 ⟨(i 0).val / 256, hN⟩).2).trans ((congrArg _ (Nat.one_mul _)).trans ((congrArg (· + (i 1).val) (Nat.zero_mul _)).trans (Nat.zero_add _))))
  rw [he] at hb
  refine hb.trans ?_
  refine (out_at m c ⟨(i 0).val / 256, hN⟩ ⟨(i 0).val % 256, hp⟩ ⟨(i 1).val, h1⟩).trans ?_
  show value m c ((i 0).val / 256 * 256 + (i 0).val % 256) (i 1).val = _
  rw [e0]

theorem reference (i : S2048x2048.Idx) : Cert.Norm1RefIdeal.Read.val_main_v18 (F := Ideal) (m ((c : Thread nD τ).loc main_arg0)) (m ((c : Thread nD τ).loc main_arg1))
    (m ((c : Thread nD τ).loc main_arg2)) (m ((c : Thread nD τ).loc main_arg3)) i = value m c (i 0).val (i 1).val := by
  refine congrArg₂ (· + ·) (congrArg₂ (· * ·) (congrArg₂ (· * ·) (congrArg₂ (· * ·) (ent_at _ rfl rfl) ?_) ?_) ?_) ?_
  · refine (Cert.Norm1RefIdeal.Read.val_main_v8_apply _ i).trans (congrArg Ideal.rsqrt (congrArg₂ (· + ·) (congrArg₂ Ideal.div ?_ ?_) ?_))
    · refine (Cert.Norm1RefIdeal.Read.val_main_v2_apply _ _).trans ((Cert.Norm1RefIdeal.Read.val_main_v1_apply _ _).trans
        ((congrArg (· + _) zero_bits).trans ((zero_add _).trans (Finset.sum_congr rfl fun k _ => ?_))))
      exact congrArg₂ (· * ·) (ent_at _ rfl rfl) (ent_at _ rfl rfl)
    · exact Cert.Norm1RefIdeal.Read.val_main_v3_apply _
    · exact Cert.Norm1RefIdeal.Read.val_main_v5_apply _
  · exact (Cert.Norm1RefIdeal.Read.val_main_v10_apply _ i).trans (ent_at _ rfl rfl)
  · exact (Cert.Norm1RefIdeal.Read.val_main_v14_apply _ i).trans (congrArg₂ (· + ·) (Cert.Norm1RefIdeal.Read.val_main_v12_apply _) (ent_at _ rfl rfl))
  · exact (Cert.Norm1RefIdeal.Read.val_main_v16_apply _ i).trans (ent_at _ rfl rfl)

theorem algebraic : Cert.algebraic_Norm1Ideal_Norm1RefIdeal (hNorm1Ideal := Cert.Norm1Ideal.Gen.facts) (hNorm1RefIdeal := Cert.Norm1RefIdeal.Gen.facts) := by
  intro m g m' g' _ hargs
  refine ⟨fun c => (dats m 0 c).arrAt 4 cfg0.N, run_blocks m g, ?_⟩
  refine (θ_run Cert.Norm1RefIdeal.defs _ _).mono (fun r h c => ?_) (Cert.Norm1RefIdeal.Value.run (F := Ideal) m' g')
  obtain ⟨e, ea⟩ := h c
  refine ⟨((e.trans (Cert.Norm1RefIdeal.Read.val_main_v18_eq _ _ _ _)).trans (funext fun i => ?_)), ea⟩
  rw [(hargs c).1, (hargs c).2.1, (hargs c).2.2.1, (hargs c).2.2.2]
  exact (reference m c i).trans (array4 m c i).symm

end Cert.Norm1Ideal.Val

end
-- ==== Proof.ValNorm2.lean ====
/- The residual of the mixers and the modulated norm before the feed-forward block: the two arrays that the kernel leaves
   are those that the reference computes. -/
module

public import proofs.«01_k».proof.Proof.Modulated
public import proofs.«01_k».proof.Proof.Gen.Norm2Ideal.Value
public import proofs.«01_k».proof.Proof.Gen.Norm2RefIdeal.Run
public import proofs.«01_k».proof.Proof.Gen.Norm2RefIdeal.Read
public import proofs.«01_k».proof.Defs

@[expose] public section

set_option maxRecDepth 16384

noncomputable section

namespace Cert.Norm2Ideal.Val

open Cert.Norm2Ideal Cert.Norm2Ideal.Gen Cert.Norm2Ideal.Value Cert.Proof
open Idealize.ShloMosaic Idealize.ShloMosaic.ValueIdx Idealize.ShloMosaic.TcCoe Idealize.ShloMosaic.Tactic Idealize.SL.Sem

variable (m : (ℓ : Loc nD τ sig) → Buf (Elt Ideal) ℓ) (c : Dev nD)

/-- The entries of the arguments. -/
abbrev X0 : ℕ → ℕ → EReal := ent (a := 2048) (b := 2048) (m ((c : Thread nD τ).loc main_arg0))
abbrev Y0 : ℕ → ℕ → EReal := ent (a := 2048) (b := 2048) (m ((c : Thread nD τ).loc main_arg1))
abbrev T : ℕ → EReal := ent (a := 1) (b := 2048) (m ((c : Thread nD τ).loc main_arg2)) 0
abbrev G : ℕ → EReal := ent (a := 1) (b := 2048) (m ((c : Thread nD τ).loc main_arg3)) 0
abbrev S : ℕ → EReal := ent (a := 1) (b := 2048) (m ((c : Thread nD τ).loc main_arg4)) 0
abbrev B : ℕ → EReal := ent (a := 1) (b := 2048) (m ((c : Thread nD τ).loc main_arg5)) 0

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)

theorem block0 (t : Fin cfg0.N) (p : Fin 256) (q : Fin 2048) : (iblk m c 0 t : S256x2048.Idx → EReal) (ix2 p q) = X0 m c (t.val * 256 + p.val) q.val := by
  unfold iblk
  rw [View.read_apply]
  refine (congrFun (V_main_arg0 m c) _).trans (ent_at _ ?_ ?_)
  · show win0_0.index t 0 * 256 + 1 * p.val = _; rw [(index0 t).1]; omega
  · show win0_0.index t 1 * 2048 + 1 * q.val = _; rw [(index0 t).2]; omega

theorem block1 (t : Fin cfg0.N) (p : Fin 256) (q : Fin 2048) : (iblk m c 1 t : S256x2048.Idx → EReal) (ix2 p q) = Y0 m c (t.val * 256 + p.val) q.val := by
  unfold iblk
  rw [View.read_apply]
  refine (congrFun (V_main_arg1 m c) _).trans (ent_at _ ?_ ?_)
  · show win0_1.index t 0 * 256 + 1 * p.val = _; rw [(index1 t).1]; omega
  · show win0_1.index t 1 * 2048 + 1 * q.val = _; rw [(index1 t).2]; omega

theorem block2 (t : Fin cfg0.N) (q : Fin 2048) : (iblk m c 2 t : S1x2048.Idx → EReal) (ix2 0 q) = T m c q.val := by
  unfold iblk
  rw [View.read_apply]
  refine (congrFun (V_main_arg2 m c) _).trans (ent_at _ ?_ ?_)
  · show win0_2.index t 0 * 1 + 1 * 0 = _; rw [(index2 t).1]
  · show win0_2.index t 1 * 2048 + 1 * q.val = _; rw [(index2 t).2]; omega

theorem block3 (t : Fin cfg0.N) (q : Fin 2048) : (iblk m c 3 t : S1x2048.Idx → EReal) (ix2 0 q) = G m c q.val := by
  unfold iblk
  rw [View.read_apply]
  refine (congrFun (V_main_arg3 m c) _).trans (ent_at _ ?_ ?_)
  · show win0_3.index t 0 * 1 + 1 * 0 = _; rw [(index3 t).1]
  · show win0_3.index t 1 * 2048 + 1 * q.val = _; rw [(index3 t).2]; omega

theorem block4 (t : Fin cfg0.N) (q : Fin 2048) : (iblk m c 4 t : S1x2048.Idx → EReal) (ix2 0 q) = S m c q.val := by
  unfold iblk
  rw [View.read_apply]
  refine (congrFun (V_main_arg4 m c) _).trans (ent_at _ ?_ ?_)
  · show win0_4.index t 0 * 1 + 1 * 0 = _; rw [(index4 t).1]
  · show win0_4.index t 1 * 2048 + 1 * q.val = _; rw [(index4 t).2]; omega

theorem block5 (t : Fin cfg0.N) (q : Fin 2048) : (iblk m c 5 t : S1x2048.Idx → EReal) (ix2 0 q) = B m c q.val := by
  unfold iblk
  rw [View.read_apply]
  refine (congrFun (V_main_arg5 m c) _).trans (ent_at _ ?_ ?_)
  · show win0_5.index t 0 * 1 + 1 * 0 = _; rw [(index5 t).1]
  · show win0_5.index t 1 * 2048 + 1 * q.val = _; rw [(index5 t).2]; omega

/-- The residual, and its modulated norm. -/
def X (i j : ℕ) : EReal := X0 m c i j + T m c j * Y0 m c i j
abbrev value : ℕ → ℕ → EReal := modulated (X m c) (G m c) (S m c) (B m c)

theorem out6 (x0 x1 : Vec Ideal S256x2048 .f32) (x2 x3 x4 x5 : Vec Ideal S1x2048 .f32) : out0_6 x0 x1 x2 x3 x4 x5 = k0_pay1 x0 x2 x1 := by
  rw [out0_6, View.ld_unit_zero zero2, View.ld_unit_zero zero2, View.ld_unit_zero zero2]
  exact View.canon_unit_zero zero2 _ _

theorem out7 (x0 x1 : Vec Ideal S256x2048 .f32) (x2 x3 x4 x5 : Vec Ideal S1x2048 .f32) : out0_7 x0 x1 x2 x3 x4 x5
    = modulate (k0_pay1 x0 x2 x1) x3 x4 x5 reduces_S256x2048_S256 shapeCasts_S256_S256x1 broadcasts_S256x1_S256x2048 broadcasts_S1x2048_S256x2048 := by
  rw [out0_7, View.ld_unit_zero zero2, View.ld_unit_zero zero2, View.ld_unit_zero zero2, View.ld_unit_zero zero2, View.ld_unit_zero zero2, View.ld_unit_zero zero2]
  exact View.canon_unit_zero zero2 _ _

theorem residual_at (t : Fin cfg0.N) (p : Fin 256) (q : Fin 2048) : k0_pay1 (F := Ideal) (iblk m c 0 t) (iblk m c 2 t) (iblk m c 1 t) (ix2 p q) = X m c (t.val * 256 + p.val) q.val :=
  congrArg₂ (· + ·) (block0 m c t p q) (congrArg₂ (· * ·) ((row_at _ (by decide) broadcasts_S1x2048_S256x2048 p q).trans (block2 m c t q)) (block1 m c t p q))

theorem out6_at (t : Fin cfg0.N) (p : Fin 256) (q : Fin 2048) :
    (out0_6 (F := Ideal) (iblk m c 0 t) (iblk m c 1 t) (iblk m c 2 t) (iblk m c 3 t) (iblk m c 4 t) (iblk m c 5 t) : S256x2048.Idx → EReal) (ix2 p q)
      = X m c (t.val * 256 + p.val) q.val :=
  (congrFun (out6 _ _ _ _ _ _) _).trans (residual_at m c t p q)

theorem out7_at (t : Fin cfg0.N) (p : Fin 256) (q : Fin 2048) :
    (out0_7 (F := Ideal) (iblk m c 0 t) (iblk m c 1 t) (iblk m c 2 t) (iblk m c 3 t) (iblk m c 4 t) (iblk m c 5 t) : S256x2048.Idx → EReal) (ix2 p q)
      = value m c (t.val * 256 + p.val) q.val :=
  (congrFun (out7 _ _ _ _ _ _) _).trans (modulate_at _ _ _ _ (by decide) (residual_at m c t) (block3 m c t) (block4 m c t) (block5 m c t) p q)

/-- The residual that the kernel leaves. -/
theorem array6 (i : S2048x2048.Idx) : ((dats m 0 c).arrAt 6 cfg0.N : S2048x2048.Idx → EReal) i = X m c (i 0).val (i 1).val := by
  have h0 : (i 0).val < 2048 := (i 0).isLt
  have h1 : (i 1).val < 2048 := (i 1).isLt
  have hN : (i 0).val / 256 < cfg0.N := by show _ < 8; omega
  have hp : (i 0).val % 256 < 256 := Nat.mod_lt _ (by decide)
  have e0 : (i 0).val / 256 * 256 + (i 0).val % 256 = (i 0).val := by omega
  have hb := congrFun (blocks6 m c ⟨(i 0).val / 256, hN⟩ (flush0_6 _)) (ix2 (n0 := 256) (n1 := 2048) ⟨(i 0).val % 256, hp⟩ ⟨(i 1).val, h1⟩)
  rw [View.read_apply, flushed6] at hb
  have he : ((cfg0.win 6).blk ⟨(i 0).val / 256, hN⟩).view.emb (ix2 (n0 := 256) (n1 := 2048) ⟨(i 0).val % 256, hp⟩ ⟨(i 1).val, h1⟩) = i := by
    funext a
    match a with
    | ⟨0, _⟩ => exact Fin.ext ((congrArg (· * 256 + 1 * ((i 0).val % 256)) (index6 ⟨(i 0).val / 256, hN⟩).1).trans ((congrArg _ (Nat.one_mul _)).trans e0))
    | ⟨1, _⟩ => exact Fin.ext ((congrArg (· * 2048 + 1 * (i 1).val) (index6 ⟨(i 0).val / 256, hN⟩).2).trans ((congrArg _ (Nat.one_mul _)).trans ((congrArg (· + (i 1).val) (Nat.zero_mul _)).trans (Nat.zero_add _))))
  rw [he] at hb
  refine hb.trans ?_
  refine (out6_at m c ⟨(i 0).val / 256, hN⟩ ⟨(i 0).val % 256, hp⟩ ⟨(i 1).val, h1⟩).trans ?_
  show X m c ((i 0).val / 256 * 256 + (i 0).val % 256) (i 1).val = _
  rw [e0]

/-- The modulated norm that the kernel leaves. -/
theorem array7 (i : S2048x2048.Idx) : ((dats m 0 c).arrAt 7 cfg0.N : S2048x2048.Idx → EReal) i = value m c (i 0).val (i 1).val := by
  have h0 : (i 0).val < 2048 := (i 0).isLt
  have h1 : (i 1).val < 2048 := (i 1).isLt
  have hN : (i 0).val / 256 < cfg0.N := by show _ < 8; omega
  have hp : (i 0).val % 256 < 256 := Nat.mod_lt _ (by decide)
  have e0 : (i 0).val / 256 * 256 + (i 0).val % 256 = (i 0).val := by omega
  have hb := congrFun (blocks7 m c ⟨(i 0).val / 256, hN⟩ (flush0_7 _)) (ix2 (n0 := 256) (n1 := 2048) ⟨(i 0).val % 256, hp⟩ ⟨(i 1).val, h1⟩)
  rw [View.read_apply, flushed7] at hb
  have he : ((cfg0.win 7).blk ⟨(i 0).val / 256, hN⟩).view.emb (ix2 (n0 := 256) (n1 := 2048) ⟨(i 0).val % 256, hp⟩ ⟨(i 1).val, h1⟩) = i := by
    funext a
    match a with
    | ⟨0, _⟩ => exact Fin.ext ((congrArg (· * 256 + 1 * ((i 0).val % 256)) (index7 ⟨(i 0).val / 256, hN⟩).1).trans ((congrArg _ (Nat.one_mul _)).trans e0))
    | ⟨1, _⟩ => exact Fin.ext ((congrArg (· * 2048 + 1 * (i 1).val) (index7 ⟨(i 0).val / 256, hN⟩).2).trans ((congrArg _ (Nat.one_mul _)).trans ((congrArg (· + (i 1).val) (Nat.zero_mul _)).trans (Nat.zero_add _))))
  rw [he] at hb
  refine hb.trans ?_
  refine (out7_at m c ⟨(i 0).val / 256, hN⟩ ⟨(i 0).val % 256, hp⟩ ⟨(i 1).val, h1⟩).trans ?_
  show value m c ((i 0).val / 256 * 256 + (i 0).val % 256) (i 1).val = _
  rw [e0]

theorem residual (x0 x1 : S2048x2048.Idx → EReal) (x2 : S1x2048.Idx → EReal) (i : S2048x2048.Idx) (h0 : x0 = m ((c : Thread nD τ).loc main_arg0)) (h1 : x1 = m ((c : Thread nD τ).loc main_arg1))
    (h2 : x2 = m ((c : Thread nD τ).loc main_arg2)) : Cert.Norm2RefIdeal.Read.val_main_v2 (F := Ideal) x0 x1 x2 i = X m c (i 0).val (i 1).val := by
  subst h0 h1 h2
  exact congrArg₂ (· + ·) (ent_at _ rfl rfl) (congrArg₂ (· * ·) ((Cert.Norm2RefIdeal.Read.val_main_v0_apply _ i).trans (ent_at _ rfl rfl)) (ent_at _ rfl rfl))

theorem reference (i : S2048x2048.Idx) : Cert.Norm2RefIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) i
      = value m c (i 0).val (i 1).val := by
  refine congrArg₂ (· + ·) (congrArg₂ (· * ·) (congrArg₂ (· * ·) (congrArg₂ (· * ·) (residual m c _ _ _ i rfl rfl rfl) ?_) ?_) ?_) ?_
  · refine (Cert.Norm2RefIdeal.Read.val_main_v11_apply _ _ _ i).trans (congrArg Ideal.rsqrt (congrArg₂ (· + ·) (congrArg₂ Ideal.div ?_ ?_) ?_))
    · refine (Cert.Norm2RefIdeal.Read.val_main_v5_apply _ _ _ _).trans ((Cert.Norm2RefIdeal.Read.val_main_v4_apply _ _ _ _).trans
        ((congrArg (· + _) zero_bits).trans ((zero_add _).trans (Finset.sum_congr rfl fun k _ => ?_))))
      exact congrArg₂ (· * ·) (residual m c _ _ _ _ rfl rfl rfl) (residual m c _ _ _ _ rfl rfl rfl)
    · exact Cert.Norm2RefIdeal.Read.val_main_v6_apply _
    · exact Cert.Norm2RefIdeal.Read.val_main_v8_apply _
  · exact (Cert.Norm2RefIdeal.Read.val_main_v13_apply _ i).trans (ent_at _ rfl rfl)
  · exact (Cert.Norm2RefIdeal.Read.val_main_v17_apply _ i).trans (congrArg₂ (· + ·) (Cert.Norm2RefIdeal.Read.val_main_v15_apply _) (ent_at _ rfl rfl))
  · exact (Cert.Norm2RefIdeal.Read.val_main_v19_apply _ i).trans (ent_at _ rfl rfl)

theorem algebraic : Cert.algebraic_Norm2Ideal_Norm2RefIdeal (hNorm2Ideal := Cert.Norm2Ideal.Gen.facts) (hNorm2RefIdeal := Cert.Norm2RefIdeal.Gen.facts) := by
  intro m g m' g' _ hargs
  refine ⟨fun c => (dats m 0 c).arrAt 6 cfg0.N, fun c => (dats m 0 c).arrAt 7 cfg0.N, run_blocks m g, ?_⟩
  refine (θ_run Cert.Norm2RefIdeal.defs _ _).mono (fun r h c => ?_) (Cert.Norm2RefIdeal.Value.run (F := Ideal) m' g')
  obtain ⟨e, e', ea⟩ := h c
  obtain ⟨a0, a1, a2, a3, a4, a5⟩ := hargs c
  refine ⟨((e.trans (Cert.Norm2RefIdeal.Read.val_main_v2_eq _ _ _)).trans (funext fun i => ?_)),
    ((e'.trans (Cert.Norm2RefIdeal.Read.val_main_v21_eq _ _ _ _ _ _)).trans (funext fun i => ?_)), ea⟩
  · exact (residual m c _ _ _ i a0 a1 a2).trans (array6 m c i).symm
  · rw [a0, a1, a2, a3, a4, a5]
    exact (reference m c i).trans (array7 m c i).symm

end Cert.Norm2Ideal.Val

end
-- ==== Proof.Half.lean ====
/- A weight gradient computed in two halves: which half is computed where is decided by the second of two words. -/
module

public import proofs.«01_k».proof.Proof.Prod
public import Idealize.ShloMosaic.Lib.Pipeline.Value
public import Idealize.ShloMosaic.Lib.Affine

@[expose] public section

noncomputable section

namespace Cert.Proof

open Idealize.ShloMosaic Idealize.ShloMosaic.ValueIdx

/-- The second of two words. -/
def second {α : Type} (x : (⟨1, ![2]⟩ : Shape).Idx → α) : α := x fun a => match a with
  | ⟨0, _⟩ => (1 : Fin 2)

theorem second_at {α : Type} (x : (⟨1, ![2]⟩ : Shape).Idx → α) {i : (⟨1, ![2]⟩ : Shape).Idx} (h : (i 0).val = 1) : x i = second x := by
  refine congrArg x (funext fun a => ?_)
  match a with
  | ⟨0, _⟩ => exact Fin.ext h

/-- The second word cut out and read as a scalar. -/
theorem slice_second (x : (⟨1, ![2]⟩ : Shape).Idx → BitVec 32) (sl : (⟨1, ![2]⟩ : Shape).Slices ![1] ⟨1, ![1]⟩)
    (sc : (⟨1, ![1]⟩ : Shape).ShapeCasts ⟨0, ![]⟩) (i : (⟨0, ![]⟩ : Shape).Idx) :
    shapeCast ⟨0, ![]⟩ (extractStridedSlice ⟨1, ![1]⟩ ![1] x sl) sc i = second x := by
  unfold shapeCast extractStridedSlice
  refine second_at x ?_
  show 1 + (_ : Fin 1).val = 1
  omega

/-- The half computed for oneself, and the half computed for the other. -/
def mine (w : BitVec 32) : ℕ := if w = 0#32 then 0 else 1
def theirs (w : BitVec 32) : ℕ := if w = 0#32 then 1 else 0

/-- What the precondition says of the word. -/
theorem word_cases {w : BitVec 32} (h : IntOp.ori (IntOp.cmpi .eq w 0#32) (IntOp.cmpi .eq w 1#32) = 1#1) : w = 0#32 ∨ w = 1#32 := by
  by_cases h0 : w = 0#32
  · exact .inl h0
  by_cases h1 : w = 1#32
  · exact .inr h1
  have e0 : (w == 0#32) = false := beq_false_of_ne h0
  have e1 : (w == 1#32) = false := beq_false_of_ne h1
  simp only [IntOp.cmpi, e0, e1] at h
  exact absurd h (by decide)

/-- A choice by whether the word is zero, between the two halves of the rows of one function. -/
theorem select_half (w : BitVec 32) (f : ℕ → EReal) (i : ℕ) : Scalar.select (IntOp.cmpi .eq w 0#32) (f i) (f (1024 + i)) = f (mine w * 1024 + i) := by
  by_cases h : w = 0#32
  · subst h; exact congrArg f (Nat.zero_add i).symm
  · have e : (w == 0#32) = false := beq_false_of_ne h
    simp only [IntOp.cmpi, e, mine, if_neg h]
    rfl

theorem select_other (w : BitVec 32) (f : ℕ → EReal) (i : ℕ) : Scalar.select (IntOp.cmpi .eq w 0#32) (f (1024 + i)) (f i) = f (theirs w * 1024 + i) := by
  by_cases h : w = 0#32
  · subst h; rfl
  · have e : (w == 0#32) = false := beq_false_of_ne h
    simp only [IntOp.cmpi, e, theirs, if_neg h]
    exact congrArg f (Nat.zero_add i).symm

end Cert.Proof

end
-- ==== Proof.ValDWGateTheirs.lean ====
/- The half, for the other core, of the gradient of the weights of the gate: the array that the kernel leaves
   is the half of the product that the reference computes. -/
module

public import proofs.«01_k».proof.Proof.Half
public import proofs.«01_k».proof.Proof.Reads
public import proofs.«01_k».proof.Proof.Gen.DWGateTheirsIdeal.Frame
public import proofs.«01_k».proof.Proof.Gen.DWGateTheirs
public import proofs.«01_k».proof.Proof.Gen.DWGateTheirsRefIdeal.Run
public import proofs.«01_k».proof.Proof.Gen.DWGateTheirsRefIdeal.Read
public import proofs.«01_k».proof.Proof.Gen.Pre_core_d_w_gate_theirs
public import proofs.«01_k».proof.Defs

@[expose] public section

set_option maxRecDepth 16384

noncomputable section

namespace Cert.DWGateTheirsIdeal.Val

open Cert.DWGateTheirsIdeal Cert.DWGateTheirsIdeal.Gen Cert.Proof
open Idealize.ShloMosaic Idealize.ShloMosaic.ValueIdx Idealize.ShloMosaic.TcCoe Idealize.ShloMosaic.Tactic Idealize.SL.Sem

section
variable {F : FTy → Type} [FloatOps F]

/-- The block of the first operand is the half that the word names. -/
theorem half_at (pf : pre0.Contents (Elt F)) {w : BitVec 32} (hw : second (pf 0) = w) (h : w = 0#32 ∨ w = 1#32) (i : grid0.Coords) :
    cc0_transform_0 inb_S2_S1_1 numel1_S1 pf i = ![0, theirs w] := by
  have e : pf.at 0 (Rect.unit (s := S2) ![1] S1.size inb_S2_S1_1) numel1_S1 = w := (second_at (pf 0) rfl).trans hw
  have e0 : (i 0).val = 0 := Nat.lt_one_iff.mp (i 0).isLt
  unfold cc0_transform_0
  rw [e, e0]
  rcases h with rfl | rfl <;> rfl

theorem ok_of_word (pf : pre0.Contents (Elt F)) {w : BitVec 32} (hw : second (pf 0) = w) (h : w = 0#32 ∨ w = 1#32) : ok0 pf := by
  unfold ok0
  intro i
  rw [half_at pf hw h i]
  clear hw
  rcases h with rfl | rfl <;> decide

variable (m : (ℓ : Loc nD τ sig) → Buf (Elt F) ℓ)

/-- The word that names the half. -/
abbrev word : BitVec 32 := second (m (((0 : Dev nD) : Thread nD τ).loc main_arg0))

theorem word_of_pre (h : ∀ c : Dev nD, (Cert.Pre_core_d_w_gate_theirs.fn (F := F) (m ((c.tc : Thread nD τ).loc main_arg0)) (m ((c.tc : Thread nD τ).loc main_arg1))
    (m ((c.tc : Thread nD τ).loc main_arg2))) = fun _ => 1#1) : word m = 0#32 ∨ word m = 1#32 := by
  refine word_cases ?_
  have e := congrFun (h 0) fun a => a.elim0
  refine Eq.trans ?_ e
  exact congrArg₂ IntOp.ori (congrArg (IntOp.cmpi .eq · 0#32) (slice_second _ _ _ _).symm) (congrArg (IntOp.cmpi .eq · 1#32) (slice_second _ _ _ _).symm)

theorem ok (h : word m = 0#32 ∨ word m = 1#32) : Ok m :=
  ok_of_word (tbl m) (congrArg second (V_main_arg0 m 0)) h

variable (hw : word m = 0#32 ∨ word m = 1#32)

include hw in
theorem index0 (t : Fin grid0.N) : cc0_transform_0 inb_S2_S1_1 numel1_S1 (tbl m) (grid0.coords t) = ![0, theirs (word m)] :=
  half_at (tbl m) (congrArg second (V_main_arg0 m 0)) hw (grid0.coords t)

end

variable (m : (ℓ : Loc nD τ sig) → Buf (Elt Ideal) ℓ) (c : Dev nD) (hO : Ok m) (hw : word m = 0#32 ∨ word m = 1#32)

/-- The entries of the arguments. -/
abbrev A : ℕ → ℕ → EReal := ent (a := 2048) (b := 2048) (m ((c : Thread nD τ).loc main_arg1))
abbrev B : ℕ → ℕ → EReal := ent (a := 2048) (b := 5632) (m ((c : Thread nD τ).loc main_arg2))

theorem index1 : ∀ t : Fin grid0.N, cc0_transform_1 (grid0.coords t) = ![0, t.val] := by decide +kernel
theorem index2 : ∀ t : Fin grid0.N, cc0_transform_2 (grid0.coords t) = ![0, t.val] := by decide +kernel

theorem V0 : (V m c main_v0 : S2048x2048.Idx → EReal) = m ((c : Thread nD τ).loc main_arg1) := by
  show StableHlo.after _ _ (Proc.devRef .tc main_v0) = _
  after_results
  rfl

theorem V1 : (V m c main_v1 : S2048x5632.Idx → EReal) = m ((c : Thread nD τ).loc main_arg2) := by
  show StableHlo.after _ _ (Proc.devRef .tc main_v1) = _
  after_results
  rfl

include hw in
theorem block0 (t : Fin (cfgM m hO).N) (p : Fin 2048) (q : Fin 1024) :
    (iblk m hO c 0 t : S2048x1024.Idx → EReal) (ix2 p q) = A m c p.val (theirs (word m) * 1024 + q.val) := by
  unfold iblk
  refine (View.read_apply ..).trans ((congrFun (V0 m c) _).trans (ent_at _ ?_ ?_))
  · show cc0_transform_0 inb_S2_S1_1 numel1_S1 (tbl m) (grid0.coords t) 0 * 2048 + 1 * p.val = _; rw [index0 m hw t]; show 0 * 2048 + 1 * p.val = _; omega
  · show cc0_transform_0 inb_S2_S1_1 numel1_S1 (tbl m) (grid0.coords t) 1 * 1024 + 1 * q.val = _; rw [index0 m hw t]; show theirs (word m) * 1024 + 1 * q.val = _; omega

theorem block1 (t : Fin (cfgM m hO).N) (p : Fin 2048) (q : Fin 512) :
    (iblk m hO c 1 t : S2048x512.Idx → EReal) (ix2 p q) = B m c p.val (t.val * 512 + q.val) := by
  unfold iblk
  refine (View.read_apply ..).trans ((congrFun (V1 m c) _).trans (ent_at _ ?_ ?_))
  · show cc0_transform_1 (grid0.coords t) 0 * 2048 + 1 * p.val = _; rw [index1 t]; show 0 * 2048 + 1 * p.val = _; omega
  · show cc0_transform_1 (grid0.coords t) 1 * 512 + 1 * q.val = _; rw [index1 t]; show t.val * 512 + 1 * q.val = _; omega

/-- The half of the product. -/
def total (i j : ℕ) : EReal := tn 2048 (A m c) (B m c) (theirs (word m) * 1024 + i) j

theorem pay1 (wf : DotDims.WF ⟨2, ![2048, 1024]⟩ ⟨2, ![2048, 512]⟩ ⟨2, ![1024, 512]⟩ [0] [0] [1] [1] [] []) (x0 : Vec Ideal S2048x1024 .bf16)
    (x1 : Vec Ideal S2048x512 .bf16) : k0_pay1 (F := Ideal) x0 x1
    = matmul (φ₁ := .bf16) (φ₂ := .bf16) (Rd.tn 2048 1024 512 wf) none x0 x1 (constant (F := Ideal) ⟨2, ![1024, 512]⟩ .f32 0x00000000#32) := by
  unfold k0_pay1
  rw [shapeCast_self, shapeCast_self]
  rfl

include hw in
theorem pay1_total (t : Fin (cfgM m hO).N) (p : Fin 1024) (q : Fin 512) :
    k0_pay1 (F := Ideal) (iblk m hO c 0 t) (iblk m hO c 1 t) (ix2 p q) = total m c p.val (t.val * 512 + q.val) :=
  (congrFun (pay1 dot_S2048x1024_S2048x512_S1024x512_0_0_1_1_n_n.wf _ _) _).trans <|
    tn_block (X := A m c) (Y := B m c) (f := fun i => theirs (word m) * 1024 + i.val) (g := fun j => t.val * 512 + j.val) none
      dot_S2048x1024_S2048x512_S1024x512_0_0_1_1_n_n.wf (block0 m c hO hw t) (block1 m c hO t) p q

theorem out2 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole)
    (x0 : Vec Ideal S2048x1024 .bf16) (x1 : Vec Ideal S2048x512 .bf16) (xt0 : TbBuf0 (F := Ideal) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  refine (View.canon_unit_zero (S := S1024x512) zero2 inb_S1024x512_S1024x512_0_0 _).trans ?_
  exact congrArg₂ k0_pay1 (Rd.readAt_filled harg3 zero2 _ x0) (Rd.readAt_filled harg4 zero2 _ x1)

theorem inj2 : ∀ t t' : Fin grid0.N, cc0_transform_2 (grid0.coords t) = cc0_transform_2 (grid0.coords t') → t = t' := by decide +kernel

theorem disjoint2 (t t' : Fin (cfgM m hO).N) (_ : ((cfgM m hO).win 2).flush t = true) (_ : ((cfgM m hO).win 2).flush t' = true)
    (hne : t ≠ t') : Disjoint (((cfgM m hO).win 2).blk t).view.set (((cfgM m hO).win 2).blk t').view.set :=
  ((cfgM m hO).win 2).disjoint_blk fun h => hne (inj2 t t' h)

theorem cut2 (t : Fin (cfgM m hO).N) (v : S1024x512.Idx → EReal) : ((cfgM m hO).win 2).cut (grid0.coords t) v = v := rfl

theorem run2 (t : Fin (cfgM m hO).N) : outsAt0 m hO c t = out0_A_2 (F := Ideal) c (grid0.coords t) (ms0_0 m hO t) (hs0_0 m hO t) (ms0_1 m hO t) (hs0_1 m hO t) (ms0_2 m hO t) (hs0_2 m hO t)
    (iblk m hO c 0 t) (iblk m hO c 1 t) (tbl m 0) := by
  unfold outsAt0
  dsimp only

theorem outs2 (t : Fin (cfgM m hO).N) : outsAt0 m hO c t = k0_pay1 (F := Ideal) (iblk m hO c 0 t) (iblk m hO c 1 t) := by
  rw [run2]
  exact out2 c (grid0.coords t) (ms0_0 m hO t) (hs0_0 m hO t) (ms0_1 m hO t) (hs0_1 m hO t) (ms0_2 m hO t) (hs0_2 m hO t) _ _ _

theorem flushed2 (t : Fin (cfgM m hO).N) : (dats m hO 0 c).flushed 2 t
    = k0_pay1 (F := Ideal) (iblk m hO c 0 t) (iblk m hO c 1 t) := by
  show ((cfgM m hO).win 2).cut (grid0.coords t) ((dats m hO 0 c).after 2 t) = _
  rw [after0_2, outs2 m c hO]
  exact cut2 m hO t _

theorem emb2 (t : Fin (cfgM m hO).N) (p : Fin 1024) (q : Fin 512) (i : S1024x5632.Idx) (h0 : (i 0).val = p.val) (h1 : (i 1).val = t.val * 512 + q.val) :
    ((((cfgM m hO).win 2).blk t).view.emb (ix2 p q) : S1024x5632.Idx) = i := by
  funext a
  match a with
  | ⟨0, _⟩ =>
    refine Fin.ext ?_
    show cc0_transform_2 (grid0.coords t) 0 * 1024 + 1 * p.val = _
    rw [index2 t]
    show 0 * 1024 + 1 * p.val = (i 0).val
    omega
  | ⟨1, _⟩ =>
    refine Fin.ext ?_
    show cc0_transform_2 (grid0.coords t) 1 * 512 + 1 * q.val = _
    rw [index2 t]
    show t.val * 512 + 1 * q.val = (i 1).val
    omega

theorem read2 (f : S1024x5632.Idx → EReal) (t : Fin (cfgM m hO).N) (p : Fin 1024) (q : Fin 512) (i : S1024x5632.Idx) (h0 : (i 0).val = p.val)
    (h1 : (i 1).val = t.val * 512 + q.val) : (((cfgM m hO).win 2).blk t).view.read (Elt Ideal) f (ix2 p q) = f i :=
  (View.read_apply ..).trans (congrArg f (emb2 m hO t p q i h0 h1))

include hw in
theorem array2_at (t : Fin (cfgM m hO).N) (p : Fin 1024) (q : Fin 512) (i : S1024x5632.Idx) (h0 : (i 0).val = p.val) (h1 : (i 1).val = t.val * 512 + q.val) :
    ((dats m hO 0 c).arrAt 2 (cfgM m hO).N : S1024x5632.Idx → EReal) i = total m c p.val (t.val * 512 + q.val) :=
  (read2 m hO ((dats m hO 0 c).arrAt 2 (cfgM m hO).N) t p q i h0 h1).symm.trans <|
    (congrFun ((dats m hO 0 c).read_blk_arrAt_eq_flushed 2 (disjoint2 m hO) (cfgM m hO).N t t.isLt (flush0_2 (adm m hO) t)) (ix2 p q)).trans <|
      (congrFun (flushed2 m c hO t) (ix2 p q)).trans (pay1_total m c hO hw t p q)

include hw in
/-- The array that the kernel leaves. -/
theorem array2 (i : S1024x5632.Idx) : ((dats m hO 0 c).arrAt 2 (cfgM m hO).N : S1024x5632.Idx → EReal) i = total m c (i 0).val (i 1).val := by
  have h1 : (i 1).val < 5632 := (i 1).isLt
  have e1 : (i 1).val = (i 1).val / 512 * 512 + (i 1).val % 512 := by omega
  exact (array2_at m c hO hw ⟨(i 1).val / 512, by show _ < 11; omega⟩ (i 0) ⟨(i 1).val % 512, Nat.mod_lt _ (by decide)⟩ i rfl e1).trans
    (congrArg (total m c (i 0).val) e1.symm)

theorem reference (x0 : S2.Idx → BitVec 32) (i : S1024x5632.Idx) (h : x0 = m (((0 : Dev nD) : Thread nD τ).loc main_arg0)) :
    Cert.DWGateTheirsRefIdeal.Read.val_main_v9 (F := Ideal) x0 (m ((c : Thread nD τ).loc main_arg1)) (m ((c : Thread nD τ).loc main_arg2)) i
      = total m c (i 0).val (i 1).val := by
  subst h
  have row (r : ℕ) (k : S2048x5632.Idx) (hr : (k 0).val = r) (hk : (k 1).val = (i 1).val) :
      Cert.DWGateTheirsRefIdeal.Read.val_main_v3 (F := Ideal) (m ((c : Thread nD τ).loc main_arg1)) (m ((c : Thread nD τ).loc main_arg2)) k
        = tn 2048 (A m c) (B m c) r (i 1).val :=
    (Cert.DWGateTheirsRefIdeal.Read.val_main_v3_apply _ _ k).trans ((Cert.DWGateTheirsRefIdeal.Read.val_main_v2_apply _ _ _).trans
      (Finset.sum_congr rfl fun _ _ => (mul_comm _ _).trans (congrArg₂ (· * ·) (ent_at _ rfl hr) (ent_at _ rfl hk))))
  refine Eq.trans ?_ (select_other (word m) (fun r => tn 2048 (A m c) (B m c) r (i 1).val) (i 0).val)
  refine congr (congrArg₂ Scalar.select ?_ ?_) ?_
  · exact congrArg (IntOp.cmpi .eq · 0#32) (slice_second _ _ _ _)
  · exact (Cert.DWGateTheirsRefIdeal.Read.val_main_v7_apply _ _ i).trans (row _ _ rfl rfl)
  · exact (Cert.DWGateTheirsRefIdeal.Read.val_main_v8_apply _ _ i).trans (row _ _ rfl rfl)

theorem algebraic : Cert.algebraic_DWGateTheirsIdeal_DWGateTheirsRefIdeal (hDWGateTheirsIdeal := Cert.DWGateTheirsIdeal.Gen.facts) (hDWGateTheirsRefIdeal := Cert.DWGateTheirsRefIdeal.Gen.facts)
    (hPre_core_d_w_gate_theirs := Cert.Pre_core_d_w_gate_theirs.Gen.facts) := by
  intro m g m' g' hpre hargs
  have hw := word_of_pre m hpre
  refine ⟨fun c => (dats m (ok m hw) 0 c).arrAt 2 (cfgM m (ok m hw)).N,
    (θ_run defs _ _).mono (fun r h c => ⟨(h.2 c).1 2, h.1 c⟩) (θ_run_and (unchanged m g (ok m hw)) (run_main m g (ok m hw))), ?_⟩
  refine (θ_run Cert.DWGateTheirsRefIdeal.defs _ _).mono (fun r h c => ?_) (Cert.DWGateTheirsRefIdeal.Value.run (F := Ideal) m' g')
  obtain ⟨e, ea⟩ := h c
  obtain rfl : c = 0 := Subsingleton.elim _ _
  refine ⟨(e.trans (Cert.DWGateTheirsRefIdeal.Read.val_main_v9_eq _ _ _)).trans (funext fun i => ?_), ea⟩
  rw [(hargs 0).2.1, (hargs 0).2.2]
  exact (reference m 0 _ i (hargs 0).1).trans (array2 m 0 (ok m hw) hw i).symm

theorem frame_ideal : Cert.quiescent_DWGateTheirsIdeal (hDWGateTheirsIdeal := Cert.DWGateTheirsIdeal.Gen.facts) (hPre_core_d_w_gate_theirs := Cert.Pre_core_d_w_gate_theirs.Gen.facts) :=
  fun m g h => Gen.frame (F := Ideal) m g (ok m (word_of_pre m h))

/-- The printed kernel and its ideal twin are one program: at the bits their frames are one statement. -/
theorem same_frame : (∀ (m : (ℓ : Loc nD τ sig) → Buf (Elt Bits) ℓ) (g : Dev nD → PrngReg),
    (∀ c : Dev nD, (Cert.Pre_core_d_w_gate_theirs.fn (F := Bits) (m ((c.tc : Thread nD τ).loc main_arg0)) (m ((c.tc : Thread nD τ).loc main_arg1))
      (m ((c.tc : Thread nD τ).loc main_arg2))) = fun _ => 1#1) →
    θ_run (defs (F := Bits)) (onTc (τ := τ) (main (F := Bits))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0))
    = Cert.quiescent_DWGateTheirs (hDWGateTheirs := Cert.DWGateTheirs.Gen.facts) (hPre_core_d_w_gate_theirs := Cert.Pre_core_d_w_gate_theirs.Gen.facts) := by
  sl_kernel_rfl

theorem frame_bits : Cert.quiescent_DWGateTheirs (hDWGateTheirs := Cert.DWGateTheirs.Gen.facts) (hPre_core_d_w_gate_theirs := Cert.Pre_core_d_w_gate_theirs.Gen.facts) :=
  same_frame.mp fun m g h => Gen.frame (F := Bits) m g (ok m (word_of_pre m h))

end Cert.DWGateTheirsIdeal.Val

end
-- ==== Proof.ValDWGateMine.lean ====
/- One core's own half of the gradient of the weights of the gate: the array that the kernel leaves is the
   product that the reference computes, with the other device's half added. -/
module

public import proofs.«01_k».proof.Proof.Half
public import proofs.«01_k».proof.Proof.Reads
public import proofs.«01_k».proof.Proof.Gen.DWGateMineIdeal.Frame
public import proofs.«01_k».proof.Proof.Gen.DWGateMine
public import proofs.«01_k».proof.Proof.Gen.DWGateMineRefIdeal.Run
public import proofs.«01_k».proof.Proof.Gen.DWGateMineRefIdeal.Read
public import proofs.«01_k».proof.Proof.Gen.Pre_core_d_w_gate_mine
public import proofs.«01_k».proof.Defs

@[expose] public section

set_option maxRecDepth 16384

noncomputable section

namespace Cert.DWGateMineIdeal.Val

open Cert.DWGateMineIdeal Cert.DWGateMineIdeal.Gen Cert.Proof
open Idealize.ShloMosaic Idealize.ShloMosaic.ValueIdx Idealize.ShloMosaic.TcCoe Idealize.ShloMosaic.Tactic Idealize.SL.Sem

section
variable {F : FTy → Type} [FloatOps F]

/-- The block of the first operand is the half that the word names. -/
theorem half_at (pf : pre0.Contents (Elt F)) {w : BitVec 32} (hw : second (pf 0) = w) (h : w = 0#32 ∨ w = 1#32) (i : grid0.Coords) :
    cc0_transform_0 inb_S2_S1_1 numel1_S1 pf i = ![0, mine w] := by
  have e : pf.at 0 (Rect.unit (s := S2) ![1] S1.size inb_S2_S1_1) numel1_S1 = w := (second_at (pf 0) rfl).trans hw
  have e0 : (i 0).val = 0 := Nat.lt_one_iff.mp (i 0).isLt
  unfold cc0_transform_0
  rw [e, e0]
  rcases h with rfl | rfl <;> rfl

theorem ok_of_word (pf : pre0.Contents (Elt F)) {w : BitVec 32} (hw : second (pf 0) = w) (h : w = 0#32 ∨ w = 1#32) : ok0 pf := by
  unfold ok0
  intro i
  rw [half_at pf hw h i]
  clear hw
  rcases h with rfl | rfl <;> decide

variable (m : (ℓ : Loc nD τ sig) → Buf (Elt F) ℓ)

/-- The word that names the half. -/
abbrev word : BitVec 32 := second (m (((0 : Dev nD) : Thread nD τ).loc main_arg0))

theorem word_of_pre (h : ∀ c : Dev nD, (Cert.Pre_core_d_w_gate_mine.fn (F := F) (m ((c.tc : Thread nD τ).loc main_arg0)) (m ((c.tc : Thread nD τ).loc main_arg1))
    (m ((c.tc : Thread nD τ).loc main_arg2)) (m ((c.tc : Thread nD τ).loc main_arg3))) = fun _ => 1#1) : word m = 0#32 ∨ word m = 1#32 := by
  refine word_cases ?_
  have e := congrFun (h 0) fun a => a.elim0
  refine Eq.trans ?_ e
  exact congrArg₂ IntOp.ori (congrArg (IntOp.cmpi .eq · 0#32) (slice_second _ _ _ _).symm) (congrArg (IntOp.cmpi .eq · 1#32) (slice_second _ _ _ _).symm)

theorem ok (h : word m = 0#32 ∨ word m = 1#32) : Ok m :=
  ok_of_word (tbl m) (congrArg second (V_main_arg0 m 0)) h

variable (hw : word m = 0#32 ∨ word m = 1#32)

include hw in
theorem index0 (t : Fin grid0.N) : cc0_transform_0 inb_S2_S1_1 numel1_S1 (tbl m) (grid0.coords t) = ![0, mine (word m)] :=
  half_at (tbl m) (congrArg second (V_main_arg0 m 0)) hw (grid0.coords t)

end

variable (m : (ℓ : Loc nD τ sig) → Buf (Elt Ideal) ℓ) (c : Dev nD) (hO : Ok m) (hw : word m = 0#32 ∨ word m = 1#32)

/-- The entries of the arguments. -/
abbrev A : ℕ → ℕ → EReal := ent (a := 2048) (b := 2048) (m ((c : Thread nD τ).loc main_arg1))
abbrev B : ℕ → ℕ → EReal := ent (a := 2048) (b := 5632) (m ((c : Thread nD τ).loc main_arg2))
abbrev C : ℕ → ℕ → EReal := ent (a := 1024) (b := 5632) (m ((c : Thread nD τ).loc main_arg3))

theorem index1 : ∀ t : Fin grid0.N, cc0_transform_1 (grid0.coords t) = ![0, t.val] := by decide +kernel
theorem index2 : ∀ t : Fin grid0.N, cc0_transform_2 (grid0.coords t) = ![0, t.val] := by decide +kernel
theorem index3 : ∀ t : Fin grid0.N, cc0_transform_3 (grid0.coords t) = ![0, t.val] := by decide +kernel
theorem index4 : ∀ t : Fin grid0.N, cc0_transform_4 (grid0.coords t) = ![0, t.val] := by decide +kernel

theorem V0 : (V m c main_v0 : S2048x2048.Idx → EReal) = m ((c : Thread nD τ).loc main_arg1) := by
  show StableHlo.after _ _ (Proc.devRef .tc main_v0) = _
  after_results
  rfl

theorem V1 : (V m c main_v1 : S2048x5632.Idx → EReal) = m ((c : Thread nD τ).loc main_arg2) := by
  show StableHlo.after _ _ (Proc.devRef .tc main_v1) = _
  after_results
  rfl

include hw in
theorem block0 (t : Fin (cfgM m hO).N) (p : Fin 2048) (q : Fin 1024) :
    (iblk m hO c 0 t : S2048x1024.Idx → EReal) (ix2 p q) = A m c p.val (mine (word m) * 1024 + q.val) := by
  unfold iblk
  refine (View.read_apply ..).trans ((congrFun (V0 m c) _).trans (ent_at _ ?_ ?_))
  · show cc0_transform_0 inb_S2_S1_1 numel1_S1 (tbl m) (grid0.coords t) 0 * 2048 + 1 * p.val = _; rw [index0 m hw t]; show 0 * 2048 + 1 * p.val = _; omega
  · show cc0_transform_0 inb_S2_S1_1 numel1_S1 (tbl m) (grid0.coords t) 1 * 1024 + 1 * q.val = _; rw [index0 m hw t]; show mine (word m) * 1024 + 1 * q.val = _; omega

theorem block1 (t : Fin (cfgM m hO).N) (p : Fin 2048) (q : Fin 512) :
    (iblk m hO c 1 t : S2048x512.Idx → EReal) (ix2 p q) = B m c p.val (t.val * 512 + q.val) := by
  unfold iblk
  refine (View.read_apply ..).trans ((congrFun (V1 m c) _).trans (ent_at _ ?_ ?_))
  · show cc0_transform_1 (grid0.coords t) 0 * 2048 + 1 * p.val = _; rw [index1 t]; show 0 * 2048 + 1 * p.val = _; omega
  · show cc0_transform_1 (grid0.coords t) 1 * 512 + 1 * q.val = _; rw [index1 t]; show t.val * 512 + 1 * q.val = _; omega

theorem block2 (t : Fin (cfgM m hO).N) (p : Fin 1024) (q : Fin 512) :
    (iblk m hO c 2 t : S1024x512.Idx → EReal) (ix2 p q) = C m c p.val (t.val * 512 + q.val) := by
  unfold iblk
  refine (View.read_apply ..).trans ((congrFun (V_main_arg3 m c) _).trans (ent_at _ ?_ ?_))
  · show cc0_transform_2 (grid0.coords t) 0 * 1024 + 1 * p.val = _; rw [index2 t]; show 0 * 1024 + 1 * p.val = _; omega
  · show cc0_transform_2 (grid0.coords t) 1 * 512 + 1 * q.val = _; rw [index2 t]; show t.val * 512 + 1 * q.val = _; omega

/-- The half of the product with the other device's half added. -/
def total (i j : ℕ) : EReal := tn 2048 (A m c) (B m c) (mine (word m) * 1024 + i) j + C m c i j

theorem pay1 (wf : DotDims.WF ⟨2, ![2048, 1024]⟩ ⟨2, ![2048, 512]⟩ ⟨2, ![1024, 512]⟩ [0] [0] [1] [1] [] []) (x0 : Vec Ideal S2048x1024 .bf16)
    (x1 : Vec Ideal S2048x512 .bf16) (x2 : Vec Ideal S1024x512 .f32) (i : S1024x512.Idx) : k0_pay1 (F := Ideal) x0 x1 x2 i
    = matmul (φ₁ := .bf16) (φ₂ := .bf16) (Rd.tn 2048 1024 512 wf) none x0 x1 (constant (F := Ideal) ⟨2, ![1024, 512]⟩ .f32 0x00000000#32) i + x2 i := by
  unfold k0_pay1
  rw [shapeCast_self, shapeCast_self]
  rfl

include hw in
theorem pay1_total (t : Fin (cfgM m hO).N) (p : Fin 1024) (q : Fin 512) :
    k0_pay1 (F := Ideal) (iblk m hO c 0 t) (iblk m hO c 1 t) (iblk m hO c 2 t) (ix2 p q) = total m c p.val (t.val * 512 + q.val) :=
  (pay1 dot_S2048x1024_S2048x512_S1024x512_0_0_1_1_n_n.wf _ _ _ _).trans <| congrArg₂ (· + ·)
    (tn_block (X := A m c) (Y := B m c) (f := fun i => mine (word m) * 1024 + i.val) (g := fun j => t.val * 512 + j.val) none
      dot_S2048x1024_S2048x512_S1024x512_0_0_1_1_n_n.wf (block0 m c hO hw t) (block1 m c hO t) p q) (block2 m c hO t p q)

theorem out3 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole)
    (x0 : Vec Ideal S2048x1024 .bf16) (x1 : Vec Ideal S2048x512 .bf16) (x2 : Vec Ideal S1024x512 .f32) (xt0 : TbBuf0 (F := Ideal) c tbM0_0) :
    out0_A_3 c i arg3 harg3 arg4 harg4 arg5 harg5 arg6 harg6 arg7 harg7 x0 x1 x2 xt0 = k0_pay1 x0 x1 x2 := by
  unfold out0_A_3
  rw [View.read_writes_eq_canon _ _ _ (cover0_A_3 c i arg3 harg3 arg4 harg4 arg5 harg5 arg6 harg6 arg7 harg7 x0 x1 x2 xt0)]
  refine (View.canon_unit_zero (S := S1024x512) zero2 inb_S1024x512_S1024x512_0_0 _).trans ?_
  exact congr (congrArg₂ k0_pay1 (Rd.readAt_filled harg3 zero2 _ x0) (Rd.readAt_filled harg4 zero2 _ x1)) (Rd.readAt_filled harg5 zero2 _ x2)

theorem out4 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole)
    (x0 : Vec Ideal S2048x1024 .bf16) (x1 : Vec Ideal S2048x512 .bf16) (x2 : Vec Ideal S1024x512 .f32) (xt0 : TbBuf0 (F := Ideal) c tbM0_0) :
    out0_A_4 c i arg3 harg3 arg4 harg4 arg5 harg5 arg6 harg6 arg7 harg7 x0 x1 x2 xt0 = k0_pay2 x0 x1 x2 := by
  unfold out0_A_4
  rw [View.read_writes_eq_canon _ _ _ (cover0_A_4 c i arg3 harg3 arg4 harg4 arg5 harg5 arg6 harg6 arg7 harg7 x0 x1 x2 xt0)]
  refine (View.canon_unit_zero (S := S1024x512) zero2 inb_S1024x512_S1024x512_0_0 _).trans ?_
  exact congr (congrArg₂ k0_pay2 (Rd.readAt_filled harg3 zero2 _ x0) (Rd.readAt_filled harg4 zero2 _ x1)) (Rd.readAt_filled harg5 zero2 _ x2)

theorem inj3 : ∀ t t' : Fin grid0.N, cc0_transform_3 (grid0.coords t) = cc0_transform_3 (grid0.coords t') → t = t' := by decide +kernel

theorem disjoint3 (t t' : Fin (cfgM m hO).N) (_ : ((cfgM m hO).win 3).flush t = true) (_ : ((cfgM m hO).win 3).flush t' = true)
    (hne : t ≠ t') : Disjoint (((cfgM m hO).win 3).blk t).view.set (((cfgM m hO).win 3).blk t').view.set :=
  ((cfgM m hO).win 3).disjoint_blk fun h => hne (inj3 t t' h)

theorem cut3 (t : Fin (cfgM m hO).N) (v : S1024x512.Idx → EReal) : ((cfgM m hO).win 3).cut (grid0.coords t) v = v := rfl

theorem run3 (t : Fin (cfgM m hO).N) : (outsAt0 m hO c t).1 = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (iblk m hO c 0 t) (iblk m hO c 1 t) (iblk m hO c 2 t) (tbl m 0) := by
  unfold outsAt0
  dsimp only

theorem outs3 (t : Fin (cfgM m hO).N) : (outsAt0 m hO c t).1 = k0_pay1 (F := Ideal) (iblk m hO c 0 t) (iblk m hO c 1 t) (iblk m hO c 2 t) := by
  rw [run3]
  exact out3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) _ _ _ _

theorem flushed3 (t : Fin (cfgM m hO).N) : (dats m hO 0 c).flushed 3 t
    = k0_pay1 (F := Ideal) (iblk m hO c 0 t) (iblk m hO c 1 t) (iblk m hO c 2 t) := by
  show ((cfgM m hO).win 3).cut (grid0.coords t) ((dats m hO 0 c).after 3 t) = _
  rw [after0_3, outs3 m c hO]
  exact cut3 m hO t _

theorem emb3 (t : Fin (cfgM m hO).N) (p : Fin 1024) (q : Fin 512) (i : S1024x5632.Idx) (h0 : (i 0).val = p.val) (h1 : (i 1).val = t.val * 512 + q.val) :
    ((((cfgM m hO).win 3).blk t).view.emb (ix2 p q) : S1024x5632.Idx) = i := by
  funext a
  match a with
  | ⟨0, _⟩ =>
    refine Fin.ext ?_
    show cc0_transform_3 (grid0.coords t) 0 * 1024 + 1 * p.val = _
    rw [index3 t]
    show 0 * 1024 + 1 * p.val = (i 0).val
    omega
  | ⟨1, _⟩ =>
    refine Fin.ext ?_
    show cc0_transform_3 (grid0.coords t) 1 * 512 + 1 * q.val = _
    rw [index3 t]
    show t.val * 512 + 1 * q.val = (i 1).val
    omega

theorem read3 (f : S1024x5632.Idx → EReal) (t : Fin (cfgM m hO).N) (p : Fin 1024) (q : Fin 512) (i : S1024x5632.Idx) (h0 : (i 0).val = p.val)
    (h1 : (i 1).val = t.val * 512 + q.val) : (((cfgM m hO).win 3).blk t).view.read (Elt Ideal) f (ix2 p q) = f i :=
  (View.read_apply ..).trans (congrArg f (emb3 m hO t p q i h0 h1))

include hw in
theorem array3_at (t : Fin (cfgM m hO).N) (p : Fin 1024) (q : Fin 512) (i : S1024x5632.Idx) (h0 : (i 0).val = p.val) (h1 : (i 1).val = t.val * 512 + q.val) :
    ((dats m hO 0 c).arrAt 3 (cfgM m hO).N : S1024x5632.Idx → EReal) i = total m c p.val (t.val * 512 + q.val) :=
  (read3 m hO ((dats m hO 0 c).arrAt 3 (cfgM m hO).N) t p q i h0 h1).symm.trans <|
    (congrFun ((dats m hO 0 c).read_blk_arrAt_eq_flushed 3 (disjoint3 m hO) (cfgM m hO).N t t.isLt (flush0_3 (adm m hO) t)) (ix2 p q)).trans <|
      (congrFun (flushed3 m c hO t) (ix2 p q)).trans (pay1_total m c hO hw t p q)

include hw in
/-- The array that the kernel leaves. -/
theorem array3 (i : S1024x5632.Idx) : ((dats m hO 0 c).arrAt 3 (cfgM m hO).N : S1024x5632.Idx → EReal) i = total m c (i 0).val (i 1).val := by
  have h1 : (i 1).val < 5632 := (i 1).isLt
  have e1 : (i 1).val = (i 1).val / 512 * 512 + (i 1).val % 512 := by omega
  exact (array3_at m c hO hw ⟨(i 1).val / 512, by show _ < 11; omega⟩ (i 0) ⟨(i 1).val % 512, Nat.mod_lt _ (by decide)⟩ i rfl e1).trans
    (congrArg (total m c (i 0).val) e1.symm)

theorem inj4 : ∀ t t' : Fin grid0.N, cc0_transform_4 (grid0.coords t) = cc0_transform_4 (grid0.coords t') → t = t' := by decide +kernel

theorem disjoint4 (t t' : Fin (cfgM m hO).N) (_ : ((cfgM m hO).win 4).flush t = true) (_ : ((cfgM m hO).win 4).flush t' = true)
    (hne : t ≠ t') : Disjoint (((cfgM m hO).win 4).blk t).view.set (((cfgM m hO).win 4).blk t').view.set :=
  ((cfgM m hO).win 4).disjoint_blk fun h => hne (inj4 t t' h)

theorem cut4 (t : Fin (cfgM m hO).N) (v : S1024x512.Idx → EReal) : ((cfgM m hO).win 4).cut (grid0.coords t) v = v := rfl

theorem run4 (t : Fin (cfgM m hO).N) : (outsAt0 m hO c t).2 = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (iblk m hO c 0 t) (iblk m hO c 1 t) (iblk m hO c 2 t) (tbl m 0) := by
  unfold outsAt0
  dsimp only

theorem outs4 (t : Fin (cfgM m hO).N) : (outsAt0 m hO c t).2 = k0_pay2 (F := Ideal) (iblk m hO c 0 t) (iblk m hO c 1 t) (iblk m hO c 2 t) := by
  rw [run4]
  exact out4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) _ _ _ _

theorem flushed4 (t : Fin (cfgM m hO).N) : (dats m hO 0 c).flushed 4 t
    = k0_pay2 (F := Ideal) (iblk m hO c 0 t) (iblk m hO c 1 t) (iblk m hO c 2 t) := by
  show ((cfgM m hO).win 4).cut (grid0.coords t) ((dats m hO 0 c).after 4 t) = _
  rw [after0_4, outs4 m c hO]
  exact cut4 m hO t _

theorem emb4 (t : Fin (cfgM m hO).N) (p : Fin 1024) (q : Fin 512) (i : S1024x5632.Idx) (h0 : (i 0).val = p.val) (h1 : (i 1).val = t.val * 512 + q.val) :
    ((((cfgM m hO).win 4).blk t).view.emb (ix2 p q) : S1024x5632.Idx) = i := by
  funext a
  match a with
  | ⟨0, _⟩ =>
    refine Fin.ext ?_
    show cc0_transform_4 (grid0.coords t) 0 * 1024 + 1 * p.val = _
    rw [index4 t]
    show 0 * 1024 + 1 * p.val = (i 0).val
    omega
  | ⟨1, _⟩ =>
    refine Fin.ext ?_
    show cc0_transform_4 (grid0.coords t) 1 * 512 + 1 * q.val = _
    rw [index4 t]
    show t.val * 512 + 1 * q.val = (i 1).val
    omega

theorem read4 (f : S1024x5632.Idx → EReal) (t : Fin (cfgM m hO).N) (p : Fin 1024) (q : Fin 512) (i : S1024x5632.Idx) (h0 : (i 0).val = p.val)
    (h1 : (i 1).val = t.val * 512 + q.val) : (((cfgM m hO).win 4).blk t).view.read (Elt Ideal) f (ix2 p q) = f i :=
  (View.read_apply ..).trans (congrArg f (emb4 m hO t p q i h0 h1))

include hw in
theorem array4_at (t : Fin (cfgM m hO).N) (p : Fin 1024) (q : Fin 512) (i : S1024x5632.Idx) (h0 : (i 0).val = p.val) (h1 : (i 1).val = t.val * 512 + q.val) :
    ((dats m hO 0 c).arrAt 4 (cfgM m hO).N : S1024x5632.Idx → EReal) i = total m c p.val (t.val * 512 + q.val) :=
  (read4 m hO ((dats m hO 0 c).arrAt 4 (cfgM m hO).N) t p q i h0 h1).symm.trans <|
    (congrFun ((dats m hO 0 c).read_blk_arrAt_eq_flushed 4 (disjoint4 m hO) (cfgM m hO).N t t.isLt (flush0_4 (adm m hO) t)) (ix2 p q)).trans <|
      (congrFun (flushed4 m c hO t) (ix2 p q)).trans (pay1_total m c hO hw t p q)

include hw in
/-- The array that the kernel leaves for the exchange. -/
theorem array4 (i : S1024x5632.Idx) : ((dats m hO 0 c).arrAt 4 (cfgM m hO).N : S1024x5632.Idx → EReal) i = total m c (i 0).val (i 1).val := by
  have h1 : (i 1).val < 5632 := (i 1).isLt
  have e1 : (i 1).val = (i 1).val / 512 * 512 + (i 1).val % 512 := by omega
  exact (array4_at m c hO hw ⟨(i 1).val / 512, by show _ < 11; omega⟩ (i 0) ⟨(i 1).val % 512, Nat.mod_lt _ (by decide)⟩ i rfl e1).trans
    (congrArg (total m c (i 0).val) e1.symm)

theorem reference (x0 : S2.Idx → BitVec 32) (i : S1024x5632.Idx) (h : x0 = m (((0 : Dev nD) : Thread nD τ).loc main_arg0)) :
    Cert.DWGateMineRefIdeal.Read.val_main_v10 (F := Ideal) x0 (m ((c : Thread nD τ).loc main_arg1)) (m ((c : Thread nD τ).loc main_arg2)) (m ((c : Thread nD τ).loc main_arg3)) i
      = total m c (i 0).val (i 1).val := by
  subst h
  refine congrArg₂ (· + ·) ?_ (ent_at _ rfl rfl)
  have row (r : ℕ) (k : S2048x5632.Idx) (hr : (k 0).val = r) (hk : (k 1).val = (i 1).val) :
      Cert.DWGateMineRefIdeal.Read.val_main_v3 (F := Ideal) (m ((c : Thread nD τ).loc main_arg1)) (m ((c : Thread nD τ).loc main_arg2)) k
        = tn 2048 (A m c) (B m c) r (i 1).val :=
    (Cert.DWGateMineRefIdeal.Read.val_main_v3_apply _ _ k).trans ((Cert.DWGateMineRefIdeal.Read.val_main_v2_apply _ _ _).trans
      (Finset.sum_congr rfl fun _ _ => (mul_comm _ _).trans (congrArg₂ (· * ·) (ent_at _ rfl hr) (ent_at _ rfl hk))))
  refine Eq.trans ?_ (select_half (word m) (fun r => tn 2048 (A m c) (B m c) r (i 1).val) (i 0).val)
  refine congr (congrArg₂ Scalar.select ?_ ?_) ?_
  · exact congrArg (IntOp.cmpi .eq · 0#32) (slice_second _ _ _ _)
  · exact (Cert.DWGateMineRefIdeal.Read.val_main_v7_apply _ _ i).trans (row _ _ rfl rfl)
  · exact (Cert.DWGateMineRefIdeal.Read.val_main_v8_apply _ _ i).trans (row _ _ rfl rfl)

theorem algebraic : Cert.algebraic_DWGateMineIdeal_DWGateMineRefIdeal (hDWGateMineIdeal := Cert.DWGateMineIdeal.Gen.facts) (hDWGateMineRefIdeal := Cert.DWGateMineRefIdeal.Gen.facts)
    (hPre_core_d_w_gate_mine := Cert.Pre_core_d_w_gate_mine.Gen.facts) := by
  intro m g m' g' hpre hargs
  have hw := word_of_pre m hpre
  refine ⟨fun c => (dats m (ok m hw) 0 c).arrAt 3 (cfgM m (ok m hw)).N, fun c => (dats m (ok m hw) 0 c).arrAt 4 (cfgM m (ok m hw)).N,
    (θ_run defs _ _).mono (fun r h c => ⟨(h.2 c).1 3, (h.2 c).1 4, h.1 c⟩) (θ_run_and (unchanged m g (ok m hw)) (run_main m g (ok m hw))), ?_⟩
  refine (θ_run Cert.DWGateMineRefIdeal.defs _ _).mono (fun r h c => ?_) (Cert.DWGateMineRefIdeal.Value.run (F := Ideal) m' g')
  obtain ⟨e, e', ea⟩ := h c
  obtain rfl : c = 0 := Subsingleton.elim _ _
  refine ⟨(e.trans (Cert.DWGateMineRefIdeal.Read.val_main_v10_eq _ _ _ _)).trans (funext fun i => ?_),
    (e'.trans (Cert.DWGateMineRefIdeal.Read.val_main_v11_eq _ _ _ _)).trans (funext fun i => ?_), ea⟩
  · rw [(hargs 0).2.1, (hargs 0).2.2.1, (hargs 0).2.2.2]
    exact (reference m 0 _ i (hargs 0).1).trans (array3 m 0 (ok m hw) hw i).symm
  · rw [(hargs 0).2.1, (hargs 0).2.2.1, (hargs 0).2.2.2]
    exact (reference m 0 _ i (hargs 0).1).trans (array4 m 0 (ok m hw) hw i).symm

theorem frame_ideal : Cert.quiescent_DWGateMineIdeal (hDWGateMineIdeal := Cert.DWGateMineIdeal.Gen.facts) (hPre_core_d_w_gate_mine := Cert.Pre_core_d_w_gate_mine.Gen.facts) :=
  fun m g h => Gen.frame (F := Ideal) m g (ok m (word_of_pre m h))

/-- The printed kernel and its ideal twin are one program: at the bits their frames are one statement. -/
theorem same_frame : (∀ (m : (ℓ : Loc nD τ sig) → Buf (Elt Bits) ℓ) (g : Dev nD → PrngReg),
    (∀ c : Dev nD, (Cert.Pre_core_d_w_gate_mine.fn (F := Bits) (m ((c.tc : Thread nD τ).loc main_arg0)) (m ((c.tc : Thread nD τ).loc main_arg1))
      (m ((c.tc : Thread nD τ).loc main_arg2)) (m ((c.tc : Thread nD τ).loc main_arg3))) = fun _ => 1#1) →
    θ_run (defs (F := Bits)) (onTc (τ := τ) (main (F := Bits))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0))
    = Cert.quiescent_DWGateMine (hDWGateMine := Cert.DWGateMine.Gen.facts) (hPre_core_d_w_gate_mine := Cert.Pre_core_d_w_gate_mine.Gen.facts) := by
  sl_kernel_rfl

theorem frame_bits : Cert.quiescent_DWGateMine (hDWGateMine := Cert.DWGateMine.Gen.facts) (hPre_core_d_w_gate_mine := Cert.Pre_core_d_w_gate_mine.Gen.facts) :=
  same_frame.mp fun m g h => Gen.frame (F := Bits) m g (ok m (word_of_pre m h))

end Cert.DWGateMineIdeal.Val

end
-- ==== Proof.ValDWInTheirs.lean ====
/- The half, for the other core, of the gradient of the weights of the input projection: the array that the kernel leaves
   is the half of the product that the reference computes. -/
module

public import proofs.«01_k».proof.Proof.Half
public import proofs.«01_k».proof.Proof.Reads
public import proofs.«01_k».proof.Proof.Gen.DWInTheirsIdeal.Frame
public import proofs.«01_k».proof.Proof.Gen.DWInTheirs
public import proofs.«01_k».proof.Proof.Gen.DWInTheirsRefIdeal.Run
public import proofs.«01_k».proof.Proof.Gen.DWInTheirsRefIdeal.Read
public import proofs.«01_k».proof.Proof.Gen.Pre_core_d_w_in_theirs
public import proofs.«01_k».proof.Defs

@[expose] public section

set_option maxRecDepth 16384

noncomputable section

namespace Cert.DWInTheirsIdeal.Val

open Cert.DWInTheirsIdeal Cert.DWInTheirsIdeal.Gen Cert.Proof
open Idealize.ShloMosaic Idealize.ShloMosaic.ValueIdx Idealize.ShloMosaic.TcCoe Idealize.ShloMosaic.Tactic Idealize.SL.Sem

section
variable {F : FTy → Type} [FloatOps F]

/-- The block of the first operand is the half that the word names. -/
theorem half_at (pf : pre0.Contents (Elt F)) {w : BitVec 32} (hw : second (pf 0) = w) (h : w = 0#32 ∨ w = 1#32) (i : grid0.Coords) :
    cc0_transform_0 inb_S2_S1_1 numel1_S1 pf i = ![0, theirs w] := by
  have e : pf.at 0 (Rect.unit (s := S2) ![1] S1.size inb_S2_S1_1) numel1_S1 = w := (second_at (pf 0) rfl).trans hw
  have e0 : (i 0).val = 0 := Nat.lt_one_iff.mp (i 0).isLt
  unfold cc0_transform_0
  rw [e, e0]
  rcases h with rfl | rfl <;> rfl

theorem ok_of_word (pf : pre0.Contents (Elt F)) {w : BitVec 32} (hw : second (pf 0) = w) (h : w = 0#32 ∨ w = 1#32) : ok0 pf := by
  unfold ok0
  intro i
  rw [half_at pf hw h i]
  clear hw
  rcases h with rfl | rfl <;> decide

variable (m : (ℓ : Loc nD τ sig) → Buf (Elt F) ℓ)

/-- The word that names the half. -/
abbrev word : BitVec 32 := second (m (((0 : Dev nD) : Thread nD τ).loc main_arg0))

theorem word_of_pre (h : ∀ c : Dev nD, (Cert.Pre_core_d_w_in_theirs.fn (F := F) (m ((c.tc : Thread nD τ).loc main_arg0)) (m ((c.tc : Thread nD τ).loc main_arg1))
    (m ((c.tc : Thread nD τ).loc main_arg2))) = fun _ => 1#1) : word m = 0#32 ∨ word m = 1#32 := by
  refine word_cases ?_
  have e := congrFun (h 0) fun a => a.elim0
  refine Eq.trans ?_ e
  exact congrArg₂ IntOp.ori (congrArg (IntOp.cmpi .eq · 0#32) (slice_second _ _ _ _).symm) (congrArg (IntOp.cmpi .eq · 1#32) (slice_second _ _ _ _).symm)

theorem ok (h : word m = 0#32 ∨ word m = 1#32) : Ok m :=
  ok_of_word (tbl m) (congrArg second (V_main_arg0 m 0)) h

variable (hw : word m = 0#32 ∨ word m = 1#32)

include hw in
theorem index0 (t : Fin grid0.N) : cc0_transform_0 inb_S2_S1_1 numel1_S1 (tbl m) (grid0.coords t) = ![0, theirs (word m)] :=
  half_at (tbl m) (congrArg second (V_main_arg0 m 0)) hw (grid0.coords t)

end

variable (m : (ℓ : Loc nD τ sig) → Buf (Elt Ideal) ℓ) (c : Dev nD) (hO : Ok m) (hw : word m = 0#32 ∨ word m = 1#32)

/-- The entries of the arguments. -/
abbrev A : ℕ → ℕ → EReal := ent (a := 2048) (b := 2048) (m ((c : Thread nD τ).loc main_arg1))
abbrev B : ℕ → ℕ → EReal := ent (a := 2048) (b := 5120) (m ((c : Thread nD τ).loc main_arg2))

theorem index1 : ∀ t : Fin grid0.N, cc0_transform_1 (grid0.coords t) = ![0, t.val] := by decide +kernel
theorem index2 : ∀ t : Fin grid0.N, cc0_transform_2 (grid0.coords t) = ![0, t.val] := by decide +kernel

theorem V0 : (V m c main_v0 : S2048x2048.Idx → EReal) = m ((c : Thread nD τ).loc main_arg1) := by
  show StableHlo.after _ _ (Proc.devRef .tc main_v0) = _
  after_results
  rfl

theorem V1 : (V m c main_v1 : S2048x5120.Idx → EReal) = m ((c : Thread nD τ).loc main_arg2) := by
  show StableHlo.after _ _ (Proc.devRef .tc main_v1) = _
  after_results
  rfl

include hw in
theorem block0 (t : Fin (cfgM m hO).N) (p : Fin 2048) (q : Fin 1024) :
    (iblk m hO c 0 t : S2048x1024.Idx → EReal) (ix2 p q) = A m c p.val (theirs (word m) * 1024 + q.val) := by
  unfold iblk
  refine (View.read_apply ..).trans ((congrFun (V0 m c) _).trans (ent_at _ ?_ ?_))
  · show cc0_transform_0 inb_S2_S1_1 numel1_S1 (tbl m) (grid0.coords t) 0 * 2048 + 1 * p.val = _; rw [index0 m hw t]; show 0 * 2048 + 1 * p.val = _; omega
  · show cc0_transform_0 inb_S2_S1_1 numel1_S1 (tbl m) (grid0.coords t) 1 * 1024 + 1 * q.val = _; rw [index0 m hw t]; show theirs (word m) * 1024 + 1 * q.val = _; omega

theorem block1 (t : Fin (cfgM m hO).N) (p : Fin 2048) (q : Fin 512) :
    (iblk m hO c 1 t : S2048x512.Idx → EReal) (ix2 p q) = B m c p.val (t.val * 512 + q.val) := by
  unfold iblk
  refine (View.read_apply ..).trans ((congrFun (V1 m c) _).trans (ent_at _ ?_ ?_))
  · show cc0_transform_1 (grid0.coords t) 0 * 2048 + 1 * p.val = _; rw [index1 t]; show 0 * 2048 + 1 * p.val = _; omega
  · show cc0_transform_1 (grid0.coords t) 1 * 512 + 1 * q.val = _; rw [index1 t]; show t.val * 512 + 1 * q.val = _; omega

/-- The half of the product. -/
def total (i j : ℕ) : EReal := tn 2048 (A m c) (B m c) (theirs (word m) * 1024 + i) j

theorem pay1 (wf : DotDims.WF ⟨2, ![2048, 1024]⟩ ⟨2, ![2048, 512]⟩ ⟨2, ![1024, 512]⟩ [0] [0] [1] [1] [] []) (x0 : Vec Ideal S2048x1024 .bf16)
    (x1 : Vec Ideal S2048x512 .bf16) : k0_pay1 (F := Ideal) x0 x1
    = matmul (φ₁ := .bf16) (φ₂ := .bf16) (Rd.tn 2048 1024 512 wf) none x0 x1 (constant (F := Ideal) ⟨2, ![1024, 512]⟩ .f32 0x00000000#32) := by
  unfold k0_pay1
  rw [shapeCast_self, shapeCast_self]
  rfl

include hw in
theorem pay1_total (t : Fin (cfgM m hO).N) (p : Fin 1024) (q : Fin 512) :
    k0_pay1 (F := Ideal) (iblk m hO c 0 t) (iblk m hO c 1 t) (ix2 p q) = total m c p.val (t.val * 512 + q.val) :=
  (congrFun (pay1 dot_S2048x1024_S2048x512_S1024x512_0_0_1_1_n_n.wf _ _) _).trans <|
    tn_block (X := A m c) (Y := B m c) (f := fun i => theirs (word m) * 1024 + i.val) (g := fun j => t.val * 512 + j.val) none
      dot_S2048x1024_S2048x512_S1024x512_0_0_1_1_n_n.wf (block0 m c hO hw t) (block1 m c hO t) p q

theorem out2 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole)
    (x0 : Vec Ideal S2048x1024 .bf16) (x1 : Vec Ideal S2048x512 .bf16) (xt0 : TbBuf0 (F := Ideal) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  refine (View.canon_unit_zero (S := S1024x512) zero2 inb_S1024x512_S1024x512_0_0 _).trans ?_
  exact congrArg₂ k0_pay1 (Rd.readAt_filled harg3 zero2 _ x0) (Rd.readAt_filled harg4 zero2 _ x1)

theorem inj2 : ∀ t t' : Fin grid0.N, cc0_transform_2 (grid0.coords t) = cc0_transform_2 (grid0.coords t') → t = t' := by decide +kernel

theorem disjoint2 (t t' : Fin (cfgM m hO).N) (_ : ((cfgM m hO).win 2).flush t = true) (_ : ((cfgM m hO).win 2).flush t' = true)
    (hne : t ≠ t') : Disjoint (((cfgM m hO).win 2).blk t).view.set (((cfgM m hO).win 2).blk t').view.set :=
  ((cfgM m hO).win 2).disjoint_blk fun h => hne (inj2 t t' h)

theorem cut2 (t : Fin (cfgM m hO).N) (v : S1024x512.Idx → EReal) : ((cfgM m hO).win 2).cut (grid0.coords t) v = v := rfl

theorem run2 (t : Fin (cfgM m hO).N) : outsAt0 m hO c t = out0_A_2 (F := Ideal) c (grid0.coords t) (ms0_0 m hO t) (hs0_0 m hO t) (ms0_1 m hO t) (hs0_1 m hO t) (ms0_2 m hO t) (hs0_2 m hO t)
    (iblk m hO c 0 t) (iblk m hO c 1 t) (tbl m 0) := by
  unfold outsAt0
  dsimp only

theorem outs2 (t : Fin (cfgM m hO).N) : outsAt0 m hO c t = k0_pay1 (F := Ideal) (iblk m hO c 0 t) (iblk m hO c 1 t) := by
  rw [run2]
  exact out2 c (grid0.coords t) (ms0_0 m hO t) (hs0_0 m hO t) (ms0_1 m hO t) (hs0_1 m hO t) (ms0_2 m hO t) (hs0_2 m hO t) _ _ _

theorem flushed2 (t : Fin (cfgM m hO).N) : (dats m hO 0 c).flushed 2 t
    = k0_pay1 (F := Ideal) (iblk m hO c 0 t) (iblk m hO c 1 t) := by
  show ((cfgM m hO).win 2).cut (grid0.coords t) ((dats m hO 0 c).after 2 t) = _
  rw [after0_2, outs2 m c hO]
  exact cut2 m hO t _

theorem emb2 (t : Fin (cfgM m hO).N) (p : Fin 1024) (q : Fin 512) (i : S1024x5120.Idx) (h0 : (i 0).val = p.val) (h1 : (i 1).val = t.val * 512 + q.val) :
    ((((cfgM m hO).win 2).blk t).view.emb (ix2 p q) : S1024x5120.Idx) = i := by
  funext a
  match a with
  | ⟨0, _⟩ =>
    refine Fin.ext ?_
    show cc0_transform_2 (grid0.coords t) 0 * 1024 + 1 * p.val = _
    rw [index2 t]
    show 0 * 1024 + 1 * p.val = (i 0).val
    omega
  | ⟨1, _⟩ =>
    refine Fin.ext ?_
    show cc0_transform_2 (grid0.coords t) 1 * 512 + 1 * q.val = _
    rw [index2 t]
    show t.val * 512 + 1 * q.val = (i 1).val
    omega

theorem read2 (f : S1024x5120.Idx → EReal) (t : Fin (cfgM m hO).N) (p : Fin 1024) (q : Fin 512) (i : S1024x5120.Idx) (h0 : (i 0).val = p.val)
    (h1 : (i 1).val = t.val * 512 + q.val) : (((cfgM m hO).win 2).blk t).view.read (Elt Ideal) f (ix2 p q) = f i :=
  (View.read_apply ..).trans (congrArg f (emb2 m hO t p q i h0 h1))

include hw in
theorem array2_at (t : Fin (cfgM m hO).N) (p : Fin 1024) (q : Fin 512) (i : S1024x5120.Idx) (h0 : (i 0).val = p.val) (h1 : (i 1).val = t.val * 512 + q.val) :
    ((dats m hO 0 c).arrAt 2 (cfgM m hO).N : S1024x5120.Idx → EReal) i = total m c p.val (t.val * 512 + q.val) :=
  (read2 m hO ((dats m hO 0 c).arrAt 2 (cfgM m hO).N) t p q i h0 h1).symm.trans <|
    (congrFun ((dats m hO 0 c).read_blk_arrAt_eq_flushed 2 (disjoint2 m hO) (cfgM m hO).N t t.isLt (flush0_2 (adm m hO) t)) (ix2 p q)).trans <|
      (congrFun (flushed2 m c hO t) (ix2 p q)).trans (pay1_total m c hO hw t p q)

include hw in
/-- The array that the kernel leaves. -/
theorem array2 (i : S1024x5120.Idx) : ((dats m hO 0 c).arrAt 2 (cfgM m hO).N : S1024x5120.Idx → EReal) i = total m c (i 0).val (i 1).val := by
  have h1 : (i 1).val < 5120 := (i 1).isLt
  have e1 : (i 1).val = (i 1).val / 512 * 512 + (i 1).val % 512 := by omega
  exact (array2_at m c hO hw ⟨(i 1).val / 512, by show _ < 10; omega⟩ (i 0) ⟨(i 1).val % 512, Nat.mod_lt _ (by decide)⟩ i rfl e1).trans
    (congrArg (total m c (i 0).val) e1.symm)

theorem reference (x0 : S2.Idx → BitVec 32) (i : S1024x5120.Idx) (h : x0 = m (((0 : Dev nD) : Thread nD τ).loc main_arg0)) :
    Cert.DWInTheirsRefIdeal.Read.val_main_v9 (F := Ideal) x0 (m ((c : Thread nD τ).loc main_arg1)) (m ((c : Thread nD τ).loc main_arg2)) i
      = total m c (i 0).val (i 1).val := by
  subst h
  have row (r : ℕ) (k : S2048x5120.Idx) (hr : (k 0).val = r) (hk : (k 1).val = (i 1).val) :
      Cert.DWInTheirsRefIdeal.Read.val_main_v3 (F := Ideal) (m ((c : Thread nD τ).loc main_arg1)) (m ((c : Thread nD τ).loc main_arg2)) k
        = tn 2048 (A m c) (B m c) r (i 1).val :=
    (Cert.DWInTheirsRefIdeal.Read.val_main_v3_apply _ _ k).trans ((Cert.DWInTheirsRefIdeal.Read.val_main_v2_apply _ _ _).trans
      (Finset.sum_congr rfl fun _ _ => (mul_comm _ _).trans (congrArg₂ (· * ·) (ent_at _ rfl hr) (ent_at _ rfl hk))))
  refine Eq.trans ?_ (select_other (word m) (fun r => tn 2048 (A m c) (B m c) r (i 1).val) (i 0).val)
  refine congr (congrArg₂ Scalar.select ?_ ?_) ?_
  · exact congrArg (IntOp.cmpi .eq · 0#32) (slice_second _ _ _ _)
  · exact (Cert.DWInTheirsRefIdeal.Read.val_main_v7_apply _ _ i).trans (row _ _ rfl rfl)
  · exact (Cert.DWInTheirsRefIdeal.Read.val_main_v8_apply _ _ i).trans (row _ _ rfl rfl)

theorem algebraic : Cert.algebraic_DWInTheirsIdeal_DWInTheirsRefIdeal (hDWInTheirsIdeal := Cert.DWInTheirsIdeal.Gen.facts) (hDWInTheirsRefIdeal := Cert.DWInTheirsRefIdeal.Gen.facts)
    (hPre_core_d_w_in_theirs := Cert.Pre_core_d_w_in_theirs.Gen.facts) := by
  intro m g m' g' hpre hargs
  have hw := word_of_pre m hpre
  refine ⟨fun c => (dats m (ok m hw) 0 c).arrAt 2 (cfgM m (ok m hw)).N,
    (θ_run defs _ _).mono (fun r h c => ⟨(h.2 c).1 2, h.1 c⟩) (θ_run_and (unchanged m g (ok m hw)) (run_main m g (ok m hw))), ?_⟩
  refine (θ_run Cert.DWInTheirsRefIdeal.defs _ _).mono (fun r h c => ?_) (Cert.DWInTheirsRefIdeal.Value.run (F := Ideal) m' g')
  obtain ⟨e, ea⟩ := h c
  obtain rfl : c = 0 := Subsingleton.elim _ _
  refine ⟨(e.trans (Cert.DWInTheirsRefIdeal.Read.val_main_v9_eq _ _ _)).trans (funext fun i => ?_), ea⟩
  rw [(hargs 0).2.1, (hargs 0).2.2]
  exact (reference m 0 _ i (hargs 0).1).trans (array2 m 0 (ok m hw) hw i).symm

theorem frame_ideal : Cert.quiescent_DWInTheirsIdeal (hDWInTheirsIdeal := Cert.DWInTheirsIdeal.Gen.facts) (hPre_core_d_w_in_theirs := Cert.Pre_core_d_w_in_theirs.Gen.facts) :=
  fun m g h => Gen.frame (F := Ideal) m g (ok m (word_of_pre m h))

/-- The printed kernel and its ideal twin are one program: at the bits their frames are one statement. -/
theorem same_frame : (∀ (m : (ℓ : Loc nD τ sig) → Buf (Elt Bits) ℓ) (g : Dev nD → PrngReg),
    (∀ c : Dev nD, (Cert.Pre_core_d_w_in_theirs.fn (F := Bits) (m ((c.tc : Thread nD τ).loc main_arg0)) (m ((c.tc : Thread nD τ).loc main_arg1))
      (m ((c.tc : Thread nD τ).loc main_arg2))) = fun _ => 1#1) →
    θ_run (defs (F := Bits)) (onTc (τ := τ) (main (F := Bits))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0))
    = Cert.quiescent_DWInTheirs (hDWInTheirs := Cert.DWInTheirs.Gen.facts) (hPre_core_d_w_in_theirs := Cert.Pre_core_d_w_in_theirs.Gen.facts) := by
  sl_kernel_rfl

theorem frame_bits : Cert.quiescent_DWInTheirs (hDWInTheirs := Cert.DWInTheirs.Gen.facts) (hPre_core_d_w_in_theirs := Cert.Pre_core_d_w_in_theirs.Gen.facts) :=
  same_frame.mp fun m g h => Gen.frame (F := Bits) m g (ok m (word_of_pre m h))

end Cert.DWInTheirsIdeal.Val

end
-- ==== Proof.ValDWInMine.lean ====
/- One core's own half of the gradient of the weights of the input projection: the array that the kernel leaves is the
   product that the reference computes, with the other device's half added. -/
module

public import proofs.«01_k».proof.Proof.Half
public import proofs.«01_k».proof.Proof.Reads
public import proofs.«01_k».proof.Proof.Gen.DWInMineIdeal.Frame
public import proofs.«01_k».proof.Proof.Gen.DWInMine
public import proofs.«01_k».proof.Proof.Gen.DWInMineRefIdeal.Run
public import proofs.«01_k».proof.Proof.Gen.DWInMineRefIdeal.Read
public import proofs.«01_k».proof.Proof.Gen.Pre_core_d_w_in_mine
public import proofs.«01_k».proof.Defs

@[expose] public section

set_option maxRecDepth 16384

noncomputable section

namespace Cert.DWInMineIdeal.Val

open Cert.DWInMineIdeal Cert.DWInMineIdeal.Gen Cert.Proof
open Idealize.ShloMosaic Idealize.ShloMosaic.ValueIdx Idealize.ShloMosaic.TcCoe Idealize.ShloMosaic.Tactic Idealize.SL.Sem

section
variable {F : FTy → Type} [FloatOps F]

/-- The block of the first operand is the half that the word names. -/
theorem half_at (pf : pre0.Contents (Elt F)) {w : BitVec 32} (hw : second (pf 0) = w) (h : w = 0#32 ∨ w = 1#32) (i : grid0.Coords) :
    cc0_transform_0 inb_S2_S1_1 numel1_S1 pf i = ![0, mine w] := by
  have e : pf.at 0 (Rect.unit (s := S2) ![1] S1.size inb_S2_S1_1) numel1_S1 = w := (second_at (pf 0) rfl).trans hw
  have e0 : (i 0).val = 0 := Nat.lt_one_iff.mp (i 0).isLt
  unfold cc0_transform_0
  rw [e, e0]
  rcases h with rfl | rfl <;> rfl

theorem ok_of_word (pf : pre0.Contents (Elt F)) {w : BitVec 32} (hw : second (pf 0) = w) (h : w = 0#32 ∨ w = 1#32) : ok0 pf := by
  unfold ok0
  intro i
  rw [half_at pf hw h i]
  clear hw
  rcases h with rfl | rfl <;> decide

variable (m : (ℓ : Loc nD τ sig) → Buf (Elt F) ℓ)

/-- The word that names the half. -/
abbrev word : BitVec 32 := second (m (((0 : Dev nD) : Thread nD τ).loc main_arg0))

theorem word_of_pre (h : ∀ c : Dev nD, (Cert.Pre_core_d_w_in_mine.fn (F := F) (m ((c.tc : Thread nD τ).loc main_arg0)) (m ((c.tc : Thread nD τ).loc main_arg1))
    (m ((c.tc : Thread nD τ).loc main_arg2)) (m ((c.tc : Thread nD τ).loc main_arg3))) = fun _ => 1#1) : word m = 0#32 ∨ word m = 1#32 := by
  refine word_cases ?_
  have e := congrFun (h 0) fun a => a.elim0
  refine Eq.trans ?_ e
  exact congrArg₂ IntOp.ori (congrArg (IntOp.cmpi .eq · 0#32) (slice_second _ _ _ _).symm) (congrArg (IntOp.cmpi .eq · 1#32) (slice_second _ _ _ _).symm)

theorem ok (h : word m = 0#32 ∨ word m = 1#32) : Ok m :=
  ok_of_word (tbl m) (congrArg second (V_main_arg0 m 0)) h

variable (hw : word m = 0#32 ∨ word m = 1#32)

include hw in
theorem index0 (t : Fin grid0.N) : cc0_transform_0 inb_S2_S1_1 numel1_S1 (tbl m) (grid0.coords t) = ![0, mine (word m)] :=
  half_at (tbl m) (congrArg second (V_main_arg0 m 0)) hw (grid0.coords t)

end

variable (m : (ℓ : Loc nD τ sig) → Buf (Elt Ideal) ℓ) (c : Dev nD) (hO : Ok m) (hw : word m = 0#32 ∨ word m = 1#32)

/-- The entries of the arguments. -/
abbrev A : ℕ → ℕ → EReal := ent (a := 2048) (b := 2048) (m ((c : Thread nD τ).loc main_arg1))
abbrev B : ℕ → ℕ → EReal := ent (a := 2048) (b := 5120) (m ((c : Thread nD τ).loc main_arg2))
abbrev C : ℕ → ℕ → EReal := ent (a := 1024) (b := 5120) (m ((c : Thread nD τ).loc main_arg3))

theorem index1 : ∀ t : Fin grid0.N, cc0_transform_1 (grid0.coords t) = ![0, t.val] := by decide +kernel
theorem index2 : ∀ t : Fin grid0.N, cc0_transform_2 (grid0.coords t) = ![0, t.val] := by decide +kernel
theorem index3 : ∀ t : Fin grid0.N, cc0_transform_3 (grid0.coords t) = ![0, t.val] := by decide +kernel
theorem index4 : ∀ t : Fin grid0.N, cc0_transform_4 (grid0.coords t) = ![0, t.val] := by decide +kernel

theorem V0 : (V m c main_v0 : S2048x2048.Idx → EReal) = m ((c : Thread nD τ).loc main_arg1) := by
  show StableHlo.after _ _ (Proc.devRef .tc main_v0) = _
  after_results
  rfl

theorem V1 : (V m c main_v1 : S2048x5120.Idx → EReal) = m ((c : Thread nD τ).loc main_arg2) := by
  show StableHlo.after _ _ (Proc.devRef .tc main_v1) = _
  after_results
  rfl

include hw in
theorem block0 (t : Fin (cfgM m hO).N) (p : Fin 2048) (q : Fin 1024) :
    (iblk m hO c 0 t : S2048x1024.Idx → EReal) (ix2 p q) = A m c p.val (mine (word m) * 1024 + q.val) := by
  unfold iblk
  refine (View.read_apply ..).trans ((congrFun (V0 m c) _).trans (ent_at _ ?_ ?_))
  · show cc0_transform_0 inb_S2_S1_1 numel1_S1 (tbl m) (grid0.coords t) 0 * 2048 + 1 * p.val = _; rw [index0 m hw t]; show 0 * 2048 + 1 * p.val = _; omega
  · show cc0_transform_0 inb_S2_S1_1 numel1_S1 (tbl m) (grid0.coords t) 1 * 1024 + 1 * q.val = _; rw [index0 m hw t]; show mine (word m) * 1024 + 1 * q.val = _; omega

theorem block1 (t : Fin (cfgM m hO).N) (p : Fin 2048) (q : Fin 512) :
    (iblk m hO c 1 t : S2048x512.Idx → EReal) (ix2 p q) = B m c p.val (t.val * 512 + q.val) := by
  unfold iblk
  refine (View.read_apply ..).trans ((congrFun (V1 m c) _).trans (ent_at _ ?_ ?_))
  · show cc0_transform_1 (grid0.coords t) 0 * 2048 + 1 * p.val = _; rw [index1 t]; show 0 * 2048 + 1 * p.val = _; omega
  · show cc0_transform_1 (grid0.coords t) 1 * 512 + 1 * q.val = _; rw [index1 t]; show t.val * 512 + 1 * q.val = _; omega

theorem block2 (t : Fin (cfgM m hO).N) (p : Fin 1024) (q : Fin 512) :
    (iblk m hO c 2 t : S1024x512.Idx → EReal) (ix2 p q) = C m c p.val (t.val * 512 + q.val) := by
  unfold iblk
  refine (View.read_apply ..).trans ((congrFun (V_main_arg3 m c) _).trans (ent_at _ ?_ ?_))
  · show cc0_transform_2 (grid0.coords t) 0 * 1024 + 1 * p.val = _; rw [index2 t]; show 0 * 1024 + 1 * p.val = _; omega
  · show cc0_transform_2 (grid0.coords t) 1 * 512 + 1 * q.val = _; rw [index2 t]; show t.val * 512 + 1 * q.val = _; omega

/-- The half of the product with the other device's half added. -/
def total (i j : ℕ) : EReal := tn 2048 (A m c) (B m c) (mine (word m) * 1024 + i) j + C m c i j

theorem pay1 (wf : DotDims.WF ⟨2, ![2048, 1024]⟩ ⟨2, ![2048, 512]⟩ ⟨2, ![1024, 512]⟩ [0] [0] [1] [1] [] []) (x0 : Vec Ideal S2048x1024 .bf16)
    (x1 : Vec Ideal S2048x512 .bf16) (x2 : Vec Ideal S1024x512 .f32) (i : S1024x512.Idx) : k0_pay1 (F := Ideal) x0 x1 x2 i
    = matmul (φ₁ := .bf16) (φ₂ := .bf16) (Rd.tn 2048 1024 512 wf) none x0 x1 (constant (F := Ideal) ⟨2, ![1024, 512]⟩ .f32 0x00000000#32) i + x2 i := by
  unfold k0_pay1
  rw [shapeCast_self, shapeCast_self]
  rfl

include hw in
theorem pay1_total (t : Fin (cfgM m hO).N) (p : Fin 1024) (q : Fin 512) :
    k0_pay1 (F := Ideal) (iblk m hO c 0 t) (iblk m hO c 1 t) (iblk m hO c 2 t) (ix2 p q) = total m c p.val (t.val * 512 + q.val) :=
  (pay1 dot_S2048x1024_S2048x512_S1024x512_0_0_1_1_n_n.wf _ _ _ _).trans <| congrArg₂ (· + ·)
    (tn_block (X := A m c) (Y := B m c) (f := fun i => mine (word m) * 1024 + i.val) (g := fun j => t.val * 512 + j.val) none
      dot_S2048x1024_S2048x512_S1024x512_0_0_1_1_n_n.wf (block0 m c hO hw t) (block1 m c hO t) p q) (block2 m c hO t p q)

theorem out3 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole)
    (x0 : Vec Ideal S2048x1024 .bf16) (x1 : Vec Ideal S2048x512 .bf16) (x2 : Vec Ideal S1024x512 .f32) (xt0 : TbBuf0 (F := Ideal) c tbM0_0) :
    out0_A_3 c i arg3 harg3 arg4 harg4 arg5 harg5 arg6 harg6 arg7 harg7 x0 x1 x2 xt0 = k0_pay1 x0 x1 x2 := by
  unfold out0_A_3
  rw [View.read_writes_eq_canon _ _ _ (cover0_A_3 c i arg3 harg3 arg4 harg4 arg5 harg5 arg6 harg6 arg7 harg7 x0 x1 x2 xt0)]
  refine (View.canon_unit_zero (S := S1024x512) zero2 inb_S1024x512_S1024x512_0_0 _).trans ?_
  exact congr (congrArg₂ k0_pay1 (Rd.readAt_filled harg3 zero2 _ x0) (Rd.readAt_filled harg4 zero2 _ x1)) (Rd.readAt_filled harg5 zero2 _ x2)

theorem out4 (c : Dev nD) (i : grid0.Coords) (arg3 : Memref sig .tc .vmem S2048x1024 .bf16) (harg3 : arg3.IsWhole) (arg4 : Memref sig .tc .vmem S2048x512 .bf16) (harg4 : arg4.IsWhole)
    (arg5 : Memref sig .tc .vmem S1024x512 .f32) (harg5 : arg5.IsWhole) (arg6 : Memref sig .tc .vmem S1024x512 .f32) (harg6 : arg6.IsWhole) (arg7 : Memref sig .tc .vmem S1024x512 .bf16) (harg7 : arg7.IsWhole)
    (x0 : Vec Ideal S2048x1024 .bf16) (x1 : Vec Ideal S2048x512 .bf16) (x2 : Vec Ideal S1024x512 .f32) (xt0 : TbBuf0 (F := Ideal) c tbM0_0) :
    out0_A_4 c i arg3 harg3 arg4 harg4 arg5 harg5 arg6 harg6 arg7 harg7 x0 x1 x2 xt0 = k0_pay2 x0 x1 x2 := by
  unfold out0_A_4
  rw [View.read_writes_eq_canon _ _ _ (cover0_A_4 c i arg3 harg3 arg4 harg4 arg5 harg5 arg6 harg6 arg7 harg7 x0 x1 x2 xt0)]
  refine (View.canon_unit_zero (S := S1024x512) zero2 inb_S1024x512_S1024x512_0_0 _).trans ?_
  exact congr (congrArg₂ k0_pay2 (Rd.readAt_filled harg3 zero2 _ x0) (Rd.readAt_filled harg4 zero2 _ x1)) (Rd.readAt_filled harg5 zero2 _ x2)

theorem inj3 : ∀ t t' : Fin grid0.N, cc0_transform_3 (grid0.coords t) = cc0_transform_3 (grid0.coords t') → t = t' := by decide +kernel

theorem disjoint3 (t t' : Fin (cfgM m hO).N) (_ : ((cfgM m hO).win 3).flush t = true) (_ : ((cfgM m hO).win 3).flush t' = true)
    (hne : t ≠ t') : Disjoint (((cfgM m hO).win 3).blk t).view.set (((cfgM m hO).win 3).blk t').view.set :=
  ((cfgM m hO).win 3).disjoint_blk fun h => hne (inj3 t t' h)

theorem cut3 (t : Fin (cfgM m hO).N) (v : S1024x512.Idx → EReal) : ((cfgM m hO).win 3).cut (grid0.coords t) v = v := rfl

theorem run3 (t : Fin (cfgM m hO).N) : (outsAt0 m hO c t).1 = out0_A_3 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (iblk m hO c 0 t) (iblk m hO c 1 t) (iblk m hO c 2 t) (tbl m 0) := by
  unfold outsAt0
  dsimp only

theorem outs3 (t : Fin (cfgM m hO).N) : (outsAt0 m hO c t).1 = k0_pay1 (F := Ideal) (iblk m hO c 0 t) (iblk m hO c 1 t) (iblk m hO c 2 t) := by
  rw [run3]
  exact out3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) _ _ _ _

theorem flushed3 (t : Fin (cfgM m hO).N) : (dats m hO 0 c).flushed 3 t
    = k0_pay1 (F := Ideal) (iblk m hO c 0 t) (iblk m hO c 1 t) (iblk m hO c 2 t) := by
  show ((cfgM m hO).win 3).cut (grid0.coords t) ((dats m hO 0 c).after 3 t) = _
  rw [after0_3, outs3 m c hO]
  exact cut3 m hO t _

theorem emb3 (t : Fin (cfgM m hO).N) (p : Fin 1024) (q : Fin 512) (i : S1024x5120.Idx) (h0 : (i 0).val = p.val) (h1 : (i 1).val = t.val * 512 + q.val) :
    ((((cfgM m hO).win 3).blk t).view.emb (ix2 p q) : S1024x5120.Idx) = i := by
  funext a
  match a with
  | ⟨0, _⟩ =>
    refine Fin.ext ?_
    show cc0_transform_3 (grid0.coords t) 0 * 1024 + 1 * p.val = _
    rw [index3 t]
    show 0 * 1024 + 1 * p.val = (i 0).val
    omega
  | ⟨1, _⟩ =>
    refine Fin.ext ?_
    show cc0_transform_3 (grid0.coords t) 1 * 512 + 1 * q.val = _
    rw [index3 t]
    show t.val * 512 + 1 * q.val = (i 1).val
    omega

theorem read3 (f : S1024x5120.Idx → EReal) (t : Fin (cfgM m hO).N) (p : Fin 1024) (q : Fin 512) (i : S1024x5120.Idx) (h0 : (i 0).val = p.val)
    (h1 : (i 1).val = t.val * 512 + q.val) : (((cfgM m hO).win 3).blk t).view.read (Elt Ideal) f (ix2 p q) = f i :=
  (View.read_apply ..).trans (congrArg f (emb3 m hO t p q i h0 h1))

include hw in
theorem array3_at (t : Fin (cfgM m hO).N) (p : Fin 1024) (q : Fin 512) (i : S1024x5120.Idx) (h0 : (i 0).val = p.val) (h1 : (i 1).val = t.val * 512 + q.val) :
    ((dats m hO 0 c).arrAt 3 (cfgM m hO).N : S1024x5120.Idx → EReal) i = total m c p.val (t.val * 512 + q.val) :=
  (read3 m hO ((dats m hO 0 c).arrAt 3 (cfgM m hO).N) t p q i h0 h1).symm.trans <|
    (congrFun ((dats m hO 0 c).read_blk_arrAt_eq_flushed 3 (disjoint3 m hO) (cfgM m hO).N t t.isLt (flush0_3 (adm m hO) t)) (ix2 p q)).trans <|
      (congrFun (flushed3 m c hO t) (ix2 p q)).trans (pay1_total m c hO hw t p q)

include hw in
/-- The array that the kernel leaves. -/
theorem array3 (i : S1024x5120.Idx) : ((dats m hO 0 c).arrAt 3 (cfgM m hO).N : S1024x5120.Idx → EReal) i = total m c (i 0).val (i 1).val := by
  have h1 : (i 1).val < 5120 := (i 1).isLt
  have e1 : (i 1).val = (i 1).val / 512 * 512 + (i 1).val % 512 := by omega
  exact (array3_at m c hO hw ⟨(i 1).val / 512, by show _ < 10; omega⟩ (i 0) ⟨(i 1).val % 512, Nat.mod_lt _ (by decide)⟩ i rfl e1).trans
    (congrArg (total m c (i 0).val) e1.symm)

theorem inj4 : ∀ t t' : Fin grid0.N, cc0_transform_4 (grid0.coords t) = cc0_transform_4 (grid0.coords t') → t = t' := by decide +kernel

theorem disjoint4 (t t' : Fin (cfgM m hO).N) (_ : ((cfgM m hO).win 4).flush t = true) (_ : ((cfgM m hO).win 4).flush t' = true)
    (hne : t ≠ t') : Disjoint (((cfgM m hO).win 4).blk t).view.set (((cfgM m hO).win 4).blk t').view.set :=
  ((cfgM m hO).win 4).disjoint_blk fun h => hne (inj4 t t' h)

theorem cut4 (t : Fin (cfgM m hO).N) (v : S1024x512.Idx → EReal) : ((cfgM m hO).win 4).cut (grid0.coords t) v = v := rfl

theorem run4 (t : Fin (cfgM m hO).N) : (outsAt0 m hO c t).2 = out0_A_4 (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t)
    (iblk m hO c 0 t) (iblk m hO c 1 t) (iblk m hO c 2 t) (tbl m 0) := by
  unfold outsAt0
  dsimp only

theorem outs4 (t : Fin (cfgM m hO).N) : (outsAt0 m hO c t).2 = k0_pay2 (F := Ideal) (iblk m hO c 0 t) (iblk m hO c 1 t) (iblk m hO c 2 t) := by
  rw [run4]
  exact out4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) _ _ _ _

theorem flushed4 (t : Fin (cfgM m hO).N) : (dats m hO 0 c).flushed 4 t
    = k0_pay2 (F := Ideal) (iblk m hO c 0 t) (iblk m hO c 1 t) (iblk m hO c 2 t) := by
  show ((cfgM m hO).win 4).cut (grid0.coords t) ((dats m hO 0 c).after 4 t) = _
  rw [after0_4, outs4 m c hO]
  exact cut4 m hO t _

theorem emb4 (t : Fin (cfgM m hO).N) (p : Fin 1024) (q : Fin 512) (i : S1024x5120.Idx) (h0 : (i 0).val = p.val) (h1 : (i 1).val = t.val * 512 + q.val) :
    ((((cfgM m hO).win 4).blk t).view.emb (ix2 p q) : S1024x5120.Idx) = i := by
  funext a
  match a with
  | ⟨0, _⟩ =>
    refine Fin.ext ?_
    show cc0_transform_4 (grid0.coords t) 0 * 1024 + 1 * p.val = _
    rw [index4 t]
    show 0 * 1024 + 1 * p.val = (i 0).val
    omega
  | ⟨1, _⟩ =>
    refine Fin.ext ?_
    show cc0_transform_4 (grid0.coords t) 1 * 512 + 1 * q.val = _
    rw [index4 t]
    show t.val * 512 + 1 * q.val = (i 1).val
    omega

theorem read4 (f : S1024x5120.Idx → EReal) (t : Fin (cfgM m hO).N) (p : Fin 1024) (q : Fin 512) (i : S1024x5120.Idx) (h0 : (i 0).val = p.val)
    (h1 : (i 1).val = t.val * 512 + q.val) : (((cfgM m hO).win 4).blk t).view.read (Elt Ideal) f (ix2 p q) = f i :=
  (View.read_apply ..).trans (congrArg f (emb4 m hO t p q i h0 h1))

include hw in
theorem array4_at (t : Fin (cfgM m hO).N) (p : Fin 1024) (q : Fin 512) (i : S1024x5120.Idx) (h0 : (i 0).val = p.val) (h1 : (i 1).val = t.val * 512 + q.val) :
    ((dats m hO 0 c).arrAt 4 (cfgM m hO).N : S1024x5120.Idx → EReal) i = total m c p.val (t.val * 512 + q.val) :=
  (read4 m hO ((dats m hO 0 c).arrAt 4 (cfgM m hO).N) t p q i h0 h1).symm.trans <|
    (congrFun ((dats m hO 0 c).read_blk_arrAt_eq_flushed 4 (disjoint4 m hO) (cfgM m hO).N t t.isLt (flush0_4 (adm m hO) t)) (ix2 p q)).trans <|
      (congrFun (flushed4 m c hO t) (ix2 p q)).trans (pay1_total m c hO hw t p q)

include hw in
/-- The array that the kernel leaves for the exchange. -/
theorem array4 (i : S1024x5120.Idx) : ((dats m hO 0 c).arrAt 4 (cfgM m hO).N : S1024x5120.Idx → EReal) i = total m c (i 0).val (i 1).val := by
  have h1 : (i 1).val < 5120 := (i 1).isLt
  have e1 : (i 1).val = (i 1).val / 512 * 512 + (i 1).val % 512 := by omega
  exact (array4_at m c hO hw ⟨(i 1).val / 512, by show _ < 10; omega⟩ (i 0) ⟨(i 1).val % 512, Nat.mod_lt _ (by decide)⟩ i rfl e1).trans
    (congrArg (total m c (i 0).val) e1.symm)

theorem reference (x0 : S2.Idx → BitVec 32) (i : S1024x5120.Idx) (h : x0 = m (((0 : Dev nD) : Thread nD τ).loc main_arg0)) :
    Cert.DWInMineRefIdeal.Read.val_main_v10 (F := Ideal) x0 (m ((c : Thread nD τ).loc main_arg1)) (m ((c : Thread nD τ).loc main_arg2)) (m ((c : Thread nD τ).loc main_arg3)) i
      = total m c (i 0).val (i 1).val := by
  subst h
  refine congrArg₂ (· + ·) ?_ (ent_at _ rfl rfl)
  have row (r : ℕ) (k : S2048x5120.Idx) (hr : (k 0).val = r) (hk : (k 1).val = (i 1).val) :
      Cert.DWInMineRefIdeal.Read.val_main_v3 (F := Ideal) (m ((c : Thread nD τ).loc main_arg1)) (m ((c : Thread nD τ).loc main_arg2)) k
        = tn 2048 (A m c) (B m c) r (i 1).val :=
    (Cert.DWInMineRefIdeal.Read.val_main_v3_apply _ _ k).trans ((Cert.DWInMineRefIdeal.Read.val_main_v2_apply _ _ _).trans
      (Finset.sum_congr rfl fun _ _ => (mul_comm _ _).trans (congrArg₂ (· * ·) (ent_at _ rfl hr) (ent_at _ rfl hk))))
  refine Eq.trans ?_ (select_half (word m) (fun r => tn 2048 (A m c) (B m c) r (i 1).val) (i 0).val)
  refine congr (congrArg₂ Scalar.select ?_ ?_) ?_
  · exact congrArg (IntOp.cmpi .eq · 0#32) (slice_second _ _ _ _)
  · exact (Cert.DWInMineRefIdeal.Read.val_main_v7_apply _ _ i).trans (row _ _ rfl rfl)
  · exact (Cert.DWInMineRefIdeal.Read.val_main_v8_apply _ _ i).trans (row _ _ rfl rfl)

theorem algebraic : Cert.algebraic_DWInMineIdeal_DWInMineRefIdeal (hDWInMineIdeal := Cert.DWInMineIdeal.Gen.facts) (hDWInMineRefIdeal := Cert.DWInMineRefIdeal.Gen.facts)
    (hPre_core_d_w_in_mine := Cert.Pre_core_d_w_in_mine.Gen.facts) := by
  intro m g m' g' hpre hargs
  have hw := word_of_pre m hpre
  refine ⟨fun c => (dats m (ok m hw) 0 c).arrAt 3 (cfgM m (ok m hw)).N, fun c => (dats m (ok m hw) 0 c).arrAt 4 (cfgM m (ok m hw)).N,
    (θ_run defs _ _).mono (fun r h c => ⟨(h.2 c).1 3, (h.2 c).1 4, h.1 c⟩) (θ_run_and (unchanged m g (ok m hw)) (run_main m g (ok m hw))), ?_⟩
  refine (θ_run Cert.DWInMineRefIdeal.defs _ _).mono (fun r h c => ?_) (Cert.DWInMineRefIdeal.Value.run (F := Ideal) m' g')
  obtain ⟨e, e', ea⟩ := h c
  obtain rfl : c = 0 := Subsingleton.elim _ _
  refine ⟨(e.trans (Cert.DWInMineRefIdeal.Read.val_main_v10_eq _ _ _ _)).trans (funext fun i => ?_),
    (e'.trans (Cert.DWInMineRefIdeal.Read.val_main_v11_eq _ _ _ _)).trans (funext fun i => ?_), ea⟩
  · rw [(hargs 0).2.1, (hargs 0).2.2.1, (hargs 0).2.2.2]
    exact (reference m 0 _ i (hargs 0).1).trans (array3 m 0 (ok m hw) hw i).symm
  · rw [(hargs 0).2.1, (hargs 0).2.2.1, (hargs 0).2.2.2]
    exact (reference m 0 _ i (hargs 0).1).trans (array4 m 0 (ok m hw) hw i).symm

theorem frame_ideal : Cert.quiescent_DWInMineIdeal (hDWInMineIdeal := Cert.DWInMineIdeal.Gen.facts) (hPre_core_d_w_in_mine := Cert.Pre_core_d_w_in_mine.Gen.facts) :=
  fun m g h => Gen.frame (F := Ideal) m g (ok m (word_of_pre m h))

/-- The printed kernel and its ideal twin are one program: at the bits their frames are one statement. -/
theorem same_frame : (∀ (m : (ℓ : Loc nD τ sig) → Buf (Elt Bits) ℓ) (g : Dev nD → PrngReg),
    (∀ c : Dev nD, (Cert.Pre_core_d_w_in_mine.fn (F := Bits) (m ((c.tc : Thread nD τ).loc main_arg0)) (m ((c.tc : Thread nD τ).loc main_arg1))
      (m ((c.tc : Thread nD τ).loc main_arg2)) (m ((c.tc : Thread nD τ).loc main_arg3))) = fun _ => 1#1) →
    θ_run (defs (F := Bits)) (onTc (τ := τ) (main (F := Bits))) ⟨m, fun _ => 0, g⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0))
    = Cert.quiescent_DWInMine (hDWInMine := Cert.DWInMine.Gen.facts) (hPre_core_d_w_in_mine := Cert.Pre_core_d_w_in_mine.Gen.facts) := by
  sl_kernel_rfl

theorem frame_bits : Cert.quiescent_DWInMine (hDWInMine := Cert.DWInMine.Gen.facts) (hPre_core_d_w_in_mine := Cert.Pre_core_d_w_in_mine.Gen.facts) :=
  same_frame.mp fun m g h => Gen.frame (F := Bits) m g (ok m (word_of_pre m h))

end Cert.DWInMineIdeal.Val

end
-- ==== Proof.lean ====
/- The certificate: for each call that is stated, the frames of its programs and the equation between the kernel and its
   reference, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.DFfnInIdeal.Value
public import proofs.«01_k».proof.Proof.Gen.DFfnInRefIdeal.Run
public import proofs.«01_k».proof.Proof.Gen.DFfnInRefIdeal.Read
public import proofs.«01_k».proof.Proof.Gen.DH2Ideal.Value
public import proofs.«01_k».proof.Proof.Gen.DH2RefIdeal.Run
public import proofs.«01_k».proof.Proof.Gen.DH2RefIdeal.Read
public import proofs.«01_k».proof.Proof.Gen.DWDownIdeal.Value
public import proofs.«01_k».proof.Proof.Gen.DWDownRefIdeal.Run
public import proofs.«01_k».proof.Proof.Gen.DWDownRefIdeal.Read
public import proofs.«01_k».proof.Proof.Gen.DWOutIdeal.Value
public import proofs.«01_k».proof.Proof.Gen.DWOutRefIdeal.Run
public import proofs.«01_k».proof.Proof.Gen.DWOutRefIdeal.Read
public import proofs.«01_k».proof.Proof.Gen.DOIdeal.Value
public import proofs.«01_k».proof.Proof.Gen.DORefIdeal.Run
public import proofs.«01_k».proof.Proof.Gen.DORefIdeal.Read
public import proofs.«01_k».proof.Proof.Gen.DH1Ideal.Value
public import proofs.«01_k».proof.Proof.Gen.DH1RefIdeal.Run
public import proofs.«01_k».proof.Proof.Gen.DH1RefIdeal.Read
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.Gen.DFfnIn.Frame
public import proofs.«01_k».proof.Proof.Gen.DH2.Frame
public import proofs.«01_k».proof.Proof.Gen.DWDown.Frame
public import proofs.«01_k».proof.Proof.Gen.DWOut.Frame
public import proofs.«01_k».proof.Proof.Gen.DO.Frame
public import proofs.«01_k».proof.Proof.Gen.DH1.Frame
public import proofs.«01_k».proof.Proof.Gen.GateUp.Frame
public import proofs.«01_k».proof.Proof.Gen.Down.Frame
public import proofs.«01_k».proof.Proof.Gen.Proj.Frame
public import proofs.«01_k».proof.Proof.Gen.AttnOut.Frame
public import proofs.«01_k».proof.Proof.Blocks
public import proofs.«01_k».proof.Proof.Finite
public import proofs.«01_k».proof.Proof.Equation
public import proofs.«01_k».proof.Proof.ValDFfnIn
public import proofs.«01_k».proof.Proof.ValDH2
public import proofs.«01_k».proof.Proof.ValDWDown
public import proofs.«01_k».proof.Proof.ValDWOut
public import proofs.«01_k».proof.Proof.ValDO
public import proofs.«01_k».proof.Proof.ValDH1
public import proofs.«01_k».proof.Proof.ValGateUp
public import proofs.«01_k».proof.Proof.ValDown
public import proofs.«01_k».proof.Proof.ValProj
public import proofs.«01_k».proof.Proof.ValAttnOut
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Gen.Norm1.Frame
public import proofs.«01_k».proof.Proof.Gen.Norm2Ideal.Value
public import proofs.«01_k».proof.Proof.Gen.Norm2RefIdeal.Run
public import proofs.«01_k».proof.Proof.Gen.Norm2RefIdeal.Read
public import proofs.«01_k».proof.Proof.Gen.Norm2.Frame
public import proofs.«01_k».proof.Proof.ValNorm1
public import proofs.«01_k».proof.Proof.ValNorm2
public import proofs.«01_k».proof.Proof.Gen.DWGateTheirs.Frame
public import proofs.«01_k».proof.Proof.Gen.DWGateTheirsIdeal.Frame
public import proofs.«01_k».proof.Proof.Gen.DWGateTheirsRefIdeal.Run
public import proofs.«01_k».proof.Proof.Gen.DWGateTheirsRefIdeal.Read
public import proofs.«01_k».proof.Proof.Gen.DWGateMine.Frame
public import proofs.«01_k».proof.Proof.Gen.DWGateMineIdeal.Frame
public import proofs.«01_k».proof.Proof.Gen.DWGateMineRefIdeal.Run
public import proofs.«01_k».proof.Proof.Gen.DWGateMineRefIdeal.Read
public import proofs.«01_k».proof.Proof.Gen.DWInTheirs.Frame
public import proofs.«01_k».proof.Proof.Gen.DWInTheirsIdeal.Frame
public import proofs.«01_k».proof.Proof.Gen.DWInTheirsRefIdeal.Run
public import proofs.«01_k».proof.Proof.Gen.DWInTheirsRefIdeal.Read
public import proofs.«01_k».proof.Proof.Gen.DWInMine.Frame
public import proofs.«01_k».proof.Proof.Gen.DWInMineIdeal.Frame
public import proofs.«01_k».proof.Proof.Gen.DWInMineRefIdeal.Run
public import proofs.«01_k».proof.Proof.Gen.DWInMineRefIdeal.Read
public import proofs.«01_k».proof.Proof.Gen.Pre_core_d_w_gate_theirs
public import proofs.«01_k».proof.Proof.Gen.Pre_core_d_w_gate_mine
public import proofs.«01_k».proof.Proof.Gen.Pre_core_d_w_in_theirs
public import proofs.«01_k».proof.Proof.Gen.Pre_core_d_w_in_mine
public import proofs.«01_k».proof.Proof.ValDWGateTheirs
public import proofs.«01_k».proof.Proof.ValDWGateMine
public import proofs.«01_k».proof.Proof.ValDWInTheirs
public import proofs.«01_k».proof.Proof.ValDWInMine

@[expose] public section

noncomputable section

namespace Cert.Proof

open Idealize.ShloMosaic Idealize.SL.Sem

/-- The printed kernel and its ideal twin are one program: at the bits their frames are one statement. -/
theorem same_frame : (∀ (m : (ℓ : Loc Cert.KernelIdeal.nD Cert.KernelIdeal.τ Cert.KernelIdeal.sig) → Buf (Elt Bits) ℓ)
    (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0))
    = Cert.quiescent_Kernel (hKernel := Cert.Kernel.Gen.facts) := by
  sl_kernel_rfl

theorem frame_kernel : Cert.quiescent_Kernel (hKernel := Cert.Kernel.Gen.facts) :=
  same_frame.mp fun m g _ => Cert.KernelIdeal.Bwd.frame (F := Bits) m g

theorem frame_kernelIdeal : Cert.quiescent_KernelIdeal (hKernelIdeal := Cert.KernelIdeal.Gen.facts) := fun m g _ =>
  Cert.KernelIdeal.Bwd.frame (F := Ideal) m g

theorem frame_reference : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-! The frames of the matrix-product calls: the kernel's and its ideal twin's are the frames of their pipelines; a
    reference has no semaphore. -/

theorem frame_DFfnIn : Cert.quiescent_DFfnIn (hDFfnIn := Cert.DFfnIn.Gen.facts) := fun m g _ => Cert.DFfnIn.Gen.frame (F := Bits) m g

theorem frame_DFfnInIdeal : Cert.quiescent_DFfnInIdeal (hDFfnInIdeal := Cert.DFfnInIdeal.Gen.facts) := fun m g _ => Cert.DFfnInIdeal.Gen.frame (F := Ideal) m g

theorem frame_DFfnInRef : Cert.quiescent_DFfnInRefIdeal (hDFfnInRefIdeal := Cert.DFfnInRefIdeal.Gen.facts) := fun m g _ =>
  (θ_run Cert.DFfnInRefIdeal.defs _ _).mono (fun r h => ⟨fun c => (h c).2.2, sem_eq_zero_of_no_sems (by decide) r.2⟩)
    (Cert.DFfnInRefIdeal.Value.run (F := Ideal) m g)

theorem frame_DH2 : Cert.quiescent_DH2 (hDH2 := Cert.DH2.Gen.facts) := fun m g _ => Cert.DH2.Gen.frame (F := Bits) m g

theorem frame_DH2Ideal : Cert.quiescent_DH2Ideal (hDH2Ideal := Cert.DH2Ideal.Gen.facts) := fun m g _ => Cert.DH2Ideal.Gen.frame (F := Ideal) m g

theorem frame_DH2Ref : Cert.quiescent_DH2RefIdeal (hDH2RefIdeal := Cert.DH2RefIdeal.Gen.facts) := fun m g _ =>
  (θ_run Cert.DH2RefIdeal.defs _ _).mono (fun r h => ⟨fun c => (h c).2, sem_eq_zero_of_no_sems (by decide) r.2⟩)
    (Cert.DH2RefIdeal.Value.run (F := Ideal) m g)

theorem frame_DWDown : Cert.quiescent_DWDown (hDWDown := Cert.DWDown.Gen.facts) := fun m g _ => Cert.DWDown.Gen.frame (F := Bits) m g

theorem frame_DWDownIdeal : Cert.quiescent_DWDownIdeal (hDWDownIdeal := Cert.DWDownIdeal.Gen.facts) := fun m g _ => Cert.DWDownIdeal.Gen.frame (F := Ideal) m g

theorem frame_DWDownRef : Cert.quiescent_DWDownRefIdeal (hDWDownRefIdeal := Cert.DWDownRefIdeal.Gen.facts) := fun m g _ =>
  (θ_run Cert.DWDownRefIdeal.defs _ _).mono (fun r h => ⟨fun c => (h c).2, sem_eq_zero_of_no_sems (by decide) r.2⟩)
    (Cert.DWDownRefIdeal.Value.run (F := Ideal) m g)

theorem frame_DWOut : Cert.quiescent_DWOut (hDWOut := Cert.DWOut.Gen.facts) := fun m g _ => Cert.DWOut.Gen.frame (F := Bits) m g

theorem frame_DWOutIdeal : Cert.quiescent_DWOutIdeal (hDWOutIdeal := Cert.DWOutIdeal.Gen.facts) := fun m g _ => Cert.DWOutIdeal.Gen.frame (F := Ideal) m g

theorem frame_DWOutRef : Cert.quiescent_DWOutRefIdeal (hDWOutRefIdeal := Cert.DWOutRefIdeal.Gen.facts) := fun m g _ =>
  (θ_run Cert.DWOutRefIdeal.defs _ _).mono (fun r h => ⟨fun c => (h c).2, sem_eq_zero_of_no_sems (by decide) r.2⟩)
    (Cert.DWOutRefIdeal.Value.run (F := Ideal) m g)

theorem frame_DO : Cert.quiescent_DO (hDO := Cert.DO.Gen.facts) := fun m g _ => Cert.DO.Gen.frame (F := Bits) m g

theorem frame_DOIdeal : Cert.quiescent_DOIdeal (hDOIdeal := Cert.DOIdeal.Gen.facts) := fun m g _ => Cert.DOIdeal.Gen.frame (F := Ideal) m g

theorem frame_DORef : Cert.quiescent_DORefIdeal (hDORefIdeal := Cert.DORefIdeal.Gen.facts) := fun m g _ =>
  (θ_run Cert.DORefIdeal.defs _ _).mono (fun r h => ⟨fun c => (h c).2, sem_eq_zero_of_no_sems (by decide) r.2⟩)
    (Cert.DORefIdeal.Value.run (F := Ideal) m g)

theorem frame_DH1 : Cert.quiescent_DH1 (hDH1 := Cert.DH1.Gen.facts) := fun m g _ => Cert.DH1.Gen.frame (F := Bits) m g

theorem frame_DH1Ideal : Cert.quiescent_DH1Ideal (hDH1Ideal := Cert.DH1Ideal.Gen.facts) := fun m g _ => Cert.DH1Ideal.Gen.frame (F := Ideal) m g

theorem frame_DH1Ref : Cert.quiescent_DH1RefIdeal (hDH1RefIdeal := Cert.DH1RefIdeal.Gen.facts) := fun m g _ =>
  (θ_run Cert.DH1RefIdeal.defs _ _).mono (fun r h => ⟨fun c => (h c).2, sem_eq_zero_of_no_sems (by decide) r.2⟩)
    (Cert.DH1RefIdeal.Value.run (F := Ideal) m g)

theorem frame_GateUp : Cert.quiescent_GateUp (hGateUp := Cert.GateUp.Gen.facts) := fun m g _ => Cert.GateUp.Gen.frame (F := Bits) m g

theorem frame_GateUpIdeal : Cert.quiescent_GateUpIdeal (hGateUpIdeal := Cert.GateUpIdeal.Gen.facts) := fun m g _ => Cert.GateUpIdeal.Gen.frame (F := Ideal) m g

theorem frame_GateUpRef : Cert.quiescent_GateUpRefIdeal (hGateUpRefIdeal := Cert.GateUpRefIdeal.Gen.facts) := fun m g _ =>
  (θ_run Cert.GateUpRefIdeal.defs _ _).mono (fun r h => ⟨fun c => (h c).2.2.2, sem_eq_zero_of_no_sems (by decide) r.2⟩)
    (Cert.GateUpRefIdeal.Value.run (F := Ideal) m g)

theorem frame_Down : Cert.quiescent_Down (hDown := Cert.Down.Gen.facts) := fun m g _ => Cert.Down.Gen.frame (F := Bits) m g

theorem frame_DownIdeal : Cert.quiescent_DownIdeal (hDownIdeal := Cert.DownIdeal.Gen.facts) := fun m g _ => Cert.DownIdeal.Gen.frame (F := Ideal) m g

theorem frame_DownRef : Cert.quiescent_DownRefIdeal (hDownRefIdeal := Cert.DownRefIdeal.Gen.facts) := fun m g _ =>
  (θ_run Cert.DownRefIdeal.defs _ _).mono (fun r h => ⟨fun c => (h c).2, sem_eq_zero_of_no_sems (by decide) r.2⟩)
    (Cert.DownRefIdeal.Value.run (F := Ideal) m g)

theorem frame_Proj : Cert.quiescent_Proj (hProj := Cert.Proj.Gen.facts) := fun m g _ => Cert.Proj.Gen.frame (F := Bits) m g

theorem frame_ProjIdeal : Cert.quiescent_ProjIdeal (hProjIdeal := Cert.ProjIdeal.Gen.facts) := fun m g _ => Cert.ProjIdeal.Gen.frame (F := Ideal) m g

theorem frame_ProjRef : Cert.quiescent_ProjRefIdeal (hProjRefIdeal := Cert.ProjRefIdeal.Gen.facts) := fun m g _ =>
  (θ_run Cert.ProjRefIdeal.defs _ _).mono (fun r h => ⟨fun c => (h c).2, sem_eq_zero_of_no_sems (by decide) r.2⟩)
    (Cert.ProjRefIdeal.Value.run (F := Ideal) m g)

theorem frame_AttnOut : Cert.quiescent_AttnOut (hAttnOut := Cert.AttnOut.Gen.facts) := fun m g _ => Cert.AttnOut.Gen.frame (F := Bits) m g

theorem frame_AttnOutIdeal : Cert.quiescent_AttnOutIdeal (hAttnOutIdeal := Cert.AttnOutIdeal.Gen.facts) := fun m g _ => Cert.AttnOutIdeal.Gen.frame (F := Ideal) m g

theorem frame_AttnOutRef : Cert.quiescent_AttnOutRefIdeal (hAttnOutRefIdeal := Cert.AttnOutRefIdeal.Gen.facts) := fun m g _ =>
  (θ_run Cert.AttnOutRefIdeal.defs _ _).mono (fun r h => ⟨fun c => (h c).2, sem_eq_zero_of_no_sems (by decide) r.2⟩)
    (Cert.AttnOutRefIdeal.Value.run (F := Ideal) m g)

theorem frame_DWGateTheirsRef : Cert.quiescent_DWGateTheirsRefIdeal (hDWGateTheirsRefIdeal := Cert.DWGateTheirsRefIdeal.Gen.facts) := fun m g _ =>
  (θ_run Cert.DWGateTheirsRefIdeal.defs _ _).mono (fun r h => ⟨fun c => (h c).2, sem_eq_zero_of_no_sems (by decide) r.2⟩)
    (Cert.DWGateTheirsRefIdeal.Value.run (F := Ideal) m g)

theorem frame_DWGateMineRef : Cert.quiescent_DWGateMineRefIdeal (hDWGateMineRefIdeal := Cert.DWGateMineRefIdeal.Gen.facts) := fun m g _ =>
  (θ_run Cert.DWGateMineRefIdeal.defs _ _).mono (fun r h => ⟨fun c => (h c).2.2, sem_eq_zero_of_no_sems (by decide) r.2⟩)
    (Cert.DWGateMineRefIdeal.Value.run (F := Ideal) m g)

theorem frame_DWInTheirsRef : Cert.quiescent_DWInTheirsRefIdeal (hDWInTheirsRefIdeal := Cert.DWInTheirsRefIdeal.Gen.facts) := fun m g _ =>
  (θ_run Cert.DWInTheirsRefIdeal.defs _ _).mono (fun r h => ⟨fun c => (h c).2, sem_eq_zero_of_no_sems (by decide) r.2⟩)
    (Cert.DWInTheirsRefIdeal.Value.run (F := Ideal) m g)

theorem frame_DWInMineRef : Cert.quiescent_DWInMineRefIdeal (hDWInMineRefIdeal := Cert.DWInMineRefIdeal.Gen.facts) := fun m g _ =>
  (θ_run Cert.DWInMineRefIdeal.defs _ _).mono (fun r h => ⟨fun c => (h c).2.2, sem_eq_zero_of_no_sems (by decide) r.2⟩)
    (Cert.DWInMineRefIdeal.Value.run (F := Ideal) m g)

theorem frame_Norm1 : Cert.quiescent_Norm1 (hNorm1 := Cert.Norm1.Gen.facts) := fun m g _ => Cert.Norm1.Gen.frame (F := Bits) m g

theorem frame_Norm1Ideal : Cert.quiescent_Norm1Ideal (hNorm1Ideal := Cert.Norm1Ideal.Gen.facts) := fun m g _ => Cert.Norm1Ideal.Gen.frame (F := Ideal) m g

theorem frame_Norm1Ref : Cert.quiescent_Norm1RefIdeal (hNorm1RefIdeal := Cert.Norm1RefIdeal.Gen.facts) := fun m g _ =>
  (θ_run Cert.Norm1RefIdeal.defs _ _).mono (fun r h => ⟨fun c => (h c).2, sem_eq_zero_of_no_sems (by decide) r.2⟩)
    (Cert.Norm1RefIdeal.Value.run (F := Ideal) m g)

theorem frame_Norm2 : Cert.quiescent_Norm2 (hNorm2 := Cert.Norm2.Gen.facts) := fun m g _ => Cert.Norm2.Gen.frame (F := Bits) m g

theorem frame_Norm2Ideal : Cert.quiescent_Norm2Ideal (hNorm2Ideal := Cert.Norm2Ideal.Gen.facts) := fun m g _ => Cert.Norm2Ideal.Gen.frame (F := Ideal) m g

theorem frame_Norm2Ref : Cert.quiescent_Norm2RefIdeal (hNorm2RefIdeal := Cert.Norm2RefIdeal.Gen.facts) := fun m g _ =>
  (θ_run Cert.Norm2RefIdeal.defs _ _).mono (fun r h => ⟨fun c => (h c).2.2, sem_eq_zero_of_no_sems (by decide) r.2⟩)
    (Cert.Norm2RefIdeal.Value.run (F := Ideal) m g)

theorem claim : Cert.Claim := ⟨Cert.Kernel.Gen.facts, Cert.KernelIdeal.Gen.facts, Cert.ReferenceIdeal.Gen.facts,
  Cert.DFfnIn.Gen.facts, Cert.DFfnInIdeal.Gen.facts, Cert.DFfnInRefIdeal.Gen.facts,
  Cert.DH2.Gen.facts, Cert.DH2Ideal.Gen.facts, Cert.DH2RefIdeal.Gen.facts,
  Cert.DWDown.Gen.facts, Cert.DWDownIdeal.Gen.facts, Cert.DWDownRefIdeal.Gen.facts,
  Cert.DWOut.Gen.facts, Cert.DWOutIdeal.Gen.facts, Cert.DWOutRefIdeal.Gen.facts,
  Cert.DO.Gen.facts, Cert.DOIdeal.Gen.facts, Cert.DORefIdeal.Gen.facts,
  Cert.DH1.Gen.facts, Cert.DH1Ideal.Gen.facts, Cert.DH1RefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.Proj.Gen.facts, Cert.ProjIdeal.Gen.facts, Cert.ProjRefIdeal.Gen.facts,
  Cert.AttnOut.Gen.facts, Cert.AttnOutIdeal.Gen.facts, Cert.AttnOutRefIdeal.Gen.facts,
  Cert.DWGateTheirs.Gen.facts, Cert.DWGateTheirsIdeal.Gen.facts, Cert.DWGateTheirsRefIdeal.Gen.facts,
  Cert.DWGateMine.Gen.facts, Cert.DWGateMineIdeal.Gen.facts, Cert.DWGateMineRefIdeal.Gen.facts,
  Cert.DWInTheirs.Gen.facts, Cert.DWInTheirsIdeal.Gen.facts, Cert.DWInTheirsRefIdeal.Gen.facts,
  Cert.DWInMine.Gen.facts, Cert.DWInMineIdeal.Gen.facts, Cert.DWInMineRefIdeal.Gen.facts,
  Cert.Norm1.Gen.facts, Cert.Norm1Ideal.Gen.facts, Cert.Norm1RefIdeal.Gen.facts,
  Cert.Norm2.Gen.facts, Cert.Norm2Ideal.Gen.facts, Cert.Norm2RefIdeal.Gen.facts,
  Fin.facts, Cert.DFfnInIdeal.Val.facts,
  Cert.Pre_core_d_w_gate_theirs.Gen.facts, Cert.Pre_core_d_w_gate_mine.Gen.facts, Cert.Pre_core_d_w_in_theirs.Gen.facts, Cert.Pre_core_d_w_in_mine.Gen.facts,
  frame_kernel, frame_kernelIdeal, fun m g _ => frame_kernelIdeal m g trivial, frame_reference, fun m g _ => frame_reference m g trivial,
  frame_DFfnIn, frame_DFfnInIdeal, fun m g _ => frame_DFfnInIdeal m g trivial, frame_DFfnInRef, fun m g _ => frame_DFfnInRef m g trivial,
  frame_DH2, frame_DH2Ideal, frame_DH2Ref,
  frame_DWDown, frame_DWDownIdeal, frame_DWDownRef,
  frame_DWOut, frame_DWOutIdeal, frame_DWOutRef,
  frame_DO, frame_DOIdeal, frame_DORef,
  frame_DH1, frame_DH1Ideal, frame_DH1Ref,
  frame_GateUp, frame_GateUpIdeal, frame_GateUpRef,
  frame_Down, frame_DownIdeal, frame_DownRef,
  frame_Proj, frame_ProjIdeal, frame_ProjRef,
  frame_AttnOut, frame_AttnOutIdeal, frame_AttnOutRef,
  Cert.DWGateTheirsIdeal.Val.frame_bits, Cert.DWGateTheirsIdeal.Val.frame_ideal, frame_DWGateTheirsRef, fun m g _ => frame_DWGateTheirsRef m g trivial,
  Cert.DWGateMineIdeal.Val.frame_bits, Cert.DWGateMineIdeal.Val.frame_ideal, frame_DWGateMineRef, fun m g _ => frame_DWGateMineRef m g trivial,
  Cert.DWInTheirsIdeal.Val.frame_bits, Cert.DWInTheirsIdeal.Val.frame_ideal, frame_DWInTheirsRef, fun m g _ => frame_DWInTheirsRef m g trivial,
  Cert.DWInMineIdeal.Val.frame_bits, Cert.DWInMineIdeal.Val.frame_ideal, frame_DWInMineRef, fun m g _ => frame_DWInMineRef m g trivial,
  frame_Norm1, frame_Norm1Ideal, frame_Norm1Ref,
  frame_Norm2, frame_Norm2Ideal, frame_Norm2Ref,
  trivial, algebraic,
  trivial, Cert.DFfnInIdeal.Val.algebraic,
  trivial, Cert.DH2Ideal.Val.algebraic,
  trivial, Cert.DWDownIdeal.Val.algebraic,
  trivial, Cert.DWOutIdeal.Val.algebraic,
  trivial, Cert.DOIdeal.Val.algebraic,
  trivial, Cert.DH1Ideal.Val.algebraic,
  trivial, Cert.GateUpIdeal.Val.algebraic,
  trivial, Cert.DownIdeal.Val.algebraic,
  trivial, Cert.ProjIdeal.Val.algebraic,
  trivial, Cert.AttnOutIdeal.Val.algebraic,
  trivial, Cert.DWGateTheirsIdeal.Val.algebraic,
  trivial, Cert.DWGateMineIdeal.Val.algebraic,
  trivial, Cert.DWInTheirsIdeal.Val.algebraic,
  trivial, Cert.DWInMineIdeal.Val.algebraic,
  trivial, Cert.Norm1Ideal.Val.algebraic,
  trivial, Cert.Norm2Ideal.Val.algebraic⟩

end Cert.Proof

end
